-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xFF7FFFFF#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v52_0)) (v1 : (c : Dev Cert.Kernel7Ideal.nD) → Buf (Elt Ideal) ((c.tc : Thread Cert.Kernel7Ideal.nD Cert.Kernel7Ideal.τ).loc Cert.Kernel7Ideal.main_v52_1)) (v2 : (c : Dev Cert.Kernel7Ideal.nD) → Buf (Elt Ideal) ((c.tc : Thread Cert.Kernel7Ideal.nD Cert.Kernel7Ideal.τ).loc Cert.Kernel7Ideal.main_v52_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v52_0) = v0 c
          ∧ r.2.mem ((c.tc : Thread Cert.Kernel7Ideal.nD Cert.Kernel7Ideal.τ).loc Cert.Kernel7Ideal.main_v52_1) = v1 c
          ∧ r.2.mem ((c.tc : Thread Cert.Kernel7Ideal.nD Cert.Kernel7Ideal.τ).loc Cert.Kernel7Ideal.main_v52_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v103) = v0 c
          ∧ r.2.mem ((c.tc : Thread Cert.Reference7Ideal.nD Cert.Reference7Ideal.τ).loc Cert.Reference7Ideal.main_v104) = v1 c
          ∧ r.2.mem ((c.tc : Thread Cert.Reference7Ideal.nD Cert.Reference7Ideal.τ).loc Cert.Reference7Ideal.main_v99) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  IdealRules.named_const.Statement Cert.Kernel23Ideal.κ "mask" .f32 0xFF7F0000#32 ⊥

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v83) = v0 c
          ∧ r.2.mem ((c.tc : Thread Cert.Reference23Ideal.nD Cert.Reference23Ideal.τ).loc Cert.Reference23Ideal.main_v81) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v18) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v18) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v18) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v34) = v0 c
          ∧ r.2.mem ((c.tc : Thread Cert.Reference27Ideal.nD Cert.Reference27Ideal.τ).loc Cert.Reference27Ideal.main_v18) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v37) = v0 c
          ∧ r.2.mem ((c.tc : Thread Cert.Reference28Ideal.nD Cert.Reference28Ideal.τ).loc Cert.Reference28Ideal.main_v38) = v1 c
          ∧ r.2.mem ((c.tc : Thread Cert.Reference28Ideal.nD Cert.Reference28Ideal.τ).loc Cert.Reference28Ideal.main_v17) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite7 : Cert.Pre_finite7.Facts) (hPre_finite23 : Cert.Pre_finite23.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S2064x2048 : Shape := ⟨2, ![2064, 2048]⟩
abbrev S5632x2048 : Shape := ⟨2, ![5632, 2048]⟩
abbrev S2x2176x5632 : Shape := ⟨3, ![2, 2176, 5632]⟩
abbrev S3x5632 : Shape := ⟨2, ![3, 5632]⟩
abbrev S1x5632 : Shape := ⟨2, ![1, 5632]⟩
abbrev S_ : Shape := ⟨0, ![]⟩
abbrev S1x2176x5632 : Shape := ⟨3, ![1, 2176, 5632]⟩
abbrev S2176x5632 : Shape := ⟨2, ![2176, 5632]⟩

class Facts : Prop where
  bcast_S_S2064x2048 : S_.BroadcastsInDim S2064x2048 (![] : Fin 0 → Fin S2064x2048.rank)
  reducesTo_S2064x2048_S_d0_1 : S2064x2048.ReducesTo [0, 1] S_
  h_S_ : 0 < S_.numel
  bitsLt_bf16_f32 : FTy.bits .bf16 < FTy.bits .f32
  bcast_S_S5632x2048 : S_.BroadcastsInDim S5632x2048 (![] : Fin 0 → Fin S5632x2048.rank)
  reducesTo_S5632x2048_S_d0_1 : S5632x2048.ReducesTo [0, 1] S_
  slices_S2x2176x5632_S1x2176x5632_1_0_0 : S2x2176x5632.Slices ![1, 0, 0] S1x2176x5632
  shapeCasts_S1x2176x5632_S2176x5632 : S1x2176x5632.ShapeCasts S2176x5632
  bcast_S_S2176x5632 : S_.BroadcastsInDim S2176x5632 (![] : Fin 0 → Fin S2176x5632.rank)
  reducesTo_S2176x5632_S_d0_1 : S2176x5632.ReducesTo [0, 1] S_

variable [Facts]

def fn {F : FTy → Type} [FloatOps F] (main_arg0 : FVec F S2064x2048 .f32) (main_arg1 : FVec F S5632x2048 .bf16) (main_arg2 : FVec F S2x2176x5632 .bf16) (main_arg3 : FVec F S3x5632 .f32) (main_arg4 : FVec F S1x5632 .f32) : IVec S_ 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_c : IVec S_ 1 := constantI S_ 1 1#1
  let main_v3 : IVec S_ 1 := (fun x v => Host.reduce IntOp.andi x v reducesTo_S2064x2048_S_d0_1 h_S_) main_v2 main_c
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v3 main_v8
  let main_v10 : FVec F S1x2176x5632 .bf16 := (extractStridedSlice S1x2176x5632 ![1, 0, 0] · slices_S2x2176x5632_S1x2176x5632_1_0_0) main_arg2
  let main_v11 : FVec F S2176x5632 .bf16 := shapeCast S2176x5632 main_v10 shapeCasts_S1x2176x5632_S2176x5632
  let main_v12 : FVec F S2176x5632 .f32 := (extf .f32 · bitsLt_bf16_f32) main_v11
  let main_v13 : FVec F S2176x5632 .f32 := Host.absf main_v12
  let main_cst_2 : FVec F S_ .f32 := constant S_ .f32 0x7F800000#32
  let main_v14 : FVec F S2176x5632 .f32 := broadcastInDim S2176x5632 ![] bcast_S_S2176x5632 main_cst_2
  let main_v15 : IVec S2176x5632 1 := cmpf .olt main_v13 main_v14
  let main_c_3 : IVec S_ 1 := constantI S_ 1 1#1
  let main_v16 : IVec S_ 1 := (fun x v => Host.reduce IntOp.andi x v reducesTo_S2176x5632_S_d0_1 h_S_) main_v15 main_c_3
  let main_v17 : IVec S_ 1 := andi main_v9 main_v16
  main_v17
-- ==== Pre_finite23.lean ====
abbrev S2176x2048 : Shape := ⟨2, ![2176, 2048]⟩
abbrev S2176x128 : Shape := ⟨2, ![2176, 128]⟩
abbrev S_ : Shape := ⟨0, ![]⟩

class Facts : Prop where
  bitsLt_bf16_f32 : FTy.bits .bf16 < FTy.bits .f32
  bcast_S_S2176x2048 : S_.BroadcastsInDim S2176x2048 (![] : Fin 0 → Fin S2176x2048.rank)
  reducesTo_S2176x2048_S_d0_1 : S2176x2048.ReducesTo [0, 1] S_
  h_S_ : 0 < S_.numel
  bcast_S_S2176x128 : S_.BroadcastsInDim S2176x128 (![] : Fin 0 → Fin S2176x128.rank)
  reducesTo_S2176x128_S_d0_1 : S2176x128.ReducesTo [0, 1] S_

variable [Facts]

def fn {F : FTy → Type} [FloatOps F] (main_arg0 : FVec F S2176x2048 .bf16) (main_arg1 : FVec F S2176x2048 .bf16) (main_arg2 : FVec F S2176x128 .bf16) : IVec S_ 1 :=
  let main_v0 : FVec F S2176x2048 .f32 := (extf .f32 · bitsLt_bf16_f32) main_arg0
  let main_v1 : FVec F S2176x2048 .f32 := Host.absf main_v0
  let main_cst : FVec F S_ .f32 := constant S_ .f32 0x7F800000#32
  let main_v2 : FVec F S2176x2048 .f32 := broadcastInDim S2176x2048 ![] bcast_S_S2176x2048 main_cst
  let main_v3 : IVec S2176x2048 1 := cmpf .olt main_v1 main_v2
  let main_c : IVec S_ 1 := constantI S_ 1 1#1
  let main_v4 : IVec S_ 1 := (fun x v => Host.reduce IntOp.andi x v reducesTo_S2176x2048_S_d0_1 h_S_) main_v3 main_c
  let main_v5 : FVec F S2176x2048 .f32 := (extf .f32 · bitsLt_bf16_f32) main_arg1
  let main_v6 : FVec F S2176x2048 .f32 := Host.absf main_v5
  let main_cst_0 : FVec F S_ .f32 := constant S_ .f32 0x7F800000#32
  let main_v7 : FVec F S2176x2048 .f32 := broadcastInDim S2176x2048 ![] bcast_S_S2176x2048 main_cst_0
  let main_v8 : IVec S2176x2048 1 := cmpf .olt main_v6 main_v7
  let main_c_1 : IVec S_ 1 := constantI S_ 1 1#1
  let main_v9 : IVec S_ 1 := (fun x v => Host.reduce IntOp.andi x v reducesTo_S2176x2048_S_d0_1 h_S_) main_v8 main_c_1
  let main_v10 : IVec S_ 1 := andi main_v4 main_v9
  let main_v11 : FVec F S2176x128 .f32 := (extf .f32 · bitsLt_bf16_f32) main_arg2
  let main_v12 : FVec F S2176x128 .f32 := Host.absf main_v11
  let main_cst_2 : FVec F S_ .f32 := constant S_ .f32 0x7F800000#32
  let main_v13 : FVec F S2176x128 .f32 := broadcastInDim S2176x128 ![] bcast_S_S2176x128 main_cst_2
  let main_v14 : IVec S2176x128 1 := cmpf .olt main_v12 main_v13
  let main_c_3 : IVec S_ 1 := constantI S_ 1 1#1
  let main_v15 : IVec S_ 1 := (fun x v => Host.reduce IntOp.andi x v reducesTo_S2176x128_S_d0_1 h_S_) main_v14 main_c_3
  let main_v16 : IVec S_ 1 := andi main_v10 main_v15
  main_v16
-- ==== Pre_finite7.lean ====
abbrev S2176x2048 : Shape := ⟨2, ![2176, 2048]⟩
abbrev S2176x128 : Shape := ⟨2, ![2176, 128]⟩
abbrev S2176x1024 : Shape := ⟨2, ![2176, 1024]⟩
abbrev S_ : Shape := ⟨0, ![]⟩

class Facts : Prop where
  bitsLt_bf16_f32 : FTy.bits .bf16 < FTy.bits .f32
  bcast_S_S2176x2048 : S_.BroadcastsInDim S2176x2048 (![] : Fin 0 → Fin S2176x2048.rank)
  reducesTo_S2176x2048_S_d0_1 : S2176x2048.ReducesTo [0, 1] S_
  h_S_ : 0 < S_.numel
  bcast_S_S2176x128 : S_.BroadcastsInDim S2176x128 (![] : Fin 0 → Fin S2176x128.rank)
  reducesTo_S2176x128_S_d0_1 : S2176x128.ReducesTo [0, 1] S_
  bcast_S_S2176x1024 : S_.BroadcastsInDim S2176x1024 (![] : Fin 0 → Fin S2176x1024.rank)
  reducesTo_S2176x1024_S_d0_1 : S2176x1024.ReducesTo [0, 1] S_

variable [Facts]

def fn_part1 {F : FTy → Type} [FloatOps F] (main_v16 : IVec S_ 1) (main_v17 : FVec F S2176x1024 .f32) : IVec S_ 1 :=
  let main_cst_4 : FVec F S_ .f32 := constant S_ .f32 0x7F800000#32
  let main_v18 : FVec F S2176x1024 .f32 := broadcastInDim S2176x1024 ![] bcast_S_S2176x1024 main_cst_4
  let main_v19 : IVec S2176x1024 1 := cmpf .olt main_v17 main_v18
  let main_c_5 : IVec S_ 1 := constantI S_ 1 1#1
  let main_v20 : IVec S_ 1 := (fun x v => Host.reduce IntOp.andi x v reducesTo_S2176x1024_S_d0_1 h_S_) main_v19 main_c_5
  let main_v21 : IVec S_ 1 := andi main_v16 main_v20
  main_v21

def fn {F : FTy → Type} [FloatOps F] (main_arg0 : FVec F S2176x2048 .bf16) (main_arg1 : FVec F S2176x2048 .bf16) (main_arg2 : FVec F S2176x128 .bf16) (main_arg3 : FVec F S2176x1024 .f32) : IVec S_ 1 :=
  let main_v0 : FVec F S2176x2048 .f32 := (extf .f32 · bitsLt_bf16_f32) main_arg0
  let main_v1 : FVec F S2176x2048 .f32 := Host.absf main_v0
  let main_cst : FVec F S_ .f32 := constant S_ .f32 0x7F800000#32
  let main_v2 : FVec F S2176x2048 .f32 := broadcastInDim S2176x2048 ![] bcast_S_S2176x2048 main_cst
  let main_v3 : IVec S2176x2048 1 := cmpf .olt main_v1 main_v2
  let main_c : IVec S_ 1 := constantI S_ 1 1#1
  let main_v4 : IVec S_ 1 := (fun x v => Host.reduce IntOp.andi x v reducesTo_S2176x2048_S_d0_1 h_S_) main_v3 main_c
  let main_v5 : FVec F S2176x2048 .f32 := (extf .f32 · bitsLt_bf16_f32) main_arg1
  let main_v6 : FVec F S2176x2048 .f32 := Host.absf main_v5
  let main_cst_0 : FVec F S_ .f32 := constant S_ .f32 0x7F800000#32
  let main_v7 : FVec F S2176x2048 .f32 := broadcastInDim S2176x2048 ![] bcast_S_S2176x2048 main_cst_0
  let main_v8 : IVec S2176x2048 1 := cmpf .olt main_v6 main_v7
  let main_c_1 : IVec S_ 1 := constantI S_ 1 1#1
  let main_v9 : IVec S_ 1 := (fun x v => Host.reduce IntOp.andi x v reducesTo_S2176x2048_S_d0_1 h_S_) main_v8 main_c_1
  let main_v10 : IVec S_ 1 := andi main_v4 main_v9
  let main_v11 : FVec F S2176x128 .f32 := (extf .f32 · bitsLt_bf16_f32) main_arg2
  let main_v12 : FVec F S2176x128 .f32 := Host.absf main_v11
  let main_cst_2 : FVec F S_ .f32 := constant S_ .f32 0x7F800000#32
  let main_v13 : FVec F S2176x128 .f32 := broadcastInDim S2176x128 ![] bcast_S_S2176x128 main_cst_2
  let main_v14 : IVec S2176x128 1 := cmpf .olt main_v12 main_v13
  let main_c_3 : IVec S_ 1 := constantI S_ 1 1#1
  let main_v15 : IVec S_ 1 := (fun x v => Host.reduce IntOp.andi x v reducesTo_S2176x128_S_d0_1 h_S_) main_v14 main_c_3
  let main_v16 : IVec S_ 1 := andi main_v10 main_v15
  let main_v17 : FVec F S2176x1024 .f32 := Host.absf main_arg3
  fn_part1 (F := F) main_v16 main_v17
-- ==== Kernel.lean ====
abbrev S2064x2048 : Shape := ⟨2, ![2064, 2048]⟩
abbrev S5632x2048 : Shape := ⟨2, ![5632, 2048]⟩
abbrev S2x2176x5632 : Shape := ⟨3, ![2, 2176, 5632]⟩
abbrev S3x5632 : Shape := ⟨2, ![3, 5632]⟩
abbrev S1x5632 : Shape := ⟨2, ![1, 5632]⟩
abbrev S_ : Shape := ⟨0, ![]⟩
abbrev S112x2048 : Shape := ⟨2, ![112, 2048]⟩
abbrev S2176x2048 : Shape := ⟨2, ![2176, 2048]⟩
abbrev S256x2048 : Shape := ⟨2, ![256, 2048]⟩
abbrev S2x2176x256 : Shape := ⟨3, ![2, 2176, 256]⟩
abbrev S3x256 : Shape := ⟨2, ![3, 256]⟩
abbrev S1x256 : Shape := ⟨2, ![1, 256]⟩
abbrev S2176x256 : Shape := ⟨2, ![2176, 256]⟩
abbrev S1x2176x256 : Shape := ⟨3, ![1, 2176, 256]⟩
abbrev S256 : Shape := ⟨1, ![256]⟩

abbrev nBuf : Space → Nat
  | .hbm => 12
  | .vmem => 15
  | .smem => 0
  | _ => 0

abbrev bufTy : (tb : Table) → Fin (tcTables nBuf tb) → BufTy
  | .hbm, ⟨0, _⟩ => ⟨S2064x2048, .f32⟩
  | .hbm, ⟨1, _⟩ => ⟨S5632x2048, .bf16⟩
  | .hbm, ⟨2, _⟩ => ⟨S2x2176x5632, .bf16⟩
  | .hbm, ⟨3, _⟩ => ⟨S3x5632, .f32⟩
  | .hbm, ⟨4, _⟩ => ⟨S1x5632, .f32⟩
  | .hbm, ⟨5, _⟩ => ⟨S_, .f32⟩
  | .hbm, ⟨6, _⟩ => ⟨S112x2048, .f32⟩
  | .hbm, ⟨7, _⟩ => ⟨S2176x2048, .f32⟩
  | .hbm, ⟨8, _⟩ => ⟨S2176x2048, .bf16⟩
  | .hbm, ⟨9, _⟩ => ⟨S2x2176x5632, .bf16⟩
  | .hbm, ⟨10, _⟩ => ⟨S3x5632, .f32⟩
  | .hbm, ⟨11, _⟩ => ⟨S1x5632, .f32⟩
  | .local _ .vmem, ⟨0, _⟩ => ⟨S2176x2048, .bf16⟩
  | .local _ .vmem, ⟨1, _⟩ => ⟨S256x2048, .bf16⟩
  | .local _ .vmem, ⟨2, _⟩ => ⟨S256x2048, .bf16⟩
  | .local _ .vmem, ⟨3, _⟩ => ⟨S2x2176x256, .bf16⟩
  | .local _ .vmem, ⟨4, _⟩ => ⟨S2x2176x256, .bf16⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S2x2176x256, .bf16⟩
  | .local _ .vmem, ⟨10, _⟩ => ⟨S2x2176x256, .bf16⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2064x2048 : Shape := ⟨2, ![2064, 2048]⟩
abbrev S5632x2048 : Shape := ⟨2, ![5632, 2048]⟩
abbrev S2x2176x5632 : Shape := ⟨3, ![2, 2176, 5632]⟩
abbrev S3x5632 : Shape := ⟨2, ![3, 5632]⟩
abbrev S1x5632 : Shape := ⟨2, ![1, 5632]⟩
abbrev S_ : Shape := ⟨0, ![]⟩
abbrev S112x2048 : Shape := ⟨2, ![112, 2048]⟩
abbrev S2176x2048 : Shape := ⟨2, ![2176, 2048]⟩
abbrev S1x2176x2048 : Shape := ⟨3, ![1, 2176, 2048]⟩
abbrev S1x2176x5632 : Shape := ⟨3, ![1, 2176, 5632]⟩
abbrev S2176x5632 : Shape := ⟨2, ![2176, 5632]⟩
abbrev S1x2x5632 : Shape := ⟨3, ![1, 2, 5632]⟩
abbrev S1x2178x5632 : Shape := ⟨3, ![1, 2178, 5632]⟩
abbrev S5632 : Shape := ⟨1, ![5632]⟩
abbrev S1x1x5632 : Shape := ⟨3, ![1, 1, 5632]⟩

abbrev nBuf : Space → Nat
  | .hbm => 129
  | .vmem => 0
  | .smem => 0
  | _ => 0

abbrev hbmTy0_0 (i : Nat) : BufTy := match i % 128 with
  | 0 => ⟨S2064x2048, .f32⟩
  | 1 => ⟨S5632x2048, .bf16⟩
  | 2 => ⟨S2x2176x5632, .bf16⟩
  | 3 => ⟨S3x5632, .f32⟩
  | 4 => ⟨S1x5632, .f32⟩
  | 5 => ⟨S_, .f32⟩
  | 6 => ⟨S112x2048, .f32⟩
  | 7 => ⟨S2176x2048, .f32⟩
  | 8 => ⟨S1x2176x2048, .f32⟩
  | 9 => ⟨S2x2176x5632, .f32⟩
  | 10 => ⟨S5632x2048, .f32⟩
  | 11 => ⟨S1x2176x5632, .f32⟩
  | 12 => ⟨S2176x5632, .f32⟩
  | 13 => ⟨S1x2176x5632, .f32⟩
  | 14 => ⟨S2176x5632, .f32⟩
  | 15 => ⟨S1x2176x5632, .f32⟩
  | 16 => ⟨S1x2176x5632, .f32⟩
  | 17 => ⟨S_, .f32⟩
  | 18 => ⟨S1x2x5632, .f32⟩
  | 19 => ⟨S1x2178x5632, .f32⟩
  | 20 => ⟨S_, .f32⟩
  | 21 => ⟨S1x2x5632, .f32⟩
  | 22 => ⟨S1x5632, .f32⟩
  | 23 => ⟨S5632, .f32⟩
  | 24 => ⟨S1x2176x5632, .f32⟩
  | 25 => ⟨S1x1x5632, .f32⟩
  | 26 => ⟨S1x2176x5632, .f32⟩
  | 27 => ⟨S1x2176x5632, .f32⟩
  | 28 => ⟨S_, .f32⟩
  | 29 => ⟨S1x2176x5632, .f32⟩
  | 30 => ⟨S1x2176x5632, .f32⟩
  | 31 => ⟨S1x5632, .f32⟩
  | 32 => ⟨S5632, .f32⟩
  | 33 => ⟨S1x2176x5632, .f32⟩
  | 34 => ⟨S1x1x5632, .f32⟩
  | 35 => ⟨S1x2176x5632, .f32⟩
  | 36 => ⟨S1x2176x5632, .f32⟩
  | 37 => ⟨S1x2176x5632, .f32⟩
  | 38 => ⟨S1x5632, .f32⟩
  | 39 => ⟨S5632, .f32⟩
  | 40 => ⟨S1x2176x5632, .f32⟩
  | 41 => ⟨S1x1x5632, .f32⟩
  | 42 => ⟨S1x2176x5632, .f32⟩
  | 43 => ⟨S1x2176x5632, .f32⟩
  | 44 => ⟨S1x2176x5632, .f32⟩
  | 45 => ⟨S1x1x5632, .f32⟩
  | 46 => ⟨S1x2176x5632, .f32⟩
  | 47 => ⟨S1x2176x5632, .f32⟩
  | 48 => ⟨S1x2176x5632, .f32⟩
  | 49 => ⟨S1x2176x5632, .f32⟩
  | 50 => ⟨S_, .f32⟩
  | 51 => ⟨S1x2176x5632, .f32⟩
  | 52 => ⟨S1x2176x5632, .f32⟩
  | 53 => ⟨S_, .f32⟩
  | 54 => ⟨S1x2176x5632, .f32⟩
  | 55 => ⟨S1x2176x5632, .f32⟩
  | 56 => ⟨S_, .f32⟩
  | 57 => ⟨S1x2176x5632, .f32⟩
  | 58 => ⟨S1x2176x5632, .f32⟩
  | 59 => ⟨S1x2176x5632, .f32⟩
  | 60 => ⟨S1x2176x5632, .f32⟩
  | 61 => ⟨S1x2176x5632, .f32⟩
  | 62 => ⟨S1x2176x2048, .f32⟩
  | 63 => ⟨S1x2176x5632, .f32⟩
  | 64 => ⟨S1x2176x5632, .f32⟩
  | 65 => ⟨S1x2176x5632, .f32⟩
  | 66 => ⟨S1x2176x5632, .f32⟩
  | 67 => ⟨S1x2176x5632, .f32⟩
  | 68 => ⟨S1x2176x5632, .f32⟩
  | 69 => ⟨S1x2176x5632, .f32⟩
  | 70 => ⟨S_, .f32⟩
  | 71 => ⟨S1x5632, .f32⟩
  | 72 => ⟨S1x1x5632, .f32⟩
  | 73 => ⟨S_, .f32⟩
  | 74 => ⟨S5632, .f32⟩
  | 75 => ⟨S1x5632, .f32⟩
  | 76 => ⟨S1x2176x5632, .f32⟩
  | 77 => ⟨S1x2176x5632, .f32⟩
  | 78 => ⟨S1x2176x5632, .f32⟩
  | 79 => ⟨S_, .f32⟩
  | 80 => ⟨S1x5632, .f32⟩
  | 81 => ⟨S1x1x5632, .f32⟩
  | 82 => ⟨S_, .f32⟩
  | 83 => ⟨S5632, .f32⟩
  | 84 => ⟨S_, .f32⟩
  | 85 => ⟨S1x2178x5632, .f32⟩
  | 86 => ⟨S1x5632, .f32⟩
  | 87 => ⟨S_, .f32⟩
  | 88 => ⟨S3x5632, .f32⟩
  | 89 => ⟨S1x2176x5632, .f32⟩
  | 90 => ⟨S1x2176x5632, .f32⟩
  | 91 => ⟨S1x2176x5632, .f32⟩
  | 92 => ⟨S_, .f32⟩
  | 93 => ⟨S1x5632, .f32⟩
  | 94 => ⟨S1x1x5632, .f32⟩
  | 95 => ⟨S_, .f32⟩
  | 96 => ⟨S5632, .f32⟩
  | 97 => ⟨S_, .f32⟩
  | 98 => ⟨S1x2178x5632, .f32⟩
  | 99 => ⟨S1x2178x5632, .f32⟩
  | 100 => ⟨S1x5632, .f32⟩
  | 101 => ⟨S_, .f32⟩
  | 102 => ⟨S3x5632, .f32⟩
  | 103 => ⟨S3x5632, .f32⟩
  | 104 => ⟨S1x2176x5632, .f32⟩
  | 105 => ⟨S1x2176x5632, .f32⟩
  | 106 => ⟨S1x2176x5632, .f32⟩
  | 107 => ⟨S_, .f32⟩
  | 108 => ⟨S1x5632, .f32⟩
  | 109 => ⟨S1x1x5632, .f32⟩
  | 110 => ⟨S_, .f32⟩
  | 111 => ⟨S5632, .f32⟩
  | 112 => ⟨S_, .f32⟩
  | 113 => ⟨S1x2178x5632, .f32⟩
  | 114 => ⟨S1x2178x5632, .f32⟩
  | 115 => ⟨S1x5632, .f32⟩
  | 116 => ⟨S_, .f32⟩
  | 117 => ⟨S3x5632, .f32⟩
  | 118 => ⟨S3x5632, .f32⟩
  | 119 => ⟨S1x2x5632, .f32⟩
  | 120 => ⟨S1x2176x5632, .f32⟩
  | 121 => ⟨S_, .f32⟩
  | 122 => ⟨S2176x5632, .f32⟩
  | 123 => ⟨S_, .f32⟩
  | 124 => ⟨S2176x5632, .f32⟩
  | 125 => ⟨S1x2176x5632, .f32⟩
  | 126 => ⟨S1x2176x5632, .f32⟩
  | 127 => ⟨S2x2176x5632, .f32⟩
  | _ => ⟨S2064x2048, .f32⟩

abbrev hbmTy0_1 (i : Nat) : BufTy := match i % 128 with
  | 0 => ⟨S2x2176x5632, .bf16⟩
  | _ => ⟨S2064x2048, .f32⟩

abbrev hbmTy (i : Nat) : BufTy := match i / 128 with
  | 0 => hbmTy0_0 i
  | 1 => hbmTy0_1 i
  | _ => ⟨S2064x2048, .f32⟩

abbrev bufTy : (tb : Table) → Fin (tcTables nBuf tb) → BufTy
  | .hbm, ⟨i, _⟩ => hbmTy i
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v39_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v39_1 : Ref sig .tc := ⟨.hbm, 59, rfl⟩
abbrev main_v39_0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]
-- ==== Kernel2.lean ====
abbrev S2064x2048 : Shape := ⟨2, ![2064, 2048]⟩
abbrev S11264x2048 : Shape := ⟨2, ![11264, 2048]⟩
abbrev S3x5632 : Shape := ⟨2, ![3, 5632]⟩
abbrev S1x5632 : Shape := ⟨2, ![1, 5632]⟩
abbrev S_ : Shape := ⟨0, ![]⟩
abbrev S112x2048 : Shape := ⟨2, ![112, 2048]⟩
abbrev S2176x2048 : Shape := ⟨2, ![2176, 2048]⟩
abbrev S2x2176x5632 : Shape := ⟨3, ![2, 2176, 5632]⟩
abbrev S2176x5632 : Shape := ⟨2, ![2176, 5632]⟩
abbrev S256x2048 : Shape := ⟨2, ![256, 2048]⟩
abbrev S3x256 : Shape := ⟨2, ![3, 256]⟩
abbrev S1x256 : Shape := ⟨2, ![1, 256]⟩
abbrev S2x2176x256 : Shape := ⟨3, ![2, 2176, 256]⟩
abbrev S2176x256 : Shape := ⟨2, ![2176, 256]⟩
abbrev S512x2048 : Shape := ⟨2, ![512, 2048]⟩
abbrev S2176x512 : Shape := ⟨2, ![2176, 512]⟩
abbrev S1x2176x256 : Shape := ⟨3, ![1, 2176, 256]⟩

abbrev nBuf : Space → Nat
  | .hbm => 10
  | .vmem => 13
  | .smem => 0
  | _ => 0

abbrev bufTy : (tb : Table) → Fin (tcTables nBuf tb) → BufTy
  | .hbm, ⟨0, _⟩ => ⟨S2064x2048, .f32⟩
  | .hbm, ⟨1, _⟩ => ⟨S11264x2048, .bf16⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S112x2048, .f32⟩
  | .hbm, ⟨6, _⟩ => ⟨S2176x2048, .f32⟩
  | .hbm, ⟨7, _⟩ => ⟨S2176x2048, .bf16⟩
  | .hbm, ⟨8, _⟩ => ⟨S2x2176x5632, .bf16⟩
  | .hbm, ⟨9, _⟩ => ⟨S2176x5632, .bf16⟩
  | .local _ .vmem, ⟨0, _⟩ => ⟨S2176x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S2x2176x256, .bf16⟩
  | .local _ .vmem, ⟨10, _⟩ => ⟨S2x2176x256, .bf16⟩
  | .local _ .vmem, ⟨11, _⟩ => ⟨S2176x256, .bf16⟩
  | .local _ .vmem, ⟨12, _⟩ => ⟨S2176x256, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2064x2048 : Shape := ⟨2, ![2064, 2048]⟩
abbrev S11264x2048 : Shape := ⟨2, ![11264, 2048]⟩
abbrev S3x5632 : Shape := ⟨2, ![3, 5632]⟩
abbrev S1x5632 : Shape := ⟨2, ![1, 5632]⟩
abbrev S_ : Shape := ⟨0, ![]⟩
abbrev S112x2048 : Shape := ⟨2, ![112, 2048]⟩
abbrev S2176x2048 : Shape := ⟨2, ![2176, 2048]⟩
abbrev S1x2176x2048 : Shape := ⟨3, ![1, 2176, 2048]⟩
abbrev S2048x11264 : Shape := ⟨2, ![2048, 11264]⟩
abbrev S1x2176x11264 : Shape := ⟨3, ![1, 2176, 11264]⟩
abbrev S1x2176x5632 : Shape := ⟨3, ![1, 2176, 5632]⟩
abbrev S2x2176x5632 : Shape := ⟨3, ![2, 2176, 5632]⟩
abbrev S1x2x5632 : Shape := ⟨3, ![1, 2, 5632]⟩
abbrev S1x2178x5632 : Shape := ⟨3, ![1, 2178, 5632]⟩
abbrev S5632 : Shape := ⟨1, ![5632]⟩
abbrev S1x1x5632 : Shape := ⟨3, ![1, 1, 5632]⟩
abbrev S2176x5632 : Shape := ⟨2, ![2176, 5632]⟩

abbrev nBuf : Space → Nat
  | .hbm => 56
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S11264x2048, .bf16⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S112x2048, .f32⟩
  | .hbm, ⟨6, _⟩ => ⟨S2176x2048, .f32⟩
  | .hbm, ⟨7, _⟩ => ⟨S1x2176x2048, .f32⟩
  | .hbm, ⟨8, _⟩ => ⟨S11264x2048, .f32⟩
  | .hbm, ⟨9, _⟩ => ⟨S2048x11264, .f32⟩
  | .hbm, ⟨10, _⟩ => ⟨S1x2176x11264, .f32⟩
  | .hbm, ⟨11, _⟩ => ⟨S1x2176x5632, .f32⟩
  | .hbm, ⟨12, _⟩ => ⟨S1x2176x5632, .f32⟩
  | .hbm, ⟨13, _⟩ => ⟨S2x2176x5632, .f32⟩
  | .hbm, ⟨14, _⟩ => ⟨S2x2176x5632, .bf16⟩
  | .hbm, ⟨15, _⟩ => ⟨S_, .f32⟩
  | .hbm, ⟨16, _⟩ => ⟨S1x2x5632, .f32⟩
  | .hbm, ⟨17, _⟩ => ⟨S1x2178x5632, .f32⟩
  | .hbm, ⟨18, _⟩ => ⟨S1x5632, .f32⟩
  | .hbm, ⟨19, _⟩ => ⟨S5632, .f32⟩
  | .hbm, ⟨20, _⟩ => ⟨S1x2176x5632, .f32⟩
  | .hbm, ⟨21, _⟩ => ⟨S1x1x5632, .f32⟩
  | .hbm, ⟨22, _⟩ => ⟨S1x2176x5632, .f32⟩
  | .hbm, ⟨23, _⟩ => ⟨S1x2176x5632, .f32⟩
  | .hbm, ⟨24, _⟩ => ⟨S_, .f32⟩
  | .hbm, ⟨25, _⟩ => ⟨S1x2176x5632, .f32⟩
  | .hbm, ⟨26, _⟩ => ⟨S1x2176x5632, .f32⟩
  | .hbm, ⟨27, _⟩ => ⟨S1x5632, .f32⟩
  | .hbm, ⟨28, _⟩ => ⟨S5632, .f32⟩
  | .hbm, ⟨29, _⟩ => ⟨S1x2176x5632, .f32⟩
  | .hbm, ⟨30, _⟩ => ⟨S1x1x5632, .f32⟩
  | .hbm, ⟨31, _⟩ => ⟨S1x2176x5632, .f32⟩
  | .hbm, ⟨32, _⟩ => ⟨S1x2176x5632, .f32⟩
  | .hbm, ⟨33, _⟩ => ⟨S1x2176x5632, .f32⟩
  | .hbm, ⟨34, _⟩ => ⟨S1x5632, .f32⟩
  | .hbm, ⟨35, _⟩ => ⟨S5632, .f32⟩
  | .hbm, ⟨36, _⟩ => ⟨S1x2176x5632, .f32⟩
  | .hbm, ⟨37, _⟩ => ⟨S1x1x5632, .f32⟩
  | .hbm, ⟨38, _⟩ => ⟨S1x2176x5632, .f32⟩
  | .hbm, ⟨39, _⟩ => ⟨S1x2176x5632, .f32⟩
  | .hbm, ⟨40, _⟩ => ⟨S1x2176x5632, .f32⟩
  | .hbm, ⟨41, _⟩ => ⟨S1x1x5632, .f32⟩
  | .hbm, ⟨42, _⟩ => ⟨S1x2176x5632, .f32⟩
  | .hbm, ⟨43, _⟩ => ⟨S1x2176x5632, .f32⟩
  | .hbm, ⟨44, _⟩ => ⟨S1x2176x5632, .f32⟩
  | .hbm, ⟨45, _⟩ => ⟨S1x2176x5632, .f32⟩
  | .hbm, ⟨46, _⟩ => ⟨S_, .f32⟩
  | .hbm, ⟨47, _⟩ => ⟨S1x2176x5632, .f32⟩
  | .hbm, ⟨48, _⟩ => ⟨S1x2176x5632, .f32⟩
  | .hbm, ⟨49, _⟩ => ⟨S_, .f32⟩
  | .hbm, ⟨50, _⟩ => ⟨S1x2176x5632, .f32⟩
  | .hbm, ⟨51, _⟩ => ⟨S1x2176x5632, .f32⟩
  | .hbm, ⟨52, _⟩ => ⟨S1x2176x5632, .f32⟩
  | .hbm, ⟨53, _⟩ => ⟨S1x2176x5632, .f32⟩
  | .hbm, ⟨54, _⟩ => ⟨S2176x5632, .f32⟩
  | .hbm, ⟨55, _⟩ => ⟨S2176x5632, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel3.lean ====
abbrev S2x2176x5632 : Shape := ⟨3, ![2, 2176, 5632]⟩
abbrev S2176x2048 : Shape := ⟨2, ![2176, 2048]⟩
abbrev S11264x2048 : Shape := ⟨2, ![11264, 2048]⟩
abbrev S1x2176x512 : Shape := ⟨3, ![1, 2176, 512]⟩
abbrev S512x2048 : Shape := ⟨2, ![512, 2048]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2x2176x5632, .bf16⟩
  | .hbm, ⟨1, _⟩ => ⟨S2176x2048, .bf16⟩
  | .hbm, ⟨2, _⟩ => ⟨S11264x2048, .bf16⟩
  | .local _ .vmem, ⟨0, _⟩ => ⟨S1x2176x512, .bf16⟩
  | .local _ .vmem, ⟨1, _⟩ => ⟨S1x2176x512, .bf16⟩
  | .local _ .vmem, ⟨2, _⟩ => ⟨S2176x2048, .bf16⟩
  | .local _ .vmem, ⟨3, _⟩ => ⟨S512x2048, .bf16⟩
  | .local _ .vmem, ⟨4, _⟩ => ⟨S512x2048, .bf16⟩
  | _, _ => ⟨S2x2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2176x5632 : Shape := ⟨3, ![2, 2176, 5632]⟩
abbrev S2176x2048 : Shape := ⟨2, ![2176, 2048]⟩
abbrev S_ : Shape := ⟨0, ![]⟩
abbrev S11264x2048 : Shape := ⟨2, ![11264, 2048]⟩
abbrev S1x2176x2048 : Shape := ⟨3, ![1, 2176, 2048]⟩
abbrev S2048x11264 : Shape := ⟨2, ![2048, 11264]⟩
abbrev S1x2176x11264 : Shape := ⟨3, ![1, 2176, 11264]⟩
abbrev S1x2176x5632 : Shape := ⟨3, ![1, 2176, 5632]⟩

abbrev nBuf : Space → Nat
  | .hbm => 19
  | .vmem => 0
  | .smem => 0
  | _ => 0

abbrev bufTy : (tb : Table) → Fin (tcTables nBuf tb) → BufTy
  | .hbm, ⟨0, _⟩ => ⟨S2x2176x5632, .bf16⟩
  | .hbm, ⟨1, _⟩ => ⟨S2176x2048, .bf16⟩
  | .hbm, ⟨2, _⟩ => ⟨S_, .f32⟩
  | .hbm, ⟨3, _⟩ => ⟨S11264x2048, .f32⟩
  | .hbm, ⟨4, _⟩ => ⟨S2176x2048, .f32⟩
  | .hbm, ⟨5, _⟩ => ⟨S1x2176x2048, .f32⟩
  | .hbm, ⟨6, _⟩ => ⟨S2048x11264, .f32⟩
  | .hbm, ⟨7, _⟩ => ⟨S1x2176x11264, .f32⟩
  | .hbm, ⟨8, _⟩ => ⟨S1x2176x5632, .f32⟩
  | .hbm, ⟨9, _⟩ => ⟨S1x2176x5632, .f32⟩
  | .hbm, ⟨10, _⟩ => ⟨S2x2176x5632, .f32⟩
  | .hbm, ⟨11, _⟩ => ⟨S2x2176x5632, .f32⟩
  | .hbm, ⟨12, _⟩ => ⟨S1x2176x5632, .f32⟩
  | .hbm, ⟨13, _⟩ => ⟨S1x2176x5632, .f32⟩
  | .hbm, ⟨14, _⟩ => ⟨S1x2176x11264, .f32⟩
  | .hbm, ⟨15, _⟩ => ⟨S11264x2048, .f32⟩
  | .hbm, ⟨16, _⟩ => ⟨S2048x11264, .f32⟩
  | .hbm, ⟨17, _⟩ => ⟨S11264x2048, .f32⟩
  | .hbm, ⟨18, _⟩ => ⟨S11264x2048, .bf16⟩
  | _, _ => ⟨S2x2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S2x2176x5632 : Shape := ⟨3, ![2, 2176, 5632]⟩
abbrev S11264x2048 : Shape := ⟨2, ![11264, 2048]⟩
abbrev S2176x2048 : Shape := ⟨2, ![2176, 2048]⟩
abbrev S1x2176x2816 : Shape := ⟨3, ![1, 2176, 2816]⟩
abbrev S2816x512 : Shape := ⟨2, ![2816, 512]⟩
abbrev S2176x512 : Shape := ⟨2, ![2176, 512]⟩
abbrev S2176x2816 : Shape := ⟨2, ![2176, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x2176x5632, .bf16⟩
  | .hbm, ⟨1, _⟩ => ⟨S11264x2048, .bf16⟩
  | .hbm, ⟨2, _⟩ => ⟨S2176x2048, .f32⟩
  | .local _ .vmem, ⟨0, _⟩ => ⟨S1x2176x2816, .bf16⟩
  | .local _ .vmem, ⟨1, _⟩ => ⟨S1x2176x2816, .bf16⟩
  | .local _ .vmem, ⟨2, _⟩ => ⟨S2816x512, .bf16⟩
  | .local _ .vmem, ⟨3, _⟩ => ⟨S2816x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2x2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2176x5632 : Shape := ⟨3, ![2, 2176, 5632]⟩
abbrev S11264x2048 : Shape := ⟨2, ![11264, 2048]⟩
abbrev S_ : Shape := ⟨0, ![]⟩
abbrev S2176x2048 : Shape := ⟨2, ![2176, 2048]⟩
abbrev S1x2176x2048 : Shape := ⟨3, ![1, 2176, 2048]⟩
abbrev S2048x11264 : Shape := ⟨2, ![2048, 11264]⟩
abbrev S1x2176x11264 : Shape := ⟨3, ![1, 2176, 11264]⟩
abbrev S1x2176x5632 : Shape := ⟨3, ![1, 2176, 5632]⟩

abbrev nBuf : Space → Nat
  | .hbm => 18
  | .vmem => 0
  | .smem => 0
  | _ => 0

abbrev bufTy : (tb : Table) → Fin (tcTables nBuf tb) → BufTy
  | .hbm, ⟨0, _⟩ => ⟨S2x2176x5632, .bf16⟩
  | .hbm, ⟨1, _⟩ => ⟨S11264x2048, .bf16⟩
  | .hbm, ⟨2, _⟩ => ⟨S_, .f32⟩
  | .hbm, ⟨3, _⟩ => ⟨S2176x2048, .f32⟩
  | .hbm, ⟨4, _⟩ => ⟨S11264x2048, .f32⟩
  | .hbm, ⟨5, _⟩ => ⟨S1x2176x2048, .f32⟩
  | .hbm, ⟨6, _⟩ => ⟨S2048x11264, .f32⟩
  | .hbm, ⟨7, _⟩ => ⟨S1x2176x11264, .f32⟩
  | .hbm, ⟨8, _⟩ => ⟨S1x2176x5632, .f32⟩
  | .hbm, ⟨9, _⟩ => ⟨S1x2176x5632, .f32⟩
  | .hbm, ⟨10, _⟩ => ⟨S2x2176x5632, .f32⟩
  | .hbm, ⟨11, _⟩ => ⟨S2x2176x5632, .f32⟩
  | .hbm, ⟨12, _⟩ => ⟨S1x2176x5632, .f32⟩
  | .hbm, ⟨13, _⟩ => ⟨S1x2176x5632, .f32⟩
  | .hbm, ⟨14, _⟩ => ⟨S1x2176x11264, .f32⟩
  | .hbm, ⟨15, _⟩ => ⟨S1x2176x2048, .f32⟩
  | .hbm, ⟨16, _⟩ => ⟨S_, .f32⟩
  | .hbm, ⟨17, _⟩ => ⟨S2176x2048, .f32⟩
  | _, _ => ⟨S2x2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S2176x5632 : Shape := ⟨2, ![2176, 5632]⟩
abbrev S2176x2048 : Shape := ⟨2, ![2176, 2048]⟩
abbrev S5632x2048 : Shape := ⟨2, ![5632, 2048]⟩
abbrev S2176x512 : Shape := ⟨2, ![2176, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S5632x2048, .bf16⟩
  | .local _ .vmem, ⟨0, _⟩ => ⟨S2176x512, .bf16⟩
  | .local _ .vmem, ⟨1, _⟩ => ⟨S2176x512, .bf16⟩
  | .local _ .vmem, ⟨2, _⟩ => ⟨S2176x2048, .bf16⟩
  | .local _ .vmem, ⟨3, _⟩ => ⟨S512x2048, .bf16⟩
  | .local _ .vmem, ⟨4, _⟩ => ⟨S512x2048, .bf16⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2176x5632 : Shape := ⟨2, ![2176, 5632]⟩
abbrev S2176x2048 : Shape := ⟨2, ![2176, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S_, .f32⟩
  | .hbm, ⟨3, _⟩ => ⟨S5632x2048, .f32⟩
  | .hbm, ⟨4, _⟩ => ⟨S2176x5632, .f32⟩
  | .hbm, ⟨5, _⟩ => ⟨S2176x2048, .f32⟩
  | .hbm, ⟨6, _⟩ => ⟨S2176x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2176x5632 : Shape := ⟨2, ![2176, 5632]⟩
abbrev S5632x2048 : Shape := ⟨2, ![5632, 2048]⟩
abbrev S2176x2048 : Shape := ⟨2, ![2176, 2048]⟩
abbrev S1088x5632 : Shape := ⟨2, ![1088, 5632]⟩
abbrev S5632x512 : Shape := ⟨2, ![5632, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x2048, .f32⟩
  | .local _ .vmem, ⟨0, _⟩ => ⟨S1088x5632, .bf16⟩
  | .local _ .vmem, ⟨1, _⟩ => ⟨S1088x5632, .bf16⟩
  | .local _ .vmem, ⟨2, _⟩ => ⟨S5632x512, .bf16⟩
  | .local _ .vmem, ⟨3, _⟩ => ⟨S5632x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2176x5632 : Shape := ⟨2, ![2176, 5632]⟩
abbrev S5632x2048 : Shape := ⟨2, ![5632, 2048]⟩
abbrev S2176x2048 : Shape := ⟨2, ![2176, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2176x2048 : Shape := ⟨2, ![2176, 2048]⟩
abbrev S2176x128 : Shape := ⟨2, ![2176, 128]⟩
abbrev S2176x1024 : Shape := ⟨2, ![2176, 1024]⟩
abbrev S2064x2048 : Shape := ⟨2, ![2064, 2048]⟩
abbrev S2064x8x256 : Shape := ⟨3, ![2064, 8, 256]⟩
abbrev S2064x128 : Shape := ⟨2, ![2064, 128]⟩
abbrev S2064 : Shape := ⟨1, ![2064]⟩
abbrev S_ : Shape := ⟨0, ![]⟩
abbrev S2064x8x128 : Shape := ⟨3, ![2064, 8, 128]⟩
abbrev S8x2064x2064 : Shape := ⟨3, ![8, 2064, 2064]⟩
abbrev S2064x2064x8 : Shape := ⟨3, ![2064, 2064, 8]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S8x128x2064 : Shape := ⟨3, ![8, 128, 2064]⟩
abbrev S2064x1024 : Shape := ⟨2, ![2064, 1024]⟩
abbrev S112x1024 : Shape := ⟨2, ![112, 1024]⟩
abbrev S8x112x1 : Shape := ⟨3, ![8, 112, 1]⟩
abbrev S8x2176x1 : Shape := ⟨3, ![8, 2176, 1]⟩
abbrev S544x256 : Shape := ⟨2, ![544, 256]⟩
abbrev S544x128 : Shape := ⟨2, ![544, 128]⟩
abbrev S1x544x1 : Shape := ⟨3, ![1, 544, 1]⟩
abbrev S2176x256 : Shape := ⟨2, ![2176, 256]⟩
abbrev S640x128 : Shape := ⟨2, ![640, 128]⟩
abbrev S544x640 : Shape := ⟨2, ![544, 640]⟩
abbrev S544x1 : Shape := ⟨2, ![544, 1]⟩
abbrev S1x640 : Shape := ⟨2, ![1, 640]⟩
abbrev S544 : Shape := ⟨1, ![544]⟩
abbrev S1152x128 : Shape := ⟨2, ![1152, 128]⟩
abbrev S544x1152 : Shape := ⟨2, ![544, 1152]⟩
abbrev S1x1152 : Shape := ⟨2, ![1, 1152]⟩
abbrev S1664x128 : Shape := ⟨2, ![1664, 128]⟩
abbrev S544x1664 : Shape := ⟨2, ![544, 1664]⟩
abbrev S1x1664 : Shape := ⟨2, ![1, 1664]⟩
abbrev S544x2176 : Shape := ⟨2, ![544, 2176]⟩
abbrev S1x2176 : Shape := ⟨2, ![1, 2176]⟩

abbrev nBuf : Space → Nat
  | .hbm => 91
  | .vmem => 19
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2176x128, .bf16⟩
  | .hbm, ⟨3, _⟩ => ⟨S2176x1024, .f32⟩
  | .hbm, ⟨4, _⟩ => ⟨S2064x2048, .bf16⟩
  | .hbm, ⟨5, _⟩ => ⟨S2064x2048, .f32⟩
  | .hbm, ⟨6, _⟩ => ⟨S2064x8x256, .f32⟩
  | .hbm, ⟨7, _⟩ => ⟨S2064x2048, .bf16⟩
  | .hbm, ⟨8, _⟩ => ⟨S2064x2048, .f32⟩
  | .hbm, ⟨9, _⟩ => ⟨S2064x8x256, .f32⟩
  | .hbm, ⟨10, _⟩ => ⟨S2064x128, .bf16⟩
  | .hbm, ⟨11, _⟩ => ⟨S2064x128, .f32⟩
  | .hbm, ⟨12, _⟩ => ⟨S2064, .i32⟩
  | .hbm, ⟨13, _⟩ => ⟨S_, .i32⟩
  | .hbm, ⟨14, _⟩ => ⟨S2064, .i32⟩
  | .hbm, ⟨15, _⟩ => ⟨S2064, .i1⟩
  | .hbm, ⟨16, _⟩ => ⟨S_, .i32⟩
  | .hbm, ⟨17, _⟩ => ⟨S2064, .i32⟩
  | .hbm, ⟨18, _⟩ => ⟨S2064, .i32⟩
  | .hbm, ⟨19, _⟩ => ⟨S_, .i32⟩
  | .hbm, ⟨20, _⟩ => ⟨S_, .i32⟩
  | .hbm, ⟨21, _⟩ => ⟨S2064, .i32⟩
  | .hbm, ⟨22, _⟩ => ⟨S2064, .i32⟩
  | .hbm, ⟨23, _⟩ => ⟨S2064, .i32⟩
  | .hbm, ⟨24, _⟩ => ⟨S_, .i32⟩
  | .hbm, ⟨25, _⟩ => ⟨S2064, .i32⟩
  | .hbm, ⟨26, _⟩ => ⟨S2064, .i1⟩
  | .hbm, ⟨27, _⟩ => ⟨S2064, .i32⟩
  | .hbm, ⟨28, _⟩ => ⟨S2064, .i32⟩
  | .hbm, ⟨29, _⟩ => ⟨S_, .i32⟩
  | .hbm, ⟨30, _⟩ => ⟨S2064, .i32⟩
  | .hbm, ⟨31, _⟩ => ⟨S2064, .i1⟩
  | .hbm, ⟨32, _⟩ => ⟨S2064, .i1⟩
  | .hbm, ⟨33, _⟩ => ⟨S_, .i32⟩
  | .hbm, ⟨34, _⟩ => ⟨S2064, .i32⟩
  | .hbm, ⟨35, _⟩ => ⟨S2064, .i32⟩
  | .hbm, ⟨36, _⟩ => ⟨S2064, .i32⟩
  | .hbm, ⟨37, _⟩ => ⟨S_, .i32⟩
  | .hbm, ⟨38, _⟩ => ⟨S2064, .i32⟩
  | .hbm, ⟨39, _⟩ => ⟨S2064, .i32⟩
  | .hbm, ⟨40, _⟩ => ⟨S_, .i32⟩
  | .hbm, ⟨41, _⟩ => ⟨S_, .i32⟩
  | .hbm, ⟨42, _⟩ => ⟨S2064, .i32⟩
  | .hbm, ⟨43, _⟩ => ⟨S2064, .i32⟩
  | .hbm, ⟨44, _⟩ => ⟨S2064x8x128, .f32⟩
  | .hbm, ⟨45, _⟩ => ⟨S2064x8x128, .f32⟩
  | .hbm, ⟨46, _⟩ => ⟨S8x2064x2064, .f32⟩
  | .hbm, ⟨47, _⟩ => ⟨S2064x8x128, .f32⟩
  | .hbm, ⟨48, _⟩ => ⟨S2064x2064x8, .f32⟩
  | .hbm, ⟨49, _⟩ => ⟨S8x2064x2064, .f32⟩
  | .hbm, ⟨50, _⟩ => ⟨S8x2064x2064, .f32⟩
  | .hbm, ⟨51, _⟩ => ⟨S1x2064, .i32⟩
  | .hbm, ⟨52, _⟩ => ⟨S2064x1, .i32⟩
  | .hbm, ⟨53, _⟩ => ⟨S2064x2064, .i32⟩
  | .hbm, ⟨54, _⟩ => ⟨S2064x2064, .i32⟩
  | .hbm, ⟨55, _⟩ => ⟨S2064x2064, .i1⟩
  | .hbm, ⟨56, _⟩ => ⟨S1x2064x2064, .i1⟩
  | .hbm, ⟨57, _⟩ => ⟨S_, .f32⟩
  | .hbm, ⟨58, _⟩ => ⟨S8x2064x2064, .f32⟩
  | .hbm, ⟨59, _⟩ => ⟨S8x2064x2064, .f32⟩
  | .hbm, ⟨60, _⟩ => ⟨S_, .f32⟩
  | .hbm, ⟨61, _⟩ => ⟨S_, .f32⟩
  | .hbm, ⟨62, _⟩ => ⟨S8x2064x2064, .i1⟩
  | .hbm, ⟨63, _⟩ => ⟨S8x2064x2064, .f32⟩
  | .hbm, ⟨64, _⟩ => ⟨S8x2064x2064, .f32⟩
  | .hbm, ⟨65, _⟩ => ⟨S_, .f32⟩
  | .hbm, ⟨66, _⟩ => ⟨S8x2064, .f32⟩
  | .hbm, ⟨67, _⟩ => ⟨S8x2064x1, .f32⟩
  | .hbm, ⟨68, _⟩ => ⟨S8x2064x2064, .f32⟩
  | .hbm, ⟨69, _⟩ => ⟨S8x2064x2064, .f32⟩
  | .hbm, ⟨70, _⟩ => ⟨S8x2064x2064, .f32⟩
  | .hbm, ⟨71, _⟩ => ⟨S_, .f32⟩
  | .hbm, ⟨72, _⟩ => ⟨S8x2064, .f32⟩
  | .hbm, ⟨73, _⟩ => ⟨S8x2064x1, .f32⟩
  | .hbm, ⟨74, _⟩ => ⟨S8x2064x2064, .f32⟩
  | .hbm, ⟨75, _⟩ => ⟨S8x2064x2064, .f32⟩
  | .hbm, ⟨76, _⟩ => ⟨S2064x8x128, .f32⟩
  | .hbm, ⟨77, _⟩ => ⟨S8x128x2064, .f32⟩
  | .hbm, ⟨78, _⟩ => ⟨S2064x8x128, .f32⟩
  | .hbm, ⟨79, _⟩ => ⟨S2064x1024, .f32⟩
  | .hbm, ⟨80, _⟩ => ⟨S_, .f32⟩
  | .hbm, ⟨81, _⟩ => ⟨S112x1024, .f32⟩
  | .hbm, ⟨82, _⟩ => ⟨S2176x1024, .f32⟩
  | .hbm, ⟨83, _⟩ => ⟨S_, .f32⟩
  | .hbm, ⟨84, _⟩ => ⟨S8x112x1, .f32⟩
  | .hbm, ⟨85, _⟩ => ⟨S8x2064x1, .f32⟩
  | .hbm, ⟨86, _⟩ => ⟨S8x2064x1, .f32⟩
  | .hbm, ⟨87, _⟩ => ⟨S8x2176x1, .f32⟩
  | .hbm, ⟨88, _⟩ => ⟨S2176x2048, .f32⟩
  | .hbm, ⟨89, _⟩ => ⟨S2176x2048, .bf16⟩
  | .hbm, ⟨90, _⟩ => ⟨S2176x128, .f32⟩
  | .local _ .vmem, ⟨0, _⟩ => ⟨S544x256, .bf16⟩
  | .local _ .vmem, ⟨1, _⟩ => ⟨S544x256, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S544x128, .f32⟩
  | .local _ .vmem, ⟨8, _⟩ => ⟨S544x128, .f32⟩
  | .local _ .vmem, ⟨9, _⟩ => ⟨S1x544x1, .f32⟩
  | .local _ .vmem, ⟨10, _⟩ => ⟨S1x544x1, .f32⟩
  | .local _ .vmem, ⟨11, _⟩ => ⟨S544x128, .f32⟩
  | .local _ .vmem, ⟨12, _⟩ => ⟨S544x128, .f32⟩
  | .local _ .vmem, ⟨13, _⟩ => ⟨S544x256, .f32⟩
  | .local _ .vmem, ⟨14, _⟩ => ⟨S544x256, .f32⟩
  | .local _ .vmem, ⟨15, _⟩ => ⟨S2176x256, .bf16⟩
  | .local _ .vmem, ⟨16, _⟩ => ⟨S2176x256, .bf16⟩
  | .local _ .vmem, ⟨17, _⟩ => ⟨S2176x128, .f32⟩
  | .local _ .vmem, ⟨18, _⟩ => ⟨S2176x256, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_7 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52_0 : Ref sig .tc := ⟨.hbm, 88, rfl⟩
abbrev main_v52_1 : Ref sig .tc := ⟨.hbm, 89, rfl⟩
abbrev main_v52_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c3_i32_9 : BitVec 32 := 3#32
  let v20 : BitVec 1 := Scalar.cmpi .eq arg1 c3_i32_9
  let v21 : BitVec 32 := Scalar.extui v20
  let c0_i32_10 : BitVec 32 := 0#32
  let v22 : BitVec 1 := Scalar.cmpi .ne v21 c0_i32_10
  v22

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2176x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2176x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Kernel7Ideal.lean ====
variable {F : FTy → Type} [FloatOps F] [Named F]
def κ : String → Option EReal := fun
  | "mask" => some ⊥
  | _ => none
-- ==== Reference7Ideal.lean ====
abbrev S2176x2048 : Shape := ⟨2, ![2176, 2048]⟩
abbrev S2176x128 : Shape := ⟨2, ![2176, 128]⟩
abbrev S2176x1024 : Shape := ⟨2, ![2176, 1024]⟩
abbrev S2064x2048 : Shape := ⟨2, ![2064, 2048]⟩
abbrev S2064x8x256 : Shape := ⟨3, ![2064, 8, 256]⟩
abbrev S2064x128 : Shape := ⟨2, ![2064, 128]⟩
abbrev S2064 : Shape := ⟨1, ![2064]⟩
abbrev S_ : Shape := ⟨0, ![]⟩
abbrev S2064x8x128 : Shape := ⟨3, ![2064, 8, 128]⟩
abbrev S8x2064x2064 : Shape := ⟨3, ![8, 2064, 2064]⟩
abbrev S2064x2064x8 : Shape := ⟨3, ![2064, 2064, 8]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S8x128x2064 : Shape := ⟨3, ![8, 128, 2064]⟩
abbrev S2064x1024 : Shape := ⟨2, ![2064, 1024]⟩
abbrev S8x2064x128 : Shape := ⟨3, ![8, 2064, 128]⟩

abbrev nBuf : Space → Nat
  | .hbm => 161
  | .vmem => 0
  | .smem => 0
  | _ => 0

abbrev hbmTy0_0 (i : Nat) : BufTy := match i % 128 with
  | 0 => ⟨S2176x2048, .bf16⟩
  | 1 => ⟨S2176x2048, .bf16⟩
  | 2 => ⟨S2176x128, .bf16⟩
  | 3 => ⟨S2176x1024, .f32⟩
  | 4 => ⟨S2176x2048, .f32⟩
  | 5 => ⟨S2176x2048, .f32⟩
  | 6 => ⟨S2176x128, .f32⟩
  | 7 => ⟨S2064x2048, .f32⟩
  | 8 => ⟨S2064x8x256, .f32⟩
  | 9 => ⟨S2064x2048, .f32⟩
  | 10 => ⟨S2064x8x256, .f32⟩
  | 11 => ⟨S2064x128, .f32⟩
  | 12 => ⟨S2064, .i32⟩
  | 13 => ⟨S_, .i32⟩
  | 14 => ⟨S2064, .i32⟩
  | 15 => ⟨S2064, .i1⟩
  | 16 => ⟨S_, .i32⟩
  | 17 => ⟨S2064, .i32⟩
  | 18 => ⟨S2064, .i32⟩
  | 19 => ⟨S_, .i32⟩
  | 20 => ⟨S_, .i32⟩
  | 21 => ⟨S2064, .i32⟩
  | 22 => ⟨S2064, .i32⟩
  | 23 => ⟨S2064, .i32⟩
  | 24 => ⟨S_, .i32⟩
  | 25 => ⟨S2064, .i32⟩
  | 26 => ⟨S2064, .i1⟩
  | 27 => ⟨S2064, .i32⟩
  | 28 => ⟨S2064, .i32⟩
  | 29 => ⟨S_, .i32⟩
  | 30 => ⟨S2064, .i32⟩
  | 31 => ⟨S2064, .i1⟩
  | 32 => ⟨S2064, .i1⟩
  | 33 => ⟨S_, .i32⟩
  | 34 => ⟨S2064, .i32⟩
  | 35 => ⟨S2064, .i32⟩
  | 36 => ⟨S2064, .i32⟩
  | 37 => ⟨S_, .i32⟩
  | 38 => ⟨S2064, .i32⟩
  | 39 => ⟨S2064, .i32⟩
  | 40 => ⟨S_, .i32⟩
  | 41 => ⟨S_, .i32⟩
  | 42 => ⟨S2064, .i32⟩
  | 43 => ⟨S2064, .i32⟩
  | 44 => ⟨S2064x8x128, .f32⟩
  | 45 => ⟨S2064x8x128, .f32⟩
  | 46 => ⟨S2064x8x128, .f32⟩
  | 47 => ⟨S8x2064x2064, .f32⟩
  | 48 => ⟨S2064x8x128, .f32⟩
  | 49 => ⟨S2064x2064x8, .f32⟩
  | 50 => ⟨S8x2064x2064, .f32⟩
  | 51 => ⟨S8x2064x2064, .f32⟩
  | 52 => ⟨S1x2064, .i32⟩
  | 53 => ⟨S2064x1, .i32⟩
  | 54 => ⟨S2064x2064, .i32⟩
  | 55 => ⟨S2064x2064, .i32⟩
  | 56 => ⟨S2064x2064, .i1⟩
  | 57 => ⟨S1x2064x2064, .i1⟩
  | 58 => ⟨S_, .f32⟩
  | 59 => ⟨S8x2064x2064, .f32⟩
  | 60 => ⟨S8x2064x2064, .f32⟩
  | 61 => ⟨S_, .f32⟩
  | 62 => ⟨S_, .f32⟩
  | 63 => ⟨S8x2064x2064, .i1⟩
  | 64 => ⟨S8x2064x2064, .f32⟩
  | 65 => ⟨S8x2064x2064, .f32⟩
  | 66 => ⟨S_, .f32⟩
  | 67 => ⟨S8x2064x2064, .f32⟩
  | 68 => ⟨S_, .f32⟩
  | 69 => ⟨S8x2064, .f32⟩
  | 70 => ⟨S8x2064x1, .f32⟩
  | 71 => ⟨S8x2064x2064, .f32⟩
  | 72 => ⟨S8x2064x2064, .i1⟩
  | 73 => ⟨S8x2064x2064, .f32⟩
  | 74 => ⟨S_, .f32⟩
  | 75 => ⟨S8x2064, .f32⟩
  | 76 => ⟨S_, .f32⟩
  | 77 => ⟨S8x2064, .f32⟩
  | 78 => ⟨S8x2064, .f32⟩
  | 79 => ⟨S_, .f32⟩
  | 80 => ⟨S8x2064, .f32⟩
  | 81 => ⟨S8x2064, .i1⟩
  | 82 => ⟨S_, .f32⟩
  | 83 => ⟨S8x2064, .f32⟩
  | 84 => ⟨S8x2064, .i1⟩
  | 85 => ⟨S_, .f32⟩
  | 86 => ⟨S8x2064, .f32⟩
  | 87 => ⟨S_, .f32⟩
  | 88 => ⟨S8x2064, .f32⟩
  | 89 => ⟨S_, .f32⟩
  | 90 => ⟨S8x2064, .f32⟩
  | 91 => ⟨S8x2064, .f32⟩
  | 92 => ⟨S8x2064, .f32⟩
  | 93 => ⟨S8x2064x1, .f32⟩
  | 94 => ⟨S8x2064x2064, .f32⟩
  | 95 => ⟨S8x2064x2064, .f32⟩
  | 96 => ⟨S8x2064x2064, .f32⟩
  | 97 => ⟨S_, .f32⟩
  | 98 => ⟨S8x2064, .f32⟩
  | 99 => ⟨S8x2064x1, .f32⟩
  | 100 => ⟨S8x2064x2064, .f32⟩
  | 101 => ⟨S8x2064x2064, .f32⟩
  | 102 => ⟨S8x2064x1, .f32⟩
  | 103 => ⟨S_, .f32⟩
  | 104 => ⟨S8x2064x1, .f32⟩
  | 105 => ⟨S8x2064x1, .f32⟩
  | 106 => ⟨S8x128x2064, .f32⟩
  | 107 => ⟨S2064x8x128, .f32⟩
  | 108 => ⟨S2064x1024, .f32⟩
  | 109 => ⟨S2064x1024, .f32⟩
  | 110 => ⟨S2064x8x128, .f32⟩
  | 111 => ⟨S8x128x2064, .f32⟩
  | 112 => ⟨S8x2064x2064, .f32⟩
  | 113 => ⟨S8x128x2064, .f32⟩
  | 114 => ⟨S2064x8x128, .f32⟩
  | 115 => ⟨S8x2064x2064, .f32⟩
  | 116 => ⟨S8x2064x2064, .f32⟩
  | 117 => ⟨S8x2064x2064, .f32⟩
  | 118 => ⟨S_, .f32⟩
  | 119 => ⟨S8x2064, .f32⟩
  | 120 => ⟨S8x2064x1, .f32⟩
  | 121 => ⟨S8x2064x1, .f32⟩
  | 122 => ⟨S8x2064x2064, .f32⟩
  | 123 => ⟨S8x2064x2064, .f32⟩
  | 124 => ⟨S_, .f32⟩
  | 125 => ⟨S8x2064, .f32⟩
  | 126 => ⟨S8x2064x2064, .f32⟩
  | 127 => ⟨S8x2064x2064, .f32⟩
  | _ => ⟨S2176x2048, .bf16⟩

abbrev hbmTy0_1 (i : Nat) : BufTy := match i % 128 with
  | 0 => ⟨S8x2064x2064, .f32⟩
  | 1 => ⟨S_, .f32⟩
  | 2 => ⟨S8x2064x2064, .f32⟩
  | 3 => ⟨S8x2064x2064, .f32⟩
  | 4 => ⟨S_, .f32⟩
  | 5 => ⟨S8x2064x2064, .f32⟩
  | 6 => ⟨S8x2064x2064, .f32⟩
  | 7 => ⟨S2064x2064x8, .f32⟩
  | 8 => ⟨S2064x8x128, .f32⟩
  | 9 => ⟨S2064x128, .f32⟩
  | 10 => ⟨S_, .f32⟩
  | 11 => ⟨S2064x8x256, .f32⟩
  | 12 => ⟨S8x2064x128, .f32⟩
  | 13 => ⟨S2064x8x128, .f32⟩
  | 14 => ⟨S8x2064x128, .f32⟩
  | 15 => ⟨S2064x8x128, .f32⟩
  | 16 => ⟨S_, .f32⟩
  | 17 => ⟨S2064x8x256, .f32⟩
  | 18 => ⟨S2064x8x256, .f32⟩
  | 19 => ⟨S_, .f32⟩
  | 20 => ⟨S2064x8x256, .f32⟩
  | 21 => ⟨S_, .f32⟩
  | 22 => ⟨S2064x8x256, .f32⟩
  | 23 => ⟨S2064x8x256, .f32⟩
  | 24 => ⟨S_, .f32⟩
  | 25 => ⟨S2176x128, .f32⟩
  | 26 => ⟨S2064x2048, .f32⟩
  | 27 => ⟨S_, .f32⟩
  | 28 => ⟨S2176x2048, .f32⟩
  | 29 => ⟨S2064x2048, .f32⟩
  | 30 => ⟨S_, .f32⟩
  | 31 => ⟨S2176x2048, .f32⟩
  | 32 => ⟨S2176x2048, .bf16⟩
  | _ => ⟨S2176x2048, .bf16⟩

abbrev hbmTy (i : Nat) : BufTy := match i / 128 with
  | 0 => hbmTy0_0 i
  | 1 => hbmTy0_1 i
  | _ => ⟨S2176x2048, .bf16⟩

abbrev bufTy : (tb : Table) → Fin (tcTables nBuf tb) → BufTy
  | .hbm, ⟨i, _⟩ => hbmTy i
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_call2_v0 : Ref sig .tc := ⟨.hbm, 62, rfl⟩
abbrev main_v33_1 : Ref sig .tc := ⟨.hbm, 63, rfl⟩
abbrev main_call2_v2 : Ref sig .tc := ⟨.hbm, 64, rfl⟩
abbrev main_v33_0 : Ref sig .tc := ⟨.hbm, 65, rfl⟩
abbrev main_call2_cst : Ref sig .tc := ⟨.hbm, 66, rfl⟩
abbrev main_v33_2 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_cst_12 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_14 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_15 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_call3_cst : Ref sig .tc := ⟨.hbm, 129, rfl⟩
abbrev main_call3_v0 : Ref sig .tc := ⟨.hbm, 130, rfl⟩
abbrev main_v83 : Ref sig .tc := ⟨.hbm, 131, rfl⟩
abbrev main_cst_17 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_18 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_19 : Ref sig .tc := ⟨.hbm, 144, rfl⟩
abbrev main_v94 : Ref sig .tc := ⟨.hbm, 145, rfl⟩
abbrev main_v95 : Ref sig .tc := ⟨.hbm, 146, rfl⟩
abbrev main_cst_20 : Ref sig .tc := ⟨.hbm, 147, rfl⟩
abbrev main_v96 : Ref sig .tc := ⟨.hbm, 148, rfl⟩
abbrev main_cst_21 : Ref sig .tc := ⟨.hbm, 149, rfl⟩
abbrev main_v97 : Ref sig .tc := ⟨.hbm, 150, rfl⟩
abbrev main_v98 : Ref sig .tc := ⟨.hbm, 151, rfl⟩
abbrev main_cst_22 : Ref sig .tc := ⟨.hbm, 152, rfl⟩
abbrev main_v99 : Ref sig .tc := ⟨.hbm, 153, rfl⟩
abbrev main_v100 : Ref sig .tc := ⟨.hbm, 154, rfl⟩
abbrev main_cst_23 : Ref sig .tc := ⟨.hbm, 155, rfl⟩
abbrev main_v101 : Ref sig .tc := ⟨.hbm, 156, rfl⟩
abbrev main_v102 : Ref sig .tc := ⟨.hbm, 157, rfl⟩
abbrev main_cst_24 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]
-- ==== Kernel8.lean ====
abbrev S2176x2048 : Shape := ⟨2, ![2176, 2048]⟩
abbrev S2048x1920 : Shape := ⟨2, ![2048, 1920]⟩
abbrev S2176x1920 : Shape := ⟨2, ![2176, 1920]⟩
abbrev S2048x640 : Shape := ⟨2, ![2048, 640]⟩
abbrev S2176x640 : Shape := ⟨2, ![2176, 640]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x1920, .bf16⟩
  | .hbm, ⟨2, _⟩ => ⟨S2176x1920, .f32⟩
  | .local _ .vmem, ⟨0, _⟩ => ⟨S2176x2048, .bf16⟩
  | .local _ .vmem, ⟨1, _⟩ => ⟨S2048x640, .bf16⟩
  | .local _ .vmem, ⟨2, _⟩ => ⟨S2048x640, .bf16⟩
  | .local _ .vmem, ⟨3, _⟩ => ⟨S2176x640, .f32⟩
  | .local _ .vmem, ⟨4, _⟩ => ⟨S2176x640, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2176x2048 : Shape := ⟨2, ![2176, 2048]⟩
abbrev S2048x1920 : Shape := ⟨2, ![2048, 1920]⟩
abbrev S2176x1920 : Shape := ⟨2, ![2176, 1920]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x1920, .bf16⟩
  | .hbm, ⟨2, _⟩ => ⟨S2176x2048, .f32⟩
  | .hbm, ⟨3, _⟩ => ⟨S2048x1920, .f32⟩
  | .hbm, ⟨4, _⟩ => ⟨S2176x1920, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2176x2048 : Shape := ⟨2, ![2176, 2048]⟩
abbrev S2048x2048 : Shape := ⟨2, ![2048, 2048]⟩
abbrev S2048x512 : Shape := ⟨2, ![2048, 512]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .local _ .vmem, ⟨0, _⟩ => ⟨S2176x2048, .bf16⟩
  | .local _ .vmem, ⟨1, _⟩ => ⟨S2048x512, .bf16⟩
  | .local _ .vmem, ⟨2, _⟩ => ⟨S2048x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2176x2048 : Shape := ⟨2, ![2176, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2176x2048 : Shape := ⟨2, ![2176, 2048]⟩
abbrev S2048x2048 : Shape := ⟨2, ![2048, 2048]⟩
abbrev S512x2048 : Shape := ⟨2, ![512, 2048]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2176x2048 : Shape := ⟨2, ![2176, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S_, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | .hbm, ⟨7, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2176x2048 : Shape := ⟨2, ![2176, 2048]⟩
abbrev S2048x2048 : Shape := ⟨2, ![2048, 2048]⟩
abbrev S2176x512 : Shape := ⟨2, ![2176, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2048x2048, .f32⟩
  | .local _ .vmem, ⟨0, _⟩ => ⟨S2176x512, .bf16⟩
  | .local _ .vmem, ⟨1, _⟩ => ⟨S2176x512, .bf16⟩
  | .local _ .vmem, ⟨2, _⟩ => ⟨S2176x2048, .bf16⟩
  | .local _ .vmem, ⟨3, _⟩ => ⟨S512x2048, .f32⟩
  | .local _ .vmem, ⟨4, _⟩ => ⟨S512x2048, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2048x2048, .f32⟩
  | .hbm, ⟨8, _⟩ => ⟨S2048x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2176x1920 : Shape := ⟨2, ![2176, 1920]⟩
abbrev S2048x1920 : Shape := ⟨2, ![2048, 1920]⟩
abbrev S2176x2048 : Shape := ⟨2, ![2176, 2048]⟩
abbrev S512x1920 : Shape := ⟨2, ![512, 1920]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x1920, .bf16⟩
  | .hbm, ⟨1, _⟩ => ⟨S2048x1920, .bf16⟩
  | .hbm, ⟨2, _⟩ => ⟨S2176x2048, .f32⟩
  | .local _ .vmem, ⟨0, _⟩ => ⟨S2176x1920, .bf16⟩
  | .local _ .vmem, ⟨1, _⟩ => ⟨S512x1920, .bf16⟩
  | .local _ .vmem, ⟨2, _⟩ => ⟨S512x1920, .bf16⟩
  | .local _ .vmem, ⟨3, _⟩ => ⟨S2176x512, .f32⟩
  | .local _ .vmem, ⟨4, _⟩ => ⟨S2176x512, .f32⟩
  | _, _ => ⟨S2176x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2176x1920 : Shape := ⟨2, ![2176, 1920]⟩
abbrev S2048x1920 : Shape := ⟨2, ![2048, 1920]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x1920, .bf16⟩
  | .hbm, ⟨1, _⟩ => ⟨S2048x1920, .bf16⟩
  | .hbm, ⟨2, _⟩ => ⟨S_, .f32⟩
  | .hbm, ⟨3, _⟩ => ⟨S2176x2048, .f32⟩
  | .hbm, ⟨4, _⟩ => ⟨S2048x1920, .f32⟩
  | .hbm, ⟨5, _⟩ => ⟨S2176x1920, .f32⟩
  | .hbm, ⟨6, _⟩ => ⟨S2176x1920, .f32⟩
  | .hbm, ⟨7, _⟩ => ⟨S2176x2048, .f32⟩
  | _, _ => ⟨S2176x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2176x2048 : Shape := ⟨2, ![2176, 2048]⟩
abbrev S2176x1920 : Shape := ⟨2, ![2176, 1920]⟩
abbrev S2048x1920 : Shape := ⟨2, ![2048, 1920]⟩
abbrev S2176x512 : Shape := ⟨2, ![2176, 512]⟩
abbrev S2176x640 : Shape := ⟨2, ![2176, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x1920, .bf16⟩
  | .hbm, ⟨2, _⟩ => ⟨S2048x1920, .f32⟩
  | .local _ .vmem, ⟨0, _⟩ => ⟨S2176x512, .bf16⟩
  | .local _ .vmem, ⟨1, _⟩ => ⟨S2176x512, .bf16⟩
  | .local _ .vmem, ⟨2, _⟩ => ⟨S2176x640, .bf16⟩
  | .local _ .vmem, ⟨3, _⟩ => ⟨S2176x640, .bf16⟩
  | .local _ .vmem, ⟨4, _⟩ => ⟨S512x640, .f32⟩
  | .local _ .vmem, ⟨5, _⟩ => ⟨S512x640, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2176x2048 : Shape := ⟨2, ![2176, 2048]⟩
abbrev S2176x1920 : Shape := ⟨2, ![2176, 1920]⟩
abbrev S_ : Shape := ⟨0, ![]⟩
abbrev S2048x1920 : Shape := ⟨2, ![2048, 1920]⟩
abbrev S1920x2048 : Shape := ⟨2, ![1920, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x1920, .bf16⟩
  | .hbm, ⟨2, _⟩ => ⟨S_, .f32⟩
  | .hbm, ⟨3, _⟩ => ⟨S2048x1920, .f32⟩
  | .hbm, ⟨4, _⟩ => ⟨S2176x2048, .f32⟩
  | .hbm, ⟨5, _⟩ => ⟨S2176x1920, .f32⟩
  | .hbm, ⟨6, _⟩ => ⟨S2176x1920, .f32⟩
  | .hbm, ⟨7, _⟩ => ⟨S1920x2048, .f32⟩
  | .hbm, ⟨8, _⟩ => ⟨S2048x1920, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2176x1024 : Shape := ⟨2, ![2176, 1024]⟩
abbrev S1024x1024 : Shape := ⟨2, ![1024, 1024]⟩
abbrev S1024x512 : Shape := ⟨2, ![1024, 512]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1024x1024, .f32⟩
  | .hbm, ⟨4, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2176x1024 : Shape := ⟨2, ![2176, 1024]⟩
abbrev S1024x1024 : Shape := ⟨2, ![1024, 1024]⟩
abbrev S512x1024 : Shape := ⟨2, ![512, 1024]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S2176x1024, .f32⟩
  | .local _ .vmem, ⟨0, _⟩ => ⟨S2176x1024, .bf16⟩
  | .local _ .vmem, ⟨1, _⟩ => ⟨S512x1024, .bf16⟩
  | .local _ .vmem, ⟨2, _⟩ => ⟨S512x1024, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S_, .f32⟩
  | .hbm, ⟨4, _⟩ => ⟨S2176x1024, .f32⟩
  | .hbm, ⟨5, _⟩ => ⟨S1024x1024, .f32⟩
  | .hbm, ⟨6, _⟩ => ⟨S2176x1024, .f32⟩
  | .hbm, ⟨7, _⟩ => ⟨S2176x1024, .f32⟩
  | .hbm, ⟨8, _⟩ => ⟨S2176x1024, .f32⟩
  | .hbm, ⟨9, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel16.lean ====
abbrev S2176x1024 : Shape := ⟨2, ![2176, 1024]⟩
abbrev S1024x1024 : Shape := ⟨2, ![1024, 1024]⟩
abbrev S2176x512 : Shape := ⟨2, ![2176, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S2176x512, .bf16⟩
  | .local _ .vmem, ⟨4, _⟩ => ⟨S512x512, .f32⟩
  | .local _ .vmem, ⟨5, _⟩ => ⟨S512x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S2176x512 : Shape := ⟨2, ![2176, 512]⟩
abbrev S2048x512 : Shape := ⟨2, ![2048, 512]⟩
abbrev S2176x2048 : Shape := ⟨2, ![2176, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x512, .bf16⟩
  | .hbm, ⟨1, _⟩ => ⟨S2048x512, .bf16⟩
  | .hbm, ⟨2, _⟩ => ⟨S2176x2048, .f32⟩
  | .local _ .vmem, ⟨0, _⟩ => ⟨S2176x512, .bf16⟩
  | .local _ .vmem, ⟨1, _⟩ => ⟨S512x512, .bf16⟩
  | .local _ .vmem, ⟨2, _⟩ => ⟨S512x512, .bf16⟩
  | .local _ .vmem, ⟨3, _⟩ => ⟨S2176x512, .f32⟩
  | .local _ .vmem, ⟨4, _⟩ => ⟨S2176x512, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2176x512 : Shape := ⟨2, ![2176, 512]⟩
abbrev S2048x512 : Shape := ⟨2, ![2048, 512]⟩
abbrev S512x2048 : Shape := ⟨2, ![512, 2048]⟩
abbrev S2176x2048 : Shape := ⟨2, ![2176, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2048x512, .bf16⟩
  | .hbm, ⟨2, _⟩ => ⟨S2176x512, .f32⟩
  | .hbm, ⟨3, _⟩ => ⟨S2048x512, .f32⟩
  | .hbm, ⟨4, _⟩ => ⟨S512x2048, .f32⟩
  | .hbm, ⟨5, _⟩ => ⟨S2176x2048, .f32⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2176x2048 : Shape := ⟨2, ![2176, 2048]⟩
abbrev S2048x512 : Shape := ⟨2, ![2048, 512]⟩
abbrev S2176x512 : Shape := ⟨2, ![2176, 512]⟩

abbrev nBuf : Space → Nat
  | .hbm => 3
  | .vmem => 3
  | .smem => 0
  | _ => 0

abbrev bufTy : (tb : Table) → Fin (tcTables nBuf tb) → BufTy
  | .hbm, ⟨0, _⟩ => ⟨S2176x2048, .bf16⟩
  | .hbm, ⟨1, _⟩ => ⟨S2048x512, .bf16⟩
  | .hbm, ⟨2, _⟩ => ⟨S2176x512, .f32⟩
  | .local _ .vmem, ⟨0, _⟩ => ⟨S2176x2048, .bf16⟩
  | .local _ .vmem, ⟨1, _⟩ => ⟨S2048x512, .bf16⟩
  | .local _ .vmem, ⟨2, _⟩ => ⟨S2176x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S2176x2048 : Shape := ⟨2, ![2176, 2048]⟩
abbrev S2048x512 : Shape := ⟨2, ![2048, 512]⟩
abbrev S_ : Shape := ⟨0, ![]⟩
abbrev S2176x512 : Shape := ⟨2, ![2176, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x512, .bf16⟩
  | .hbm, ⟨2, _⟩ => ⟨S_, .f32⟩
  | .hbm, ⟨3, _⟩ => ⟨S2176x512, .f32⟩
  | .hbm, ⟨4, _⟩ => ⟨S2048x512, .f32⟩
  | .hbm, ⟨5, _⟩ => ⟨S512x2048, .f32⟩
  | .hbm, ⟨6, _⟩ => ⟨S2176x2048, .f32⟩
  | .hbm, ⟨7, _⟩ => ⟨S2176x2048, .f32⟩
  | .hbm, ⟨8, _⟩ => ⟨S2176x512, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2176x2048 : Shape := ⟨2, ![2176, 2048]⟩
abbrev S2176x512 : Shape := ⟨2, ![2176, 512]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2176x512, .bf16⟩
  | .hbm, ⟨2, _⟩ => ⟨S2048x512, .f32⟩
  | .local _ .vmem, ⟨0, _⟩ => ⟨S2176x512, .bf16⟩
  | .local _ .vmem, ⟨1, _⟩ => ⟨S2176x512, .bf16⟩
  | .local _ .vmem, ⟨2, _⟩ => ⟨S2176x512, .bf16⟩
  | .local _ .vmem, ⟨3, _⟩ => ⟨S512x512, .f32⟩
  | .local _ .vmem, ⟨4, _⟩ => ⟨S512x512, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2176x2048 : Shape := ⟨2, ![2176, 2048]⟩
abbrev S2176x512 : Shape := ⟨2, ![2176, 512]⟩
abbrev S_ : Shape := ⟨0, ![]⟩
abbrev S2048x512 : Shape := ⟨2, ![2048, 512]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x512, .bf16⟩
  | .hbm, ⟨2, _⟩ => ⟨S_, .f32⟩
  | .hbm, ⟨3, _⟩ => ⟨S2048x512, .f32⟩
  | .hbm, ⟨4, _⟩ => ⟨S2176x512, .f32⟩
  | .hbm, ⟨5, _⟩ => ⟨S512x2048, .f32⟩
  | .hbm, ⟨6, _⟩ => ⟨S2176x2048, .f32⟩
  | .hbm, ⟨7, _⟩ => ⟨S2176x2048, .f32⟩
  | .hbm, ⟨8, _⟩ => ⟨S2048x512, .f32⟩
  | .hbm, ⟨9, _⟩ => ⟨S512x2048, .f32⟩
  | .hbm, ⟨10, _⟩ => ⟨S2048x512, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S2176x256 : Shape := ⟨2, ![2176, 256]⟩
abbrev S2048x256 : Shape := ⟨2, ![2048, 256]⟩
abbrev S2176x2048 : Shape := ⟨2, ![2176, 2048]⟩
abbrev S512x256 : Shape := ⟨2, ![512, 256]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x256, .bf16⟩
  | .hbm, ⟨1, _⟩ => ⟨S2048x256, .bf16⟩
  | .hbm, ⟨2, _⟩ => ⟨S2176x2048, .bf16⟩
  | .local _ .vmem, ⟨0, _⟩ => ⟨S2176x256, .bf16⟩
  | .local _ .vmem, ⟨1, _⟩ => ⟨S512x256, .bf16⟩
  | .local _ .vmem, ⟨2, _⟩ => ⟨S512x256, .bf16⟩
  | .local _ .vmem, ⟨3, _⟩ => ⟨S2176x512, .bf16⟩
  | .local _ .vmem, ⟨4, _⟩ => ⟨S2176x512, .bf16⟩
  | _, _ => ⟨S2176x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2176x256 : Shape := ⟨2, ![2176, 256]⟩
abbrev S2048x256 : Shape := ⟨2, ![2048, 256]⟩
abbrev S256x2048 : Shape := ⟨2, ![256, 2048]⟩
abbrev S2176x2048 : Shape := ⟨2, ![2176, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x256, .bf16⟩
  | .hbm, ⟨1, _⟩ => ⟨S2048x256, .bf16⟩
  | .hbm, ⟨2, _⟩ => ⟨S2176x256, .f32⟩
  | .hbm, ⟨3, _⟩ => ⟨S2048x256, .f32⟩
  | .hbm, ⟨4, _⟩ => ⟨S256x2048, .f32⟩
  | .hbm, ⟨5, _⟩ => ⟨S2176x2048, .f32⟩
  | .hbm, ⟨6, _⟩ => ⟨S2176x2048, .bf16⟩
  | _, _ => ⟨S2176x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S2176x2048 : Shape := ⟨2, ![2176, 2048]⟩
abbrev S2048x256 : Shape := ⟨2, ![2048, 256]⟩
abbrev S2176x256 : Shape := ⟨2, ![2176, 256]⟩

abbrev nBuf : Space → Nat
  | .hbm => 3
  | .vmem => 3
  | .smem => 0
  | _ => 0

abbrev bufTy : (tb : Table) → Fin (tcTables nBuf tb) → BufTy
  | .hbm, ⟨0, _⟩ => ⟨S2176x2048, .bf16⟩
  | .hbm, ⟨1, _⟩ => ⟨S2048x256, .bf16⟩
  | .hbm, ⟨2, _⟩ => ⟨S2176x256, .f32⟩
  | .local _ .vmem, ⟨0, _⟩ => ⟨S2176x2048, .bf16⟩
  | .local _ .vmem, ⟨1, _⟩ => ⟨S2048x256, .bf16⟩
  | .local _ .vmem, ⟨2, _⟩ => ⟨S2176x256, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S2176x2048 : Shape := ⟨2, ![2176, 2048]⟩
abbrev S2048x256 : Shape := ⟨2, ![2048, 256]⟩
abbrev S_ : Shape := ⟨0, ![]⟩
abbrev S2176x256 : Shape := ⟨2, ![2176, 256]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x256, .bf16⟩
  | .hbm, ⟨2, _⟩ => ⟨S_, .f32⟩
  | .hbm, ⟨3, _⟩ => ⟨S2176x256, .f32⟩
  | .hbm, ⟨4, _⟩ => ⟨S2048x256, .f32⟩
  | .hbm, ⟨5, _⟩ => ⟨S256x2048, .f32⟩
  | .hbm, ⟨6, _⟩ => ⟨S2176x2048, .f32⟩
  | .hbm, ⟨7, _⟩ => ⟨S2176x2048, .f32⟩
  | .hbm, ⟨8, _⟩ => ⟨S2176x256, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S2176x2048 : Shape := ⟨2, ![2176, 2048]⟩
abbrev S2176x256 : Shape := ⟨2, ![2176, 256]⟩
abbrev S2048x256 : Shape := ⟨2, ![2048, 256]⟩
abbrev S2176x512 : Shape := ⟨2, ![2176, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2176x256, .bf16⟩
  | .hbm, ⟨2, _⟩ => ⟨S2048x256, .f32⟩
  | .local _ .vmem, ⟨0, _⟩ => ⟨S2176x512, .bf16⟩
  | .local _ .vmem, ⟨1, _⟩ => ⟨S2176x512, .bf16⟩
  | .local _ .vmem, ⟨2, _⟩ => ⟨S2176x256, .bf16⟩
  | .local _ .vmem, ⟨3, _⟩ => ⟨S512x256, .f32⟩
  | .local _ .vmem, ⟨4, _⟩ => ⟨S512x256, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2176x2048 : Shape := ⟨2, ![2176, 2048]⟩
abbrev S2176x256 : Shape := ⟨2, ![2176, 256]⟩
abbrev S_ : Shape := ⟨0, ![]⟩
abbrev S2048x256 : Shape := ⟨2, ![2048, 256]⟩
abbrev S256x2048 : Shape := ⟨2, ![256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x256, .bf16⟩
  | .hbm, ⟨2, _⟩ => ⟨S_, .f32⟩
  | .hbm, ⟨3, _⟩ => ⟨S2048x256, .f32⟩
  | .hbm, ⟨4, _⟩ => ⟨S2176x256, .f32⟩
  | .hbm, ⟨5, _⟩ => ⟨S256x2048, .f32⟩
  | .hbm, ⟨6, _⟩ => ⟨S2176x2048, .f32⟩
  | .hbm, ⟨7, _⟩ => ⟨S2176x2048, .f32⟩
  | .hbm, ⟨8, _⟩ => ⟨S2048x256, .f32⟩
  | .hbm, ⟨9, _⟩ => ⟨S256x2048, .f32⟩
  | .hbm, ⟨10, _⟩ => ⟨S2048x256, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S2176x2048 : Shape := ⟨2, ![2176, 2048]⟩
abbrev S2176x128 : Shape := ⟨2, ![2176, 128]⟩
abbrev S2176x1024 : Shape := ⟨2, ![2176, 1024]⟩
abbrev S8x2176x1 : Shape := ⟨3, ![8, 2176, 1]⟩
abbrev S544x256 : Shape := ⟨2, ![544, 256]⟩
abbrev S544x128 : Shape := ⟨2, ![544, 128]⟩
abbrev S1x544x1 : Shape := ⟨3, ![1, 544, 1]⟩
abbrev S640x128 : Shape := ⟨2, ![640, 128]⟩
abbrev S544x640 : Shape := ⟨2, ![544, 640]⟩
abbrev S544x1 : Shape := ⟨2, ![544, 1]⟩
abbrev S1x640 : Shape := ⟨2, ![1, 640]⟩
abbrev S544 : Shape := ⟨1, ![544]⟩
abbrev S1152x128 : Shape := ⟨2, ![1152, 128]⟩
abbrev S544x1152 : Shape := ⟨2, ![544, 1152]⟩
abbrev S1x1152 : Shape := ⟨2, ![1, 1152]⟩
abbrev S1664x128 : Shape := ⟨2, ![1664, 128]⟩
abbrev S544x1664 : Shape := ⟨2, ![544, 1664]⟩
abbrev S1x1664 : Shape := ⟨2, ![1, 1664]⟩
abbrev S544x2176 : Shape := ⟨2, ![544, 2176]⟩
abbrev S1x2176 : Shape := ⟨2, ![1, 2176]⟩

abbrev nBuf : Space → Nat
  | .hbm => 5
  | .vmem => 11
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2176x128, .bf16⟩
  | .hbm, ⟨3, _⟩ => ⟨S2176x1024, .f32⟩
  | .hbm, ⟨4, _⟩ => ⟨S8x2176x1, .f32⟩
  | .local _ .vmem, ⟨0, _⟩ => ⟨S544x256, .bf16⟩
  | .local _ .vmem, ⟨1, _⟩ => ⟨S544x256, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S544x128, .f32⟩
  | .local _ .vmem, ⟨8, _⟩ => ⟨S544x128, .f32⟩
  | .local _ .vmem, ⟨9, _⟩ => ⟨S1x544x1, .f32⟩
  | .local _ .vmem, ⟨10, _⟩ => ⟨S1x544x1, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2176x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel23Ideal.lean ====
variable {F : FTy → Type} [FloatOps F] [Named F]
def κ : String → Option EReal := fun
  | "mask" => some ⊥
  | _ => none
-- ==== Reference23Ideal.lean ====
abbrev S2176x2048 : Shape := ⟨2, ![2176, 2048]⟩
abbrev S2176x128 : Shape := ⟨2, ![2176, 128]⟩
abbrev S2176x8x256 : Shape := ⟨3, ![2176, 8, 256]⟩
abbrev S2064x2048 : Shape := ⟨2, ![2064, 2048]⟩
abbrev S2064x8x256 : Shape := ⟨3, ![2064, 8, 256]⟩
abbrev S2064x128 : Shape := ⟨2, ![2064, 128]⟩
abbrev S2064 : Shape := ⟨1, ![2064]⟩
abbrev S_ : Shape := ⟨0, ![]⟩
abbrev S2064x8x128 : Shape := ⟨3, ![2064, 8, 128]⟩
abbrev S8x2064x2064 : Shape := ⟨3, ![8, 2064, 2064]⟩
abbrev S2064x2064x8 : Shape := ⟨3, ![2064, 2064, 8]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x2064 : Shape := ⟨2, ![8, 2064]⟩
abbrev S8x2064x1 : Shape := ⟨3, ![8, 2064, 1]⟩
abbrev S8x128x2064 : Shape := ⟨3, ![8, 128, 2064]⟩
abbrev S2064x1024 : Shape := ⟨2, ![2064, 1024]⟩
abbrev S2176 : Shape := ⟨1, ![2176]⟩
abbrev S2176x8x128 : Shape := ⟨3, ![2176, 8, 128]⟩
abbrev S8x2176x2064 : Shape := ⟨3, ![8, 2176, 2064]⟩
abbrev S2064x2176x8 : Shape := ⟨3, ![2064, 2176, 8]⟩
abbrev S2176x1 : Shape := ⟨2, ![2176, 1]⟩
abbrev S2176x2064 : Shape := ⟨2, ![2176, 2064]⟩
abbrev S1x2176x2064 : Shape := ⟨3, ![1, 2176, 2064]⟩
abbrev S8x2176 : Shape := ⟨2, ![8, 2176]⟩
abbrev S8x2176x1 : Shape := ⟨3, ![8, 2176, 1]⟩
abbrev S112x1024 : Shape := ⟨2, ![112, 1024]⟩
abbrev S2176x1024 : Shape := ⟨2, ![2176, 1024]⟩

abbrev nBuf : Space → Nat
  | .hbm => 146
  | .vmem => 0
  | .smem => 0
  | _ => 0

abbrev hbmTy0_0 (i : Nat) : BufTy := match i % 128 with
  | 0 => ⟨S2176x2048, .bf16⟩
  | 1 => ⟨S2176x2048, .bf16⟩
  | 2 => ⟨S2176x128, .bf16⟩
  | 3 => ⟨S2176x2048, .f32⟩
  | 4 => ⟨S2176x8x256, .f32⟩
  | 5 => ⟨S2064x2048, .bf16⟩
  | 6 => ⟨S2064x2048, .f32⟩
  | 7 => ⟨S2064x8x256, .f32⟩
  | 8 => ⟨S2064x128, .bf16⟩
  | 9 => ⟨S2064x128, .f32⟩
  | 10 => ⟨S2064x8x256, .f32⟩
  | 11 => ⟨S2064, .i32⟩
  | 12 => ⟨S_, .i32⟩
  | 13 => ⟨S2064, .i32⟩
  | 14 => ⟨S2064, .i1⟩
  | 15 => ⟨S_, .i32⟩
  | 16 => ⟨S2064, .i32⟩
  | 17 => ⟨S2064, .i32⟩
  | 18 => ⟨S_, .i32⟩
  | 19 => ⟨S_, .i32⟩
  | 20 => ⟨S2064, .i32⟩
  | 21 => ⟨S2064, .i32⟩
  | 22 => ⟨S2064, .i32⟩
  | 23 => ⟨S_, .i32⟩
  | 24 => ⟨S2064, .i32⟩
  | 25 => ⟨S2064, .i1⟩
  | 26 => ⟨S2064, .i32⟩
  | 27 => ⟨S2064, .i32⟩
  | 28 => ⟨S_, .i32⟩
  | 29 => ⟨S2064, .i32⟩
  | 30 => ⟨S2064, .i1⟩
  | 31 => ⟨S2064, .i1⟩
  | 32 => ⟨S_, .i32⟩
  | 33 => ⟨S2064, .i32⟩
  | 34 => ⟨S2064, .i32⟩
  | 35 => ⟨S2064, .i32⟩
  | 36 => ⟨S_, .i32⟩
  | 37 => ⟨S2064, .i32⟩
  | 38 => ⟨S2064, .i32⟩
  | 39 => ⟨S_, .i32⟩
  | 40 => ⟨S_, .i32⟩
  | 41 => ⟨S2064, .i32⟩
  | 42 => ⟨S2064, .i32⟩
  | 43 => ⟨S2064x8x128, .f32⟩
  | 44 => ⟨S2064x8x128, .f32⟩
  | 45 => ⟨S2064x8x128, .f32⟩
  | 46 => ⟨S8x2064x2064, .f32⟩
  | 47 => ⟨S2064x8x128, .f32⟩
  | 48 => ⟨S2064x2064x8, .f32⟩
  | 49 => ⟨S8x2064x2064, .f32⟩
  | 50 => ⟨S8x2064x2064, .f32⟩
  | 51 => ⟨S1x2064, .i32⟩
  | 52 => ⟨S2064x1, .i32⟩
  | 53 => ⟨S2064x2064, .i32⟩
  | 54 => ⟨S2064x2064, .i32⟩
  | 55 => ⟨S2064x2064, .i1⟩
  | 56 => ⟨S1x2064x2064, .i1⟩
  | 57 => ⟨S_, .f32⟩
  | 58 => ⟨S8x2064x2064, .f32⟩
  | 59 => ⟨S8x2064x2064, .f32⟩
  | 60 => ⟨S_, .f32⟩
  | 61 => ⟨S_, .f32⟩
  | 62 => ⟨S8x2064x2064, .i1⟩
  | 63 => ⟨S8x2064x2064, .f32⟩
  | 64 => ⟨S8x2064x2064, .f32⟩
  | 65 => ⟨S_, .f32⟩
  | 66 => ⟨S8x2064, .f32⟩
  | 67 => ⟨S_, .f32⟩
  | 68 => ⟨S8x2064, .f32⟩
  | 69 => ⟨S8x2064, .f32⟩
  | 70 => ⟨S8x2064x1, .f32⟩
  | 71 => ⟨S8x2064x2064, .f32⟩
  | 72 => ⟨S8x2064x2064, .f32⟩
  | 73 => ⟨S8x2064x2064, .f32⟩
  | 74 => ⟨S_, .f32⟩
  | 75 => ⟨S8x2064, .f32⟩
  | 76 => ⟨S8x2064x1, .f32⟩
  | 77 => ⟨S8x2064x2064, .f32⟩
  | 78 => ⟨S8x2064x2064, .f32⟩
  | 79 => ⟨S8x128x2064, .f32⟩
  | 80 => ⟨S2064x8x128, .f32⟩
  | 81 => ⟨S2064x1024, .f32⟩
  | 82 => ⟨S2176, .i32⟩
  | 83 => ⟨S_, .i32⟩
  | 84 => ⟨S2176, .i32⟩
  | 85 => ⟨S2176, .i32⟩
  | 86 => ⟨S_, .i32⟩
  | 87 => ⟨S2176, .i32⟩
  | 88 => ⟨S2176, .i32⟩
  | 89 => ⟨S_, .i32⟩
  | 90 => ⟨S_, .i32⟩
  | 91 => ⟨S2176, .i32⟩
  | 92 => ⟨S2176, .i32⟩
  | 93 => ⟨S2176, .i32⟩
  | 94 => ⟨S_, .i32⟩
  | 95 => ⟨S2176, .i32⟩
  | 96 => ⟨S2176, .i1⟩
  | 97 => ⟨S2176, .i32⟩
  | 98 => ⟨S2176, .i32⟩
  | 99 => ⟨S_, .i32⟩
  | 100 => ⟨S2176, .i32⟩
  | 101 => ⟨S2176, .i1⟩
  | 102 => ⟨S2176, .i1⟩
  | 103 => ⟨S_, .i32⟩
  | 104 => ⟨S2176, .i32⟩
  | 105 => ⟨S2176, .i32⟩
  | 106 => ⟨S2176, .i32⟩
  | 107 => ⟨S_, .i32⟩
  | 108 => ⟨S2176, .i32⟩
  | 109 => ⟨S2176, .i32⟩
  | 110 => ⟨S2176x8x128, .f32⟩
  | 111 => ⟨S2064x8x128, .f32⟩
  | 112 => ⟨S8x2176x2064, .f32⟩
  | 113 => ⟨S2176x8x128, .f32⟩
  | 114 => ⟨S2064x2176x8, .f32⟩
  | 115 => ⟨S8x2176x2064, .f32⟩
  | 116 => ⟨S8x2176x2064, .f32⟩
  | 117 => ⟨S2064, .i32⟩
  | 118 => ⟨S1x2064, .i32⟩
  | 119 => ⟨S2176x1, .i32⟩
  | 120 => ⟨S2176x2064, .i32⟩
  | 121 => ⟨S2176x2064, .i32⟩
  | 122 => ⟨S2176x2064, .i1⟩
  | 123 => ⟨S1x2176x2064, .i1⟩
  | 124 => ⟨S_, .f32⟩
  | 125 => ⟨S8x2176x2064, .f32⟩
  | 126 => ⟨S8x2176x2064, .f32⟩
  | 127 => ⟨S_, .f32⟩
  | _ => ⟨S2176x2048, .bf16⟩

abbrev hbmTy0_1 (i : Nat) : BufTy := match i % 128 with
  | 0 => ⟨S_, .f32⟩
  | 1 => ⟨S8x2176x2064, .i1⟩
  | 2 => ⟨S8x2176x2064, .f32⟩
  | 3 => ⟨S8x2176x2064, .f32⟩
  | 4 => ⟨S_, .f32⟩
  | 5 => ⟨S8x2176, .f32⟩
  | 6 => ⟨S8x2176x1, .f32⟩
  | 7 => ⟨S8x2176x2064, .f32⟩
  | 8 => ⟨S8x2176x2064, .f32⟩
  | 9 => ⟨S8x2176x2064, .f32⟩
  | 10 => ⟨S_, .f32⟩
  | 11 => ⟨S8x2176, .f32⟩
  | 12 => ⟨S8x2176x1, .f32⟩
  | 13 => ⟨S8x2176x1, .f32⟩
  | 14 => ⟨S8x2176x1, .f32⟩
  | 15 => ⟨S_, .f32⟩
  | 16 => ⟨S112x1024, .f32⟩
  | 17 => ⟨S2176x1024, .f32⟩
  | _ => ⟨S2176x2048, .bf16⟩

abbrev hbmTy (i : Nat) : BufTy := match i / 128 with
  | 0 => hbmTy0_0 i
  | 1 => hbmTy0_1 i
  | _ => ⟨S2176x2048, .bf16⟩

abbrev bufTy : (tb : Table) → Fin (tcTables nBuf tb) → BufTy
  | .hbm, ⟨i, _⟩ => hbmTy i
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_8 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v53 : Ref sig .tc := ⟨.hbm, 106, rfl⟩
abbrev main_c_11 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_12 : Ref sig .tc := ⟨.hbm, 124, rfl⟩
abbrev main_v70 : Ref sig .tc := ⟨.hbm, 125, rfl⟩
abbrev main_v71 : Ref sig .tc := ⟨.hbm, 126, rfl⟩
abbrev main_cst_13 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v72 : Ref sig .tc := ⟨.hbm, 131, rfl⟩
abbrev main_cst_14 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_15 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_16 : Ref sig .tc := ⟨.hbm, 143, rfl⟩
abbrev main_v82 : Ref sig .tc := ⟨.hbm, 144, rfl⟩
abbrev main_v83 : Ref sig .tc := ⟨.hbm, 145, rfl⟩

abbrev nD : Nat := 1
abbrev τ : Topo := Topo.v7x

variable {F : FTy → Type} [FloatOps F]
-- ==== Kernel24.lean ====
abbrev S2176x1920 : Shape := ⟨2, ![2176, 1920]⟩
abbrev S1x512 : Shape := ⟨2, ![1, 512]⟩
abbrev S2176x512 : Shape := ⟨2, ![2176, 512]⟩
abbrev S1088x512 : Shape := ⟨2, ![1088, 512]⟩
abbrev S1088 : Shape := ⟨1, ![1088]⟩
abbrev S1088x1 : Shape := ⟨2, ![1088, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S2176x1920, .f32⟩
  | .hbm, ⟨1, _⟩ => ⟨S1x512, .f32⟩
  | .hbm, ⟨2, _⟩ => ⟨S2176x512, .f32⟩
  | .hbm, ⟨3, _⟩ => ⟨S2176x512, .f32⟩
  | .hbm, ⟨4, _⟩ => ⟨S1x512, .f32⟩
  | .local _ .vmem, ⟨0, _⟩ => ⟨S1088x512, .f32⟩
  | .local _ .vmem, ⟨1, _⟩ => ⟨S1088x512, .f32⟩
  | .local _ .vmem, ⟨2, _⟩ => ⟨S1088x512, .f32⟩
  | .local _ .vmem, ⟨3, _⟩ => ⟨S1088x512, .f32⟩
  | .local _ .vmem, ⟨4, _⟩ => ⟨S1x512, .f32⟩
  | .local _ .vmem, ⟨5, _⟩ => ⟨S1088x512, .f32⟩
  | .local _ .vmem, ⟨6, _⟩ => ⟨S1088x512, .f32⟩
  | .local _ .vmem, ⟨7, _⟩ => ⟨S1x512, .f32⟩
  | _, _ => ⟨S2176x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference24Ideal.lean ====
abbrev S2176x1920 : Shape := ⟨2, ![2176, 1920]⟩
abbrev S1x512 : Shape := ⟨2, ![1, 512]⟩
abbrev S2176x512 : Shape := ⟨2, ![2176, 512]⟩
abbrev S_ : Shape := ⟨0, ![]⟩
abbrev S2176 : Shape := ⟨1, ![2176]⟩
abbrev S2176x1 : Shape := ⟨2, ![2176, 1]⟩
abbrev S512 : Shape := ⟨1, ![512]⟩

abbrev nBuf : Space → Nat
  | .hbm => 46
  | .vmem => 0
  | .smem => 0
  | _ => 0

abbrev bufTy : (tb : Table) → Fin (tcTables nBuf tb) → BufTy
  | .hbm, ⟨0, _⟩ => ⟨S2176x1920, .f32⟩
  | .hbm, ⟨1, _⟩ => ⟨S1x512, .f32⟩
  | .hbm, ⟨2, _⟩ => ⟨S2176x512, .f32⟩
  | .hbm, ⟨3, _⟩ => ⟨S2176x512, .f32⟩
  | .hbm, ⟨4, _⟩ => ⟨S2176x512, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x512, .f32⟩
  | .hbm, ⟨20, _⟩ => ⟨S2176x512, .f32⟩
  | .hbm, ⟨21, _⟩ => ⟨S2176x512, .f32⟩
  | .hbm, ⟨22, _⟩ => ⟨S2176x512, .f32⟩
  | .hbm, ⟨23, _⟩ => ⟨S2176x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S2176x512, .f32⟩
  | .hbm, ⟨28, _⟩ => ⟨S2176x512, .f32⟩
  | .hbm, ⟨29, _⟩ => ⟨S2176x512, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x512, .f32⟩
  | .hbm, ⟨34, _⟩ => ⟨S2176x512, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S2176x512, .f32⟩
  | _, _ => ⟨S2176x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel25.lean ====
abbrev S2176x1920 : Shape := ⟨2, ![2176, 1920]⟩
abbrev S1x256 : Shape := ⟨2, ![1, 256]⟩
abbrev S2176x256 : Shape := ⟨2, ![2176, 256]⟩
abbrev S2176 : Shape := ⟨1, ![2176]⟩
abbrev S2176x1 : Shape := ⟨2, ![2176, 1]⟩
abbrev S256 : Shape := ⟨1, ![256]⟩

abbrev nBuf : Space → Nat
  | .hbm => 5
  | .vmem => 5
  | .smem => 0
  | _ => 0

abbrev bufTy : (tb : Table) → Fin (tcTables nBuf tb) → BufTy
  | .hbm, ⟨0, _⟩ => ⟨S2176x1920, .f32⟩
  | .hbm, ⟨1, _⟩ => ⟨S1x256, .f32⟩
  | .hbm, ⟨2, _⟩ => ⟨S2176x256, .f32⟩
  | .hbm, ⟨3, _⟩ => ⟨S2176x256, .f32⟩
  | .hbm, ⟨4, _⟩ => ⟨S1x256, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S2176x256, .f32⟩
  | .local _ .vmem, ⟨4, _⟩ => ⟨S1x256, .f32⟩
  | _, _ => ⟨S2176x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2176x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2176x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference25Ideal.lean ====
abbrev S2176x1920 : Shape := ⟨2, ![2176, 1920]⟩
abbrev S1x256 : Shape := ⟨2, ![1, 256]⟩
abbrev S2176x256 : Shape := ⟨2, ![2176, 256]⟩
abbrev S_ : Shape := ⟨0, ![]⟩
abbrev S2176 : Shape := ⟨1, ![2176]⟩
abbrev S2176x1 : Shape := ⟨2, ![2176, 1]⟩
abbrev S256 : Shape := ⟨1, ![256]⟩

abbrev nBuf : Space → Nat
  | .hbm => 46
  | .vmem => 0
  | .smem => 0
  | _ => 0

abbrev bufTy : (tb : Table) → Fin (tcTables nBuf tb) → BufTy
  | .hbm, ⟨0, _⟩ => ⟨S2176x1920, .f32⟩
  | .hbm, ⟨1, _⟩ => ⟨S1x256, .f32⟩
  | .hbm, ⟨2, _⟩ => ⟨S2176x256, .f32⟩
  | .hbm, ⟨3, _⟩ => ⟨S2176x256, .f32⟩
  | .hbm, ⟨4, _⟩ => ⟨S2176x256, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x256, .f32⟩
  | .hbm, ⟨20, _⟩ => ⟨S2176x256, .f32⟩
  | .hbm, ⟨21, _⟩ => ⟨S2176x256, .f32⟩
  | .hbm, ⟨22, _⟩ => ⟨S2176x256, .f32⟩
  | .hbm, ⟨23, _⟩ => ⟨S2176x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S2176x256, .f32⟩
  | .hbm, ⟨28, _⟩ => ⟨S2176x256, .f32⟩
  | .hbm, ⟨29, _⟩ => ⟨S2176x256, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x256, .f32⟩
  | .hbm, ⟨34, _⟩ => ⟨S2176x256, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x256, .f32⟩
  | .hbm, ⟨42, _⟩ => ⟨S2176x256, .f32⟩
  | .hbm, ⟨43, _⟩ => ⟨S2176x256, .f32⟩
  | .hbm, ⟨44, _⟩ => ⟨S2176x256, .f32⟩
  | .hbm, ⟨45, _⟩ => ⟨S2176x256, .f32⟩
  | _, _ => ⟨S2176x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel26.lean ====
abbrev S2176x1024 : Shape := ⟨2, ![2176, 1024]⟩
abbrev S1x1024 : Shape := ⟨2, ![1, 1024]⟩
abbrev S2176x2048 : Shape := ⟨2, ![2176, 2048]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x2048, .f32⟩
  | .hbm, ⟨3, _⟩ => ⟨S2176x1024, .f32⟩
  | .hbm, ⟨4, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S2176x1024 : Shape := ⟨2, ![2176, 1024]⟩
abbrev S1x1024 : Shape := ⟨2, ![1, 1024]⟩
abbrev S2176x2048 : Shape := ⟨2, ![2176, 2048]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x2048, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel27.lean ====
abbrev S2176x1024 : Shape := ⟨2, ![2176, 1024]⟩
abbrev S1x1024 : Shape := ⟨2, ![1, 1024]⟩
abbrev S2176x2048 : Shape := ⟨2, ![2176, 2048]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x2048, .f32⟩
  | .hbm, ⟨3, _⟩ => ⟨S2176x1024, .f32⟩
  | .hbm, ⟨4, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S2176x1024 : Shape := ⟨2, ![2176, 1024]⟩
abbrev S1x1024 : Shape := ⟨2, ![1, 1024]⟩
abbrev S2176x2048 : Shape := ⟨2, ![2176, 2048]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x2048, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel28.lean ====
abbrev S2176x2048 : Shape := ⟨2, ![2176, 2048]⟩
abbrev S1x2048 : Shape := ⟨2, ![1, 2048]⟩
abbrev S272x2048 : Shape := ⟨2, ![272, 2048]⟩
abbrev S272x1 : Shape := ⟨2, ![272, 1]⟩
abbrev S272 : Shape := ⟨1, ![272]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S2176x2048, .f32⟩
  | .hbm, ⟨5, _⟩ => ⟨S2176x2048, .bf16⟩
  | .hbm, ⟨6, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | .local _ .vmem, ⟨9, _⟩ => ⟨S272x2048, .bf16⟩
  | .local _ .vmem, ⟨10, _⟩ => ⟨S272x2048, .bf16⟩
  | .local _ .vmem, ⟨11, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_17 : BitVec 32 := 0#32
  let v45 : BitVec 1 := Scalar.cmpi .ne v44 c0_i32_17
  v45

def k0_cond2 (i : grid0.Coords) : BitVec 1 :=
  let arg0 : BitVec 32 := BitVec.ofNat 32 (i 0).val
  let c0_i32_18 : BitVec 32 := 0#32
  let v46 : BitVec 1 := Scalar.cmpi .sgt arg0 c0_i32_18
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩
abbrev S112x2048 : Shape := ⟨2, ![112, 2048]⟩
abbrev S2064x2048 : Shape := ⟨2, ![2064, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x2048, .f32⟩
  | .hbm, ⟨34, _⟩ => ⟨S2176x2048, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S_, .f32⟩
  | .hbm, ⟨47, _⟩ => ⟨S112x2048, .f32⟩
  | .hbm, ⟨48, _⟩ => ⟨S2176x2048, .f32⟩
  | .hbm, ⟨49, _⟩ => ⟨S2064x2048, .f32⟩
  | .hbm, ⟨50, _⟩ => ⟨S2176x2048, .f32⟩
  | .hbm, ⟨51, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Column.lean ====
/- One feature column of the convolution gate's backward pass, over extended reals: what the kernel computes
   (`kGate`, `kDg`, with its row rotations) and what the derivative of the forward computes (`rGate`, `rDg`, with
   zeros before the first row), and why the two agree once the first 112 rows of the incoming gradient are zero. -/
module

public import Idealize.ShloMosaic.PureOps.Ideal

@[expose] public section

set_option maxRecDepth 16384

noncomputable section

namespace Cert.Column

open Idealize.ShloMosaic

/-- Number of rows. -/
abbrev N : ℕ := 2176

/-- The row `s` further down, wrapping around. -/
abbrev wrap (s : ℕ) (r : Fin N) : Fin N := ⟨(r.val + N - s) % N, Nat.mod_lt _ (by decide)⟩

/-- Row `r - s` of a column, zero above the first row. -/
abbrev above (u : Fin N → EReal) (s : ℕ) (r : Fin N) : EReal := if h : s ≤ r.val then u ⟨r.val - s, by omega⟩ else 0

/-- Row `r + s` of a column, zero below the last row. -/
abbrev below (u : Fin N → EReal) (s : ℕ) (r : Fin N) : EReal := if h : r.val + s < N then u ⟨r.val + s, h⟩ else 0

variable (x : Fin N → Fin 2048 → EReal) (w : Fin 2048 → EReal) (u v : Fin N → EReal) (c : Fin 3 → EReal) (b : EReal)

/-- Gradient of the activation: the incoming gradient's row against the weight's row. -/
def da (r : Fin N) : EReal := ∑ k, x r k * w k

/-- The kernel's gate: taps on rotated rows. -/
def kGate (r : Fin N) : EReal := c 0 * u (wrap 2 r) + c 1 * u (wrap 1 r) + c 2 * u r + b

/-- The forward's gate: taps on rows with zeros above. -/
def rGate (r : Fin N) : EReal := c 0 * above u 2 r + c 1 * above u 1 r + c 2 * u r + b

/-- The kernel's gradient of the gate. -/
def kDg (r : Fin N) : EReal :=
  da x w r * v r * (Ideal.logistic (kGate u c b r) * (1 + kGate u c b r * (1 - Ideal.logistic (kGate u c b r))))

/-- The forward's derivative by the gate. -/
def rDg (r : Fin N) : EReal :=
  da x w r * v r * Ideal.logistic (rGate u c b r)
    + rGate u c b r * (da x w r * v r) * (Ideal.logistic (rGate u c b r) * (1 - Ideal.logistic (rGate u c b r)))

/-- `a · (s · (1 + g · (1 - s))) = a · s + g · a · (s · (1 - s))` for a real `a` and `s` the logistic of any `g`. -/
theorem silu_grad (a : ℝ) (g : EReal) :
    (a : EReal) * (Ideal.logistic g * (1 + g * (1 - Ideal.logistic g)))
      = a * Ideal.logistic g + g * a * (Ideal.logistic g * (1 - Ideal.logistic g)) := by
  induction g using EReal.rec with
  | bot => simp
  | top =>
    have h : (1 : EReal) - 1 = 0 := by rw [← EReal.coe_one, ← EReal.coe_sub, sub_self, EReal.coe_zero]
    simp [h]
  | coe g =>
    rw [Ideal.logistic_coe]
    generalize ((1 + Real.exp (-g))⁻¹ : ℝ) = s
    norm_cast
    ring

theorem da_head {r : Fin N} (h0 : ∀ k, x r k = 0) : da x w r = 0 := by
  unfold da; exact Finset.sum_eq_zero fun k _ => by rw [h0 k, zero_mul]

theorem kDg_head {r : Fin N} (h0 : ∀ k, x r k = 0) : kDg x w u v c b r = 0 := by
  unfold kDg; rw [da_head x w h0]; simp only [zero_mul]

theorem rDg_head {r : Fin N} (h0 : ∀ k, x r k = 0) : rDg x w u v c b r = 0 := by
  unfold rDg; rw [da_head x w h0]; simp only [zero_mul, mul_zero, add_zero]

theorem wrap_val {s : ℕ} {r : Fin N} (h : s ≤ r.val) : wrap s r = ⟨r.val - s, by omega⟩ := by
  apply Fin.ext
  show (r.val + N - s) % N = r.val - s
  have := r.isLt
  rw [show r.val + N - s = r.val - s + N by omega, Nat.add_mod_right, Nat.mod_eq_of_lt (by omega)]

theorem gate_eq {r : Fin N} (h : 2 ≤ r.val) : kGate u c b r = rGate u c b r := by
  unfold kGate rGate above
  rw [wrap_val h, wrap_val (show 1 ≤ r.val by omega), dif_pos h, dif_pos (show 1 ≤ r.val by omega)]

/-- A product of two reals is a real. -/
theorem real_mul {p q : EReal} (hp : ∃ t : ℝ, p = t) (hq : ∃ t : ℝ, q = t) : ∃ t : ℝ, p * q = t := by
  obtain ⟨s, rfl⟩ := hp; obtain ⟨t, rfl⟩ := hq; exact ⟨s * t, by norm_cast⟩

/-- A finite sum of reals is a real. -/
theorem real_sum {ι : Type} [Fintype ι] (f : ι → EReal) (hf : ∀ i, ∃ t : ℝ, f i = t) : ∃ t : ℝ, ∑ i, f i = t := by
  choose g hg using hf
  refine ⟨∑ i, g i, ?_⟩
  rw [Finset.sum_congr rfl fun i _ => hg i]
  exact (map_sum (⟨⟨Real.toEReal, EReal.coe_zero⟩, EReal.coe_add⟩ : ℝ →+ EReal) g Finset.univ).symm

section
variable (h0 : ∀ r : Fin N, r.val < 112 → ∀ k, x r k = 0) (hx : ∀ r k, ∃ t : ℝ, x r k = t) (hw : ∀ k, ∃ t : ℝ, w k = t)
  (hv : ∀ r, ∃ t : ℝ, v r = t)
include h0 hx hw hv

/-- The two gradients of the gate agree in every row. -/
theorem dg_eq (r : Fin N) : kDg x w u v c b r = rDg x w u v c b r := by
  by_cases hr : r.val < 112
  · rw [kDg_head x w u v c b (h0 r hr), rDg_head x w u v c b (h0 r hr)]
  · obtain ⟨a, ha⟩ := real_mul (real_sum (fun k => x r k * w k) fun k => real_mul (hx r k) (hw k)) (hv r)
    unfold kDg rDg
    rw [gate_eq u c b (show 2 ≤ r.val by omega), show da x w r * v r = a from ha]
    exact silu_grad a _

/-- The gradient of the value half: the kernel's order of factors and its rotated gate. -/
theorem dval_eq (r : Fin N) : da x w r * (kGate u c b r * Ideal.logistic (kGate u c b r))
    = rGate u c b r * Ideal.logistic (rGate u c b r) * da x w r := by
  by_cases hr : r.val < 112
  · rw [da_head x w (h0 r hr), zero_mul, mul_zero]
  · rw [gate_eq u c b (show 2 ≤ r.val by omega), mul_comm]

/-- The gradient of the gate's input: rotating the rows back wraps only zeros in. -/
theorem dpre_eq (r : Fin N) : c 2 * kDg x w u v c b r + c 1 * kDg x w u v c b (wrap 2175 r) + c 0 * kDg x w u v c b (wrap 2174 r)
    = c 2 * rDg x w u v c b r + below (fun q => c 1 * rDg x w u v c b q) 1 r + below (fun q => c 0 * rDg x w u v c b q) 2 r := by
  have hr := r.isLt
  have key : ∀ s : ℕ, s ≤ 2 → ∀ d : EReal, d * kDg x w u v c b (wrap (2176 - s) r) = below (fun q => d * rDg x w u v c b q) s r := by
    intro s hs d
    unfold below
    by_cases h : r.val + s < N
    · rw [dif_pos h, show wrap (2176 - s) r = ⟨r.val + s, h⟩ from Fin.ext (by
        show (r.val + N - (2176 - s)) % N = r.val + s
        have : N = 2176 := rfl
        rw [show r.val + N - (2176 - s) = r.val + s by omega, Nat.mod_eq_of_lt h]), dg_eq x w u v c b h0 hx hw hv]
    · have : N = 2176 := rfl
      have hz : (wrap (2176 - s) r).val < 112 := by
        show (r.val + N - (2176 - s)) % N < 112
        rw [show r.val + N - (2176 - s) = r.val + s - N + N by omega, Nat.add_mod_right, Nat.mod_eq_of_lt (by omega)]
        omega
      rw [dif_neg h, kDg_head x w u v c b (h0 _ hz), mul_zero]
  rw [dg_eq x w u v c b h0 hx hw hv r]
  refine congrArg₂ (· + ·) (congrArg₂ (· + ·) rfl ?_) ?_
  · exact key 1 (by omega) _
  · exact key 2 (by omega) _

/-- The gradient of the gate's bias. -/
theorem dcb_eq : ∑ r, kDg x w u v c b r = ∑ r, rDg x w u v c b r :=
  Finset.sum_congr rfl fun r _ => dg_eq x w u v c b h0 hx hw hv r

/-- The gradient of a tap: rotated rows differ from shifted ones only where the gradient of the gate is zero. -/
theorem dcw_eq (s : ℕ) (hs : s ≤ 2) : ∑ r, kDg x w u v c b r * u (wrap s r) = ∑ r, rDg x w u v c b r * above u s r :=
  Finset.sum_congr rfl fun r _ => by
    rw [dg_eq x w u v c b h0 hx hw hv r]
    by_cases hr : s ≤ r.val
    · unfold above; rw [dif_pos hr, wrap_val hr]
    · rw [rDg_head x w u v c b (h0 r (by omega)), zero_mul, zero_mul]

end

end Cert.Column

end
-- ==== Proof.KerCols.lean ====
/- The kernel's stored blocks read at an index: each is the column arithmetic of `Proof/Column.lean` over the input blocks. -/
module

public import proofs.«01_k».proof.Proof.Gen.KernelIdeal.Value
public import proofs.«01_k».proof.Proof.Column
public import Idealize.ShloMosaic.Lib.Pointwise

@[expose] public section

set_option maxRecDepth 16384

noncomputable section

namespace Cert.KernelIdeal.Cols

open Cert.KernelIdeal Cert.KernelIdeal.Gen Idealize.ShloMosaic Idealize.ShloMosaic.TcCoe Idealize.SL.Sem

variable (P0 : Vec Ideal S2176x2048 .bf16) (P1 : Vec Ideal S256x2048 .bf16) (P2 P3 : Vec Ideal S1x2176x256 .bf16)
  (P4 : Vec Ideal S3x256 .f32) (P5 : Vec Ideal S1x256 .f32)

theorem pay1_at (r : Fin 2176) (l : Fin 256) : k0_pay1 P0 P1 (ix2 r l) = Column.da (fun r k => P0 (ix2 r k)) (fun k => P1 (ix2 l k)) r := by
  pointwise [k0_pay1, Column.da]

theorem pay3_at (r : Fin 2176) (l : Fin 256) : k0_pay3 P2 P4 P5 (ix2 r l)
    = Column.kGate (fun r => P2 (ix3 (0 : Fin 1) r l)) (fun k => P4 (ix2 k l)) (P5 (ix2 (0 : Fin 1) l)) r := by
  pointwise [k0_pay3, k0_pay2, Column.kGate]

theorem pay8_at (r : Fin 2176) (l : Fin 256) : k0_pay8 (k0_pay3 P2 P4 P5) (k0_pay4 P2 P4 P5) (k0_pay6 P0 P1 P3) (k0_pay7 P2 P4 P5) (ix2 r l)
    = Column.kDg (fun r k => P0 (ix2 r k)) (fun k => P1 (ix2 l k)) (fun r => P2 (ix3 (0 : Fin 1) r l)) (fun r => P3 (ix3 (0 : Fin 1) r l)) (fun k => P4 (ix2 k l)) (P5 (ix2 (0 : Fin 1) l)) r := by
  pointwise [k0_pay8, k0_pay4, k0_pay6, k0_pay7, pay3_at, pay1_at, Column.kDg]

theorem pay9_at (D : Fin 2176 → Fin 256 → EReal) (r : Fin 2176) (l : Fin 256) (i : Fin 1) (a b c d : FVec Ideal S2176x256 .f32)
    (h : ∀ r l, k0_pay8 a b c d (ix2 r l) = D r l) : k0_pay9 P4 a b c d (ix3 i r l) = P4 (ix2 (2 : Fin 3) l) * D r l + P4 (ix2 (1 : Fin 3) l) * D (Column.wrap 2175 r) l + P4 (ix2 (0 : Fin 3) l) * D (Column.wrap 2174 r) l := by
  pointwise [k0_pay9, h]

theorem pay11_at (D : Fin 2176 → Fin 256 → EReal) (v : FVec Ideal S2176x256 .f32) (l : Fin 256) (i : Fin 1) (a b c d : FVec Ideal S2176x256 .f32)
    (h : ∀ r l, k0_pay8 a b c d (ix2 r l) = D r l) : k0_pay11 v a b c d (ix2 i l) = ∑ r, D r l * v (ix2 (Column.wrap 2 r) l) := by
  pointwise [k0_pay11, h]
end Cert.KernelIdeal.Cols

end
-- ==== Proof.KerBlocks.lean ====
/- What one grid point leaves in its three output blocks, read at an index. -/
module

public import proofs.«01_k».proof.Proof.KerCols
public import Idealize.ShloMosaic.Lib.Pipeline.ValueKit

@[expose] public section

set_option maxRecDepth 16384

noncomputable section

namespace Cert.KernelIdeal.Cols

open Cert.KernelIdeal Cert.KernelIdeal.Gen Idealize.ShloMosaic Idealize.ShloMosaic.TcCoe Idealize.SL.Sem

variable (x0 : Vec Ideal S2176x2048 .bf16) (x1 : Vec Ideal S256x2048 .bf16) (x2 : Vec Ideal S2x2176x256 .bf16)
  (x3 : Vec Ideal S3x256 .f32) (x4 : Vec Ideal S1x256 .f32)

/-- The kernel's gradient of the gate, column `l` of its block. -/
abbrev blkDg (l : Fin 256) (r : Fin 2176) : EReal :=
  Column.kDg (fun r k => x0 (ix2 r k)) (fun k => x1 (ix2 l k)) (fun r => x2 (ix3 (0 : Fin 2) r l)) (fun r => x2 (ix3 (1 : Fin 2) r l))
    (fun k => x3 (ix2 k l)) (x4 (ix2 (0 : Fin 1) l)) r

/-- The kernel's gate, column `l` of its block. -/
abbrev blkGate (l : Fin 256) (r : Fin 2176) : EReal :=
  Column.kGate (fun r => x2 (ix3 (0 : Fin 2) r l)) (fun k => x3 (ix2 k l)) (x4 (ix2 (0 : Fin 1) l)) r

theorem dg_at (r : Fin 2176) (l : Fin 256) : k0_pay8 (k0_pay15 x0 x1 x2 x3 x4) (k0_pay16 x0 x1 x2 x3 x4) (k0_pay17 x0 x1 x2 x3 x4) (k0_pay18 x0 x1 x2 x3 x4) (ix2 r l)
    = blkDg x0 x1 x2 x3 x4 l r := by
  refine (pay8_at (View.ld x0 r0_0) (View.ld x1 r0_1) (View.ld x2 r0_2) (View.ld x2 r0_3) (View.ld x3 r0_4) (View.ld x4 r0_5) r l).trans ?_
  pointwise [blkDg]

theorem out5_at0 (r : Fin 2176) (l : Fin 256) : out0_5 x0 x1 x2 x3 x4 (ix3 (0 : Fin 2) r l) =
    x3 (ix2 (2 : Fin 3) l) * blkDg x0 x1 x2 x3 x4 l r + x3 (ix2 (1 : Fin 3) l) * blkDg x0 x1 x2 x3 x4 l (Column.wrap 2175 r)
      + x3 (ix2 (0 : Fin 3) l) * blkDg x0 x1 x2 x3 x4 l (Column.wrap 2174 r) := by
  unfold out0_5
  canon_tiles x h
  case piece0 =>
    obtain rfl : x = ix3 (0 : Fin 1) r l := by funext a; apply Fin.ext; match a with | ⟨0, _⟩ => exact h0.symm | ⟨1, _⟩ => exact h1.symm | ⟨2, _⟩ => exact h2.symm
    refine (pay9_at _ (fun r l => blkDg x0 x1 x2 x3 x4 l r) r l 0 _ _ _ _ (dg_at x0 x1 x2 x3 x4)).trans ?_
    pointwise
  case piece1 => exact absurd h0 (by show ¬ (0 = 1 + (x 0).val); omega)

theorem out5_at1 (r : Fin 2176) (l : Fin 256) : out0_5 x0 x1 x2 x3 x4 (ix3 (1 : Fin 2) r l) =
    Column.da (fun r k => x0 (ix2 r k)) (fun k => x1 (ix2 l k)) r * (blkGate x2 x3 x4 l r * Ideal.logistic (blkGate x2 x3 x4 l r)) := by
  unfold out0_5
  canon_tiles x h
  case piece0 => exact absurd h0 (by show ¬ (1 = (x 0).val); omega)
  case piece1 =>
    obtain rfl : x = ix3 (0 : Fin 1) r l := by funext a; apply Fin.ext; match a with | ⟨0, _⟩ => exact (show (x 0).val = 0 by omega) | ⟨1, _⟩ => exact h1.symm | ⟨2, _⟩ => exact h2.symm
    pointwise [k0_pay5, k0_pay4, pay1_at, pay3_at, blkGate]

theorem out6_at (i : Fin 3) (l : Fin 256) : out0_6 x0 x1 x2 x3 x4 (ix2 i l) =
    ∑ r, blkDg x0 x1 x2 x3 x4 l r * x2 (ix3 (0 : Fin 2) (Column.wrap (2 - i.val) r) l) := by
  unfold out0_6
  canon_tiles x h
  case piece0 =>
    obtain rfl : x = ix2 (0 : Fin 1) l := by funext a; apply Fin.ext; match a with | ⟨0, _⟩ => exact (show (x 0).val = 0 by omega) | ⟨1, _⟩ => exact h1.symm
    obtain rfl : i = 2 := Fin.ext (show i.val = 2 from h0)
    pointwise [k0_pay13, dg_at, k0_pay14, k0_pay2]
    have hw : ∀ r : Fin 2176, Column.wrap 0 r = r := fun r => Fin.ext (by
      show (r.val + 2176 - 0) % 2176 = r.val
      have := r.isLt
      omega)
    exact Finset.sum_congr rfl fun r _ => by rw [hw r]
  case piece1 =>
    obtain rfl : x = ix2 (0 : Fin 1) l := by funext a; apply Fin.ext; match a with | ⟨0, _⟩ => exact (show (x 0).val = 0 by omega) | ⟨1, _⟩ => exact h1.symm
    obtain rfl : i = 1 := Fin.ext (show i.val = 1 from h0)
    pointwise [k0_pay12, dg_at, k0_pay14, k0_pay2]
  case piece2 =>
    obtain rfl : x = ix2 (0 : Fin 1) l := by funext a; apply Fin.ext; match a with | ⟨0, _⟩ => exact (show (x 0).val = 0 by omega) | ⟨1, _⟩ => exact h1.symm
    obtain rfl : i = 0 := Fin.ext (show i.val = 0 from h0)
    pointwise [k0_pay11, dg_at, k0_pay14, k0_pay2]

theorem out7_at (i : Fin 1) (l : Fin 256) : out0_7 x0 x1 x2 x3 x4 (ix2 i l) = ∑ r, blkDg x0 x1 x2 x3 x4 l r := by
  unfold out0_7
  canon_tiles x h
  obtain rfl : x = ix2 (0 : Fin 1) l := by funext a; apply Fin.ext; match a with | ⟨0, _⟩ => exact (show (x 0).val = 0 by omega) | ⟨1, _⟩ => exact h1.symm
  pointwise [k0_pay10, dg_at]

end Cert.KernelIdeal.Cols

end
-- ==== Proof.RefTerms.lean ====
/- The reference's three results as terms over its argument arrays, cut at the values its derivative reuses. -/
module

public import proofs.«01_k».proof.Proof.Gen.ReferenceIdeal.Run
public import proofs.«01_k».proof.Proof.Column
public import Idealize.ShloMosaic.Lib.Pointwise

@[expose] public section

set_option maxRecDepth 16384

noncomputable section

namespace Cert.ReferenceIdeal.Terms

open Cert.ReferenceIdeal Cert.ReferenceIdeal.Gen Idealize.ShloMosaic Idealize.ShloMosaic.TcCoe Idealize.SL.Sem

/-- The value half, as a batch of one. -/
def rVal (U : FVec Ideal S2x2176x5632 .bf16) : FVec Ideal S1x2176x5632 .f32 :=
  broadcastInDim S1x2176x5632 ![1, 2] bcast_S2176x5632_S1x2176x5632_1_2 (shapeCast _ (extractStridedSlice S1x2176x5632 ![1, 0, 0] (extf .f32 U bitsLt_bf16_f32) slices_S2x2176x5632_S1x2176x5632_1_0_0) shapeCasts_S1x2176x5632_S2176x5632)

/-- The gradient of the activation: the padded incoming gradient against the weight. -/
def rDa (X : FVec Ideal S2064x2048 .f32) (W : FVec Ideal S5632x2048 .bf16) : FVec Ideal S1x2176x5632 .f32 :=
  Host.dotGeneral dot_S1x2176x2048_S5632x2048_S1x2176x5632_2_1_01_0_n_n none (broadcastInDim S1x2176x2048 ![1, 2] bcast_S2176x2048_S1x2176x2048_1_2 (concatenate S2176x2048 0 [⟨S112x2048, (broadcastInDim S112x2048 ![] bcast_S_S112x2048 (constant S_ .f32 0x00000000#32))⟩, ⟨S2064x2048, X⟩] concatenates_S112x2048_S2064x2048_S2176x2048_d0)) (extf .f32 W bitsLt_bf16_f32)

/-- The gate half with two zero rows before it. -/
def rGp (U : FVec Ideal S2x2176x5632 .bf16) : FVec Ideal S1x2178x5632 .f32 :=
  concatenate S1x2178x5632 1 [⟨S1x2x5632, (broadcastInDim S1x2x5632 ![] bcast_S_S1x2x5632 (constant S_ .f32 0x00000000#32))⟩, ⟨S1x2176x5632, (broadcastInDim S1x2176x5632 ![1, 2] bcast_S2176x5632_S1x2176x5632_1_2 (shapeCast _ (extractStridedSlice S1x2176x5632 ![0, 0, 0] (extf .f32 U bitsLt_bf16_f32) slices_S2x2176x5632_S1x2176x5632_0_0_0) shapeCasts_S1x2176x5632_S2176x5632))⟩] concatenates_S1x2x5632_S1x2176x5632_S1x2178x5632_d1

/-- The convolved gate. -/
def rGate (U : FVec Ideal S2x2176x5632 .bf16) (C : FVec Ideal S3x5632 .f32) (B : FVec Ideal S1x5632 .f32) : FVec Ideal S1x2176x5632 .f32 :=
  addf (addf (addf (addf (broadcastInDim S1x2176x5632 ![] bcast_S_S1x2176x5632 (constant S_ .f32 0x00000000#32)) (mulf (broadcastInDim S1x2176x5632 ![0, 1, 2] bcast_S1x1x5632_S1x2176x5632_0_1_2 (broadcastInDim S1x1x5632 ![2] bcast_S5632_S1x1x5632_2 (shapeCast _ (extractStridedSlice S1x5632 ![0, 0] C slices_S3x5632_S1x5632_0_0) shapeCasts_S1x5632_S5632))) (extractStridedSlice S1x2176x5632 ![0, 0, 0] (rGp U) slices_S1x2178x5632_S1x2176x5632_0_0_0))) (mulf (broadcastInDim S1x2176x5632 ![0, 1, 2] bcast_S1x1x5632_S1x2176x5632_0_1_2 (broadcastInDim S1x1x5632 ![2] bcast_S5632_S1x1x5632_2 (shapeCast _ (extractStridedSlice S1x5632 ![1, 0] C slices_S3x5632_S1x5632_1_0) shapeCasts_S1x5632_S5632))) (extractStridedSlice S1x2176x5632 ![0, 1, 0] (rGp U) slices_S1x2178x5632_S1x2176x5632_0_1_0))) (mulf (broadcastInDim S1x2176x5632 ![0, 1, 2] bcast_S1x1x5632_S1x2176x5632_0_1_2 (broadcastInDim S1x1x5632 ![2] bcast_S5632_S1x1x5632_2 (shapeCast _ (extractStridedSlice S1x5632 ![2, 0] C slices_S3x5632_S1x5632_2_0) shapeCasts_S1x5632_S5632))) (extractStridedSlice S1x2176x5632 ![0, 2, 0] (rGp U) slices_S1x2178x5632_S1x2176x5632_0_2_0))) (broadcastInDim S1x2176x5632 ![0, 1, 2] bcast_S1x1x5632_S1x2176x5632_0_1_2 (broadcastInDim S1x1x5632 ![1, 2] bcast_S1x5632_S1x1x5632_1_2 B))

/-- The logistic of the gate. -/
def rS (U : FVec Ideal S2x2176x5632 .bf16) (C : FVec Ideal S3x5632 .f32) (B : FVec Ideal S1x5632 .f32) : FVec Ideal S1x2176x5632 .f32 :=
  Host.divf (broadcastInDim S1x2176x5632 ![] bcast_S_S1x2176x5632 (constant S_ .f32 0x3F800000#32)) (addf (broadcastInDim S1x2176x5632 ![] bcast_S_S1x2176x5632 (constant S_ .f32 0x3F800000#32)) (Host.exp (Host.negf (rGate U C B))))

/-- The derivative by the gate. -/
def rDg (X : FVec Ideal S2064x2048 .f32) (W : FVec Ideal S5632x2048 .bf16) (U : FVec Ideal S2x2176x5632 .bf16) (C : FVec Ideal S3x5632 .f32) (B : FVec Ideal S1x5632 .f32) : FVec Ideal S1x2176x5632 .f32 :=
  addf (mulf (mulf (rDa X W) (rVal U)) (rS U C B)) (mulf (mulf (rGate U C B) (mulf (rDa X W) (rVal U))) (mulf (rS U C B) (subf (broadcastInDim S1x2176x5632 ![] bcast_S_S1x2176x5632 (constant S_ .f32 0x3F800000#32)) (rS U C B))))

/-- The gradient by both halves of the input. -/
def ref0 (X : FVec Ideal S2064x2048 .f32) (W : FVec Ideal S5632x2048 .bf16) (U : FVec Ideal S2x2176x5632 .bf16) (C : FVec Ideal S3x5632 .f32) (B : FVec Ideal S1x5632 .f32) : FVec Ideal S2x2176x5632 .bf16 :=
  truncf .bf16 (concatenate S2x2176x5632 0 [⟨S1x2176x5632, (broadcastInDim S1x2176x5632 ![1, 2] bcast_S2176x5632_S1x2176x5632_1_2 (Host.reduceAdd (extractStridedSlice S1x2176x5632 ![0, 2, 0] (addf (addf (pad S1x2178x5632 ![0, 2, 0] ![0, 0, 0] ![0, 0, 0] (mulf (broadcastInDim S1x2176x5632 ![0, 1, 2] bcast_S1x1x5632_S1x2176x5632_0_1_2 (broadcastInDim S1x1x5632 ![2] bcast_S5632_S1x1x5632_2 (shapeCast _ (extractStridedSlice S1x5632 ![2, 0] C slices_S3x5632_S1x5632_2_0) shapeCasts_S1x5632_S5632))) (rDg X W U C B)) (constant S_ .f32 0x00000000#32) pads_S1x2176x5632_S1x2178x5632_000_200_000 h_S_) (pad S1x2178x5632 ![0, 1, 0] ![0, 1, 0] ![0, 0, 0] (mulf (broadcastInDim S1x2176x5632 ![0, 1, 2] bcast_S1x1x5632_S1x2176x5632_0_1_2 (broadcastInDim S1x1x5632 ![2] bcast_S5632_S1x1x5632_2 (shapeCast _ (extractStridedSlice S1x5632 ![1, 0] C slices_S3x5632_S1x5632_1_0) shapeCasts_S1x5632_S5632))) (rDg X W U C B)) (constant S_ .f32 0x00000000#32) pads_S1x2176x5632_S1x2178x5632_000_110_000 h_S_)) (pad S1x2178x5632 ![0, 0, 0] ![0, 2, 0] ![0, 0, 0] (mulf (broadcastInDim S1x2176x5632 ![0, 1, 2] bcast_S1x1x5632_S1x2176x5632_0_1_2 (broadcastInDim S1x1x5632 ![2] bcast_S5632_S1x1x5632_2 (shapeCast _ (extractStridedSlice S1x5632 ![0, 0] C slices_S3x5632_S1x5632_0_0) shapeCasts_S1x5632_S5632))) (rDg X W U C B)) (constant S_ .f32 0x00000000#32) pads_S1x2176x5632_S1x2178x5632_000_020_000 h_S_)) slices_S1x2178x5632_S1x2176x5632_0_2_0) (constant S_ .f32 0x00000000#32) reducesTo_S1x2176x5632_S2176x5632_d0 h_S_))⟩, ⟨S1x2176x5632, (broadcastInDim S1x2176x5632 ![1, 2] bcast_S2176x5632_S1x2176x5632_1_2 (Host.reduceAdd (mulf (mulf (rGate U C B) (rS U C B)) (rDa X W)) (constant S_ .f32 0x00000000#32) reducesTo_S1x2176x5632_S2176x5632_d0 h_S_))⟩] concatenates_S1x2176x5632_S1x2176x5632_S2x2176x5632_d0) bitsLt_bf16_f32

/-- The gradient by the taps. -/
def ref1 (X : FVec Ideal S2064x2048 .f32) (W : FVec Ideal S5632x2048 .bf16) (U : FVec Ideal S2x2176x5632 .bf16) (C : FVec Ideal S3x5632 .f32) (B : FVec Ideal S1x5632 .f32) : FVec Ideal S3x5632 .f32 :=
  addf (addf (pad S3x5632 ![2, 0] ![0, 0] ![0, 0] (broadcastInDim S1x5632 ![1] bcast_S5632_S1x5632_1 (Host.reduceAdd (shapeCast _ (Host.reduceAdd (mulf (rDg X W U C B) (extractStridedSlice S1x2176x5632 ![0, 2, 0] (rGp U) slices_S1x2178x5632_S1x2176x5632_0_2_0)) (constant S_ .f32 0x00000000#32) reducesTo_S1x2176x5632_S1x5632_d1 h_S_) shapeCasts_S1x5632_S1x1x5632) (constant S_ .f32 0x00000000#32) reducesTo_S1x1x5632_S5632_d0_1 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (rDg X W U C B) (extractStridedSlice S1x2176x5632 ![0, 1, 0] (rGp U) slices_S1x2178x5632_S1x2176x5632_0_1_0)) (constant S_ .f32 0x00000000#32) reducesTo_S1x2176x5632_S1x5632_d1 h_S_) shapeCasts_S1x5632_S1x1x5632) (constant S_ .f32 0x00000000#32) reducesTo_S1x1x5632_S5632_d0_1 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (rDg X W U C B) (extractStridedSlice S1x2176x5632 ![0, 0, 0] (rGp U) slices_S1x2178x5632_S1x2176x5632_0_0_0)) (constant S_ .f32 0x00000000#32) reducesTo_S1x2176x5632_S1x5632_d1 h_S_) shapeCasts_S1x5632_S1x1x5632) (constant S_ .f32 0x00000000#32) reducesTo_S1x1x5632_S5632_d0_1 h_S_)) (constant S_ .f32 0x00000000#32) pads_S1x5632_S3x5632_020_000 h_S_)

/-- The gradient by the bias. -/
def ref2 (X : FVec Ideal S2064x2048 .f32) (W : FVec Ideal S5632x2048 .bf16) (U : FVec Ideal S2x2176x5632 .bf16) (C : FVec Ideal S3x5632 .f32) (B : FVec Ideal S1x5632 .f32) : FVec Ideal S1x5632 .f32 :=
  broadcastInDim S1x5632 ![1] bcast_S5632_S1x5632_1 (Host.reduceAdd (shapeCast _ (Host.reduceAdd (rDg X W U C B) (constant S_ .f32 0x00000000#32) reducesTo_S1x2176x5632_S1x5632_d1 h_S_) shapeCasts_S1x5632_S1x1x5632) (constant S_ .f32 0x00000000#32) reducesTo_S1x1x5632_S5632_d0_1 h_S_)

theorem out0_eq (m : (ℓ : Loc nD τ sig) → Buf (Elt Ideal) ℓ) (c : Dev nD) : Value.res_out0 m c
    = ref0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rfl

theorem out1_eq (m : (ℓ : Loc nD τ sig) → Buf (Elt Ideal) ℓ) (c : Dev nD) : Value.res_out1 m c
    = ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rfl

theorem out2_eq (m : (ℓ : Loc nD τ sig) → Buf (Elt Ideal) ℓ) (c : Dev nD) : Value.res_out2 m c
    = ref2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rfl

end Cert.ReferenceIdeal.Terms

end
-- ==== Proof.RefCols.lean ====
/- The reference's results read at an index: each is the column arithmetic of `Proof/Column.lean`. -/
module

public import proofs.«01_k».proof.Proof.RefTerms

@[expose] public section

set_option maxRecDepth 16384

noncomputable section

namespace Cert.ReferenceIdeal.Terms

open Cert.ReferenceIdeal Cert.ReferenceIdeal.Gen Idealize.ShloMosaic Idealize.ShloMosaic.TcCoe Idealize.SL.Sem

variable (X : FVec Ideal S2064x2048 .f32) (W : FVec Ideal S5632x2048 .bf16) (U : FVec Ideal S2x2176x5632 .bf16) (C : FVec Ideal S3x5632 .f32)
  (B : FVec Ideal S1x5632 .f32)

/-- The incoming gradient with its 112 zero rows. -/
def xs (r : Fin 2176) (k : Fin 2048) : EReal := if h : r.val < 112 then 0 else X (ix2 (⟨r.val - 112, by omega⟩ : Fin 2064) k)
/-- Row `j` of the weight. -/
def ws (j : Fin 5632) (k : Fin 2048) : EReal := W (ix2 j k)
/-- Column `j` of half `s` of the input. -/
def us (s : Fin 2) (j : Fin 5632) (r : Fin 2176) : EReal := U (ix3 s r j)
/-- The three taps of column `j`. -/
def cs (j : Fin 5632) (k : Fin 3) : EReal := C (ix2 k j)
/-- The bias of column `j`. -/
def bs (j : Fin 5632) : EReal := B (ix2 (0 : Fin 1) j)

/-- A sum over two axes of one element each is that element. -/
theorem sum_one (h : S1x1x5632.ReducesTo [0, 1] S5632) (v : S1x1x5632.Idx → EReal) (j : Fin 5632) :
    Ideal.hostReduceAdd h v 0 (ix1 j : S5632.Idx) = v (ix3 (0 : Fin 1) (0 : Fin 1) j) := by
  show (0 : EReal) + ∑ i ∈ Finset.univ.filter (fun i => h.drop i = ix1 j), v i = _
  rw [zero_add]
  refine Finset.sum_eq_single_of_mem _ (Finset.mem_filter.2 ⟨Finset.mem_univ _, ?_⟩) fun i hi hne => ?_
  · funext b
    apply Fin.ext
    match b with
    | ⟨0, _⟩ => rfl
  · refine absurd ?_ hne
    have e := congrArg Fin.val (congrFun (Finset.mem_filter.1 hi).2 ⟨0, by decide⟩)
    funext a
    apply Fin.ext
    match a with
    | ⟨0, _⟩ => exact Nat.lt_one_iff.1 (i 0).isLt
    | ⟨1, _⟩ => exact Nat.lt_one_iff.1 (i 1).isLt
    | ⟨2, _⟩ => exact e

/-- The sum of a batch of one over its rows. -/
theorem sum_rows (V : FVec Ideal S1x2176x5632 .f32) (j : Fin 5632) :
    Ideal.hostReduceAdd reducesTo_S1x1x5632_S5632_d0_1
      (shapeCast S1x1x5632 (Host.reduceAdd V (constant S_ .f32 0x00000000#32) reducesTo_S1x2176x5632_S1x5632_d1 h_S_)
        shapeCasts_S1x5632_S1x1x5632) 0 (ix1 j : S5632.Idx) = ∑ r : Fin 2176, V (ix3 (0 : Fin 1) r j) := by
  rw [sum_one]
  pointwise

theorem rDa_at (r : Fin 2176) (j : Fin 5632) : rDa X W (ix3 (0 : Fin 1) r j) = Column.da (xs X) (ws W j) r := by
  pointwise [rDa, Column.da, xs, ws]

theorem rVal_at (r : Fin 2176) (j : Fin 5632) : rVal U (ix3 (0 : Fin 1) r j) = us U 1 j r := by
  pointwise [rVal, us]

theorem rGp_at (r : Fin 2178) (j : Fin 5632) : rGp U (ix3 (0 : Fin 1) r j) = if h : r.val < 2 then 0 else us U 0 j ⟨r.val - 2, by omega⟩ := by
  pointwise [rGp, us]

/-- The gate half from row `s` of its padded form on is the gate half, `2 - s` rows down. -/
theorem rGp_above (s : ℕ) (hs : s ≤ 2) (r : Fin 2176) (q : Fin 2178) (hq : q.val + s = r.val + 2) (j : Fin 5632) :
    rGp U (ix3 (0 : Fin 1) q j) = Column.above (us U 0 j) s r := by
  rw [rGp_at]
  unfold Column.above
  by_cases h : s ≤ r.val
  · rw [dif_neg (by omega), dif_pos h]
    exact congrArg _ (Fin.ext (show q.val - 2 = r.val - s by omega))
  · rw [dif_pos (by omega), dif_neg h]

theorem rGp_above2 (r : Fin 2176) (h : r.val < 2178) (j : Fin 5632) :
    rGp U (ix3 (0 : Fin 1) (⟨r.val, h⟩ : Fin 2178) j) = Column.above (us U 0 j) 2 r := rGp_above U 2 (by omega) r _ rfl j
theorem rGp_above1 (r : Fin 2176) (h : 1 + r.val < 2178) (j : Fin 5632) :
    rGp U (ix3 (0 : Fin 1) (⟨1 + r.val, h⟩ : Fin 2178) j) = Column.above (us U 0 j) 1 r :=
  rGp_above U 1 (by omega) r _ (show 1 + r.val + 1 = r.val + 2 by omega) j
theorem rGp_above0 (r : Fin 2176) (h : 2 + r.val < 2178) (j : Fin 5632) :
    rGp U (ix3 (0 : Fin 1) (⟨2 + r.val, h⟩ : Fin 2178) j) = Column.above (us U 0 j) 0 r :=
  rGp_above U 0 (by omega) r _ (show 2 + r.val + 0 = r.val + 2 by omega) j
theorem above_zero (u : Fin 2176 → EReal) (r : Fin 2176) : Column.above u 0 r = u r := dif_pos (Nat.zero_le _)

theorem rGate_at (r : Fin 2176) (j : Fin 5632) : rGate U C B (ix3 (0 : Fin 1) r j) = Column.rGate (us U 0 j) (cs C j) (bs B j) r := by
  pointwise [rGate, Column.rGate, rGp_above0, rGp_above1, rGp_above2, above_zero]
  rfl

theorem rS_at (r : Fin 2176) (j : Fin 5632) : rS U C B (ix3 (0 : Fin 1) r j) = Ideal.logistic (Column.rGate (us U 0 j) (cs C j) (bs B j) r) := by
  pointwise [rS, rGate_at]
  rfl

theorem rDg_at (r : Fin 2176) (j : Fin 5632) : rDg X W U C B (ix3 (0 : Fin 1) r j)
    = Column.rDg (xs X) (ws W j) (us U 0 j) (us U 1 j) (cs C j) (bs B j) r := by
  pointwise [rDg, rS_at, rGate_at, rDa_at, rVal_at, Column.rDg]

theorem ref2_at (j : Fin 5632) (i : Fin 1) : ref2 X W U C B (ix2 i j)
    = ∑ r, Column.rDg (xs X) (ws W j) (us U 0 j) (us U 1 j) (cs C j) (bs B j) r := by
  pointwise [ref2, sum_rows, rDg_at]

theorem ref1_at (i : Fin 3) (j : Fin 5632) : ref1 X W U C B (ix2 i j)
    = ∑ r, Column.rDg (xs X) (ws W j) (us U 0 j) (us U 1 j) (cs C j) (bs B j) r * Column.above (us U 0 j) (2 - i.val) r := by
  pointwise [ref1, sum_rows, rDg_at, rGp_above0, rGp_above1, rGp_above2]
  fin_vals i with hi
  all_goals simp [hi]

theorem ref0_at0 (r : Fin 2176) (j : Fin 5632) : ref0 X W U C B (ix3 (0 : Fin 2) r j)
    = cs C j 2 * Column.rDg (xs X) (ws W j) (us U 0 j) (us U 1 j) (cs C j) (bs B j) r
      + Column.below (fun q => cs C j 1 * Column.rDg (xs X) (ws W j) (us U 0 j) (us U 1 j) (cs C j) (bs B j) q) 1 r
      + Column.below (fun q => cs C j 0 * Column.rDg (xs X) (ws W j) (us U 0 j) (us U 1 j) (cs C j) (bs B j) q) 2 r := by
  pointwise [ref0, rDg_at]
  refine (Fin.sum_univ_one _).trans (congrArg₂ (· + ·) (congrArg₂ (· + ·) rfl ?_) ?_)
  · refine dite_congr (propext (show _ ↔ r.val + 1 < 2176 by omega)) (fun h => ?_) fun _ => rfl
    exact congrArg (fun q => cs C j 1 * Column.rDg (xs X) (ws W j) (us U 0 j) (us U 1 j) (cs C j) (bs B j) q)
      (Fin.ext (show 2 + r.val - 1 = r.val + 1 by omega))
  · refine dite_congr (propext (show _ ↔ r.val + 2 < 2176 by omega)) (fun h => ?_) fun _ => rfl
    exact congrArg (fun q => cs C j 0 * Column.rDg (xs X) (ws W j) (us U 0 j) (us U 1 j) (cs C j) (bs B j) q)
      (Fin.ext (show 2 + r.val = r.val + 2 by omega))

theorem ref0_at1 (r : Fin 2176) (j : Fin 5632) : ref0 X W U C B (ix3 (1 : Fin 2) r j)
    = Column.rGate (us U 0 j) (cs C j) (bs B j) r * Ideal.logistic (Column.rGate (us U 0 j) (cs C j) (bs B j) r) * Column.da (xs X) (ws W j) r := by
  pointwise [ref0]
  refine (Fin.sum_univ_one _).trans ?_
  pointwise [rS_at, rGate_at, rDa_at]

end Cert.ReferenceIdeal.Terms

end
-- ==== Proof.KerFinal.lean ====
/- The kernel's three result arrays after the run, column by column of its argument arrays. -/
module

public import proofs.«01_k».proof.Proof.KerBlocks
public import proofs.«01_k».proof.Proof.RefCols
public import Idealize.ShloMosaic.Lib.Claim

@[expose] public section

set_option maxRecDepth 16384

noncomputable section

namespace Cert.KernelIdeal.Cols

open Cert.KernelIdeal Cert.KernelIdeal.Gen Idealize.ShloMosaic Idealize.ShloMosaic.TcCoe Idealize.SL.Sem
open Idealize.ShloMosaic.Pipeline (Dat)
open Cert.ReferenceIdeal.Terms (xs ws us cs bs)

section
variable (X : FVec Ideal S2064x2048 .f32) (W : FVec Ideal S5632x2048 .bf16) (U : FVec Ideal S2x2176x5632 .bf16) (C : FVec Ideal S3x5632 .f32)
  (B : FVec Ideal S1x5632 .f32)

/-- Column `j` of the kernel's gradient of the gate. -/
def kdg (j : Fin 5632) (r : Fin 2176) : EReal := Column.kDg (xs X) (ws W j) (us U 0 j) (us U 1 j) (cs C j) (bs B j) r

/-- The kernel's first result. -/
def G5 : FVec Ideal S2x2176x5632 .bf16 := fun i => if (i 0).val = 0 then
    cs C (i 2) 2 * kdg X W U C B (i 2) (i 1) + cs C (i 2) 1 * kdg X W U C B (i 2) (Column.wrap 2175 (i 1))
      + cs C (i 2) 0 * kdg X W U C B (i 2) (Column.wrap 2174 (i 1))
  else Column.da (xs X) (ws W (i 2)) (i 1) * (Column.kGate (us U 0 (i 2)) (cs C (i 2)) (bs B (i 2)) (i 1)
      * Ideal.logistic (Column.kGate (us U 0 (i 2)) (cs C (i 2)) (bs B (i 2)) (i 1)))

/-- The kernel's second result. -/
def G6 : FVec Ideal S3x5632 .f32 := fun i => ∑ r, kdg X W U C B (i 1) r * us U 0 (i 1) (Column.wrap (2 - (i 0).val) r)

/-- The kernel's third result. -/
def G7 : FVec Ideal S1x5632 .f32 := fun i => ∑ r, kdg X W U C B (i 1) r
end

variable (m : (ℓ : Loc nD τ sig) → Buf (Elt Ideal) ℓ)

theorem idx : ∀ t : Fin cfg0.N, win0_0.index t = ![0, 0] ∧ win0_1.index t = ![t.val, 0] ∧ win0_2.index t = ![0, 0, t.val]
    ∧ win0_3.index t = ![0, t.val] ∧ win0_4.index t = ![0, t.val] ∧ win0_5.index t = ![0, 0, t.val] ∧ win0_6.index t = ![0, t.val] ∧ win0_7.index t = ![0, t.val] :=
  (by decide +kernel : ∀ t : Fin grid0.N, _)

theorem read0 (c : Dev nD) (t : Fin cfg0.N) (r : Fin 2176) (k : Fin 2048) : iblk m c 0 t (ix2 r k) = xs (m ((c : Thread nD τ).loc main_arg0)) r k := by
  have e : iblk m c 0 t (ix2 r k) = V m c main_v2 (ix2 r k) := by blk_ext [iblk, idx t]
  rw [e]
  entry_read
  pointwise [xs]

theorem read1 (c : Dev nD) (t : Fin cfg0.N) (l : Fin 256) (j : Fin 5632) (hj : j.val = t.val * 256 + l.val) (k : Fin 2048) :
    iblk m c 1 t (ix2 l k) = ws (m ((c : Thread nD τ).loc main_arg1)) j k := by
  unfold ws
  blk_ext [iblk, V, idx t]

theorem read2 (c : Dev nD) (t : Fin cfg0.N) (l : Fin 256) (j : Fin 5632) (hj : j.val = t.val * 256 + l.val) (s : Fin 2) (r : Fin 2176) :
    iblk m c 2 t (ix3 s r l) = us (m ((c : Thread nD τ).loc main_arg2)) s j r := by
  unfold us
  blk_ext [iblk, V, idx t]

theorem read3 (c : Dev nD) (t : Fin cfg0.N) (l : Fin 256) (j : Fin 5632) (hj : j.val = t.val * 256 + l.val) (k : Fin 3) :
    iblk m c 3 t (ix2 k l) = cs (m ((c : Thread nD τ).loc main_arg3)) j k := by
  unfold cs
  blk_ext [iblk, V, idx t]

theorem read4 (c : Dev nD) (t : Fin cfg0.N) (l : Fin 256) (j : Fin 5632) (hj : j.val = t.val * 256 + l.val) :
    iblk m c 4 t (ix2 (0 : Fin 1) l) = bs (m ((c : Thread nD τ).loc main_arg4)) j := by
  unfold bs
  blk_ext [iblk, V, idx t]

/-- The point's gradient of the gate is the array's, at the point's columns. -/
theorem dg_blk (c : Dev nD) (t : Fin cfg0.N) (l : Fin 256) (j : Fin 5632) (hj : j.val = t.val * 256 + l.val) (r : Fin 2176) :
    blkDg (iblk m c 0 t) (iblk m c 1 t) (iblk m c 2 t) (iblk m c 3 t) (iblk m c 4 t) l r
      = kdg (m ((c : Thread nD τ).loc main_arg0)) (m ((c : Thread nD τ).loc main_arg1)) (m ((c : Thread nD τ).loc main_arg2)) (m ((c : Thread nD τ).loc main_arg3)) (m ((c : Thread nD τ).loc main_arg4)) j r := by
  unfold kdg blkDg
  simp only [read0 m c t, read1 m c t l j hj, read2 m c t l j hj, read3 m c t l j hj, read4 m c t l j hj]

/-- The column of the array under column `l` of the point's block. -/
def colOf (t : Fin cfg0.N) (l : Fin 256) : Fin 5632 :=
  ⟨t.val * 256 + l.val, by have h : t.val < 22 := lt_of_lt_of_eq t.isLt N_0; have := l.isLt; omega⟩

theorem final7 (c : Dev nD) : (dats m 0 c).arrAt 7 (cfgs 0).N
    = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have he : (((View.whole main_v3_2).slice (win0_7.rect t)).emb (ix2 y0 y1)) = ix2 y0 (colOf t y1) := by unfold colOf; blk_ext [idx t]
  refine (out7_at _ _ _ _ _ y0 y1).trans ?_
  refine Eq.trans ?_ (congrArg (G7 (m ((c : Thread nD τ).loc main_arg0)) (m ((c : Thread nD τ).loc main_arg1)) (m ((c : Thread nD τ).loc main_arg2)) (m ((c : Thread nD τ).loc main_arg3)) (m ((c : Thread nD τ).loc main_arg4))) he.symm)
  exact Finset.sum_congr rfl fun r _ => dg_blk m c t y1 (colOf t y1) rfl r

theorem final6 (c : Dev nD) : (dats m 0 c).arrAt 6 (cfgs 0).N
    = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  idx_vars y
  have he : (((View.whole main_v3_1).slice (win0_6.rect t)).emb (ix2 y0 y1)) = ix2 y0 (colOf t y1) := by unfold colOf; blk_ext [idx t]
  refine (out6_at _ _ _ _ _ y0 y1).trans ?_
  refine Eq.trans ?_ (congrArg (G6 (m ((c : Thread nD τ).loc main_arg0)) (m ((c : Thread nD τ).loc main_arg1)) (m ((c : Thread nD τ).loc main_arg2)) (m ((c : Thread nD τ).loc main_arg3)) (m ((c : Thread nD τ).loc main_arg4))) he.symm)
  refine Finset.sum_congr rfl fun r _ => ?_
  exact congrArg₂ (fun a b : EReal => a * b) (dg_blk m c t y1 (colOf t y1) rfl r) (read2 m c t y1 (colOf t y1) rfl 0 _)

theorem final5 (c : Dev nD) : (dats m 0 c).arrAt 5 (cfgs 0).N
    = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have he : (((View.whole main_v3_0).slice (win0_5.rect t)).emb (ix3 y0 y1 y2)) = ix3 y0 y1 (colOf t y2) := by unfold colOf; blk_ext [idx t]
  refine Eq.trans ?_ (congrArg (G5 (m ((c : Thread nD τ).loc main_arg0)) (m ((c : Thread nD τ).loc main_arg1)) (m ((c : Thread nD τ).loc main_arg2)) (m ((c : Thread nD τ).loc main_arg3)) (m ((c : Thread nD τ).loc main_arg4))) he.symm)
  by_cases h : y0 = 0
  · subst h
    refine (out5_at0 _ _ _ _ _ y1 y2).trans ?_
    simp only [dg_blk m c t y2 (colOf t y2) rfl, read3 m c t y2 (colOf t y2) rfl]
    rfl
  · obtain rfl : y0 = 1 := by omega
    refine (out5_at1 _ _ _ _ _ y1 y2).trans ?_
    unfold blkGate
    simp only [read0 m c t, read1 m c t y2 (colOf t y2) rfl, read2 m c t y2 (colOf t y2) rfl, read3 m c t y2 (colOf t y2) rfl, read4 m c t y2 (colOf t y2) rfl]
    rfl

end Cert.KernelIdeal.Cols

end
-- ==== Proof.PreFinite.lean ====
/- The precondition read back: the incoming gradient, the weight and the value half are reals. -/
module

public import proofs.«01_k».proof.Proof.Gen.Pre_finite
public import Idealize.ShloMosaic.Lib.ReduceAll
public import Idealize.ShloMosaic.Lib.Affine
public import Idealize.ShloMosaic.Lib.Pointwise

@[expose] public section

set_option maxRecDepth 16384

noncomputable section

namespace Cert.Pre_finite.Read

open Cert.Pre_finite Cert.Pre_finite.Gen Idealize.ShloMosaic Idealize.ShloMosaic.TcCoe Idealize.SL.Sem

instance : Subsingleton S_.Idx := ⟨fun _ _ => funext fun a => Fin.elim0 a⟩

/-- A value whose magnitude is below infinity is a real. -/
theorem real_of_abs {x : EReal} (h : FloatOps.cmpf (F := Ideal) (φ := .f32) .olt (FloatOps.hostAbsf (F := Ideal) (φ := .f32) x) (FloatOps.ofBits .f32 0x7F800000#32) = 1#1) :
    ∃ t : ℝ, x = t := by
  have ht : (FloatOps.ofBits (F := Ideal) .f32 0x7F800000#32) = (⊤ : EReal) := by simp [Ideal.ofBits, Ideal.ieee]
  rw [ht] at h
  have hm : max x (-x) < (⊤ : EReal) := by
    have h' : BitVec.ofBool (decide (max x (-x) < (⊤ : EReal))) = 1#1 := h
    by_contra hn
    rw [decide_eq_false hn] at h'
    exact absurd h' (by decide)
  induction x using EReal.rec with
  | bot => simp at hm
  | top => simp at hm
  | coe t => exact ⟨t, rfl⟩

variable (X : FVec Ideal S2064x2048 .f32) (W : FVec Ideal S5632x2048 .bf16) (U : FVec Ideal S2x2176x5632 .bf16) (C : FVec Ideal S3x5632 .f32)
  (B : FVec Ideal S1x5632 .f32)

theorem reals (h : fn (F := Ideal) X W U C B = fun _ => 1#1) : (∀ i, ∃ t : ℝ, X i = t) ∧ (∀ i, ∃ t : ℝ, W i = t)
    ∧ (∀ (r : Fin 2176) (j : Fin 5632), ∃ t : ℝ, U (ix3 (1 : Fin 2) r j) = t) := by
  have h0 := congrFun h (fun a => Fin.elim0 a)
  obtain ⟨h1, h2⟩ := IntOp.andi_eq_one.1 h0
  obtain ⟨h3, h4⟩ := IntOp.andi_eq_one.1 h1
  refine ⟨fun i => real_of_abs (Host.reduce_andi_all _ _ _ _ _ h3 i), fun i => real_of_abs (Host.reduce_andi_all _ _ _ _ _ h4 i), fun r j => ?_⟩
  have := real_of_abs (Host.reduce_andi_all _ _ _ _ _ h2 (ix2 r j))
  pointwise at this
  exact this

end Cert.Pre_finite.Read

end
-- ==== Proof.Equal.lean ====
/- The kernel's three results are the reference's, where the precondition holds. -/
module

public import proofs.«01_k».proof.Proof.KerFinal
public import proofs.«01_k».proof.Proof.PreFinite

@[expose] public section

set_option maxRecDepth 16384

noncomputable section

namespace Cert.Equal

open Cert.KernelIdeal Idealize.ShloMosaic Cert.KernelIdeal.Cols Cert.ReferenceIdeal.Terms

variable (X : FVec Ideal S2064x2048 .f32) (W : FVec Ideal S5632x2048 .bf16) (U : FVec Ideal S2x2176x5632 .bf16) (C : FVec Ideal S3x5632 .f32)
  (B : FVec Ideal S1x5632 .f32)
variable (h : Cert.Pre_finite.fn (F := Ideal) X W U C B = fun _ => 1#1)
include h

theorem x_head (r : Fin 2176) (hr : r.val < 112) (k : Fin 2048) : xs X r k = 0 := dif_pos hr

theorem x_real (r : Fin 2176) (k : Fin 2048) : ∃ t : ℝ, xs X r k = t := by
  unfold xs
  split
  · exact ⟨0, rfl⟩
  · exact (Pre_finite.Read.reals X W U C B h).1 _

theorem w_real (j : Fin 5632) (k : Fin 2048) : ∃ t : ℝ, ws W j k = t := (Pre_finite.Read.reals X W U C B h).2.1 _

theorem v_real (j : Fin 5632) (r : Fin 2176) : ∃ t : ℝ, us U 1 j r = t := (Pre_finite.Read.reals X W U C B h).2.2 r j

theorem eq7 : ref2 X W U C B = G7 X W U C B := by
  funext i
  idx_vars i
  rw [ref2_at]
  exact (Column.dcb_eq (xs X) (ws W i1) (us U 0 i1) (us U 1 i1) (cs C i1) (bs B i1) (x_head X W U C B h) (x_real X W U C B h)
    (w_real X W U C B h i1) (v_real X W U C B h i1)).symm

theorem eq6 : ref1 X W U C B = G6 X W U C B := by
  funext i
  idx_vars i
  rw [ref1_at]
  exact (Column.dcw_eq (xs X) (ws W i1) (us U 0 i1) (us U 1 i1) (cs C i1) (bs B i1) (x_head X W U C B h) (x_real X W U C B h)
    (w_real X W U C B h i1) (v_real X W U C B h i1) (2 - i0.val) (by omega)).symm

theorem eq5 : ref0 X W U C B = G5 X W U C B := by
  funext i
  idx_vars i
  by_cases h0 : i0 = 0
  · subst h0
    rw [ref0_at0]
    exact (Column.dpre_eq (xs X) (ws W i2) (us U 0 i2) (us U 1 i2) (cs C i2) (bs B i2) (x_head X W U C B h) (x_real X W U C B h)
      (w_real X W U C B h i2) (v_real X W U C B h i2) i1).symm
  · obtain rfl : i0 = 1 := by omega
    rw [ref0_at1]
    exact (Column.dval_eq (xs X) (ws W i2) (us U 0 i2) (us U 1 i2) (cs C i2) (bs B i2) (x_head X W U C B h) (x_real X W U C B h)
      (w_real X W U C B h i2) (v_real X W U C B h i2) i1).symm

end Cert.Equal

end
-- ==== Proof.UpTerms.lean ====
/- The forward block's two results as terms over its argument arrays, cut at the values it reuses, and read at an index. -/
module

public import proofs.«01_k».proof.Proof.Gen.Reference2Ideal.Run
public import proofs.«01_k».proof.Proof.Column
public import Idealize.ShloMosaic.Lib.Pointwise

@[expose] public section

set_option maxRecDepth 16384

noncomputable section

namespace Cert.Reference2Ideal.Terms

open Cert.Reference2Ideal Cert.Reference2Ideal.Gen Idealize.ShloMosaic Idealize.ShloMosaic.TcCoe Idealize.SL.Sem

/-- The up product, both halves side by side. -/
def rUp (X : FVec Ideal S2064x2048 .f32) (W : FVec Ideal S11264x2048 .bf16) : FVec Ideal S1x2176x11264 .f32 :=
  Host.dotGeneral dot_S1x2176x2048_S2048x11264_S1x2176x11264_2_0_01_1_n_n none (broadcastInDim S1x2176x2048 ![1, 2] bcast_S2176x2048_S1x2176x2048_1_2 (concatenate S2176x2048 0 [⟨S112x2048, (broadcastInDim S112x2048 ![] bcast_S_S112x2048 (constant S_ .f32 0x00000000#32))⟩, ⟨S2064x2048, X⟩] concatenates_S112x2048_S2064x2048_S2176x2048_d0)) (transpose S2048x11264 [1, 0] (extf .f32 W bitsLt_bf16_f32) transposes_S11264x2048_S2048x11264_1_0)

/-- The gate half with two zero rows before it. -/
def rGp (X : FVec Ideal S2064x2048 .f32) (W : FVec Ideal S11264x2048 .bf16) : FVec Ideal S1x2178x5632 .f32 :=
  concatenate S1x2178x5632 1 [⟨S1x2x5632, (broadcastInDim S1x2x5632 ![] bcast_S_S1x2x5632 (constant S_ .f32 0x00000000#32))⟩, ⟨S1x2176x5632, (extractStridedSlice S1x2176x5632 ![0, 0, 0] (rUp X W) slices_S1x2176x11264_S1x2176x5632_0_0_0)⟩] concatenates_S1x2x5632_S1x2176x5632_S1x2178x5632_d1

/-- The convolved gate. -/
def rGate (X : FVec Ideal S2064x2048 .f32) (W : FVec Ideal S11264x2048 .bf16) (C : FVec Ideal S3x5632 .f32) (B : FVec Ideal S1x5632 .f32) : FVec Ideal S1x2176x5632 .f32 :=
  addf (addf (addf (addf (broadcastInDim S1x2176x5632 ![] bcast_S_S1x2176x5632 (constant S_ .f32 0x00000000#32)) (mulf (broadcastInDim S1x2176x5632 ![0, 1, 2] bcast_S1x1x5632_S1x2176x5632_0_1_2 (broadcastInDim S1x1x5632 ![2] bcast_S5632_S1x1x5632_2 (shapeCast _ (extractStridedSlice S1x5632 ![0, 0] C slices_S3x5632_S1x5632_0_0) shapeCasts_S1x5632_S5632))) (extractStridedSlice S1x2176x5632 ![0, 0, 0] (rGp X W) slices_S1x2178x5632_S1x2176x5632_0_0_0))) (mulf (broadcastInDim S1x2176x5632 ![0, 1, 2] bcast_S1x1x5632_S1x2176x5632_0_1_2 (broadcastInDim S1x1x5632 ![2] bcast_S5632_S1x1x5632_2 (shapeCast _ (extractStridedSlice S1x5632 ![1, 0] C slices_S3x5632_S1x5632_1_0) shapeCasts_S1x5632_S5632))) (extractStridedSlice S1x2176x5632 ![0, 1, 0] (rGp X W) slices_S1x2178x5632_S1x2176x5632_0_1_0))) (mulf (broadcastInDim S1x2176x5632 ![0, 1, 2] bcast_S1x1x5632_S1x2176x5632_0_1_2 (broadcastInDim S1x1x5632 ![2] bcast_S5632_S1x1x5632_2 (shapeCast _ (extractStridedSlice S1x5632 ![2, 0] C slices_S3x5632_S1x5632_2_0) shapeCasts_S1x5632_S5632))) (extractStridedSlice S1x2176x5632 ![0, 2, 0] (rGp X W) slices_S1x2178x5632_S1x2176x5632_0_2_0))) (broadcastInDim S1x2176x5632 ![0, 1, 2] bcast_S1x1x5632_S1x2176x5632_0_1_2 (broadcastInDim S1x1x5632 ![1, 2] bcast_S1x5632_S1x1x5632_1_2 B))

/-- The two halves. -/
def ref0 (X : FVec Ideal S2064x2048 .f32) (W : FVec Ideal S11264x2048 .bf16) : FVec Ideal S2x2176x5632 .bf16 :=
  truncf .bf16 (concatenate S2x2176x5632 0 [⟨S1x2176x5632, (extractStridedSlice S1x2176x5632 ![0, 0, 0] (rUp X W) slices_S1x2176x11264_S1x2176x5632_0_0_0)⟩, ⟨S1x2176x5632, (extractStridedSlice S1x2176x5632 ![0, 0, 5632] (rUp X W) slices_S1x2176x11264_S1x2176x5632_0_0_5632)⟩] concatenates_S1x2176x5632_S1x2176x5632_S2x2176x5632_d0) bitsLt_bf16_f32

/-- The activation. -/
def ref1 (X : FVec Ideal S2064x2048 .f32) (W : FVec Ideal S11264x2048 .bf16) (C : FVec Ideal S3x5632 .f32) (B : FVec Ideal S1x5632 .f32) : FVec Ideal S2176x5632 .bf16 :=
  truncf .bf16 (shapeCast _ (mulf (mulf (rGate X W C B) (Host.divf (broadcastInDim S1x2176x5632 ![] bcast_S_S1x2176x5632 (constant S_ .f32 0x3F800000#32)) (addf (broadcastInDim S1x2176x5632 ![] bcast_S_S1x2176x5632 (constant S_ .f32 0x3F800000#32)) (Host.exp (Host.negf (rGate X W C B)))))) (extractStridedSlice S1x2176x5632 ![0, 0, 5632] (rUp X W) slices_S1x2176x11264_S1x2176x5632_0_0_5632)) shapeCasts_S1x2176x5632_S2176x5632) bitsLt_bf16_f32

theorem out1_eq (m : (ℓ : Loc nD τ sig) → Buf (Elt Ideal) ℓ) (c : Dev nD) : Value.res_main_v40 m c
    = ref1 (m ((c.tc : Thread nD τ).loc main_arg0)) (m ((c.tc : Thread nD τ).loc main_arg1)) (m ((c.tc : Thread nD τ).loc main_arg2)) (m ((c.tc : Thread nD τ).loc main_arg3)) := by
  rfl

section
variable (X : FVec Ideal S2064x2048 .f32) (W : FVec Ideal S11264x2048 .bf16) (C : FVec Ideal S3x5632 .f32) (B : FVec Ideal S1x5632 .f32)

/-- The input with its 112 zero rows. -/
def xs (r : Fin 2176) (k : Fin 2048) : EReal := if h : r.val < 112 then 0 else X (ix2 (⟨r.val - 112, by omega⟩ : Fin 2064) k)
/-- Column `j` of half `s` of the up product. -/
def us (s : Fin 2) (j : Fin 5632) (r : Fin 2176) : EReal := ∑ k, xs X r k * W (ix2 (⟨s.val * 5632 + j.val, by omega⟩ : Fin 11264) k)
/-- The three taps of column `j`. -/
def cs (j : Fin 5632) (k : Fin 3) : EReal := C (ix2 k j)
/-- The bias of column `j`. -/
def bs (j : Fin 5632) : EReal := B (ix2 (0 : Fin 1) j)

theorem rUp_at (r : Fin 2176) (j : Fin 11264) : rUp X W (ix3 (0 : Fin 1) r j) = ∑ k, xs X r k * W (ix2 j k) := by
  pointwise [rUp, xs]

theorem rUp_gate (r : Fin 2176) (j : Fin 5632) (h : j.val < 11264) : rUp X W (ix3 (0 : Fin 1) r (⟨j.val, h⟩ : Fin 11264)) = us X W 0 j r := by
  rw [rUp_at]
  exact Finset.sum_congr rfl fun k _ => congrArg (fun q => xs X r k * W (ix2 q k)) (Fin.ext (by show j.val = 0 * 5632 + j.val; omega))

theorem rUp_val (r : Fin 2176) (j : Fin 5632) (h : 5632 + j.val < 11264) : rUp X W (ix3 (0 : Fin 1) r (⟨5632 + j.val, h⟩ : Fin 11264)) = us X W 1 j r := by
  rw [rUp_at]
  exact Finset.sum_congr rfl fun k _ => congrArg (fun q => xs X r k * W (ix2 q k)) (Fin.ext (by show 5632 + j.val = 1 * 5632 + j.val; omega))

theorem rGp_at (r : Fin 2178) (j : Fin 5632) : rGp X W (ix3 (0 : Fin 1) r j) = if h : r.val < 2 then 0 else us X W 0 j ⟨r.val - 2, by omega⟩ := by
  pointwise [rGp, rUp_gate]

/-- The gate half from row `s` of its padded form on is the gate half, `2 - s` rows down. -/
theorem rGp_above (s : ℕ) (hs : s ≤ 2) (r : Fin 2176) (q : Fin 2178) (hq : q.val + s = r.val + 2) (j : Fin 5632) :
    rGp X W (ix3 (0 : Fin 1) q j) = Column.above (us X W 0 j) s r := by
  rw [rGp_at]
  unfold Column.above
  by_cases h : s ≤ r.val
  · rw [dif_neg (by omega), dif_pos h]
    exact congrArg _ (Fin.ext (by show q.val - 2 = r.val - s; omega))
  · rw [dif_pos (by omega), dif_neg h]

theorem rGp_above2 (r : Fin 2176) (h : r.val < 2178) (j : Fin 5632) :
    rGp X W (ix3 (0 : Fin 1) (⟨r.val, h⟩ : Fin 2178) j) = Column.above (us X W 0 j) 2 r := rGp_above X W 2 (by omega) r _ rfl j
theorem rGp_above1 (r : Fin 2176) (h : 1 + r.val < 2178) (j : Fin 5632) :
    rGp X W (ix3 (0 : Fin 1) (⟨1 + r.val, h⟩ : Fin 2178) j) = Column.above (us X W 0 j) 1 r :=
  rGp_above X W 1 (by omega) r _ (show 1 + r.val + 1 = r.val + 2 by omega) j
theorem rGp_above0 (r : Fin 2176) (h : 2 + r.val < 2178) (j : Fin 5632) :
    rGp X W (ix3 (0 : Fin 1) (⟨2 + r.val, h⟩ : Fin 2178) j) = Column.above (us X W 0 j) 0 r :=
  rGp_above X W 0 (by omega) r _ (show 2 + r.val + 0 = r.val + 2 by omega) j
theorem above_zero (u : Fin 2176 → EReal) (r : Fin 2176) : Column.above u 0 r = u r := dif_pos (Nat.zero_le _)

theorem rGate_at (r : Fin 2176) (j : Fin 5632) : rGate X W C B (ix3 (0 : Fin 1) r j) = Column.rGate (us X W 0 j) (cs C j) (bs B j) r := by
  pointwise [rGate, Column.rGate, rGp_above0, rGp_above1, rGp_above2, above_zero]
  rfl

theorem ref1_at (r : Fin 2176) (j : Fin 5632) : ref1 X W C B (ix2 r j)
    = Column.rGate (us X W 0 j) (cs C j) (bs B j) r * Ideal.logistic (Column.rGate (us X W 0 j) (cs C j) (bs B j) r) * us X W 1 j r := by
  pointwise [ref1, rGate_at, rUp_val]
  rfl

theorem ref0_at (s : Fin 2) (r : Fin 2176) (j : Fin 5632) : ref0 X W (ix3 s r j) = us X W s j r := by
  fin_vals s with hs
  · obtain rfl : s = 0 := Fin.ext hs
    pointwise [ref0, rUp_val, rUp_gate]
  · obtain rfl : s = 1 := Fin.ext hs
    pointwise [ref0, rUp_val, rUp_gate]
end

end Cert.Reference2Ideal.Terms

end
-- ==== Proof.FfnUp.lean ====
/- The forward block: the call's two arrays, the two halves of the up product and the gated activation, are the forward's. -/
module

public import proofs.«01_k».proof.Proof.Gen.Kernel2.Frame
public import proofs.«01_k».proof.Proof.Gen.Kernel2Ideal.Value
public import proofs.«01_k».proof.Proof.UpTerms
public import proofs.«01_k».proof.Defs
public import Idealize.ShloMosaic.Lib.Pipeline.ValueKit
public import Idealize.ShloMosaic.Lib.Claim

@[expose] public section

set_option maxRecDepth 16384

noncomputable section

namespace Cert.Kernel2Ideal.Block

open Cert.Kernel2Ideal Cert.Kernel2Ideal.Gen Idealize.ShloMosaic Idealize.ShloMosaic.TcCoe Idealize.SL.Sem
open Idealize.ShloMosaic.Pipeline (Dat)
open Cert.Reference2Ideal.Terms (xs us cs bs)

section
variable (P0 : Vec Ideal S2176x2048 .bf16) (P1 P2 : Vec Ideal S256x2048 .bf16) (P3 : Vec Ideal S3x256 .f32) (P4 : Vec Ideal S1x256 .f32)

theorem pay3_at (r : Fin 2176) (l : Fin 256) : k0_pay3 P1 P2 P0 (ix2 r l) = ∑ k : Fin 2048, P0 (ix2 r k) * P1 (ix2 l k) := by
  pointwise [k0_pay3, k0_pay2]

theorem pay4_at (r : Fin 2176) (l : Fin 256) : k0_pay4 P1 P2 P0 (ix2 r l) = ∑ k : Fin 2048, P0 (ix2 r k) * P2 (ix2 l k) := by
  pointwise [k0_pay4, k0_pay2]

/-- Row `l` of a weight block against the input's rows. -/
def du (P0 : Vec Ideal S2176x2048 .bf16) (P1 : Vec Ideal S256x2048 .bf16) (l : Fin 256) (r : Fin 2176) : EReal := ∑ k : Fin 2048, P0 (ix2 r k) * P1 (ix2 l k)

theorem pay7_at (r : Fin 2176) (l : Fin 256) : k0_pay7 P1 P2 P0 P3 P4 (ix2 r l)
    = Column.kGate (du P0 P1 l) (fun k => P3 (ix2 k l)) (P4 (ix2 (0 : Fin 1) l)) r
      * Ideal.logistic (Column.kGate (du P0 P1 l) (fun k => P3 (ix2 k l)) (P4 (ix2 (0 : Fin 1) l)) r) * du P0 P2 l r := by
  pointwise [k0_pay7, pay3_at, pay4_at, Column.kGate, du]

theorem out6_eq : out0_6 P0 P1 P2 P3 P4 = k0_pay1 (k0_pay7 P1 P2 P0 P3 P4) := by
  frame_out

theorem out6_at (r : Fin 2176) (l : Fin 256) : out0_6 P0 P1 P2 P3 P4 (ix2 r l)
    = Column.kGate (du P0 P1 l) (fun k => P3 (ix2 k l)) (P4 (ix2 (0 : Fin 1) l)) r
      * Ideal.logistic (Column.kGate (du P0 P1 l) (fun k => P3 (ix2 k l)) (P4 (ix2 (0 : Fin 1) l)) r) * du P0 P2 l r := by
  rw [out6_eq]
  exact (show k0_pay1 (k0_pay7 P1 P2 P0 P3 P4) (ix2 r l) = k0_pay7 P1 P2 P0 P3 P4 (ix2 r l) by pointwise [k0_pay1]).trans (pay7_at P0 P1 P2 P3 P4 r l)

theorem out5_at (s : Fin 2) (r : Fin 2176) (l : Fin 256) : out0_5 P0 P1 P2 P3 P4 (ix3 s r l)
    = if s.val = 0 then ∑ k : Fin 2048, P0 (ix2 r k) * P1 (ix2 l k) else ∑ k : Fin 2048, P0 (ix2 r k) * P2 (ix2 l k) := by
  unfold out0_5
  canon_tiles x h
  · rw [if_neg (by have hs : s.val = 1 + (x 0).val := h0; omega)]
    obtain rfl : x = ix3 (0 : Fin 1) r l := by
      funext a; apply Fin.ext; match a with | ⟨0, _⟩ => exact Nat.lt_one_iff.mp (x 0).isLt | ⟨1, _⟩ => exact h1.symm | ⟨2, _⟩ => exact h2.symm
    pointwise [k0_pay6, pay4_at]
  · rw [if_pos (by have hs : s.val = (x 0).val := h0; have hx : (x 0).val < 1 := (x 0).isLt; omega)]
    obtain rfl : x = ix3 (0 : Fin 1) r l := by
      funext a; apply Fin.ext; match a with | ⟨0, _⟩ => exact Nat.lt_one_iff.mp (x 0).isLt | ⟨1, _⟩ => exact h1.symm | ⟨2, _⟩ => exact h2.symm
    pointwise [k0_pay5, pay3_at]
end

section
variable (X : FVec Ideal S2064x2048 .f32) (W : FVec Ideal S11264x2048 .bf16) (C : FVec Ideal S3x5632 .f32) (B : FVec Ideal S1x5632 .f32)

/-- The two halves. -/
def G5 : FVec Ideal S2x2176x5632 .bf16 := fun i => us X W (i 0) (i 2) (i 1)

/-- The activation, its gate on rotated rows. -/
def G6 : FVec Ideal S2176x5632 .bf16 := fun i => Column.kGate (us X W 0 (i 1)) (cs C (i 1)) (bs B (i 1)) (i 0)
  * Ideal.logistic (Column.kGate (us X W 0 (i 1)) (cs C (i 1)) (bs B (i 1)) (i 0)) * us X W 1 (i 1) (i 0)

theorem us_head (s : Fin 2) (j : Fin 5632) (r : Fin 2176) (h : r.val < 112) : us X W s j r = 0 := by
  unfold us xs
  exact Finset.sum_eq_zero fun k _ => by rw [dif_pos h, zero_mul]

theorem G6_eq : G6 X W C B = Cert.Reference2Ideal.Terms.ref1 X W C B := by
  funext i
  idx_vars i
  rw [Cert.Reference2Ideal.Terms.ref1_at]
  show Column.kGate (us X W 0 i1) (cs C i1) (bs B i1) i0 * Ideal.logistic (Column.kGate (us X W 0 i1) (cs C i1) (bs B i1) i0) * us X W 1 i1 i0 = _
  by_cases h : i0.val < 112
  · rw [us_head X W 1 i1 i0 h, mul_zero, mul_zero]
  · rw [Column.gate_eq _ _ _ (show 2 ≤ i0.val by omega)]

theorem G5_eq : G5 X W = Cert.Reference2Ideal.Terms.ref0 X W := by
  funext i
  idx_vars i
  exact (Cert.Reference2Ideal.Terms.ref0_at X W i0 i1 i2).symm
end

variable (m : (ℓ : Loc nD τ sig) → Buf (Elt Ideal) ℓ)

theorem idx : ∀ t : Fin cfg0.N, win0_0.index t = ![0, 0] ∧ win0_1.index t = ![t.val, 0] ∧ win0_2.index t = ![22 + t.val, 0]
    ∧ win0_3.index t = ![0, t.val] ∧ win0_4.index t = ![0, t.val] ∧ win0_5.index t = ![0, 0, t.val] ∧ win0_6.index t = ![0, t.val] :=
  (by decide +kernel : ∀ t : Fin grid0.N, _)

/-- The column of the arrays under column `l` of the point's block. -/
def colOf (t : Fin cfg0.N) (l : Fin 256) : Fin 5632 :=
  ⟨t.val * 256 + l.val, by have h : t.val < 22 := lt_of_lt_of_eq t.isLt N_0; have := l.isLt; omega⟩

theorem read0 (c : Dev nD) (t : Fin cfg0.N) (r : Fin 2176) (k : Fin 2048) : iblk m c 0 t (ix2 r k) = xs (m ((c : Thread nD τ).loc main_arg0)) r k := by
  have e : iblk m c 0 t (ix2 r k) = V m c main_v2 (ix2 r k) := by blk_ext [iblk, idx t]
  rw [e]
  entry_read
  pointwise [xs]

theorem read1 (c : Dev nD) (t : Fin cfg0.N) (l : Fin 256) (k : Fin 2048) : iblk m c 1 t (ix2 l k)
    = m ((c : Thread nD τ).loc main_arg1) (ix2 (⟨(0 : Fin 2).val * 5632 + (colOf t l).val, by have := (colOf t l).isLt; show 0 * 5632 + _ < _; omega⟩ : Fin 11264) k) := by
  unfold colOf
  blk_ext [iblk, V, idx t]

theorem read2 (c : Dev nD) (t : Fin cfg0.N) (l : Fin 256) (k : Fin 2048) : iblk m c 2 t (ix2 l k)
    = m ((c : Thread nD τ).loc main_arg1) (ix2 (⟨(1 : Fin 2).val * 5632 + (colOf t l).val, by have := (colOf t l).isLt; show 1 * 5632 + _ < _; omega⟩ : Fin 11264) k) := by
  unfold colOf
  blk_ext [iblk, V, idx t]

theorem read3 (c : Dev nD) (t : Fin cfg0.N) (l : Fin 256) (k : Fin 3) : iblk m c 3 t (ix2 k l) = cs (m ((c : Thread nD τ).loc main_arg2)) (colOf t l) k := by
  unfold cs colOf
  blk_ext [iblk, V, idx t]

theorem read4 (c : Dev nD) (t : Fin cfg0.N) (l : Fin 256) : iblk m c 4 t (ix2 (0 : Fin 1) l) = bs (m ((c : Thread nD τ).loc main_arg3)) (colOf t l) := by
  unfold bs colOf
  blk_ext [iblk, V, idx t]

theorem sum1 (c : Dev nD) (t : Fin cfg0.N) (r : Fin 2176) (l : Fin 256) : (∑ k : Fin 2048, (show FVec Ideal S2176x2048 .bf16 from iblk m c 0 t) (ix2 r k) * (show FVec Ideal S256x2048 .bf16 from iblk m c 1 t) (ix2 l k))
    = us (m ((c : Thread nD τ).loc main_arg0)) (m ((c : Thread nD τ).loc main_arg1)) 0 (colOf t l) r :=
  Finset.sum_congr rfl fun k _ => congrArg₂ (fun a b : EReal => a * b) (read0 m c t r k) (read1 m c t l k)

theorem sum2 (c : Dev nD) (t : Fin cfg0.N) (r : Fin 2176) (l : Fin 256) : (∑ k : Fin 2048, (show FVec Ideal S2176x2048 .bf16 from iblk m c 0 t) (ix2 r k) * (show FVec Ideal S256x2048 .bf16 from iblk m c 2 t) (ix2 l k))
    = us (m ((c : Thread nD τ).loc main_arg0)) (m ((c : Thread nD τ).loc main_arg1)) 1 (colOf t l) r :=
  Finset.sum_congr rfl fun k _ => congrArg₂ (fun a b : EReal => a * b) (read0 m c t r k) (read2 m c t l k)

theorem final5 (c : Dev nD) : (dats m 0 c).arrAt 5 (cfgs 0).N
    = G5 (m ((c : Thread nD τ).loc main_arg0)) (m ((c : Thread nD τ).loc main_arg1)) := by
  refine (dats m 0 c).arrAt_eq_of_covers 5 _ (by decide +kernel) fun t _ y => ?_
  blk_simp
  rw [after0_5]
  idx_vars y
  have he : (((View.whole main_v3_0).slice (win0_5.rect t)).emb (ix3 y0 y1 y2)) = ix3 y0 y1 (colOf t y2) := by unfold colOf; blk_ext [idx t]
  refine (out5_at _ _ _ _ _ y0 y1 y2).trans ?_
  refine Eq.trans ?_ (congrArg (G5 (m ((c : Thread nD τ).loc main_arg0)) (m ((c : Thread nD τ).loc main_arg1))) he.symm)
  show _ = us _ _ y0 (colOf t y2) y1
  have h2 : y0.val < 2 := y0.isLt
  by_cases h : y0.val = 0
  · rw [if_pos h, show y0 = (0 : Fin 2) from Fin.ext h]
    exact sum1 m c t y1 y2
  · rw [if_neg h, show y0 = (1 : Fin 2) from Fin.ext (by show y0.val = 1; omega)]
    exact sum2 m c t y1 y2

theorem final6 (c : Dev nD) : (dats m 0 c).arrAt 6 (cfgs 0).N
    = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  idx_vars y
  have he : (((View.whole main_v3_1).slice (win0_6.rect t)).emb (ix2 y0 y1)) = ix2 y0 (colOf t y1) := by unfold colOf; blk_ext [idx t]
  refine (out6_at _ _ _ _ _ y0 y1).trans ?_
  refine Eq.trans ?_ (congrArg (G6 (m ((c : Thread nD τ).loc main_arg0)) (m ((c : Thread nD τ).loc main_arg1)) (m ((c : Thread nD τ).loc main_arg2)) (m ((c : Thread nD τ).loc main_arg3))) he.symm)
  rw [show (fun k => iblk m c 3 t (ix2 k y1)) = cs (m ((c : Thread nD τ).loc main_arg2)) (colOf t y1) from funext fun k => read3 m c t y1 k,
    show iblk m c 4 t (ix2 (0 : Fin 1) y1) = bs (m ((c : Thread nD τ).loc main_arg3)) (colOf t y1) from read4 m c t y1,
    show du (iblk m c 0 t) (iblk m c 1 t) y1 = us (m ((c : Thread nD τ).loc main_arg0)) (m ((c : Thread nD τ).loc main_arg1)) 0 (colOf t y1) from funext fun r => sum1 m c t r y1,
    show du (iblk m c 0 t) (iblk m c 2 t) y1 = us (m ((c : Thread nD τ).loc main_arg0)) (m ((c : Thread nD τ).loc main_arg1)) 1 (colOf t y1) from funext fun r => sum2 m c t r y1]
  rfl

theorem algebraic : Cert.algebraic_Kernel2Ideal_Reference2Ideal := by
  pair_intro
  · run_from Cert.Kernel2Ideal.Gen.run_main m g
  · run_from Cert.Reference2Ideal.Value.run m' g'
    · rw [final5]
      exact (G5_eq _ _).symm
    · rw [final6, G6_eq]
      obtain ⟨e0, e1, e2, e3⟩ := hagree c
      refine (Cert.Reference2Ideal.Terms.out1_eq m' c).trans ?_
      rw [e0, e1, e2, e3]

theorem frames : Cert.quiescent_Kernel2 ∧ Cert.quiescent_Kernel2Ideal ∧ Cert.quiescent_Reference2Ideal :=
  ⟨fun m g _ => Cert.Kernel2.Gen.frame m g, fun m g _ => Cert.Kernel2Ideal.Gen.frame m g, fun m g _ => by
    run_from Cert.Reference2Ideal.Value.run m g
    all_goals first | exact sem_eq_zero_of_no_sems (sig := Cert.Reference2Ideal.sig) rfl _ | exact fun _ => ⟨trivial, trivial, trivial, trivial⟩⟩

end Cert.Kernel2Ideal.Block

end
-- ==== Proof.DwUp.lean ====
/- The gradient of the up weight: each half of the array the call leaves is the product of that half of the incoming gradient with the input. -/
module

public import proofs.«01_k».proof.Proof.Gen.Kernel3.Frame
public import proofs.«01_k».proof.Proof.Gen.Kernel3Ideal.Value
public import proofs.«01_k».proof.Proof.Gen.Reference3Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)

/-- The product: row `i` sums over the rows of its half. -/
def G (A : FVec Ideal S2x2176x5632 .bf16) (D : FVec Ideal S2176x2048 .bf16) : FVec Ideal S11264x2048 .bf16 :=
  fun i => ∑ r : Fin 2176, (if h : (i 0).val < 5632 then A (ix3 (0 : Fin 2) r (⟨(i 0).val, h⟩ : Fin 5632))
    else A (ix3 (1 : Fin 2) r (⟨(i 0).val - 5632, by have : (i 0).val < 11264 := (i 0).isLt; omega⟩ : Fin 5632))) * D (ix2 r (i 1))

theorem out_at (x0 : Vec Ideal S1x2176x512 .bf16) (x1 : Vec Ideal S2176x2048 .bf16) (p : Fin 512) (q : Fin 2048) :
    out0_2 x0 x1 (ix2 p q) = ∑ r : Fin 2176, x0 (ix3 (0 : Fin 1) r p) * x1 (ix2 r q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![t.val / 11, 0, t.val % 11] ∧ win0_1.index t = ![0, 0] ∧ win0_2.index t = ![t.val, 0] :=
  (by decide +kernel : ∀ t : Fin grid0.N, _)

/-- The row of the array under row `l` of the point's block. -/
def rowOf (t : Fin cfg0.N) (l : Fin 512) : Fin 11264 :=
  ⟨t.val * 512 + l.val, by have h : t.val < 22 := lt_of_lt_of_eq t.isLt N_0; have := l.isLt; omega⟩

theorem read0 (c : Dev nD) (t : Fin cfg0.N) (r : Fin 2176) (l : Fin 512) (A : FVec Ideal S2x2176x5632 .bf16)
    (hA : A = m ((c : Thread nD τ).loc main_arg0)) :
    iblk m c 0 t (ix3 (0 : Fin 1) r l) = if h : (rowOf t l).val < 5632 then A (ix3 (0 : Fin 2) r (⟨(rowOf t l).val, h⟩ : Fin 5632))
      else A (ix3 (1 : Fin 2) r (⟨(rowOf t l).val - 5632, by have : (rowOf t l).val < 11264 := (rowOf t l).isLt; omega⟩ : Fin 5632)) := by
  subst hA
  have ht : t.val < 22 := lt_of_lt_of_eq t.isLt N_0
  have hl := l.isLt
  unfold rowOf
  split
  · rename_i h
    have h' : t.val * 512 + l.val < 5632 := h
    blk_ext [iblk, V, idx t]
  · rename_i h
    have h' : ¬ t.val * 512 + l.val < 5632 := h
    blk_ext [iblk, V, idx t]

theorem read1 (c : Dev nD) (t : Fin cfg0.N) (r : Fin 2176) (k : Fin 2048) :
    iblk m c 1 t (ix2 r k) = m ((c : Thread nD τ).loc main_arg1) (ix2 r k) := by blk_ext [iblk, V, idx t]

theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) y1 := by unfold rowOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun r _ => congrArg₂ (fun a b : EReal => a * b) (read0 m c t r y0 _ rfl) (read1 m c t r y1)

theorem algebraic : Cert.algebraic_Kernel3Ideal_Reference3Ideal := by
  pair_intro
  · run_from Cert.Kernel3Ideal.Gen.run_main m g
  · run_from Cert.Reference3Ideal.Value.run m' g'
    rw [final]
    funext i
    idx_vars i
    pointwise [G]
    exact Fin.sum_univ_one _

theorem frames : Cert.quiescent_Kernel3 ∧ Cert.quiescent_Kernel3Ideal ∧ Cert.quiescent_Reference3Ideal :=
  ⟨fun m g _ => Cert.Kernel3.Gen.frame m g, fun m g _ => Cert.Kernel3Ideal.Gen.frame m g, fun m g _ => by
    run_from Cert.Reference3Ideal.Value.run m g
    all_goals first | exact sem_eq_zero_of_no_sems (sig := Cert.Reference3Ideal.sig) rfl _ | exact fun _ => ⟨trivial, trivial⟩⟩

end Cert.Kernel3Ideal.Product

end
-- ==== Proof.DxUp.lean ====
/- The gradient of the up product by its input: four partial products, added up in a scratch block, make the product over both halves. -/
module

public import proofs.«01_k».proof.Proof.Gen.Kernel4.Frame
public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel4Ideal.Product

open Cert.Kernel4Ideal Cert.Kernel4Ideal.Gen Idealize.ShloMosaic Idealize.ShloMosaic.TcCoe Idealize.SL.Sem
open Idealize.ShloMosaic.Pipeline (Dat)

/-- The product over both halves: position `k` of the weight's rows is column `k` of the first half or `k - 5632` of the second. -/
def G (A : FVec Ideal S2x2176x5632 .bf16) (D : FVec Ideal S11264x2048 .bf16) : FVec Ideal S2176x2048 .f32 :=
  fun i => ∑ k : Fin 11264, (if h : k.val < 5632 then A (ix3 (0 : Fin 2) (i 0) (⟨k.val, h⟩ : Fin 5632))
    else A (ix3 (1 : Fin 2) (i 0) (⟨k.val - 5632, by have := k.isLt; omega⟩ : Fin 5632))) * D (ix2 k (i 1))

section
variable (x0 : Vec Ideal S1x2176x2816 .bf16) (x1 : Vec Ideal S2816x512 .bf16) (a : Vec Ideal S2176x512 .f32) (p : Fin 2176) (q : Fin 512)

/-- One partial product. -/
def part (x0 : Vec Ideal S1x2176x2816 .bf16) (x1 : Vec Ideal S2816x512 .bf16) (p : Fin 2176) (q : Fin 512) : EReal :=
  ∑ k : Fin 2816, x0 (ix3 (0 : Fin 1) p k) * x1 (ix2 k q)

theorem pay2_at : k0_pay2 x0 x1 (ix2 p q) = part x0 x1 p q := by
  pointwise [k0_pay2, k0_pay1, part]

theorem pay3_at : k0_pay3 x0 x1 a (ix2 p q) = a (ix2 p q) + part x0 x1 p q := by
  pointwise [k0_pay3, k0_pay1, part]
end

variable (m : (ℓ : Loc nD τ sig) → Buf (Elt Ideal) ℓ)

/-- What the scratch holds after each kind of point. -/
theorem first (c : Dev nD) (t : Fin cfg0.N) (h : t.val % 4 = 0) (p : Fin 2176) (q : Fin 512) :
    (outsAt0 m c t.val t.isLt).2 (ix2 p q) = part (iblk m c 0 t) (iblk m c 1 t) p q := by
  rw [outsAt0_A m c t h (by omega) (by omega)]
  frame_out
  exact pay2_at _ _ p q

theorem next (c : Dev nD) (t : Fin cfg0.N) (h : ¬ t.val % 4 = 0) (p : Fin 2176) (q : Fin 512) :
    (outsAt0 m c t.val t.isLt).2 (ix2 p q) = (outsAt0 m c (t.val - 1) (Nat.lt_of_le_of_lt (Nat.sub_le _ _) t.isLt)).2 (ix2 p q) + part (iblk m c 0 t) (iblk m c 1 t) p q := by
  by_cases h3 : t.val % 4 = 3
  · rw [outsAt0_C m c t h (by omega) h3]
    frame_out
    simp only [read_unread_whole]
    exact pay3_at _ _ _ p q
  · rw [outsAt0_B m c t h (by omega) h3]
    frame_out
    simp only [read_unread_whole]
    exact pay3_at _ _ _ p q

theorem last (c : Dev nD) (t : Fin cfg0.N) (h3 : t.val % 4 = 3) (p : Fin 2176) (q : Fin 512) :
    (outsAt0 m c t.val t.isLt).1 (ix2 p q) = (outsAt0 m c (t.val - 1) (Nat.lt_of_le_of_lt (Nat.sub_le _ _) t.isLt)).2 (ix2 p q) + part (iblk m c 0 t) (iblk m c 1 t) p q := by
  rw [outsAt0_C m c t (by omega) (by omega) h3]
  frame_out
  simp only [read_unread_whole]
  exact pay3_at _ _ _ p q

theorem idx : ∀ t : Fin cfg0.N, win0_0.index t = ![t.val % 4 / 2, 0, t.val % 2] ∧ win0_1.index t = ![t.val % 4, t.val / 4] ∧ win0_2.index t = ![0, t.val / 4] :=
  (by decide +kernel : ∀ t : Fin grid0.N, _)

/-- The column of the array under column `l` of the point's block. -/
def colOf (t : Fin cfg0.N) (l : Fin 512) : Fin 2048 :=
  ⟨t.val / 4 * 512 + l.val, by have h : t.val < 16 := lt_of_lt_of_eq t.isLt N_0; have := l.isLt; omega⟩
/-- The position under lane `k` of part `s`. -/
def posOf (s : Fin 4) (k : Fin 2816) : Fin 11264 := ⟨s.val * 2816 + k.val, by have := k.isLt; have := s.isLt; omega⟩

theorem read0 (c : Dev nD) (t : Fin cfg0.N) (s : Fin 4) (hs : t.val % 4 = s.val) (r : Fin 2176) (l : Fin 2816) (A : FVec Ideal S2x2176x5632 .bf16)
    (hA : A = m ((c : Thread nD τ).loc main_arg0)) :
    iblk m c 0 t (ix3 (0 : Fin 1) r l) = if h : (posOf s l).val < 5632 then A (ix3 (0 : Fin 2) r (⟨(posOf s l).val, h⟩ : Fin 5632))
      else A (ix3 (1 : Fin 2) r (⟨(posOf s l).val - 5632, by have := (posOf s l).isLt; omega⟩ : Fin 5632)) := by
  subst hA
  have ht : t.val < 16 := lt_of_lt_of_eq t.isLt N_0
  have hl := l.isLt
  have hs4 := s.isLt
  unfold posOf
  split
  · rename_i h
    have h' : s.val * 2816 + l.val < 5632 := h
    blk_ext [iblk, V, idx t]
  · rename_i h
    have h' : ¬ s.val * 2816 + l.val < 5632 := h
    blk_ext [iblk, V, idx t]

theorem read1 (c : Dev nD) (t u : Fin cfg0.N) (s : Fin 4) (hs : t.val % 4 = s.val) (hu : t.val / 4 = u.val / 4) (k : Fin 2816) (l : Fin 512) :
    iblk m c 1 t (ix2 k l) = m ((c : Thread nD τ).loc main_arg1) (ix2 (posOf s k) (colOf u l)) := by
  unfold posOf colOf
  blk_ext [iblk, V, idx t]

/-- The summand of `G` at row `p` and column `q`. -/
def term (A : FVec Ideal S2x2176x5632 .bf16) (D : FVec Ideal S11264x2048 .bf16) (p : Fin 2176) (q : Fin 2048) (k : Fin 11264) : EReal :=
  (if h : k.val < 5632 then A (ix3 (0 : Fin 2) p (⟨k.val, h⟩ : Fin 5632)) else A (ix3 (1 : Fin 2) p (⟨k.val - 5632, by have := k.isLt; omega⟩ : Fin 5632))) * D (ix2 k q)

theorem part_eq (c : Dev nD) (t u : Fin cfg0.N) (s : Fin 4) (hs : t.val % 4 = s.val) (hu : t.val / 4 = u.val / 4) (p : Fin 2176) (q : Fin 512) :
    part (iblk m c 0 t) (iblk m c 1 t) p q
      = ∑ k : Fin 2816, term (m ((c : Thread nD τ).loc main_arg0)) (m ((c : Thread nD τ).loc main_arg1)) p (colOf u q) (posOf s k) :=
  Finset.sum_congr rfl fun k _ => congrArg₂ (fun a b : EReal => a * b) (read0 m c t s hs p k _ rfl) (read1 m c t u s hs hu k q)

theorem four (f : Fin 11264 → EReal) : (∑ k, f k) = ∑ k, f (posOf 0 k) + ∑ k, f (posOf 1 k) + ∑ k, f (posOf 2 k) + ∑ k, f (posOf 3 k) := by
  have h : (∑ s : Fin 4, ∑ k : Fin 2816, f (posOf s k)) = ∑ k, f k := by
    refine Fin.sum_mul_add_congr fun s k hl => ?_
    rfl
  rw [← h, Fin.sum_univ_four]

theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have h3 : t.val % 4 = 3 := (flush0_2 t).mp hf
  have hN : t.val < 16 := lt_of_lt_of_eq t.isLt N_0
  have he : (((View.whole main_v0).slice (win0_2.rect t)).emb (ix2 y0 y1)) = ix2 y0 (colOf t y1) := by unfold colOf; blk_ext [idx t]
  refine Eq.trans ?_ (congrArg (G (m ((c : Thread nD τ).loc main_arg0)) (m ((c : Thread nD τ).loc main_arg1))) he.symm)
  refine Eq.trans ?_ (four (term (m ((c : Thread nD τ).loc main_arg0)) (m ((c : Thread nD τ).loc main_arg1)) y0 (colOf t y1))).symm
  have b1 : t.val - 1 < cfg0.N := Nat.lt_of_le_of_lt (Nat.sub_le _ _) t.isLt
  have b2 : t.val - 1 - 1 < cfg0.N := Nat.lt_of_le_of_lt (Nat.sub_le _ _) b1
  have b3 : t.val - 1 - 1 - 1 < cfg0.N := Nat.lt_of_le_of_lt (Nat.sub_le _ _) b2
  have e0 := last m c t h3 y0 y1
  have e1 := next m c ⟨t.val - 1, b1⟩ (show ¬ (t.val - 1) % 4 = 0 by omega) y0 y1
  have e2 := next m c ⟨t.val - 1 - 1, b2⟩ (show ¬ (t.val - 1 - 1) % 4 = 0 by omega) y0 y1
  have e3 := first m c ⟨t.val - 1 - 1 - 1, b3⟩ (show (t.val - 1 - 1 - 1) % 4 = 0 by omega) y0 y1
  rw [part_eq m c t t 3 h3 rfl] at e0
  rw [part_eq m c _ t 2 (show (t.val - 1) % 4 = 2 by omega) (show (t.val - 1) / 4 = t.val / 4 by omega)] at e1
  rw [part_eq m c _ t 1 (show (t.val - 1 - 1) % 4 = 1 by omega) (show (t.val - 1 - 1) / 4 = t.val / 4 by omega)] at e2
  rw [part_eq m c _ t 0 (show (t.val - 1 - 1 - 1) % 4 = 0 by omega) (show (t.val - 1 - 1 - 1) / 4 = t.val / 4 by omega)] at e3
  refine e0.trans ?_
  refine congrArg₂ (fun a b : EReal => a + b) ?_ rfl
  refine e1.trans ?_
  refine congrArg₂ (fun a b : EReal => a + b) ?_ rfl
  refine e2.trans ?_
  exact congrArg₂ (fun a b : EReal => a + b) e3 rfl

theorem algebraic : Cert.algebraic_Kernel4Ideal_Reference4Ideal := by
  pair_intro
  · run_from Cert.Kernel4Ideal.Gen.run_main m g
  · run_from Cert.Reference4Ideal.Value.run m' g'
    rw [final]
    funext i
    idx_vars i
    pointwise [G]
    exact Fin.sum_univ_one _

theorem frames : Cert.quiescent_Kernel4 ∧ Cert.quiescent_Kernel4Ideal ∧ Cert.quiescent_Reference4Ideal :=
  ⟨fun m g _ => Cert.Kernel4.Gen.frame m g, fun m g _ => Cert.Kernel4Ideal.Gen.frame m g, fun m g _ => by
    run_from Cert.Reference4Ideal.Value.run m g
    all_goals first | exact sem_eq_zero_of_no_sems (sig := Cert.Reference4Ideal.sig) rfl _ | exact fun _ => ⟨trivial, trivial⟩⟩

end Cert.Kernel4Ideal.Product

end
-- ==== Proof.DwDown.lean ====
/- The gradient of the down weight: the array the call leaves is the product of its two arguments over the rows. -/
module

public import proofs.«01_k».proof.Proof.Gen.Kernel5Ideal.Value
public import proofs.«01_k».proof.Proof.Gen.Reference5Ideal.Run
public import proofs.«01_k».proof.Proof.Gen.Kernel5.Frame
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel5Ideal.Product

open Cert.Kernel5Ideal Cert.Kernel5Ideal.Gen Idealize.ShloMosaic Idealize.ShloMosaic.TcCoe Idealize.SL.Sem
open Idealize.ShloMosaic.Pipeline (Dat)

/-- The product: entry `i` sums over the rows. -/
def G (A : FVec Ideal S2176x5632 .bf16) (D : FVec Ideal S2176x2048 .bf16) : FVec Ideal S5632x2048 .bf16 :=
  fun i => ∑ r : Fin 2176, A (ix2 r (i 0)) * D (ix2 r (i 1))

theorem out_at (x0 : Vec Ideal S2176x512 .bf16) (x1 : Vec Ideal S2176x2048 .bf16) (p : Fin 512) (q : Fin 2048) :
    out0_2 x0 x1 (ix2 p q) = ∑ r : Fin 2176, x0 (ix2 r p) * x1 (ix2 r q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

theorem read0 (c : Dev nD) (t : Fin cfg0.N) (r : Fin 2176) (l : Fin 512) (j : Fin 5632) (hj : j.val = t.val * 512 + l.val) :
    iblk m c 0 t (ix2 r l) = m ((c : Thread nD τ).loc main_arg0) (ix2 r j) := by blk_ext [iblk, V, idx t]

theorem read1 (c : Dev nD) (t : Fin cfg0.N) (r : Fin 2176) (k : Fin 2048) :
    iblk m c 1 t (ix2 r k) = m ((c : Thread nD τ).loc main_arg1) (ix2 r k) := by blk_ext [iblk, V, idx t]

def rowOf (t : Fin cfg0.N) (l : Fin 512) : Fin 5632 :=
  ⟨t.val * 512 + l.val, by have h : t.val < 11 := lt_of_lt_of_eq t.isLt N_0; have := l.isLt; omega⟩

theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) y1 := by unfold rowOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun r _ => congrArg₂ (fun a b : EReal => a * b) (read0 m c t r y0 (rowOf t y0) rfl) (read1 m c t r y1)

theorem algebraic : Cert.algebraic_Kernel5Ideal_Reference5Ideal := by
  pair_intro
  · run_from Cert.Kernel5Ideal.Gen.run_main m g
  · run_from Cert.Reference5Ideal.Value.run m' g'
    rw [final]
    funext i
    idx_vars i
    pointwise [G]
    exact Finset.sum_congr rfl fun r _ => mul_comm _ _

theorem frames : Cert.quiescent_Kernel5 ∧ Cert.quiescent_Kernel5Ideal ∧ Cert.quiescent_Reference5Ideal :=
  ⟨fun m g _ => Cert.Kernel5.Gen.frame m g, fun m g _ => Cert.Kernel5Ideal.Gen.frame m g, fun m g _ => by
    run_from Cert.Reference5Ideal.Value.run m g
    all_goals first | exact sem_eq_zero_of_no_sems (sig := Cert.Reference5Ideal.sig) rfl _ | exact fun _ => ⟨trivial, trivial⟩⟩

end Cert.Kernel5Ideal.Product

end
-- ==== Proof.Down.lean ====
/- The down product with its residual: the array the call leaves is the product of its first two arguments plus the third. -/
module

public import proofs.«01_k».proof.Proof.Gen.Kernel6.Frame
public import proofs.«01_k».proof.Proof.Gen.Kernel6Ideal.Value
public import proofs.«01_k».proof.Proof.Gen.Reference6Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel6Ideal.Product

open Cert.Kernel6Ideal Cert.Kernel6Ideal.Gen Idealize.ShloMosaic Idealize.ShloMosaic.TcCoe Idealize.SL.Sem
open Idealize.ShloMosaic.Pipeline (Dat)

/-- The product and the residual. -/
def G (A : FVec Ideal S2176x5632 .bf16) (D : FVec Ideal S5632x2048 .bf16) (H : FVec Ideal S2176x2048 .f32) : FVec Ideal S2176x2048 .f32 :=
  fun i => (∑ k : Fin 5632, A (ix2 (i 0) k) * D (ix2 k (i 1))) + H i

theorem out_at (x0 : Vec Ideal S1088x5632 .bf16) (x1 : Vec Ideal S5632x512 .bf16) (x2 : Vec Ideal S1088x512 .f32) (p : Fin 1088) (q : Fin 512) :
    out0_3 x0 x1 x2 (ix2 p q) = (∑ k : Fin 5632, x0 (ix2 p k) * x1 (ix2 k q)) + x2 (ix2 p q) := by
  unfold out0_3
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

/-- The row of the array under row `l` of the point's block. -/
def rowOf (t : Fin cfg0.N) (l : Fin 1088) : Fin 2176 :=
  ⟨t.val / 4 * 1088 + l.val, by have h : t.val < 8 := lt_of_lt_of_eq t.isLt N_0; have := l.isLt; omega⟩
/-- The column of the array under column `l` of the point's block. -/
def colOf (t : Fin cfg0.N) (l : Fin 512) : Fin 2048 :=
  ⟨t.val % 4 * 512 + l.val, by have := l.isLt; omega⟩

theorem read0 (c : Dev nD) (t : Fin cfg0.N) (l : Fin 1088) (k : Fin 5632) :
    iblk m c 0 t (ix2 l k) = m ((c : Thread nD τ).loc main_arg0) (ix2 (rowOf t l) k) := by unfold rowOf; blk_ext [iblk, V, idx t]

theorem read1 (c : Dev nD) (t : Fin cfg0.N) (k : Fin 5632) (l : Fin 512) :
    iblk m c 1 t (ix2 k l) = m ((c : Thread nD τ).loc main_arg1) (ix2 k (colOf t l)) := by unfold colOf; blk_ext [iblk, V, idx t]

theorem read2 (c : Dev nD) (t : Fin cfg0.N) (k : Fin 1088) (l : Fin 512) :
    iblk m c 2 t (ix2 k l) = m ((c : Thread nD τ).loc main_arg2) (ix2 (rowOf t k) (colOf t l)) := by unfold rowOf colOf; blk_ext [iblk, V, idx t]

theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0).slice (win0_3.rect t)).emb (ix2 y0 y1)) = ix2 (rowOf t y0) (colOf t y1) := by unfold rowOf colOf; blk_ext [idx t]
  refine (out_at _ _ _ y0 y1).trans ?_
  refine Eq.trans ?_ (congrArg (G (m ((c : Thread nD τ).loc main_arg0)) (m ((c : Thread nD τ).loc main_arg1)) (m ((c : Thread nD τ).loc main_arg2))) he.symm)
  exact congrArg₂ (fun a b : EReal => a + b) (Finset.sum_congr rfl fun r _ => congrArg₂ (fun a b : EReal => a * b) (read0 m c t y0 r) (read1 m c t r y1))
    (read2 m c t y0 y1)

theorem algebraic : Cert.algebraic_Kernel6Ideal_Reference6Ideal := by
  pair_intro
  · run_from Cert.Kernel6Ideal.Gen.run_main m g
  · run_from Cert.Reference6Ideal.Value.run m' g'
    rw [final]
    funext i
    idx_vars i
    pointwise [G]
    exact add_comm _ _

theorem frames : Cert.quiescent_Kernel6 ∧ Cert.quiescent_Kernel6Ideal ∧ Cert.quiescent_Reference6Ideal :=
  ⟨fun m g _ => Cert.Kernel6.Gen.frame m g, fun m g _ => Cert.Kernel6Ideal.Gen.frame m g, fun m g _ => by
    run_from Cert.Reference6Ideal.Value.run m g
    all_goals first | exact sem_eq_zero_of_no_sems (sig := Cert.Reference6Ideal.sig) rfl _ | exact fun _ => ⟨trivial, trivial, trivial⟩⟩

end Cert.Kernel6Ideal.Product

end
-- ==== Proof.AttnRun.lean ====
/- The gradient of attention: which branch of the body each grid point takes, and the body run in each of the five cases. -/
module

public import proofs.«01_k».proof.Proof.Gen.Kernel7Ideal.Frame
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Branch 0 of the body is taken at the points with `t.val % 4 = 0`. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- Branch 1 of the body is taken at the points with `t.val % 32 = 0`. -/
abbrev cond0_1 (i : grid0.Coords) : Prop := k0_cond2 i = 1#1
theorem hcond0_1 : ∀ t : Fin cfg0.N, cond0_1 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 32 = 0)

/-- Branch 2 of the body is taken at the points with `t.val % 4 = 0`. -/
abbrev cond0_2 (i : grid0.Coords) : Prop := k0_cond3 i = 1#1
theorem hcond0_2 : ∀ t : Fin cfg0.N, cond0_2 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 0)

/-- Branch 3 of the body is taken at the points with `t.val % 4 = 1`. -/
abbrev cond0_3 (i : grid0.Coords) : Prop := k0_cond4 i = 1#1
theorem hcond0_3 : ∀ t : Fin cfg0.N, cond0_3 (grid0.coords t) ↔ t.val % 4 = 1 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 1)

/-- Branch 4 of the body is taken at the points with `t.val % 4 = 2`. -/
abbrev cond0_4 (i : grid0.Coords) : Prop := k0_cond5 i = 1#1
theorem hcond0_4 : ∀ t : Fin cfg0.N, cond0_4 (grid0.coords t) ↔ t.val % 4 = 2 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_4, k0_cond5, e0, e1]
    word_cmp
   : ∀ t : Fin grid0.N, cond0_4 (grid0.coords t) ↔ t.val % 4 = 2)

/-- Branch 5 of the body is taken at the points with `t.val % 4 = 3`. -/
abbrev cond0_5 (i : grid0.Coords) : Prop := k0_cond6 i = 1#1
theorem hcond0_5 : ∀ t : Fin cfg0.N, cond0_5 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_5, k0_cond6, e0, e1]
    word_cmp
   : ∀ t : Fin grid0.N, cond0_5 (grid0.coords t) ↔ t.val % 4 = 3)

/-- Branch 6 of the body is taken at the points with `t.val % 4 = 3`. -/
abbrev cond0_6 (i : grid0.Coords) : Prop := k0_cond7 i = 1#1
theorem hcond0_6 : ∀ t : Fin cfg0.N, cond0_6 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_6, k0_cond7, e0, e1]
    word_cmp
   : ∀ t : Fin grid0.N, cond0_6 (grid0.coords t) ↔ t.val % 4 = 3)

/-- The first and the third result are stored at every point, the second where the last block of queries is. -/
theorem live0_7 : ∀ t : Fin cfg0.N, cfg0.idle 7 (grid0.coords t) = false :=
  (by decide +kernel : ∀ t : Fin grid0.N, idle0 7 (grid0.coords t) = false)
theorem live0_8 : ∀ t : Fin cfg0.N, cfg0.idle 8 (grid0.coords t) = false ↔ t.val % 4 = 3 :=
  (by decide +kernel : ∀ t : Fin grid0.N, idle0 8 (grid0.coords t) = false ↔ t.val % 4 = 3)
theorem live0_9 : ∀ t : Fin cfg0.N, cfg0.idle 9 (grid0.coords t) = false :=
  (by decide +kernel : ∀ t : Fin grid0.N, idle0 9 (grid0.coords t) = false)

abbrev ms0_0 (t : Fin cfg0.N) : Memref sig .tc .vmem S544x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2176x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2176x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2176x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S544x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x544x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S544x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S544x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2176x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2176x128 .f32 := win0_9.stage (cfg0.slots t 9)
abbrev hs0_9 (t : Fin cfg0.N) : (ms0_9 t).IsWhole := hstage0_9 ((cfg0.slots t 9).cast nbuf0_9)
/-- The accumulator between the points of one head. -/
abbrev scM0_0 : Memref sig .tc .vmem S2176x256 .f32 := Memref.whole cc0_scratch0
abbrev VS0_0 : View sig .tc .vmem S2176x256 .f32 := scM0_0.view

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

section runs
variable (c : Dev nD) (i : grid0.Coords)
  (arg2 : Memref sig .tc .vmem S544x256 .bf16) (harg2 : arg2.IsWhole)
  (arg3 : Memref sig .tc .vmem S2176x128 .bf16) (harg3 : arg3.IsWhole)
  (arg4 : Memref sig .tc .vmem S2176x128 .bf16) (harg4 : arg4.IsWhole)
  (arg5 : Memref sig .tc .vmem S2176x128 .bf16) (harg5 : arg5.IsWhole)
  (arg6 : Memref sig .tc .vmem S544x128 .f32) (harg6 : arg6.IsWhole)
  (arg7 : Memref sig .tc .vmem S1x544x1 .f32) (harg7 : arg7.IsWhole)
  (arg8 : Memref sig .tc .vmem S544x128 .f32) (harg8 : arg8.IsWhole)
  (arg9 : Memref sig .tc .vmem S544x256 .f32) (harg9 : arg9.IsWhole)
  (arg10 : Memref sig .tc .vmem S2176x256 .bf16) (harg10 : arg10.IsWhole)
  (arg11 : Memref sig .tc .vmem S2176x128 .f32) (harg11 : arg11.IsWhole)
  (arg12 : Memref sig .tc .vmem S2176x256 .f32) (harg12 : arg12.IsWhole)

set_option maxHeartbeats 1600000 in
/-- The body at the first point of all: what each buffer is left with, as the list of its stores. -/
noncomputable def kernelRun0_A (hc0 : cond0_0 i) (hc1 : cond0_1 i) (hc2 : cond0_2 i) (hc3 : ¬cond0_3 i) (hc4 : ¬cond0_4 i) (hc5 : ¬cond0_5 i) (hc6 : ¬cond0_6 i)
    (x0 : Vec F S544x256 .bf16) (x1 : Vec F S2176x128 .bf16) (x2 : Vec F S2176x128 .bf16) (x3 : Vec F S2176x128 .bf16) (x4 : Vec F S544x128 .f32) (x5 : Vec F S1x544x1 .f32) (x6 : Vec F S544x128 .f32) :
    Σ' (L7 : List (View.Piece (Elt F) S544x256 .f32)) (L9 : List (View.Piece (Elt F) S2176x128 .f32)), { LS : List (View.Piece (Elt F) S2176x256 .f32) //
      ∀ (y8 : Vec F S2176x256 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ e, arg9.view.loc (c : Thread nD τ) ↦[arg9.view.set]{fullShare} arg9.view.writes (Elt F) e L7) ∗ owns (c : Thread nD τ) arg10 fullShare y8 ∗ (∃ e, arg11.view.loc (c : Thread nD τ) ↦[arg11.view.set]{fullShare} arg11.view.writes (Elt F) e L9) ∗ (∃ e, arg12.view.loc (c : Thread nD τ) ↦[arg12.view.set]{fullShare} arg12.view.writes (Elt F) e LS)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun y8 E K => ?run⟩
  case run =>
    simp only [cc0_attn_bwd_eq_skeleton]; unfold cc0_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds, %fs, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexists _; iexact H9
    iexists _; iexact HS0

set_option maxHeartbeats 1600000 in
/-- The body at the first point of a later head: what each buffer is left with, as the list of its stores. -/
noncomputable def kernelRun0_E (hc0 : cond0_0 i) (hc1 : ¬cond0_1 i) (hc2 : cond0_2 i) (hc3 : ¬cond0_3 i) (hc4 : ¬cond0_4 i) (hc5 : ¬cond0_5 i) (hc6 : ¬cond0_6 i)
    (x0 : Vec F S544x256 .bf16) (x1 : Vec F S2176x128 .bf16) (x2 : Vec F S2176x128 .bf16) (x3 : Vec F S2176x128 .bf16) (x4 : Vec F S544x128 .f32) (x5 : Vec F S1x544x1 .f32) (x6 : Vec F S544x128 .f32) (x9 : Vec F S2176x128 .f32) :
    Σ' (L7 : List (View.Piece (Elt F) S544x256 .f32)) (L9 : List (View.Piece (Elt F) S2176x128 .f32)), { LS : List (View.Piece (Elt F) S2176x256 .f32) //
      ∀ (y8 : Vec F S2176x256 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare x9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ e, arg9.view.loc (c : Thread nD τ) ↦[arg9.view.set]{fullShare} arg9.view.writes (Elt F) e L7) ∗ owns (c : Thread nD τ) arg10 fullShare y8 ∗ (arg11.view.loc (c : Thread nD τ) ↦[arg11.view.set]{fullShare} arg11.view.writes (Elt F) (harg11.unread x9) L9) ∗ (∃ e, arg12.view.loc (c : Thread nD τ) ↦[arg12.view.set]{fullShare} arg12.view.writes (Elt F) e LS)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun y8 E K => ?run⟩
  case run =>
    simp only [cc0_attn_bwd_eq_skeleton]; unfold cc0_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds, %fs, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexact H9
    iexists _; iexact HS0

set_option maxHeartbeats 1600000 in
/-- The body at the second block of queries: what each buffer is left with, as the list of its stores. -/
noncomputable def kernelRun0_B (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S544x256 .bf16) (x1 : Vec F S2176x128 .bf16) (x2 : Vec F S2176x128 .bf16) (x3 : Vec F S2176x128 .bf16) (x4 : Vec F S544x128 .f32) (x5 : Vec F S1x544x1 .f32) (x6 : Vec F S544x128 .f32) (x9 : Vec F S2176x128 .f32) (xs0 : Vec F S2176x256 .f32) :
    Σ' (L7 : List (View.Piece (Elt F) S544x256 .f32)) (L9 : List (View.Piece (Elt F) S2176x128 .f32)), { LS : List (View.Piece (Elt F) S2176x256 .f32) //
      ∀ (y8 : Vec F S2176x256 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare x9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ e, arg9.view.loc (c : Thread nD τ) ↦[arg9.view.set]{fullShare} arg9.view.writes (Elt F) e L7) ∗ owns (c : Thread nD τ) arg10 fullShare y8 ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread xs0) LS)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun y8 E K => ?run⟩
  case run =>
    simp only [cc0_attn_bwd_eq_skeleton]; unfold cc0_attn_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexact H9
    iexact HS0

set_option maxHeartbeats 1600000 in
/-- The body at the third block of queries: what each buffer is left with, as the list of its stores. -/
noncomputable def kernelRun0_C (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S544x256 .bf16) (x1 : Vec F S2176x128 .bf16) (x2 : Vec F S2176x128 .bf16) (x3 : Vec F S2176x128 .bf16) (x4 : Vec F S544x128 .f32) (x5 : Vec F S1x544x1 .f32) (x6 : Vec F S544x128 .f32) (x9 : Vec F S2176x128 .f32) (xs0 : Vec F S2176x256 .f32) :
    Σ' (L7 : List (View.Piece (Elt F) S544x256 .f32)) (L9 : List (View.Piece (Elt F) S2176x128 .f32)), { LS : List (View.Piece (Elt F) S2176x256 .f32) //
      ∀ (y8 : Vec F S2176x256 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare x9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ e, arg9.view.loc (c : Thread nD τ) ↦[arg9.view.set]{fullShare} arg9.view.writes (Elt F) e L7) ∗ owns (c : Thread nD τ) arg10 fullShare y8 ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread xs0) LS)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun y8 E K => ?run⟩
  case run =>
    simp only [cc0_attn_bwd_eq_skeleton]; unfold cc0_attn_bwd_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexact H9
    iexact HS0

set_option maxHeartbeats 1600000 in
/-- The body at the last block of queries: what each buffer is left with, as the list of its stores. -/
noncomputable def kernelRun0_D (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S544x256 .bf16) (x1 : Vec F S2176x128 .bf16) (x2 : Vec F S2176x128 .bf16) (x3 : Vec F S2176x128 .bf16) (x4 : Vec F S544x128 .f32) (x5 : Vec F S1x544x1 .f32) (x6 : Vec F S544x128 .f32) (x9 : Vec F S2176x128 .f32) (xs0 : Vec F S2176x256 .f32) :
    Σ' (L7 : List (View.Piece (Elt F) S544x256 .f32)) (L8 : List (View.Piece (Elt F) S2176x256 .bf16)) (L9 : List (View.Piece (Elt F) S2176x128 .f32)), { LS : List (View.Piece (Elt F) S2176x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare x9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ e, arg9.view.loc (c : Thread nD τ) ↦[arg9.view.set]{fullShare} arg9.view.writes (Elt F) e L7) ∗ (∃ e, arg10.view.loc (c : Thread nD τ) ↦[arg10.view.set]{fullShare} arg10.view.writes (Elt F) e L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread xs0) LS)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_bwd_eq_skeleton]; unfold cc0_attn_bwd_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hfs0
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexact H9
    iexact HS0

end runs

end Cert.Kernel7Ideal.Gen

end
-- ==== Proof.AttnFrame.lean ====
/- The gradient of attention: what the buffers hold after each grid point, and that the whole run ends. -/
module

public import proofs.«01_k».proof.Proof.AttnRun
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

abbrev VO0_7 : View sig .tc .vmem S544x256 .f32 := (Memref.whole cc0_stg7_0 : Memref sig .tc .vmem S544x256 .f32).view
abbrev VO0_8 : View sig .tc .vmem S2176x256 .bf16 := (Memref.whole cc0_stg8_0 : Memref sig .tc .vmem S2176x256 .bf16).view
abbrev VO0_9 : View sig .tc .vmem S2176x128 .f32 := (Memref.whole cc0_stg9_0 : Memref sig .tc .vmem S2176x128 .f32).view

/-- The run at the first point of all, on the buffers of the point. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr (by omega)) ((hcond0_1 t).mpr (by omega)) ((hcond0_2 t).mpr (by omega)) (fun h1 => absurd ((hcond0_3 t).mp h1) (by omega)) (fun h1 => absurd ((hcond0_4 t).mp h1) (by omega)) (fun h1 => absurd ((hcond0_5 t).mp h1) (by omega)) (fun h1 => absurd ((hcond0_6 t).mp h1) (by omega)) (iblk m c 0 t) (iblk m c 1 t) (iblk m c 2 t) (iblk m c 3 t) (iblk m c 4 t) (iblk m c 5 t) (iblk m c 6 t)

theorem coverA_7 (c : Dev nD) (t : Fin cfg0.N) (h : t.val % 32 = 0) (y : S544x256.Idx) :
    ∃ pc ∈ (runA m c t h).1, y ∈ pc.1.set :=
  View.cover_of_tiledL (runA m c t h).1 S544x128.size (by sl_kernel_rfl) y
theorem coverA_9 (c : Dev nD) (t : Fin cfg0.N) (h : t.val % 32 = 0) (y : S2176x128.Idx) :
    ∃ pc ∈ (runA m c t h).2.1, y ∈ pc.1.set :=
  View.cover_of_wholeMem (runA m c t h).2.1 (by sl_whole_mem) y
theorem coverA_S (c : Dev nD) (t : Fin cfg0.N) (h : t.val % 32 = 0) (y : S2176x256.Idx) :
    ∃ pc ∈ (runA m c t h).2.2.1, y ∈ pc.1.set :=
  View.cover_of_wholeMem (runA m c t h).2.2.1 (by sl_whole_mem) y

/-- The query gradient's block after the point, -/
def qA (c : Dev nD) (t : Fin cfg0.N) (h : t.val % 32 = 0) : Vec F S544x256 .f32 :=
  VO0_7.read (Elt F) (VO0_7.writes (Elt F) VO0_7.junk (runA m c t h).1)
/-- the rotary keys' gradient, -/
def rA (c : Dev nD) (t : Fin cfg0.N) (h : t.val % 32 = 0) : Vec F S2176x128 .f32 :=
  VO0_9.read (Elt F) (VO0_9.writes (Elt F) VO0_9.junk (runA m c t h).2.1)
/-- and the accumulator. -/
def sA (c : Dev nD) (t : Fin cfg0.N) (h : t.val % 32 = 0) : Vec F S2176x256 .f32 :=
  VS0_0.read (Elt F) (VS0_0.writes (Elt F) VS0_0.junk (runA m c t h).2.2.1)

/-- The run at the first point of a later head, on the buffers of the point. -/
abbrev runE (c : Dev nD) (t : Fin cfg0.N) (h : t.val % 4 = 0) (h' : ¬ t.val % 32 = 0) (x9 : Vec F S2176x128 .f32) :=
  kernelRun0_E (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr (by omega)) (fun h1 => absurd ((hcond0_1 t).mp h1) (by omega)) ((hcond0_2 t).mpr (by omega)) (fun h1 => absurd ((hcond0_3 t).mp h1) (by omega)) (fun h1 => absurd ((hcond0_4 t).mp h1) (by omega)) (fun h1 => absurd ((hcond0_5 t).mp h1) (by omega)) (fun h1 => absurd ((hcond0_6 t).mp h1) (by omega)) (iblk m c 0 t) (iblk m c 1 t) (iblk m c 2 t) (iblk m c 3 t) (iblk m c 4 t) (iblk m c 5 t) (iblk m c 6 t) x9

theorem coverE_7 (c : Dev nD) (t : Fin cfg0.N) (h : t.val % 4 = 0) (h' : ¬ t.val % 32 = 0) (x9 : Vec F S2176x128 .f32) (y : S544x256.Idx) :
    ∃ pc ∈ (runE m c t h h' x9).1, y ∈ pc.1.set :=
  View.cover_of_tiledL (runE m c t h h' x9).1 S544x128.size (by sl_kernel_rfl) y
theorem coverE_S (c : Dev nD) (t : Fin cfg0.N) (h : t.val % 4 = 0) (h' : ¬ t.val % 32 = 0) (x9 : Vec F S2176x128 .f32) (y : S2176x256.Idx) :
    ∃ pc ∈ (runE m c t h h' x9).2.2.1, y ∈ pc.1.set :=
  View.cover_of_wholeMem (runE m c t h h' x9).2.2.1 (by sl_whole_mem) y

/-- The query gradient's block after the point, -/
def qE (c : Dev nD) (t : Fin cfg0.N) (h : t.val % 4 = 0) (h' : ¬ t.val % 32 = 0) (x9 : Vec F S2176x128 .f32) : Vec F S544x256 .f32 :=
  VO0_7.read (Elt F) (VO0_7.writes (Elt F) VO0_7.junk (runE m c t h h' x9).1)
/-- the rotary keys' gradient, -/
def rE (c : Dev nD) (t : Fin cfg0.N) (h : t.val % 4 = 0) (h' : ¬ t.val % 32 = 0) (x9 : Vec F S2176x128 .f32) : Vec F S2176x128 .f32 :=
  (ms0_9 t).view.read (Elt F) ((ms0_9 t).view.writes (Elt F) ((hs0_9 t).unread x9) (runE m c t h h' x9).2.1)
/-- and the accumulator. -/
def sE (c : Dev nD) (t : Fin cfg0.N) (h : t.val % 4 = 0) (h' : ¬ t.val % 32 = 0) (x9 : Vec F S2176x128 .f32) : Vec F S2176x256 .f32 :=
  VS0_0.read (Elt F) (VS0_0.writes (Elt F) VS0_0.junk (runE m c t h h' x9).2.2.1)

/-- The run at the second block of queries, on the buffers of the point. -/
abbrev runB (c : Dev nD) (t : Fin cfg0.N) (h : t.val % 4 = 1) (x9 : Vec F S2176x128 .f32) (xs : Vec F S2176x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h1 => absurd ((hcond0_0 t).mp h1) (by omega)) (fun h1 => absurd ((hcond0_1 t).mp h1) (by omega)) (fun h1 => absurd ((hcond0_2 t).mp h1) (by omega)) ((hcond0_3 t).mpr (by omega)) (fun h1 => absurd ((hcond0_4 t).mp h1) (by omega)) (fun h1 => absurd ((hcond0_5 t).mp h1) (by omega)) (fun h1 => absurd ((hcond0_6 t).mp h1) (by omega)) (iblk m c 0 t) (iblk m c 1 t) (iblk m c 2 t) (iblk m c 3 t) (iblk m c 4 t) (iblk m c 5 t) (iblk m c 6 t) x9 xs

theorem coverB_7 (c : Dev nD) (t : Fin cfg0.N) (h : t.val % 4 = 1) (x9 : Vec F S2176x128 .f32) (xs : Vec F S2176x256 .f32) (y : S544x256.Idx) :
    ∃ pc ∈ (runB m c t h x9 xs).1, y ∈ pc.1.set :=
  View.cover_of_tiledL (runB m c t h x9 xs).1 S544x128.size (by sl_kernel_rfl) y

/-- The query gradient's block after the point, -/
def qB (c : Dev nD) (t : Fin cfg0.N) (h : t.val % 4 = 1) (x9 : Vec F S2176x128 .f32) (xs : Vec F S2176x256 .f32) : Vec F S544x256 .f32 :=
  VO0_7.read (Elt F) (VO0_7.writes (Elt F) VO0_7.junk (runB m c t h x9 xs).1)
/-- the rotary keys' gradient, -/
def rB (c : Dev nD) (t : Fin cfg0.N) (h : t.val % 4 = 1) (x9 : Vec F S2176x128 .f32) (xs : Vec F S2176x256 .f32) : Vec F S2176x128 .f32 :=
  (ms0_9 t).view.read (Elt F) ((ms0_9 t).view.writes (Elt F) ((hs0_9 t).unread x9) (runB m c t h x9 xs).2.1)
/-- and the accumulator. -/
def sB (c : Dev nD) (t : Fin cfg0.N) (h : t.val % 4 = 1) (x9 : Vec F S2176x128 .f32) (xs : Vec F S2176x256 .f32) : Vec F S2176x256 .f32 :=
  VS0_0.read (Elt F) (VS0_0.writes (Elt F) ((Memref.isWhole_whole cc0_scratch0 : scM0_0.IsWhole).unread xs) (runB m c t h x9 xs).2.2.1)

/-- The run at the third block of queries, on the buffers of the point. -/
abbrev runC (c : Dev nD) (t : Fin cfg0.N) (h : t.val % 4 = 2) (x9 : Vec F S2176x128 .f32) (xs : Vec F S2176x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h1 => absurd ((hcond0_0 t).mp h1) (by omega)) (fun h1 => absurd ((hcond0_1 t).mp h1) (by omega)) (fun h1 => absurd ((hcond0_2 t).mp h1) (by omega)) (fun h1 => absurd ((hcond0_3 t).mp h1) (by omega)) ((hcond0_4 t).mpr (by omega)) (fun h1 => absurd ((hcond0_5 t).mp h1) (by omega)) (fun h1 => absurd ((hcond0_6 t).mp h1) (by omega)) (iblk m c 0 t) (iblk m c 1 t) (iblk m c 2 t) (iblk m c 3 t) (iblk m c 4 t) (iblk m c 5 t) (iblk m c 6 t) x9 xs

theorem coverC_7 (c : Dev nD) (t : Fin cfg0.N) (h : t.val % 4 = 2) (x9 : Vec F S2176x128 .f32) (xs : Vec F S2176x256 .f32) (y : S544x256.Idx) :
    ∃ pc ∈ (runC m c t h x9 xs).1, y ∈ pc.1.set :=
  View.cover_of_tiledL (runC m c t h x9 xs).1 S544x128.size (by sl_kernel_rfl) y

/-- The query gradient's block after the point, -/
def qC (c : Dev nD) (t : Fin cfg0.N) (h : t.val % 4 = 2) (x9 : Vec F S2176x128 .f32) (xs : Vec F S2176x256 .f32) : Vec F S544x256 .f32 :=
  VO0_7.read (Elt F) (VO0_7.writes (Elt F) VO0_7.junk (runC m c t h x9 xs).1)
/-- the rotary keys' gradient, -/
def rC (c : Dev nD) (t : Fin cfg0.N) (h : t.val % 4 = 2) (x9 : Vec F S2176x128 .f32) (xs : Vec F S2176x256 .f32) : Vec F S2176x128 .f32 :=
  (ms0_9 t).view.read (Elt F) ((ms0_9 t).view.writes (Elt F) ((hs0_9 t).unread x9) (runC m c t h x9 xs).2.1)
/-- and the accumulator. -/
def sC (c : Dev nD) (t : Fin cfg0.N) (h : t.val % 4 = 2) (x9 : Vec F S2176x128 .f32) (xs : Vec F S2176x256 .f32) : Vec F S2176x256 .f32 :=
  VS0_0.read (Elt F) (VS0_0.writes (Elt F) ((Memref.isWhole_whole cc0_scratch0 : scM0_0.IsWhole).unread xs) (runC m c t h x9 xs).2.2.1)

/-- The run at the last block of queries, on the buffers of the point. -/
abbrev runD (c : Dev nD) (t : Fin cfg0.N) (h : t.val % 4 = 3) (x9 : Vec F S2176x128 .f32) (xs : Vec F S2176x256 .f32) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h1 => absurd ((hcond0_0 t).mp h1) (by omega)) (fun h1 => absurd ((hcond0_1 t).mp h1) (by omega)) (fun h1 => absurd ((hcond0_2 t).mp h1) (by omega)) (fun h1 => absurd ((hcond0_3 t).mp h1) (by omega)) (fun h1 => absurd ((hcond0_4 t).mp h1) (by omega)) ((hcond0_5 t).mpr (by omega)) ((hcond0_6 t).mpr (by omega)) (iblk m c 0 t) (iblk m c 1 t) (iblk m c 2 t) (iblk m c 3 t) (iblk m c 4 t) (iblk m c 5 t) (iblk m c 6 t) x9 xs

theorem coverD_7 (c : Dev nD) (t : Fin cfg0.N) (h : t.val % 4 = 3) (x9 : Vec F S2176x128 .f32) (xs : Vec F S2176x256 .f32) (y : S544x256.Idx) :
    ∃ pc ∈ (runD m c t h x9 xs).1, y ∈ pc.1.set :=
  View.cover_of_tiledL (runD m c t h x9 xs).1 S544x128.size (by sl_kernel_rfl) y
theorem coverD_8 (c : Dev nD) (t : Fin cfg0.N) (h : t.val % 4 = 3) (x9 : Vec F S2176x128 .f32) (xs : Vec F S2176x256 .f32) (y : S2176x256.Idx) :
    ∃ pc ∈ (runD m c t h x9 xs).2.1, y ∈ pc.1.set :=
  View.cover_of_wholeMem (runD m c t h x9 xs).2.1 (by sl_whole_mem) y

/-- The query gradient's block after the point, -/
def qD (c : Dev nD) (t : Fin cfg0.N) (h : t.val % 4 = 3) (x9 : Vec F S2176x128 .f32) (xs : Vec F S2176x256 .f32) : Vec F S544x256 .f32 :=
  VO0_7.read (Elt F) (VO0_7.writes (Elt F) VO0_7.junk (runD m c t h x9 xs).1)
/-- the rotary keys' gradient, -/
def rD (c : Dev nD) (t : Fin cfg0.N) (h : t.val % 4 = 3) (x9 : Vec F S2176x128 .f32) (xs : Vec F S2176x256 .f32) : Vec F S2176x128 .f32 :=
  (ms0_9 t).view.read (Elt F) ((ms0_9 t).view.writes (Elt F) ((hs0_9 t).unread x9) (runD m c t h x9 xs).2.2.1)
/-- and the accumulator. -/
def sD (c : Dev nD) (t : Fin cfg0.N) (h : t.val % 4 = 3) (x9 : Vec F S2176x128 .f32) (xs : Vec F S2176x256 .f32) : Vec F S2176x256 .f32 :=
  VS0_0.read (Elt F) (VS0_0.writes (Elt F) ((Memref.isWhole_whole cc0_scratch0 : scM0_0.IsWhole).unread xs) (runD m c t h x9 xs).2.2.2.1)
/-- The gradient of the keys and values, written at the last block of queries. -/
def kD (c : Dev nD) (t : Fin cfg0.N) (h : t.val % 4 = 3) (x9 : Vec F S2176x128 .f32) (xs : Vec F S2176x256 .f32) : Vec F S2176x256 .bf16 :=
  VO0_8.read (Elt F) (VO0_8.writes (Elt F) VO0_8.junk (runD m c t h x9 xs).2.1)

/-- One point: the three results' buffers and the accumulator, from the rotary keys' gradient and the accumulator before it. -/
def step (c : Dev nD) (t : Fin cfg0.N) (x9 : Vec F S2176x128 .f32) (xs : Vec F S2176x256 .f32) :
    Vec F S544x256 .f32 × Vec F S2176x256 .bf16 × Vec F S2176x128 .f32 × Vec F S2176x256 .f32 :=
  if h' : t.val % 32 = 0 then (qA m c t h', VO0_8.read (Elt F) VO0_8.junk, rA m c t h', sA m c t h')
  else if h : t.val % 4 = 0 then (qE m c t h h' x9, VO0_8.read (Elt F) VO0_8.junk, rE m c t h h' x9, sE m c t h h' x9)
  else if h : t.val % 4 = 1 then (qB m c t h x9 xs, VO0_8.read (Elt F) VO0_8.junk, rB m c t h x9 xs, sB m c t h x9 xs)
  else if h : t.val % 4 = 2 then (qC m c t h x9 xs, VO0_8.read (Elt F) VO0_8.junk, rC m c t h x9 xs, sC m c t h x9 xs)
  else (qD m c t (by omega) x9 xs, kD m c t (by omega) x9 xs, rD m c t (by omega) x9 xs, sD m c t (by omega) x9 xs)

/-- What the buffers hold after the point at position `n`. -/
def outsAt (c : Dev nD) : (n : ℕ) → n < cfg0.N → Vec F S544x256 .f32 × Vec F S2176x256 .bf16 × Vec F S2176x128 .f32 × Vec F S2176x256 .f32
  | 0, hn => step m c ⟨0, hn⟩ (VO0_9.read (Elt F) VO0_9.junk) (VS0_0.read (Elt F) VS0_0.junk)
  | n + 1, hn => step m c ⟨n + 1, hn⟩ (outsAt c n (Nat.lt_of_succ_lt hn)).2.2.1 (outsAt c n (Nat.lt_of_succ_lt hn)).2.2.2

/-- The point before. -/
abbrev pr (t : Fin cfg0.N) : t.val - 1 < cfg0.N := Nat.lt_of_le_of_lt (Nat.sub_le _ _) t.isLt

theorem outsAt_pos (c : Dev nD) (t : Fin cfg0.N) (h : t.val ≠ 0) :
    outsAt m c t.val t.isLt = step m c t (outsAt m c (t.val - 1) (pr t)).2.2.1 (outsAt m c (t.val - 1) (pr t)).2.2.2 := by
  obtain ⟨n, hn⟩ := t
  cases n with
  | zero => exact absurd rfl h
  | succ n => rfl

theorem outsAt_A (c : Dev nD) (t : Fin cfg0.N) (h : t.val % 32 = 0) :
    outsAt m c t.val t.isLt = (qA m c t h, VO0_8.read (Elt F) VO0_8.junk, rA m c t h, sA m c t h) := by
  obtain ⟨n, hn⟩ := t
  cases n with
  | zero => show step m c ⟨0, hn⟩ _ _ = _; unfold step; exact dif_pos h
  | succ n => show step m c ⟨n + 1, hn⟩ _ _ = _; unfold step; exact dif_pos h
theorem outsAt_E (c : Dev nD) (t : Fin cfg0.N) (h : t.val % 4 = 0) (h' : ¬ t.val % 32 = 0) :
    outsAt m c t.val t.isLt = (qE m c t h h' (outsAt m c (t.val - 1) (pr t)).2.2.1, VO0_8.read (Elt F) VO0_8.junk, rE m c t h h' (outsAt m c (t.val - 1) (pr t)).2.2.1, sE m c t h h' (outsAt m c (t.val - 1) (pr t)).2.2.1) := by
  rw [outsAt_pos m c t (by omega)]
  exact (dif_neg h').trans ((dif_pos h).trans rfl)
theorem outsAt_B (c : Dev nD) (t : Fin cfg0.N) (h : t.val % 4 = 1) :
    outsAt m c t.val t.isLt = (qB m c t h (outsAt m c (t.val - 1) (pr t)).2.2.1 (outsAt m c (t.val - 1) (pr t)).2.2.2, VO0_8.read (Elt F) VO0_8.junk, rB m c t h (outsAt m c (t.val - 1) (pr t)).2.2.1 (outsAt m c (t.val - 1) (pr t)).2.2.2, sB m c t h (outsAt m c (t.val - 1) (pr t)).2.2.1 (outsAt m c (t.val - 1) (pr t)).2.2.2) := by
  rw [outsAt_pos m c t (by omega)]
  exact (dif_neg (by omega)).trans ((dif_neg (by omega)).trans ((dif_pos h).trans rfl))
theorem outsAt_C (c : Dev nD) (t : Fin cfg0.N) (h : t.val % 4 = 2) :
    outsAt m c t.val t.isLt = (qC m c t h (outsAt m c (t.val - 1) (pr t)).2.2.1 (outsAt m c (t.val - 1) (pr t)).2.2.2, VO0_8.read (Elt F) VO0_8.junk, rC m c t h (outsAt m c (t.val - 1) (pr t)).2.2.1 (outsAt m c (t.val - 1) (pr t)).2.2.2, sC m c t h (outsAt m c (t.val - 1) (pr t)).2.2.1 (outsAt m c (t.val - 1) (pr t)).2.2.2) := by
  rw [outsAt_pos m c t (by omega)]
  exact (dif_neg (by omega)).trans ((dif_neg (by omega)).trans ((dif_neg (by omega)).trans ((dif_pos h).trans rfl)))
theorem outsAt_D (c : Dev nD) (t : Fin cfg0.N) (h : t.val % 4 = 3) :
    outsAt m c t.val t.isLt = (qD m c t h (outsAt m c (t.val - 1) (pr t)).2.2.1 (outsAt m c (t.val - 1) (pr t)).2.2.2, kD m c t h (outsAt m c (t.val - 1) (pr t)).2.2.1 (outsAt m c (t.val - 1) (pr t)).2.2.2, rD m c t h (outsAt m c (t.val - 1) (pr t)).2.2.1 (outsAt m c (t.val - 1) (pr t)).2.2.2, sD m c t h (outsAt m c (t.val - 1) (pr t)).2.2.1 (outsAt m c (t.val - 1) (pr t)).2.2.2) := by
  rw [outsAt_pos m c t (by omega)]
  exact (dif_neg (by omega)).trans ((dif_neg (by omega)).trans ((dif_neg (by omega)).trans ((dif_neg (by omega)).trans rfl)))

/-- The accumulator before position `n`. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.2)) ∗ (∃ r, prngReg c r)) := by
  cases n with
  | zero => exact absurd rfl hz
  | succ n => rfl

/-- The proof data: the arrays as the region finds them, each input's buffer at its block, the results' buffers at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).1 := by dsimp only [dats]
theorem after0_8 (c : Dev nD) (t : Fin cfg0.N) : (dats m 0 c).after 8 t = (outsAt m c t.val t.isLt).2.1 := by dsimp only [dats]
theorem after0_9 (c : Dev nD) (t : Fin cfg0.N) : (dats m 0 c).after 9 t = (outsAt m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- The rotary keys' gradient stays in its buffer from one point to the next. -/
theorem before0_9 (c : Dev nD) (t : Fin cfg0.N) (h : t.val ≠ 0) (d) : (dats m 0 c).before 9 t d = (outsAt m c (t.val - 1) (pr t)).2.2.1 := by
  rw [Dat.before_of_pos _ 9 t h (show (cfg0.win 9).fetch t = false from rfl) d,
    if_neg (by
      intro hf
      have := (flush0_9 ⟨t.val - 1, pr t⟩).mp hf
      have hN : t.val < 32 := lt_of_lt_of_eq t.isLt (show cfg0.N = 32 from N_0)
      have e : (⟨t.val - 1, pr t⟩ : Fin cfg0.N).val = t.val - 1 := rfl
      omega)]
  unfold Dat.left
  rw [live0_9]
  exact after0_9 m c ⟨t.val - 1, pr t⟩

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (outsAt m c t.val t.isLt).1 := by
  unfold Dat.leavesExact; rw [live0_7 t, after0_7]
theorem leaves0_9 (c : Dev nD) (t : Fin cfg0.N) : (dats m 0 c).leavesExact 9 t = owns (c : Thread nD τ) (ms0_9 t) fullShare (outsAt m c t.val t.isLt).2.2.1 := by
  unfold Dat.leavesExact; rw [live0_9 t, after0_9]
theorem leaves0_8 (c : Dev nD) (t : Fin cfg0.N) (h : t.val % 4 = 3) : (dats m 0 c).leavesExact 8 t = owns (c : Thread nD τ) (ms0_8 t) fullShare (outsAt m c t.val t.isLt).2.1 := by
  unfold Dat.leavesExact; rw [(live0_8 t).mpr h, after0_8]
theorem idle0_8 (c : Dev nD) (t : Fin cfg0.N) (h : ¬ t.val % 4 = 3) :
    (dats m 0 c).leavesExact 8 t = iprop(∃ d, owns (c : Thread nD τ) (ms0_8 t) fullShare ((dats m 0 c).before 8 t d)) :=
  Dat.leavesExact_idle (dats m 0 c) 8 t (by
      cases hi : cfg0.idle 8 (cfg0.grid.coords t) with
      | true => rfl
      | false => exact absurd ((live0_8 t).mp hi) h)
    (by
      cases hi : (cfg0.win 8).flush t with
      | false => rfl
      | true => exact absurd ((flush0_8 t).mp hi) h)

set_option maxHeartbeats 3200000 in
theorem soundA (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [leaves0_0, leaves0_1, leaves0_2, leaves0_3, leaves0_4, leaves0_5, leaves0_6, leaves0_7, idle0_8 m c t (by omega), leaves0_9]
  rw [PhiS_castSucc m c t, PhiS_zero m c _ _ (by omega), PhiA0_eq]
  rw [outsAt_A m c t h]
  unfold qA rA sA; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA m c t h).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  iintro ⟨H0, H1, H2, H3, H4, H5, H6, ⟨%e7, H7⟩, H8, ⟨%e9, H9⟩, ⟨%es, HS0⟩⟩
  isplitl [HS0 Hg]
  · isplitl [HS0]
    · unfold owns; iexists _; isplitr
      swap; · iexact HS0
      ipureintro; exact View.read_writes_of_cover _ _ _ _ _ (coverA_S m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverA_7 m c t h)
  isplitl [H8]
  · iexists _; iexact H8
  unfold owns; iexists _; isplitr
  swap; · iexact H9
  ipureintro; exact View.read_writes_of_cover _ _ _ _ _ (coverA_9 m c t h)

set_option maxHeartbeats 3200000 in
theorem soundE (c : Dev nD) (t : Fin cfg0.N) (h : t.val % 4 = 0) (h' : ¬ t.val % 32 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [leaves0_0, leaves0_1, leaves0_2, leaves0_3, leaves0_4, leaves0_5, leaves0_6, leaves0_7, idle0_8 m c t (by omega), leaves0_9]
  simp only [before0_9 m c t (by omega)]
  rw [PhiS_castSucc m c t, PhiS_pos m c _ _ (by omega)]
  rw [outsAt_E m c t h h']
  unfold qE rE sE; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runE m c t h h' (outsAt m c (t.val - 1) (pr t)).2.2.1).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexists _; iexact HS0
  iintro ⟨H0, H1, H2, H3, H4, H5, H6, ⟨%e7, H7⟩, H8, H9, ⟨%es, HS0⟩⟩
  isplitl [HS0 Hg]
  · isplitl [HS0]
    · unfold owns; iexists _; isplitr
      swap; · iexact HS0
      ipureintro; exact View.read_writes_of_cover _ _ _ _ _ (coverE_S m c t h h' (outsAt m c (t.val - 1) (pr t)).2.2.1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverE_7 m c t h h' (outsAt m c (t.val - 1) (pr t)).2.2.1)
  isplitl [H8]
  · iexists _; iexact H8
  unfold owns; iexists _; isplitr
  swap; · iexact H9
  ipureintro; rfl

set_option maxHeartbeats 3200000 in
theorem soundB (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [leaves0_0, leaves0_1, leaves0_2, leaves0_3, leaves0_4, leaves0_5, leaves0_6, leaves0_7, idle0_8 m c t (by omega), leaves0_9]
  simp only [before0_9 m c t (by omega)]
  rw [PhiS_castSucc m c t, PhiS_pos m c _ _ (by omega)]
  rw [outsAt_B m c t h]
  unfold qB rB sB; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB m c t h (outsAt m c (t.val - 1) (pr t)).2.2.1 (outsAt m c (t.val - 1) (pr t)).2.2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  iintro ⟨H0, H1, H2, H3, H4, H5, H6, ⟨%e7, H7⟩, H8, H9, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverB_7 m c t h (outsAt m c (t.val - 1) (pr t)).2.2.1 (outsAt m c (t.val - 1) (pr t)).2.2.2)
  isplitl [H8]
  · iexists _; iexact H8
  unfold owns; iexists _; isplitr
  swap; · iexact H9
  ipureintro; rfl

set_option maxHeartbeats 3200000 in
theorem soundC (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [leaves0_0, leaves0_1, leaves0_2, leaves0_3, leaves0_4, leaves0_5, leaves0_6, leaves0_7, idle0_8 m c t (by omega), leaves0_9]
  simp only [before0_9 m c t (by omega)]
  rw [PhiS_castSucc m c t, PhiS_pos m c _ _ (by omega)]
  rw [outsAt_C m c t h]
  unfold qC rC sC; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC m c t h (outsAt m c (t.val - 1) (pr t)).2.2.1 (outsAt m c (t.val - 1) (pr t)).2.2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  iintro ⟨H0, H1, H2, H3, H4, H5, H6, ⟨%e7, H7⟩, H8, H9, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_7 m c t h (outsAt m c (t.val - 1) (pr t)).2.2.1 (outsAt m c (t.val - 1) (pr t)).2.2.2)
  isplitl [H8]
  · iexists _; iexact H8
  unfold owns; iexists _; isplitr
  swap; · iexact H9
  ipureintro; rfl

set_option maxHeartbeats 3200000 in
theorem soundD (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [leaves0_0, leaves0_1, leaves0_2, leaves0_3, leaves0_4, leaves0_5, leaves0_6, leaves0_7, leaves0_8 m c t h, leaves0_9]
  simp only [before0_9 m c t (by omega)]
  rw [PhiS_castSucc m c t, PhiS_pos m c _ _ (by omega)]
  rw [outsAt_D m c t h]
  unfold qD rD sD kD; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runD m c t h (outsAt m c (t.val - 1) (pr t)).2.2.1 (outsAt m c (t.val - 1) (pr t)).2.2.2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  iintro ⟨H0, H1, H2, H3, H4, H5, H6, ⟨%e7, H7⟩, ⟨%e8, H8⟩, H9, HS0⟩
  isplitl [HS0 Hg]
  · isplitl [HS0]
    · unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverD_7 m c t h (outsAt m c (t.val - 1) (pr t)).2.2.1 (outsAt m c (t.val - 1) (pr t)).2.2.2)
  isplitl [H8]
  · unfold owns; iexists _; isplitr
    swap; · iexact H8
    ipureintro; exact View.read_writes_of_cover _ _ _ _ _ (coverD_8 m c t h (outsAt m c (t.val - 1) (pr t)).2.2.1 (outsAt m c (t.val - 1) (pr t)).2.2.2)
  unfold owns; iexists _; isplitr
  swap; · iexact H9
  ipureintro; rfl

theorem sound_body (c : Dev nD) (t : Fin cfg0.N) :
    bodyPre m c t ⊢ wp frame (wpE (defs₀ (F := F)) Variants.none c none) Set.univ (bodyAt0 t) (fun _ => bodyPost m c t) := by
  by_cases h' : t.val % 32 = 0
  · exact soundA m c t h'
  by_cases h : t.val % 4 = 0
  · exact soundE m c t h h'
  by_cases h1 : t.val % 4 = 1
  · exact soundB m c t h1
  by_cases h2 : t.val % 4 = 2
  · exact soundC m c t h2
  · exact soundD m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨HS0, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with each result's array at what the points wrote back. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel7Ideal.Gen

end
-- ==== Proof.AttnTerms.lean ====
/- The gradient of attention at one grid point: scores, weights and their gradient at an index. -/
module

public import proofs.«01_k».proof.Proof.Gen.Kernel7Ideal.Skeleton
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Idealize.ShloMosaic.Pipeline (Dat)

/-! ## The mask's words -/

/-- The printed division of a word by 64. -/
abbrev chunk (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem chunk_eq : ∀ n : Fin 2176, chunk (BitVec.ofNat 32 n.val) = BitVec.ofNat 32 (n.val / 64) := by decide +kernel
theorem ge_eq : ∀ n : Fin 2176, IntOp.cmpi CmpIPredicate.sge (BitVec.ofNat 32 n.val) 112#32 = if 112 ≤ n.val then 1#1 else 0#1 := by decide +kernel
theorem le_eq : ∀ a b : Fin 34, IntOp.cmpi CmpIPredicate.sle (BitVec.ofNat 32 a.val) (BitVec.ofNat 32 b.val) = if a.val ≤ b.val then 1#1 else 0#1 := by decide +kernel
theorem row0 : ∀ a : Fin 544, IntOp.addi (0#32) (BitVec.ofNat 32 a.val) = BitVec.ofNat 32 (0 + a.val) := by decide +kernel
theorem row544 : ∀ a : Fin 544, IntOp.addi (544#32) (BitVec.ofNat 32 a.val) = BitVec.ofNat 32 (544 + a.val) := by decide +kernel
theorem row1088 : ∀ a : Fin 544, IntOp.addi (1088#32) (BitVec.ofNat 32 a.val) = BitVec.ofNat 32 (1088 + a.val) := by decide +kernel
theorem row1632 : ∀ a : Fin 544, IntOp.addi (1632#32) (BitVec.ofNat 32 a.val) = BitVec.ofNat 32 (1632 + a.val) := by decide +kernel

/-- A key of chunk at most the query's, outside the padding. -/
def Sees (r k : ℕ) : Prop := 112 ≤ k ∧ k / 64 ≤ r / 64
instance (r k : ℕ) : Decidable (Sees r k) := inferInstanceAs (Decidable (_ ∧ _))

theorem sees_word (r k : ℕ) (hr : r < 2176) (hk : k < 2176) (x y : EReal) :
    Scalar.select (IntOp.andi (IntOp.cmpi CmpIPredicate.sge (BitVec.ofNat 32 k) 112#32)
      (IntOp.cmpi CmpIPredicate.sle (chunk (BitVec.ofNat 32 k)) (chunk (BitVec.ofNat 32 r)))) x y = if Sees r k then x else y := by
  rw [chunk_eq ⟨k, hk⟩, chunk_eq ⟨r, hr⟩, ge_eq ⟨k, hk⟩, le_eq ⟨k / 64, by omega⟩ ⟨r / 64, by omega⟩]
  unfold Sees
  by_cases h1 : 112 ≤ k <;> by_cases h2 : k / 64 ≤ r / 64 <;> simp only [h1, h2, and_self, and_true, and_false, false_and, true_and, if_true, if_false, reduceIte] <;> rfl

theorem ge_word (r : ℕ) (hr : r < 2176) (x y : EReal) :
    Scalar.select (IntOp.cmpi CmpIPredicate.sge (BitVec.ofNat 32 r) 112#32) x y = if 112 ≤ r then x else y := by
  rw [ge_eq ⟨r, hr⟩]
  by_cases h1 : 112 ≤ r <;> simp only [h1, if_true, if_false, reduceIte] <;> rfl

/-! ## One query of a point against one key -/

/-- The scale of the scores. -/
def sca : EReal := Ideal.ofBits .f32 0x3D93CD3A#32
def lo (d : Fin 128) : Fin 256 := ⟨d.val, by have := d.isLt; omega⟩
def hi (d : Fin 128) : Fin 256 := ⟨128 + d.val, by have := d.isLt; omega⟩

section
variable {n : ℕ} (off : ℕ) (x0 : Vec Ideal S544x256 .bf16) (kn v kr : FVec Ideal (⟨2, ![n, 128]⟩ : Shape) .bf16)
  (x4 x6 : Vec Ideal S544x128 .f32) (x5 : Vec Ideal S1x544x1 .f32) (a : Fin 544) (k : Fin n)

/-- The score. -/
def sc : EReal := (∑ d : Fin 128, x0 (ix2 a (lo d)) * kn (ix2 k d)) + ∑ d : Fin 128, x0 (ix2 a (hi d)) * kr (ix2 k d)
/-- The weight. -/
def wt : EReal := Ideal.exp ((if Sees (off + a.val) k.val then sc x0 kn kr a k * sca else ⊥) - x5 (ix3 (0 : Fin 1) a (0 : Fin 1)))
/-- The incoming gradient, zero in the padding rows. -/
def dm (d : Fin 128) : EReal := if 112 ≤ off + a.val then x6 (ix2 a d) else 0
/-- The gradient by the score. -/
def ds : EReal := wt off x0 kn kr x5 a k * ((∑ d : Fin 128, dm off x6 a d * v (ix2 k d)) - ∑ d : Fin 128, dm off x6 a d * x4 (ix2 a d)) * sca

theorem wt_zero (h : ¬ Sees (off + a.val) k.val) : wt off x0 kn kr x5 a k = 0 := by
  unfold wt
  rw [if_neg h, EReal.bot_sub]
  exact Ideal.exp_bot
theorem ds_zero (h : ¬ Sees (off + a.val) k.val) : ds off x0 kn v kr x4 x6 x5 a k = 0 := by
  unfold ds
  rw [wt_zero off x0 kn kr x5 a k h, zero_mul, zero_mul]
end

/-! ## The stored values of the four kinds of point -/

section
variable (x0 : Vec Ideal S544x256 .bf16) (kn v kr : Vec Ideal S640x128 .bf16) (x4 x6 : Vec Ideal S544x128 .f32) (x5 : Vec Ideal S1x544x1 .f32)
theorem weight0 (a : Fin 544) (k : Fin 640) : (k0_pay14 (k0_pay8 x0 kn kr) k0_pay9 k0_pay10 k0_pay11 (64#32) k0_pay12 x5) (ix2 a k) = wt 0 x0 kn kr x5 a k := by
  have e : k0_pay8 x0 kn kr (ix2 a k) = sc x0 kn kr a k := by
    pointwise [k0_pay8, sc, lo, hi]
  pointwise [k0_pay14, k0_pay9, k0_pay10, k0_pay11, k0_pay12]
  rw [row0, e]
  have ha := a.isLt
  have hk := k.isLt
  unfold wt
  exact congrArg (fun z : EReal => Ideal.exp (z - x5 (ix3 (0 : Fin 1) a (0 : Fin 1)))) (sees_word (0 + a.val) k.val (by omega) (by omega) _ _)
theorem grad0 (a : Fin 544) (d : Fin 128) : (k0_pay13 k0_pay9 x6) (ix2 a d) = dm 0 x6 a d := by
  pointwise [k0_pay13, k0_pay9]
  rw [row0]
  have ha := a.isLt
  unfold dm
  exact ge_word (0 + a.val) (by omega) _ _
theorem score0 (a : Fin 544) (k : Fin 640) : (k0_pay16 v (k0_pay13 k0_pay9 x6) (k0_pay14 (k0_pay8 x0 kn kr) k0_pay9 k0_pay10 k0_pay11 (64#32) k0_pay12 x5) x4) (ix2 a k) = ds 0 x0 kn v kr x4 x6 x5 a k := by
  have e : ∀ (A : Vec Ideal S544x128 .f32) (B : Vec Ideal S544x640 .f32), k0_pay16 v A B x4 (ix2 a k)
      = B (ix2 a k) * ((∑ d : Fin 128, A (ix2 a d) * v (ix2 k d)) - ∑ d : Fin 128, A (ix2 a d) * x4 (ix2 a d)) * sca := by
    intro A B
    pointwise [k0_pay16, k0_pay15, sca]
  rw [e, weight0]
  simp only [grad0]
  rfl
theorem qlo0 (a : Fin 544) (d : Fin 128) : k0_pay17 kn v (k0_pay13 k0_pay9 x6) (k0_pay14 (k0_pay8 x0 kn kr) k0_pay9 k0_pay10 k0_pay11 (64#32) k0_pay12 x5) x4 (ix2 a d) = ∑ k : Fin 640, ds 0 x0 kn v kr x4 x6 x5 a k * kn (ix2 k d) := by
  have e : ∀ (A : Vec Ideal S544x128 .f32) (B : Vec Ideal S544x640 .f32), k0_pay17 kn v A B x4 (ix2 a d) = ∑ k : Fin 640, k0_pay16 v A B x4 (ix2 a k) * kn (ix2 k d) := by
    intro A B
    pointwise [k0_pay17]
  rw [e]
  exact Finset.sum_congr rfl fun k _ => congrArg (fun z : EReal => z * kn (ix2 k d)) (score0 x0 kn v kr x4 x6 x5 a k)
theorem qhi0 (a : Fin 544) (d : Fin 128) : k0_pay18 v kr (k0_pay13 k0_pay9 x6) (k0_pay14 (k0_pay8 x0 kn kr) k0_pay9 k0_pay10 k0_pay11 (64#32) k0_pay12 x5) x4 (ix2 a d) = ∑ k : Fin 640, ds 0 x0 kn v kr x4 x6 x5 a k * kr (ix2 k d) := by
  have e : ∀ (A : Vec Ideal S544x128 .f32) (B : Vec Ideal S544x640 .f32), k0_pay18 v kr A B x4 (ix2 a d) = ∑ k : Fin 640, k0_pay16 v A B x4 (ix2 a k) * kr (ix2 k d) := by
    intro A B
    pointwise [k0_pay18]
  rw [e]
  exact Finset.sum_congr rfl fun k _ => congrArg (fun z : EReal => z * kr (ix2 k d)) (score0 x0 kn v kr x4 x6 x5 a k)
theorem klo0 (w : Vec Ideal S640x128 .f32) (k : Fin 640) (d : Fin 128) : k0_pay19 x0 v (k0_pay13 k0_pay9 x6) (k0_pay14 (k0_pay8 x0 kn kr) k0_pay9 k0_pay10 k0_pay11 (64#32) k0_pay12 x5) x4 w (ix2 k d) = w (ix2 k d) + ∑ a : Fin 544, ds 0 x0 kn v kr x4 x6 x5 a k * x0 (ix2 a (lo d)) := by
  have e : ∀ (A : Vec Ideal S544x128 .f32) (B : Vec Ideal S544x640 .f32), k0_pay19 x0 v A B x4 w (ix2 k d) = w (ix2 k d) + ∑ a : Fin 544, k0_pay16 v A B x4 (ix2 a k) * x0 (ix2 a (lo d)) := by
    intro A B
    pointwise [k0_pay19, lo]
  rw [e]
  exact congrArg (fun z : EReal => w (ix2 k d) + z) (Finset.sum_congr rfl fun a _ => congrArg (fun z : EReal => z * x0 (ix2 a (lo d))) (score0 x0 kn v kr x4 x6 x5 a k))
theorem khi0 (w : Vec Ideal S640x128 .f32) (k : Fin 640) (d : Fin 128) : k0_pay20 (k0_pay13 k0_pay9 x6) (k0_pay14 (k0_pay8 x0 kn kr) k0_pay9 k0_pay10 k0_pay11 (64#32) k0_pay12 x5) w (ix2 k d) = w (ix2 k d) + ∑ a : Fin 544, wt 0 x0 kn kr x5 a k * dm 0 x6 a d := by
  have e : ∀ (A : Vec Ideal S544x128 .f32) (B : Vec Ideal S544x640 .f32), k0_pay20 A B w (ix2 k d) = w (ix2 k d) + ∑ a : Fin 544, B (ix2 a k) * A (ix2 a d) := by
    intro A B
    pointwise [k0_pay20, k0_pay15]
  rw [e]
  exact congrArg (fun z : EReal => w (ix2 k d) + z) (Finset.sum_congr rfl fun a _ => congrArg₂ (fun y z : EReal => y * z) (weight0 x0 kn kr x5 a k) (grad0 x6 a d))
theorem rot0 (w : Vec Ideal S640x128 .f32) (k : Fin 640) (d : Fin 128) : k0_pay3 (k0_pay16 v (k0_pay13 k0_pay9 x6) (k0_pay14 (k0_pay8 x0 kn kr) k0_pay9 k0_pay10 k0_pay11 (64#32) k0_pay12 x5) x4) (k0_pay21 w) (k0_pay22 x0) (ix2 k d) = w (ix2 k d) + ∑ a : Fin 544, ds 0 x0 kn v kr x4 x6 x5 a k * x0 (ix2 a (hi d)) := by
  have e : ∀ (A : Vec Ideal S544x640 .bf16), k0_pay3 A (k0_pay21 w) (k0_pay22 x0) (ix2 k d) = w (ix2 k d) + ∑ a : Fin 544, A (ix2 a k) * x0 (ix2 a (hi d)) := by
    intro A
    pointwise [k0_pay3, k0_pay21, k0_pay22, hi]
  rw [e]
  exact congrArg (fun z : EReal => w (ix2 k d) + z) (Finset.sum_congr rfl fun a _ => congrArg (fun z : EReal => z * x0 (ix2 a (hi d))) (score0 x0 kn v kr x4 x6 x5 a k))
end

section
variable (x0 : Vec Ideal S544x256 .bf16) (kn v kr : Vec Ideal S1152x128 .bf16) (x4 x6 : Vec Ideal S544x128 .f32) (x5 : Vec Ideal S1x544x1 .f32)
theorem weight1 (a : Fin 544) (k : Fin 1152) : (k0_pay29 (k0_pay23 x0 kn kr) k0_pay24 k0_pay25 k0_pay26 (64#32) k0_pay27 x5) (ix2 a k) = wt 544 x0 kn kr x5 a k := by
  have e : k0_pay23 x0 kn kr (ix2 a k) = sc x0 kn kr a k := by
    pointwise [k0_pay23, sc, lo, hi]
  pointwise [k0_pay29, k0_pay24, k0_pay25, k0_pay26, k0_pay27]
  rw [row544, e]
  have ha := a.isLt
  have hk := k.isLt
  unfold wt
  exact congrArg (fun z : EReal => Ideal.exp (z - x5 (ix3 (0 : Fin 1) a (0 : Fin 1)))) (sees_word (544 + a.val) k.val (by omega) (by omega) _ _)
theorem grad1 (a : Fin 544) (d : Fin 128) : (k0_pay28 k0_pay24 x6) (ix2 a d) = dm 544 x6 a d := by
  pointwise [k0_pay28, k0_pay24]
  rw [row544]
  have ha := a.isLt
  unfold dm
  exact ge_word (544 + a.val) (by omega) _ _
theorem score1 (a : Fin 544) (k : Fin 1152) : (k0_pay31 v (k0_pay28 k0_pay24 x6) (k0_pay29 (k0_pay23 x0 kn kr) k0_pay24 k0_pay25 k0_pay26 (64#32) k0_pay27 x5) x4) (ix2 a k) = ds 544 x0 kn v kr x4 x6 x5 a k := by
  have e : ∀ (A : Vec Ideal S544x128 .f32) (B : Vec Ideal S544x1152 .f32), k0_pay31 v A B x4 (ix2 a k)
      = B (ix2 a k) * ((∑ d : Fin 128, A (ix2 a d) * v (ix2 k d)) - ∑ d : Fin 128, A (ix2 a d) * x4 (ix2 a d)) * sca := by
    intro A B
    pointwise [k0_pay31, k0_pay30, sca]
  rw [e, weight1]
  simp only [grad1]
  rfl
theorem qlo1 (a : Fin 544) (d : Fin 128) : k0_pay32 kn v (k0_pay28 k0_pay24 x6) (k0_pay29 (k0_pay23 x0 kn kr) k0_pay24 k0_pay25 k0_pay26 (64#32) k0_pay27 x5) x4 (ix2 a d) = ∑ k : Fin 1152, ds 544 x0 kn v kr x4 x6 x5 a k * kn (ix2 k d) := by
  have e : ∀ (A : Vec Ideal S544x128 .f32) (B : Vec Ideal S544x1152 .f32), k0_pay32 kn v A B x4 (ix2 a d) = ∑ k : Fin 1152, k0_pay31 v A B x4 (ix2 a k) * kn (ix2 k d) := by
    intro A B
    pointwise [k0_pay32]
  rw [e]
  exact Finset.sum_congr rfl fun k _ => congrArg (fun z : EReal => z * kn (ix2 k d)) (score1 x0 kn v kr x4 x6 x5 a k)
theorem qhi1 (a : Fin 544) (d : Fin 128) : k0_pay33 v kr (k0_pay28 k0_pay24 x6) (k0_pay29 (k0_pay23 x0 kn kr) k0_pay24 k0_pay25 k0_pay26 (64#32) k0_pay27 x5) x4 (ix2 a d) = ∑ k : Fin 1152, ds 544 x0 kn v kr x4 x6 x5 a k * kr (ix2 k d) := by
  have e : ∀ (A : Vec Ideal S544x128 .f32) (B : Vec Ideal S544x1152 .f32), k0_pay33 v kr A B x4 (ix2 a d) = ∑ k : Fin 1152, k0_pay31 v A B x4 (ix2 a k) * kr (ix2 k d) := by
    intro A B
    pointwise [k0_pay33]
  rw [e]
  exact Finset.sum_congr rfl fun k _ => congrArg (fun z : EReal => z * kr (ix2 k d)) (score1 x0 kn v kr x4 x6 x5 a k)
theorem klo1 (w : Vec Ideal S1152x128 .f32) (k : Fin 1152) (d : Fin 128) : k0_pay34 x0 v (k0_pay28 k0_pay24 x6) (k0_pay29 (k0_pay23 x0 kn kr) k0_pay24 k0_pay25 k0_pay26 (64#32) k0_pay27 x5) x4 w (ix2 k d) = w (ix2 k d) + ∑ a : Fin 544, ds 544 x0 kn v kr x4 x6 x5 a k * x0 (ix2 a (lo d)) := by
  have e : ∀ (A : Vec Ideal S544x128 .f32) (B : Vec Ideal S544x1152 .f32), k0_pay34 x0 v A B x4 w (ix2 k d) = w (ix2 k d) + ∑ a : Fin 544, k0_pay31 v A B x4 (ix2 a k) * x0 (ix2 a (lo d)) := by
    intro A B
    pointwise [k0_pay34, lo]
  rw [e]
  exact congrArg (fun z : EReal => w (ix2 k d) + z) (Finset.sum_congr rfl fun a _ => congrArg (fun z : EReal => z * x0 (ix2 a (lo d))) (score1 x0 kn v kr x4 x6 x5 a k))
theorem khi1 (w : Vec Ideal S1152x128 .f32) (k : Fin 1152) (d : Fin 128) : k0_pay35 (k0_pay28 k0_pay24 x6) (k0_pay29 (k0_pay23 x0 kn kr) k0_pay24 k0_pay25 k0_pay26 (64#32) k0_pay27 x5) w (ix2 k d) = w (ix2 k d) + ∑ a : Fin 544, wt 544 x0 kn kr x5 a k * dm 544 x6 a d := by
  have e : ∀ (A : Vec Ideal S544x128 .f32) (B : Vec Ideal S544x1152 .f32), k0_pay35 A B w (ix2 k d) = w (ix2 k d) + ∑ a : Fin 544, B (ix2 a k) * A (ix2 a d) := by
    intro A B
    pointwise [k0_pay35, k0_pay30]
  rw [e]
  exact congrArg (fun z : EReal => w (ix2 k d) + z) (Finset.sum_congr rfl fun a _ => congrArg₂ (fun y z : EReal => y * z) (weight1 x0 kn kr x5 a k) (grad1 x6 a d))
theorem rot1 (w : Vec Ideal S1152x128 .f32) (k : Fin 1152) (d : Fin 128) : k0_pay4 (k0_pay31 v (k0_pay28 k0_pay24 x6) (k0_pay29 (k0_pay23 x0 kn kr) k0_pay24 k0_pay25 k0_pay26 (64#32) k0_pay27 x5) x4) (k0_pay36 w) (k0_pay37 x0) (ix2 k d) = w (ix2 k d) + ∑ a : Fin 544, ds 544 x0 kn v kr x4 x6 x5 a k * x0 (ix2 a (hi d)) := by
  have e : ∀ (A : Vec Ideal S544x1152 .bf16), k0_pay4 A (k0_pay36 w) (k0_pay37 x0) (ix2 k d) = w (ix2 k d) + ∑ a : Fin 544, A (ix2 a k) * x0 (ix2 a (hi d)) := by
    intro A
    pointwise [k0_pay4, k0_pay36, k0_pay37, hi]
  rw [e]
  exact congrArg (fun z : EReal => w (ix2 k d) + z) (Finset.sum_congr rfl fun a _ => congrArg (fun z : EReal => z * x0 (ix2 a (hi d))) (score1 x0 kn v kr x4 x6 x5 a k))
end

section
variable (x0 : Vec Ideal S544x256 .bf16) (kn v kr : Vec Ideal S1664x128 .bf16) (x4 x6 : Vec Ideal S544x128 .f32) (x5 : Vec Ideal S1x544x1 .f32)
theorem weight2 (a : Fin 544) (k : Fin 1664) : (k0_pay44 (k0_pay38 x0 kn kr) k0_pay39 k0_pay40 k0_pay41 (64#32) k0_pay42 x5) (ix2 a k) = wt 1088 x0 kn kr x5 a k := by
  have e : k0_pay38 x0 kn kr (ix2 a k) = sc x0 kn kr a k := by
    pointwise [k0_pay38, sc, lo, hi]
  pointwise [k0_pay44, k0_pay39, k0_pay40, k0_pay41, k0_pay42]
  rw [row1088, e]
  have ha := a.isLt
  have hk := k.isLt
  unfold wt
  exact congrArg (fun z : EReal => Ideal.exp (z - x5 (ix3 (0 : Fin 1) a (0 : Fin 1)))) (sees_word (1088 + a.val) k.val (by omega) (by omega) _ _)
theorem grad2 (a : Fin 544) (d : Fin 128) : (k0_pay43 k0_pay39 x6) (ix2 a d) = dm 1088 x6 a d := by
  pointwise [k0_pay43, k0_pay39]
  rw [row1088]
  have ha := a.isLt
  unfold dm
  exact ge_word (1088 + a.val) (by omega) _ _
theorem score2 (a : Fin 544) (k : Fin 1664) : (k0_pay46 v (k0_pay43 k0_pay39 x6) (k0_pay44 (k0_pay38 x0 kn kr) k0_pay39 k0_pay40 k0_pay41 (64#32) k0_pay42 x5) x4) (ix2 a k) = ds 1088 x0 kn v kr x4 x6 x5 a k := by
  have e : ∀ (A : Vec Ideal S544x128 .f32) (B : Vec Ideal S544x1664 .f32), k0_pay46 v A B x4 (ix2 a k)
      = B (ix2 a k) * ((∑ d : Fin 128, A (ix2 a d) * v (ix2 k d)) - ∑ d : Fin 128, A (ix2 a d) * x4 (ix2 a d)) * sca := by
    intro A B
    pointwise [k0_pay46, k0_pay45, sca]
  rw [e, weight2]
  simp only [grad2]
  rfl
theorem qlo2 (a : Fin 544) (d : Fin 128) : k0_pay47 kn v (k0_pay43 k0_pay39 x6) (k0_pay44 (k0_pay38 x0 kn kr) k0_pay39 k0_pay40 k0_pay41 (64#32) k0_pay42 x5) x4 (ix2 a d) = ∑ k : Fin 1664, ds 1088 x0 kn v kr x4 x6 x5 a k * kn (ix2 k d) := by
  have e : ∀ (A : Vec Ideal S544x128 .f32) (B : Vec Ideal S544x1664 .f32), k0_pay47 kn v A B x4 (ix2 a d) = ∑ k : Fin 1664, k0_pay46 v A B x4 (ix2 a k) * kn (ix2 k d) := by
    intro A B
    pointwise [k0_pay47]
  rw [e]
  exact Finset.sum_congr rfl fun k _ => congrArg (fun z : EReal => z * kn (ix2 k d)) (score2 x0 kn v kr x4 x6 x5 a k)
theorem qhi2 (a : Fin 544) (d : Fin 128) : k0_pay48 v kr (k0_pay43 k0_pay39 x6) (k0_pay44 (k0_pay38 x0 kn kr) k0_pay39 k0_pay40 k0_pay41 (64#32) k0_pay42 x5) x4 (ix2 a d) = ∑ k : Fin 1664, ds 1088 x0 kn v kr x4 x6 x5 a k * kr (ix2 k d) := by
  have e : ∀ (A : Vec Ideal S544x128 .f32) (B : Vec Ideal S544x1664 .f32), k0_pay48 v kr A B x4 (ix2 a d) = ∑ k : Fin 1664, k0_pay46 v A B x4 (ix2 a k) * kr (ix2 k d) := by
    intro A B
    pointwise [k0_pay48]
  rw [e]
  exact Finset.sum_congr rfl fun k _ => congrArg (fun z : EReal => z * kr (ix2 k d)) (score2 x0 kn v kr x4 x6 x5 a k)
theorem klo2 (w : Vec Ideal S1664x128 .f32) (k : Fin 1664) (d : Fin 128) : k0_pay49 x0 v (k0_pay43 k0_pay39 x6) (k0_pay44 (k0_pay38 x0 kn kr) k0_pay39 k0_pay40 k0_pay41 (64#32) k0_pay42 x5) x4 w (ix2 k d) = w (ix2 k d) + ∑ a : Fin 544, ds 1088 x0 kn v kr x4 x6 x5 a k * x0 (ix2 a (lo d)) := by
  have e : ∀ (A : Vec Ideal S544x128 .f32) (B : Vec Ideal S544x1664 .f32), k0_pay49 x0 v A B x4 w (ix2 k d) = w (ix2 k d) + ∑ a : Fin 544, k0_pay46 v A B x4 (ix2 a k) * x0 (ix2 a (lo d)) := by
    intro A B
    pointwise [k0_pay49, lo]
  rw [e]
  exact congrArg (fun z : EReal => w (ix2 k d) + z) (Finset.sum_congr rfl fun a _ => congrArg (fun z : EReal => z * x0 (ix2 a (lo d))) (score2 x0 kn v kr x4 x6 x5 a k))
theorem khi2 (w : Vec Ideal S1664x128 .f32) (k : Fin 1664) (d : Fin 128) : k0_pay50 (k0_pay43 k0_pay39 x6) (k0_pay44 (k0_pay38 x0 kn kr) k0_pay39 k0_pay40 k0_pay41 (64#32) k0_pay42 x5) w (ix2 k d) = w (ix2 k d) + ∑ a : Fin 544, wt 1088 x0 kn kr x5 a k * dm 1088 x6 a d := by
  have e : ∀ (A : Vec Ideal S544x128 .f32) (B : Vec Ideal S544x1664 .f32), k0_pay50 A B w (ix2 k d) = w (ix2 k d) + ∑ a : Fin 544, B (ix2 a k) * A (ix2 a d) := by
    intro A B
    pointwise [k0_pay50, k0_pay45]
  rw [e]
  exact congrArg (fun z : EReal => w (ix2 k d) + z) (Finset.sum_congr rfl fun a _ => congrArg₂ (fun y z : EReal => y * z) (weight2 x0 kn kr x5 a k) (grad2 x6 a d))
theorem rot2 (w : Vec Ideal S1664x128 .f32) (k : Fin 1664) (d : Fin 128) : k0_pay5 (k0_pay46 v (k0_pay43 k0_pay39 x6) (k0_pay44 (k0_pay38 x0 kn kr) k0_pay39 k0_pay40 k0_pay41 (64#32) k0_pay42 x5) x4) (k0_pay51 w) (k0_pay52 x0) (ix2 k d) = w (ix2 k d) + ∑ a : Fin 544, ds 1088 x0 kn v kr x4 x6 x5 a k * x0 (ix2 a (hi d)) := by
  have e : ∀ (A : Vec Ideal S544x1664 .bf16), k0_pay5 A (k0_pay51 w) (k0_pay52 x0) (ix2 k d) = w (ix2 k d) + ∑ a : Fin 544, A (ix2 a k) * x0 (ix2 a (hi d)) := by
    intro A
    pointwise [k0_pay5, k0_pay51, k0_pay52, hi]
  rw [e]
  exact congrArg (fun z : EReal => w (ix2 k d) + z) (Finset.sum_congr rfl fun a _ => congrArg (fun z : EReal => z * x0 (ix2 a (hi d))) (score2 x0 kn v kr x4 x6 x5 a k))
end

section
variable (x0 : Vec Ideal S544x256 .bf16) (kn v kr : Vec Ideal S2176x128 .bf16) (x4 x6 : Vec Ideal S544x128 .f32) (x5 : Vec Ideal S1x544x1 .f32)
theorem weight3 (a : Fin 544) (k : Fin 2176) : (k0_pay59 (k0_pay53 x0 kn kr) k0_pay54 k0_pay55 k0_pay56 (64#32) k0_pay57 x5) (ix2 a k) = wt 1632 x0 kn kr x5 a k := by
  have e : k0_pay53 x0 kn kr (ix2 a k) = sc x0 kn kr a k := by
    pointwise [k0_pay53, sc, lo, hi]
  pointwise [k0_pay59, k0_pay54, k0_pay55, k0_pay56, k0_pay57]
  rw [row1632, e]
  have ha := a.isLt
  have hk := k.isLt
  unfold wt
  exact congrArg (fun z : EReal => Ideal.exp (z - x5 (ix3 (0 : Fin 1) a (0 : Fin 1)))) (sees_word (1632 + a.val) k.val (by omega) (by omega) _ _)
theorem grad3 (a : Fin 544) (d : Fin 128) : (k0_pay58 k0_pay54 x6) (ix2 a d) = dm 1632 x6 a d := by
  pointwise [k0_pay58, k0_pay54]
  rw [row1632]
  have ha := a.isLt
  unfold dm
  exact ge_word (1632 + a.val) (by omega) _ _
theorem score3 (a : Fin 544) (k : Fin 2176) : (k0_pay61 v (k0_pay58 k0_pay54 x6) (k0_pay59 (k0_pay53 x0 kn kr) k0_pay54 k0_pay55 k0_pay56 (64#32) k0_pay57 x5) x4) (ix2 a k) = ds 1632 x0 kn v kr x4 x6 x5 a k := by
  have e : ∀ (A : Vec Ideal S544x128 .f32) (B : Vec Ideal S544x2176 .f32), k0_pay61 v A B x4 (ix2 a k)
      = B (ix2 a k) * ((∑ d : Fin 128, A (ix2 a d) * v (ix2 k d)) - ∑ d : Fin 128, A (ix2 a d) * x4 (ix2 a d)) * sca := by
    intro A B
    pointwise [k0_pay61, k0_pay60, sca]
  rw [e, weight3]
  simp only [grad3]
  rfl
theorem qlo3 (a : Fin 544) (d : Fin 128) : k0_pay62 kn v (k0_pay58 k0_pay54 x6) (k0_pay59 (k0_pay53 x0 kn kr) k0_pay54 k0_pay55 k0_pay56 (64#32) k0_pay57 x5) x4 (ix2 a d) = ∑ k : Fin 2176, ds 1632 x0 kn v kr x4 x6 x5 a k * kn (ix2 k d) := by
  have e : ∀ (A : Vec Ideal S544x128 .f32) (B : Vec Ideal S544x2176 .f32), k0_pay62 kn v A B x4 (ix2 a d) = ∑ k : Fin 2176, k0_pay61 v A B x4 (ix2 a k) * kn (ix2 k d) := by
    intro A B
    pointwise [k0_pay62]
  rw [e]
  exact Finset.sum_congr rfl fun k _ => congrArg (fun z : EReal => z * kn (ix2 k d)) (score3 x0 kn v kr x4 x6 x5 a k)
theorem qhi3 (a : Fin 544) (d : Fin 128) : k0_pay63 v kr (k0_pay58 k0_pay54 x6) (k0_pay59 (k0_pay53 x0 kn kr) k0_pay54 k0_pay55 k0_pay56 (64#32) k0_pay57 x5) x4 (ix2 a d) = ∑ k : Fin 2176, ds 1632 x0 kn v kr x4 x6 x5 a k * kr (ix2 k d) := by
  have e : ∀ (A : Vec Ideal S544x128 .f32) (B : Vec Ideal S544x2176 .f32), k0_pay63 v kr A B x4 (ix2 a d) = ∑ k : Fin 2176, k0_pay61 v A B x4 (ix2 a k) * kr (ix2 k d) := by
    intro A B
    pointwise [k0_pay63]
  rw [e]
  exact Finset.sum_congr rfl fun k _ => congrArg (fun z : EReal => z * kr (ix2 k d)) (score3 x0 kn v kr x4 x6 x5 a k)
theorem klo3 (w : Vec Ideal S2176x128 .f32) (k : Fin 2176) (d : Fin 128) : k0_pay64 x0 v (k0_pay58 k0_pay54 x6) (k0_pay59 (k0_pay53 x0 kn kr) k0_pay54 k0_pay55 k0_pay56 (64#32) k0_pay57 x5) x4 w (ix2 k d) = w (ix2 k d) + ∑ a : Fin 544, ds 1632 x0 kn v kr x4 x6 x5 a k * x0 (ix2 a (lo d)) := by
  have e : ∀ (A : Vec Ideal S544x128 .f32) (B : Vec Ideal S544x2176 .f32), k0_pay64 x0 v A B x4 w (ix2 k d) = w (ix2 k d) + ∑ a : Fin 544, k0_pay61 v A B x4 (ix2 a k) * x0 (ix2 a (lo d)) := by
    intro A B
    pointwise [k0_pay64, lo]
  rw [e]
  exact congrArg (fun z : EReal => w (ix2 k d) + z) (Finset.sum_congr rfl fun a _ => congrArg (fun z : EReal => z * x0 (ix2 a (lo d))) (score3 x0 kn v kr x4 x6 x5 a k))
theorem khi3 (w : Vec Ideal S2176x128 .f32) (k : Fin 2176) (d : Fin 128) : k0_pay65 (k0_pay58 k0_pay54 x6) (k0_pay59 (k0_pay53 x0 kn kr) k0_pay54 k0_pay55 k0_pay56 (64#32) k0_pay57 x5) w (ix2 k d) = w (ix2 k d) + ∑ a : Fin 544, wt 1632 x0 kn kr x5 a k * dm 1632 x6 a d := by
  have e : ∀ (A : Vec Ideal S544x128 .f32) (B : Vec Ideal S544x2176 .f32), k0_pay65 A B w (ix2 k d) = w (ix2 k d) + ∑ a : Fin 544, B (ix2 a k) * A (ix2 a d) := by
    intro A B
    pointwise [k0_pay65, k0_pay60]
  rw [e]
  exact congrArg (fun z : EReal => w (ix2 k d) + z) (Finset.sum_congr rfl fun a _ => congrArg₂ (fun y z : EReal => y * z) (weight3 x0 kn kr x5 a k) (grad3 x6 a d))
theorem rot3 (w : Vec Ideal S2176x128 .f32) (k : Fin 2176) (d : Fin 128) : k0_pay6 (k0_pay61 v (k0_pay58 k0_pay54 x6) (k0_pay59 (k0_pay53 x0 kn kr) k0_pay54 k0_pay55 k0_pay56 (64#32) k0_pay57 x5) x4) (k0_pay66 w) (k0_pay67 x0) (ix2 k d) = w (ix2 k d) + ∑ a : Fin 544, ds 1632 x0 kn v kr x4 x6 x5 a k * x0 (ix2 a (hi d)) := by
  have e : ∀ (A : Vec Ideal S544x2176 .bf16), k0_pay6 A (k0_pay66 w) (k0_pay67 x0) (ix2 k d) = w (ix2 k d) + ∑ a : Fin 544, A (ix2 a k) * x0 (ix2 a (hi d)) := by
    intro A
    pointwise [k0_pay6, k0_pay66, k0_pay67, hi]
  rw [e]
  exact congrArg (fun z : EReal => w (ix2 k d) + z) (Finset.sum_congr rfl fun a _ => congrArg (fun z : EReal => z * x0 (ix2 a (hi d))) (score3 x0 kn v kr x4 x6 x5 a k))
end

end Cert.Kernel7Ideal.Heads

end
-- ==== Proof.AttnBlock.lean ====
/- The buffers of the gradient of attention after one grid point, at an index. -/
module

public import proofs.«01_k».proof.Proof.AttnFrame
public import proofs.«01_k».proof.Proof.AttnTerms
public import Idealize.ShloMosaic.Lib.Pointwise
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Idealize.ShloMosaic.Pipeline (Dat)

/-! ## Pieces at an index -/

section
variable {s : Shape} {e : EltTy}
theorem canon_mem {off size : Fin s.rank → ℕ} (inb : ∀ a, off a + size a ≤ s.size a) (w : (Rect.unit off size inb).shape.Idx → Elt Ideal e)
    (L : List (View.Piece (Elt Ideal) s e)) (y : s.Idx) (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x
theorem canon_off {off size : Fin s.rank → ℕ} (inb : ∀ a, off a + size a ≤ s.size a) (w : (Rect.unit off size inb).shape.Idx → Elt Ideal e)
    (L : List (View.Piece (Elt Ideal) s e)) (y : s.Idx) (a : Fin s.rank) (ha : (y a).val < off a ∨ off a + size a ≤ (y a).val) :
    View.canon ((⟨Rect.unit off size inb, w⟩ : View.Piece (Elt Ideal) s e) :: L) y = View.canon L y := by
  refine View.canon_cons_of_not_mem _ _ fun hy => ?_
  rw [Rect.mem_set_unit] at hy
  have := hy a
  omega
end

/-- A sum over the first `n` keys is the sum over all where the rest is zero. -/
theorem sum_ext {n N : ℕ} (h : n ≤ N) (f : Fin n → EReal) (g : Fin N → EReal) (e : ∀ k, f k = g (Fin.castLE h k))
    (z : ∀ k : Fin N, n ≤ k.val → g k = 0) : (∑ k, f k) = ∑ k, g k := by
  obtain ⟨r, rfl⟩ := Nat.exists_eq_add_of_le h
  rw [Fin.sum_univ_add, Finset.sum_eq_zero (s := Finset.univ) (f := fun i : Fin r => g (Fin.natAdd n i)) (fun i _ => z _ (Nat.le_add_right n i.val)), add_zero]
  exact Finset.sum_congr rfl fun k _ => e k

section
variable {n : ℕ} (hn : n ≤ 2176)
theorem ld_at (X : Vec Ideal S2176x128 .bf16) (inb) (k : Fin n) (d : Fin 128) :
    View.ld X (Rect.unit ![0, 0] ![n, 128] inb) (ix2 k d) = X (ix2 (Fin.castLE hn k) d) :=
  View.ld_unit_apply_of X _ _ _ _ _ (Fin.forall_fin_two.mpr ⟨(Nat.zero_add k.val).symm, (Nat.zero_add d.val).symm⟩)
theorem ldr_at (X : Vec Ideal S2176x128 .f32) (inb) (k : Fin n) (d : Fin 128) :
    View.ld X (Rect.unit ![0, 0] ![n, 128] inb) (ix2 k d) = X (ix2 (Fin.castLE hn k) d) :=
  View.ld_unit_apply_of X _ _ _ _ _ (Fin.forall_fin_two.mpr ⟨(Nat.zero_add k.val).symm, (Nat.zero_add d.val).symm⟩)
theorem ldlo_at (X : Vec Ideal S2176x256 .f32) (inb) (k : Fin n) (d : Fin 128) :
    View.ld X (Rect.unit ![0, 0] ![n, 128] inb) (ix2 k d) = X (ix2 (Fin.castLE hn k) (lo d)) :=
  View.ld_unit_apply_of X _ _ _ _ _ (Fin.forall_fin_two.mpr ⟨(Nat.zero_add k.val).symm, (Nat.zero_add d.val).symm⟩)
theorem ldhi_at (X : Vec Ideal S2176x256 .f32) (inb) (k : Fin n) (d : Fin 128) :
    View.ld X (Rect.unit ![0, 128] ![n, 128] inb) (ix2 k d) = X (ix2 (Fin.castLE hn k) (hi d)) :=
  View.ld_unit_apply_of X _ _ _ _ _ (Fin.forall_fin_two.mpr ⟨(Nat.zero_add k.val).symm, rfl⟩)
end

theorem cov_r (t : Fin cfg0.N) (w : Vec Ideal S2176x128 .f32) (i i') (k : Fin 640) (d : Fin 128) :
    (ms0_9 t).view.readCov [(⟨Rect.unit ![0, 0] ![2176, 128] i, w⟩ : View.Piece (Elt Ideal) S2176x128 .f32)] (Rect.unit (s := S2176x128) ![0, 0] ![640, 128] i').toLoadRect (ix2 k d)
      = w (ix2 (Fin.castLE (by omega) k) d) :=
  View.read_writes_cons_unit_of_mem (off' := ![0, 0]) _ _ i w [] _ (ix2 (Fin.castLE (by omega) k) d) rfl
    (Fin.forall_fin_two.mpr ⟨by show 0 + 1 * k.val = 0 + k.val; omega, by show 0 + 1 * d.val = 0 + d.val; omega⟩)
theorem cov_lo (V : View sig .tc .vmem S2176x256 .f32) (w : Vec Ideal S2176x256 .f32) (i i') (k : Fin 640) (d : Fin 128) :
    V.readCov [(⟨Rect.unit ![0, 0] ![2176, 256] i, w⟩ : View.Piece (Elt Ideal) S2176x256 .f32)] (Rect.unit (s := S2176x256) ![0, 0] ![640, 128] i').toLoadRect (ix2 k d)
      = w (ix2 (Fin.castLE (by omega) k) (lo d)) :=
  View.read_writes_cons_unit_of_mem (off' := ![0, 0]) _ _ i w [] _ (ix2 (Fin.castLE (by omega) k) (lo d)) rfl
    (Fin.forall_fin_two.mpr ⟨by show 0 + 1 * k.val = 0 + k.val; omega, by show 0 + 1 * d.val = 0 + d.val; omega⟩)
theorem cov_hi (V : View sig .tc .vmem S2176x256 .f32) (u : Vec Ideal S640x128 .f32) (w : Vec Ideal S2176x256 .f32) (j i i') (k : Fin 640) (d : Fin 128) :
    V.readCov [(⟨Rect.unit ![0, 0] ![640, 128] j, u⟩ : View.Piece (Elt Ideal) S2176x256 .f32), ⟨Rect.unit ![0, 0] ![2176, 256] i, w⟩]
      (Rect.unit (s := S2176x256) ![0, 128] ![640, 128] i').toLoadRect (ix2 k d) = w (ix2 (Fin.castLE (by omega) k) (hi d)) :=
  (View.read_writes_cons_unit_of_not_mem (off' := ![0, 0]) _ _ j u _ _ rfl (1 : Fin 2) (Or.inr (by show 0 + 128 ≤ 128 + 1 * d.val; omega))).trans
    (View.read_writes_cons_unit_of_mem (off' := ![0, 0]) _ _ i w [] _ (ix2 (Fin.castLE (by omega) k) (hi d)) rfl
      (Fin.forall_fin_two.mpr ⟨by show 0 + 1 * k.val = 0 + k.val; omega, by show 128 + 1 * d.val = 0 + (128 + d.val); omega⟩))

section
variable {n : ℕ} (k : Fin 2176) (d : Fin 128)
theorem q_lo (u w : Vec Ideal S544x128 .f32) (i i') (a : Fin 544) :
    View.canon [(⟨Rect.unit ![0, 128] ![544, 128] i, u⟩ : View.Piece (Elt Ideal) S544x256 .f32), ⟨Rect.unit ![0, 0] ![544, 128] i', w⟩] (ix2 a (lo d)) = w (ix2 a d) :=
  (canon_off (e := .f32) (s := S544x256) i u _ (ix2 a (lo d)) (1 : Fin 2) (Or.inl (show d.val < 128 from d.isLt))).trans
    (canon_mem (e := .f32) (s := S544x256) i' w _ (ix2 a (lo d)) (ix2 a d) (Fin.forall_fin_two.mpr ⟨(Nat.zero_add a.val).symm, (Nat.zero_add d.val).symm⟩))
theorem q_hi (u w : Vec Ideal S544x128 .f32) (i i') (a : Fin 544) :
    View.canon [(⟨Rect.unit ![0, 128] ![544, 128] i, u⟩ : View.Piece (Elt Ideal) S544x256 .f32), ⟨Rect.unit ![0, 0] ![544, 128] i', w⟩] (ix2 a (hi d)) = u (ix2 a d) :=
  canon_mem (e := .f32) (s := S544x256) i u _ (ix2 a (hi d)) (ix2 a d) (Fin.forall_fin_two.mpr ⟨(Nat.zero_add a.val).symm, rfl⟩)

variable (u w : FVec Ideal (⟨2, ![n, 128]⟩ : Shape) .f32)
theorem cr_mem (z : Vec Ideal S2176x128 .f32) (i i') (hk : k.val < n) :
    View.canon [(⟨Rect.unit ![0, 0] ![n, 128] i, u⟩ : View.Piece (Elt Ideal) S2176x128 .f32), ⟨Rect.unit ![0, 0] ![2176, 128] i', z⟩] (ix2 k d) = u (ix2 ⟨k.val, hk⟩ d) :=
  canon_mem (e := .f32) (s := S2176x128) i u _ (ix2 k d) (ix2 ⟨k.val, hk⟩ d) (Fin.forall_fin_two.mpr ⟨(Nat.zero_add k.val).symm, (Nat.zero_add d.val).symm⟩)
theorem cr_off (z : Vec Ideal S2176x128 .f32) (i i') (hk : ¬ k.val < n) :
    View.canon [(⟨Rect.unit ![0, 0] ![n, 128] i, u⟩ : View.Piece (Elt Ideal) S2176x128 .f32), ⟨Rect.unit ![0, 0] ![2176, 128] i', z⟩] (ix2 k d) = z (ix2 k d) :=
  (canon_off (e := .f32) (s := S2176x128) i u _ (ix2 k d) (0 : Fin 2) (Or.inr (show 0 + n ≤ k.val by omega))).trans
    (canon_mem (e := .f32) (s := S2176x128) i' z _ (ix2 k d) (ix2 k d) (Fin.forall_fin_two.mpr ⟨(Nat.zero_add k.val).symm, (Nat.zero_add d.val).symm⟩))
section
variable (V : View sig .tc .vmem S2176x128 .f32) (f : V.ty.Contents (Elt Ideal))
theorem rr_mem (i) (hk : k.val < n) :
    View.read (Elt Ideal) V (V.writes (Elt Ideal) f [(⟨Rect.unit ![0, 0] ![n, 128] i, u⟩ : View.Piece (Elt Ideal) S2176x128 .f32)]) (ix2 k d) = u (ix2 ⟨k.val, hk⟩ d) :=
  View.read_writes_cons_unit_of_mem (e := .f32) (s := S2176x128) (off' := ![0, 0]) V f i u [] (ix2 k d) (ix2 ⟨k.val, hk⟩ d) rfl
    (Fin.forall_fin_two.mpr ⟨(Nat.zero_add k.val).symm, (Nat.zero_add d.val).symm⟩)
theorem rr_off (i) (hk : ¬ k.val < n) :
    View.read (Elt Ideal) V (V.writes (Elt Ideal) f [(⟨Rect.unit ![0, 0] ![n, 128] i, u⟩ : View.Piece (Elt Ideal) S2176x128 .f32)]) (ix2 k d) = View.read (Elt Ideal) V f (ix2 k d) :=
  View.read_writes_cons_unit_of_not_mem (e := .f32) (s := S2176x128) (off' := ![0, 0]) V f i u [] (ix2 k d) rfl (0 : Fin 2) (Or.inr (show 0 + n ≤ k.val by omega))
end
section
variable (z : Vec Ideal S2176x256 .f32) (i i')
section
variable (i'')
theorem cs_lo (hk : k.val < n) :
    View.canon [(⟨Rect.unit ![0, 128] ![n, 128] i, u⟩ : View.Piece (Elt Ideal) S2176x256 .f32), ⟨Rect.unit ![0, 0] ![n, 128] i', w⟩, ⟨Rect.unit ![0, 0] ![2176, 256] i'', z⟩] (ix2 k (lo d)) = w (ix2 ⟨k.val, hk⟩ d) :=
  (canon_off (e := .f32) (s := S2176x256) i u _ (ix2 k (lo d)) (1 : Fin 2) (Or.inl (show d.val < 128 from d.isLt))).trans
    (canon_mem (e := .f32) (s := S2176x256) i' w _ (ix2 k (lo d)) (ix2 ⟨k.val, hk⟩ d) (Fin.forall_fin_two.mpr ⟨(Nat.zero_add k.val).symm, (Nat.zero_add d.val).symm⟩))
theorem cs_hi (hk : k.val < n) :
    View.canon [(⟨Rect.unit ![0, 128] ![n, 128] i, u⟩ : View.Piece (Elt Ideal) S2176x256 .f32), ⟨Rect.unit ![0, 0] ![n, 128] i', w⟩, ⟨Rect.unit ![0, 0] ![2176, 256] i'', z⟩] (ix2 k (hi d)) = u (ix2 ⟨k.val, hk⟩ d) :=
  canon_mem (e := .f32) (s := S2176x256) i u _ (ix2 k (hi d)) (ix2 ⟨k.val, hk⟩ d) (Fin.forall_fin_two.mpr ⟨(Nat.zero_add k.val).symm, rfl⟩)
theorem cs_off (c : Fin 256) (hk : ¬ k.val < n) :
    View.canon [(⟨Rect.unit ![0, 128] ![n, 128] i, u⟩ : View.Piece (Elt Ideal) S2176x256 .f32), ⟨Rect.unit ![0, 0] ![n, 128] i', w⟩, ⟨Rect.unit ![0, 0] ![2176, 256] i'', z⟩] (ix2 k c) = z (ix2 k c) :=
  ((canon_off (e := .f32) (s := S2176x256) i u _ (ix2 k c) (0 : Fin 2) (Or.inr (show 0 + n ≤ k.val by omega))).trans
    (canon_off (e := .f32) (s := S2176x256) i' w _ (ix2 k c) (0 : Fin 2) (Or.inr (show 0 + n ≤ k.val by omega)))).trans
    (canon_mem (e := .f32) (s := S2176x256) i'' z _ (ix2 k c) (ix2 k c) (Fin.forall_fin_two.mpr ⟨(Nat.zero_add k.val).symm, (Nat.zero_add c.val).symm⟩))
end
variable (V : View sig .tc .vmem S2176x256 .f32) (f : V.ty.Contents (Elt Ideal))
theorem rs_lo (hk : k.val < n) :
    View.read (Elt Ideal) V (V.writes (Elt Ideal) f [(⟨Rect.unit ![0, 128] ![n, 128] i, u⟩ : View.Piece (Elt Ideal) S2176x256 .f32), ⟨Rect.unit ![0, 0] ![n, 128] i', w⟩]) (ix2 k (lo d)) = w (ix2 ⟨k.val, hk⟩ d) :=
  (View.read_writes_cons_unit_of_not_mem (e := .f32) (s := S2176x256) (off' := ![0, 128]) V f i u _ (ix2 k (lo d)) rfl (1 : Fin 2) (Or.inl (show d.val < 128 from d.isLt))).trans
    (View.read_writes_cons_unit_of_mem (e := .f32) (s := S2176x256) (off' := ![0, 0]) V f i' w [] (ix2 k (lo d)) (ix2 ⟨k.val, hk⟩ d) rfl
      (Fin.forall_fin_two.mpr ⟨(Nat.zero_add k.val).symm, (Nat.zero_add d.val).symm⟩))
theorem rs_hi (hk : k.val < n) :
    View.read (Elt Ideal) V (V.writes (Elt Ideal) f [(⟨Rect.unit ![0, 128] ![n, 128] i, u⟩ : View.Piece (Elt Ideal) S2176x256 .f32), ⟨Rect.unit ![0, 0] ![n, 128] i', w⟩]) (ix2 k (hi d)) = u (ix2 ⟨k.val, hk⟩ d) :=
  View.read_writes_cons_unit_of_mem (e := .f32) (s := S2176x256) (off' := ![0, 128]) V f i u _ (ix2 k (hi d)) (ix2 ⟨k.val, hk⟩ d) rfl
    (Fin.forall_fin_two.mpr ⟨(Nat.zero_add k.val).symm, rfl⟩)
theorem rs_off (c : Fin 256) (hk : ¬ k.val < n) :
    View.read (Elt Ideal) V (V.writes (Elt Ideal) f [(⟨Rect.unit ![0, 128] ![n, 128] i, u⟩ : View.Piece (Elt Ideal) S2176x256 .f32), ⟨Rect.unit ![0, 0] ![n, 128] i', w⟩]) (ix2 k c) = View.read (Elt Ideal) V f (ix2 k c) :=
  (View.read_writes_cons_unit_of_not_mem (e := .f32) (s := S2176x256) (off' := ![0, 128]) V f i u _ (ix2 k c) rfl (0 : Fin 2) (Or.inr (show 0 + n ≤ k.val by omega))).trans
    (View.read_writes_cons_unit_of_not_mem (e := .f32) (s := S2176x256) (off' := ![0, 0]) V f i' w [] (ix2 k c) rfl (0 : Fin 2) (Or.inr (show 0 + n ≤ k.val by omega)))
end
end
theorem col (d : Fin 256) : (∃ e : Fin 128, d = lo e) ∨ ∃ e : Fin 128, d = hi e := by
  by_cases h : d.val < 128
  · exact Or.inl ⟨⟨d.val, h⟩, rfl⟩
  · have := d.isLt
    exact Or.inr ⟨⟨d.val - 128, by omega⟩, Fin.ext (by show d.val = 128 + (d.val - 128); omega)⟩

theorem sD_back (u w : Vec Ideal S2176x128 .f32) (V V' : View sig .tc .vmem S2176x256 .f32) (f : V'.ty.Contents (Elt Ideal)) (i i' j j' l) (k : Fin 2176) (d : Fin 256) :
    k0_pay7 (V.readCov [(⟨Rect.unit ![0, 128] ![2176, 128] i, u⟩ : View.Piece (Elt Ideal) S2176x256 .f32), ⟨Rect.unit ![0, 0] ![2176, 128] i', w⟩]
      (Rect.unit ![0, 0] ![2176, 256] l).toLoadRect) (ix2 k d)
    = View.read (Elt Ideal) V' (V'.writes (Elt Ideal) f [(⟨Rect.unit ![0, 128] ![2176, 128] j, u⟩ : View.Piece (Elt Ideal) S2176x256 .f32), ⟨Rect.unit ![0, 0] ![2176, 128] j', w⟩]) (ix2 k d) := by
  have e : ∀ X : Vec Ideal S2176x256 .f32, k0_pay7 X (ix2 k d) = X (ix2 k d) := by
    intro X
    pointwise [k0_pay7]
  rw [e]
  have e' : (Rect.unit ![0, 0] ![2176, 256] l).toLoadRect.idx (ix2 k d) = ix2 k d := by
    funext a
    refine Fin.ext ?_
    fin_cases a
    · show 0 + 1 * k.val = k.val
      omega
    · show 0 + 1 * d.val = d.val
      omega
  refine (congrArg (fun y => View.read (Elt Ideal) V (V.writes (Elt Ideal) V.junk _) y) e').trans ?_
  rcases col d with ⟨b, rfl⟩ | ⟨b, rfl⟩
  · exact (rs_lo (n := 2176) k b u w i i' V _ k.isLt).trans (rs_lo (n := 2176) k b u w j j' V' f k.isLt).symm
  · exact (rs_hi (n := 2176) k b u w i i' V _ k.isLt).trans (rs_hi (n := 2176) k b u w j j' V' f k.isLt).symm
theorem zero_s (k : Fin 2176) (d : Fin 256) : k0_pay1 (F := Ideal) (ix2 k d) = 0 := by
  pointwise [k0_pay1]
theorem zero_r (k : Fin 2176) (d : Fin 128) : k0_pay2 (F := Ideal) (ix2 k d) = 0 := by
  pointwise [k0_pay2]

section
variable {n : ℕ} (hn : n ≤ 2176) (off : ℕ) (x0 : Vec Ideal S544x256 .bf16) (kn v kr : Vec Ideal S2176x128 .bf16)
  (x4 x6 : Vec Ideal S544x128 .f32) (x5 : Vec Ideal S1x544x1 .f32) (i : ∀ a, (![0, 0] : Fin 2 → ℕ) a + (![n, 128] : Fin 2 → ℕ) a ≤ S2176x128.size a) (a : Fin 544) (k : Fin n)
theorem sc_ld : sc x0 (View.ld kn (Rect.unit ![0, 0] ![n, 128] i)) (View.ld kr (Rect.unit ![0, 0] ![n, 128] i)) a k = sc x0 kn kr a (Fin.castLE hn k) :=
  congrArg₂ (fun y z : EReal => y + z) (Finset.sum_congr rfl fun d _ => congrArg (fun z : EReal => x0 (ix2 a (lo d)) * z) (ld_at hn kn i k d))
    (Finset.sum_congr rfl fun d _ => congrArg (fun z : EReal => x0 (ix2 a (hi d)) * z) (ld_at hn kr i k d))
theorem wt_ld : wt off x0 (View.ld kn (Rect.unit ![0, 0] ![n, 128] i)) (View.ld kr (Rect.unit ![0, 0] ![n, 128] i)) x5 a k = wt off x0 kn kr x5 a (Fin.castLE hn k) :=
  congrArg (fun z : EReal => Ideal.exp ((if Sees (off + a.val) k.val then z * sca else ⊥) - x5 (ix3 (0 : Fin 1) a (0 : Fin 1)))) (sc_ld hn x0 kn kr i a k)
theorem ds_ld : ds off x0 (View.ld kn (Rect.unit ![0, 0] ![n, 128] i)) (View.ld v (Rect.unit ![0, 0] ![n, 128] i)) (View.ld kr (Rect.unit ![0, 0] ![n, 128] i)) x4 x6 x5 a k
    = ds off x0 kn v kr x4 x6 x5 a (Fin.castLE hn k) :=
  congrArg₂ (fun y z : EReal => y * (z - ∑ d : Fin 128, dm off x6 a d * x4 (ix2 a d)) * sca) (wt_ld hn off x0 kn kr x5 i a k)
    (Finset.sum_congr rfl fun d _ => congrArg (fun z : EReal => dm off x6 a d * z) (ld_at hn v i k d))
end

theorem unseen (off n : ℕ) (a : Fin 544) (k : Fin 2176) (h : n ≤ k.val) (e : (off + 543) / 64 < n / 64) : ¬ Sees (off + a.val) k.val := by
  have := a.isLt
  intro hs
  have h1 := hs.2
  have h2 : n / 64 ≤ k.val / 64 := Nat.div_le_div_right h
  have h3 : (off + a.val) / 64 ≤ (off + 543) / 64 := Nat.div_le_div_right (by omega)
  omega

/-! ## The buffers after a point -/

variable (m : (ℓ : Loc nD τ sig) → Buf (Elt Ideal) ℓ)

/-- The weight and the gradient by the score of the blocks at a point. -/
def wtT (c : Dev nD) (t : Fin cfg0.N) (off : ℕ) (a : Fin 544) (k : Fin 2176) : EReal := wt off (iblk m c 0 t) (iblk m c 1 t) (iblk m c 3 t) (iblk m c 5 t) a k
def dsT (c : Dev nD) (t : Fin cfg0.N) (off : ℕ) (a : Fin 544) (k : Fin 2176) : EReal :=
  ds off (iblk m c 0 t) (iblk m c 1 t) (iblk m c 2 t) (iblk m c 3 t) (iblk m c 4 t) (iblk m c 6 t) (iblk m c 5 t) a k
def dmT (c : Dev nD) (t : Fin cfg0.N) (off : ℕ) (a : Fin 544) (d : Fin 128) : EReal := dm off (iblk m c 6 t) a d
def xT (c : Dev nD) (t : Fin cfg0.N) (a : Fin 544) (d : Fin 256) : EReal := iblk m c 0 t (ix2 a d)
def kT (c : Dev nD) (t : Fin cfg0.N) (k : Fin 2176) (d : Fin 128) : EReal := iblk m c 1 t (ix2 k d)
def rT (c : Dev nD) (t : Fin cfg0.N) (k : Fin 2176) (d : Fin 128) : EReal := iblk m c 3 t (ix2 k d)

section
variable (c : Dev nD) (t : Fin cfg0.N) (h : t.val % 32 = 0)
theorem qA_lo (a : Fin 544) (d : Fin 128) : qA m c t h (ix2 a (lo d)) = ∑ k : Fin 2176, dsT m c t 0 a k * kT m c t k d := by
  unfold qA runA
  frame_out
  refine (q_lo d _ _ _ _ a).trans ?_
  refine (qlo0 _ _ _ _ _ _ _ a d).trans ?_
  exact sum_ext (n := 640) (by omega) _ (fun k => dsT m c t 0 a k * kT m c t k d) (fun k => congrArg₂ (fun y z : EReal => y * z) (ds_ld (n := 640) (by omega) 0 _ _ _ _ _ _ _ _ a k) (ld_at (by omega) _ _ k d))
    fun k hk => (congrArg (fun z : EReal => z * kT m c t k d) (by show dsT m c t 0 a k = 0; exact ds_zero _ _ _ _ _ _ _ _ _ _ (unseen 0 640 a k hk (by omega)))).trans (zero_mul _)
theorem qA_hi (a : Fin 544) (d : Fin 128) : qA m c t h (ix2 a (hi d)) = ∑ k : Fin 2176, dsT m c t 0 a k * rT m c t k d := by
  unfold qA runA
  frame_out
  refine (q_hi d _ _ _ _ a).trans ?_
  refine (qhi0 _ _ _ _ _ _ _ a d).trans ?_
  exact sum_ext (n := 640) (by omega) _ (fun k => dsT m c t 0 a k * rT m c t k d) (fun k => congrArg₂ (fun y z : EReal => y * z) (ds_ld (n := 640) (by omega) 0 _ _ _ _ _ _ _ _ a k) (ld_at (by omega) _ _ k d))
    fun k hk => (congrArg (fun z : EReal => z * rT m c t k d) (by show dsT m c t 0 a k = 0; exact ds_zero _ _ _ _ _ _ _ _ _ _ (unseen 0 640 a k hk (by omega)))).trans (zero_mul _)
theorem rA_at (k : Fin 2176) (d : Fin 128) : rA m c t h (ix2 k d) = 0 + ∑ a : Fin 544, dsT m c t 0 a k * xT m c t a (hi d) := by
  unfold rA runA
  frame_out
  by_cases hk : k.val < 640
  · refine (cr_mem k d _ _ _ _ hk).trans ?_
    refine (rot0 _ _ _ _ _ _ _ _ ⟨k.val, hk⟩ d).trans ?_
    exact congrArg₂ (fun y z : EReal => y + z) ((cov_r _ _ _ _ ⟨k.val, hk⟩ d).trans (zero_r _ _)) (Finset.sum_congr rfl fun a _ => congrArg (fun z : EReal => z * xT m c t a (hi d)) (ds_ld (n := 640) (by omega) 0 _ _ _ _ _ _ _ _ a ⟨k.val, hk⟩))
  · rw [show (∑ a : Fin 544, dsT m c t 0 a k * xT m c t a (hi d)) = 0 from Finset.sum_eq_zero fun a _ => (congrArg (fun z : EReal => z * xT m c t a (hi d)) (by show dsT m c t 0 a k = 0; exact ds_zero _ _ _ _ _ _ _ _ _ _ (unseen 0 640 a k (Nat.le_of_not_lt hk) (by omega)))).trans (zero_mul _), add_zero]
    refine (cr_off k d _ _ _ _ hk).trans ?_
    exact zero_r k d
theorem sA_lo (k : Fin 2176) (d : Fin 128) : sA m c t h (ix2 k (lo d)) = 0 + ∑ a : Fin 544, dsT m c t 0 a k * xT m c t a (lo d) := by
  unfold sA runA
  frame_out
  by_cases hk : k.val < 640
  · refine (cs_lo k d _ _ _ _ _ _ hk).trans ?_
    refine (klo0 _ _ _ _ _ _ _ _ ⟨k.val, hk⟩ d).trans ?_
    exact congrArg₂ (fun y z : EReal => y + z) ((cov_lo _ _ _ _ ⟨k.val, hk⟩ d).trans (zero_s _ _)) (Finset.sum_congr rfl fun a _ => congrArg (fun z : EReal => z * xT m c t a (lo d)) (ds_ld (n := 640) (by omega) 0 _ _ _ _ _ _ _ _ a ⟨k.val, hk⟩))
  · rw [show (∑ a : Fin 544, dsT m c t 0 a k * xT m c t a (lo d)) = 0 from Finset.sum_eq_zero fun a _ => (congrArg (fun z : EReal => z * xT m c t a (lo d)) (by show dsT m c t 0 a k = 0; exact ds_zero _ _ _ _ _ _ _ _ _ _ (unseen 0 640 a k (Nat.le_of_not_lt hk) (by omega)))).trans (zero_mul _), add_zero]
    refine (cs_off k _ _ _ _ _ _ (lo d) hk).trans ?_
    exact zero_s _ _
theorem sA_hi (k : Fin 2176) (d : Fin 128) : sA m c t h (ix2 k (hi d)) = 0 + ∑ a : Fin 544, wtT m c t 0 a k * dmT m c t 0 a d := by
  unfold sA runA
  frame_out
  by_cases hk : k.val < 640
  · refine (cs_hi k d _ _ _ _ _ _ hk).trans ?_
    refine (khi0 _ _ _ _ _ _ ⟨k.val, hk⟩ d).trans ?_
    exact congrArg₂ (fun y z : EReal => y + z) ((cov_hi _ _ _ _ _ _ ⟨k.val, hk⟩ d).trans (zero_s _ _)) (Finset.sum_congr rfl fun a _ => congrArg (fun z : EReal => z * dmT m c t 0 a d) (wt_ld (n := 640) (by omega) 0 _ _ _ _ _ a ⟨k.val, hk⟩))
  · rw [show (∑ a : Fin 544, wtT m c t 0 a k * dmT m c t 0 a d) = 0 from Finset.sum_eq_zero fun a _ => (congrArg (fun z : EReal => z * dmT m c t 0 a d) (by show wtT m c t 0 a k = 0; exact wt_zero _ _ _ _ _ _ _ (unseen 0 640 a k (Nat.le_of_not_lt hk) (by omega)))).trans (zero_mul _), add_zero]
    refine (cs_off k _ _ _ _ _ _ (hi d) hk).trans ?_
    exact zero_s _ _
end

section
variable (c : Dev nD) (t : Fin cfg0.N) (h : t.val % 4 = 0) (h' : ¬ t.val % 32 = 0) (x9 : Vec Ideal S2176x128 .f32)
theorem qE_lo (a : Fin 544) (d : Fin 128) : qE m c t h h' x9 (ix2 a (lo d)) = ∑ k : Fin 2176, dsT m c t 0 a k * kT m c t k d := by
  unfold qE runE
  frame_out
  refine (q_lo d _ _ _ _ a).trans ?_
  refine (qlo0 _ _ _ _ _ _ _ a d).trans ?_
  exact sum_ext (n := 640) (by omega) _ (fun k => dsT m c t 0 a k * kT m c t k d) (fun k => congrArg₂ (fun y z : EReal => y * z) (ds_ld (n := 640) (by omega) 0 _ _ _ _ _ _ _ _ a k) (ld_at (by omega) _ _ k d))
    fun k hk => (congrArg (fun z : EReal => z * kT m c t k d) (by show dsT m c t 0 a k = 0; exact ds_zero _ _ _ _ _ _ _ _ _ _ (unseen 0 640 a k hk (by omega)))).trans (zero_mul _)
theorem qE_hi (a : Fin 544) (d : Fin 128) : qE m c t h h' x9 (ix2 a (hi d)) = ∑ k : Fin 2176, dsT m c t 0 a k * rT m c t k d := by
  unfold qE runE
  frame_out
  refine (q_hi d _ _ _ _ a).trans ?_
  refine (qhi0 _ _ _ _ _ _ _ a d).trans ?_
  exact sum_ext (n := 640) (by omega) _ (fun k => dsT m c t 0 a k * rT m c t k d) (fun k => congrArg₂ (fun y z : EReal => y * z) (ds_ld (n := 640) (by omega) 0 _ _ _ _ _ _ _ _ a k) (ld_at (by omega) _ _ k d))
    fun k hk => (congrArg (fun z : EReal => z * rT m c t k d) (by show dsT m c t 0 a k = 0; exact ds_zero _ _ _ _ _ _ _ _ _ _ (unseen 0 640 a k hk (by omega)))).trans (zero_mul _)
theorem rE_at (k : Fin 2176) (d : Fin 128) : rE m c t h h' x9 (ix2 k d) = x9 (ix2 k d) + ∑ a : Fin 544, dsT m c t 0 a k * xT m c t a (hi d) := by
  unfold rE runE
  frame_out
  by_cases hk : k.val < 640
  · refine (rr_mem k d _ _ _ _ hk).trans ?_
    refine (rot0 _ _ _ _ _ _ _ _ ⟨k.val, hk⟩ d).trans ?_
    exact congrArg₂ (fun y z : EReal => y + z) (ldr_at (by omega) _ _ ⟨k.val, hk⟩ d) (Finset.sum_congr rfl fun a _ => congrArg (fun z : EReal => z * xT m c t a (hi d)) (ds_ld (n := 640) (by omega) 0 _ _ _ _ _ _ _ _ a ⟨k.val, hk⟩))
  · rw [show (∑ a : Fin 544, dsT m c t 0 a k * xT m c t a (hi d)) = 0 from Finset.sum_eq_zero fun a _ => (congrArg (fun z : EReal => z * xT m c t a (hi d)) (by show dsT m c t 0 a k = 0; exact ds_zero _ _ _ _ _ _ _ _ _ _ (unseen 0 640 a k (Nat.le_of_not_lt hk) (by omega)))).trans (zero_mul _), add_zero]
    refine (rr_off k d _ _ _ _ hk).trans ?_
    exact congrFun (Memref.IsWhole.read_unread _ _) _
theorem sE_lo (k : Fin 2176) (d : Fin 128) : sE m c t h h' x9 (ix2 k (lo d)) = 0 + ∑ a : Fin 544, dsT m c t 0 a k * xT m c t a (lo d) := by
  unfold sE runE
  frame_out
  by_cases hk : k.val < 640
  · refine (cs_lo k d _ _ _ _ _ _ hk).trans ?_
    refine (klo0 _ _ _ _ _ _ _ _ ⟨k.val, hk⟩ d).trans ?_
    exact congrArg₂ (fun y z : EReal => y + z) ((cov_lo _ _ _ _ ⟨k.val, hk⟩ d).trans (zero_s _ _)) (Finset.sum_congr rfl fun a _ => congrArg (fun z : EReal => z * xT m c t a (lo d)) (ds_ld (n := 640) (by omega) 0 _ _ _ _ _ _ _ _ a ⟨k.val, hk⟩))
  · rw [show (∑ a : Fin 544, dsT m c t 0 a k * xT m c t a (lo d)) = 0 from Finset.sum_eq_zero fun a _ => (congrArg (fun z : EReal => z * xT m c t a (lo d)) (by show dsT m c t 0 a k = 0; exact ds_zero _ _ _ _ _ _ _ _ _ _ (unseen 0 640 a k (Nat.le_of_not_lt hk) (by omega)))).trans (zero_mul _), add_zero]
    refine (cs_off k _ _ _ _ _ _ (lo d) hk).trans ?_
    exact zero_s _ _
theorem sE_hi (k : Fin 2176) (d : Fin 128) : sE m c t h h' x9 (ix2 k (hi d)) = 0 + ∑ a : Fin 544, wtT m c t 0 a k * dmT m c t 0 a d := by
  unfold sE runE
  frame_out
  by_cases hk : k.val < 640
  · refine (cs_hi k d _ _ _ _ _ _ hk).trans ?_
    refine (khi0 _ _ _ _ _ _ ⟨k.val, hk⟩ d).trans ?_
    exact congrArg₂ (fun y z : EReal => y + z) ((cov_hi _ _ _ _ _ _ ⟨k.val, hk⟩ d).trans (zero_s _ _)) (Finset.sum_congr rfl fun a _ => congrArg (fun z : EReal => z * dmT m c t 0 a d) (wt_ld (n := 640) (by omega) 0 _ _ _ _ _ a ⟨k.val, hk⟩))
  · rw [show (∑ a : Fin 544, wtT m c t 0 a k * dmT m c t 0 a d) = 0 from Finset.sum_eq_zero fun a _ => (congrArg (fun z : EReal => z * dmT m c t 0 a d) (by show wtT m c t 0 a k = 0; exact wt_zero _ _ _ _ _ _ _ (unseen 0 640 a k (Nat.le_of_not_lt hk) (by omega)))).trans (zero_mul _), add_zero]
    refine (cs_off k _ _ _ _ _ _ (hi d) hk).trans ?_
    exact zero_s _ _
end

section
variable (c : Dev nD) (t : Fin cfg0.N) (h : t.val % 4 = 1) (x9 : Vec Ideal S2176x128 .f32) (xs : Vec Ideal S2176x256 .f32)
theorem qB_lo (a : Fin 544) (d : Fin 128) : qB m c t h x9 xs (ix2 a (lo d)) = ∑ k : Fin 2176, dsT m c t 544 a k * kT m c t k d := by
  unfold qB runB
  frame_out
  refine (q_lo d _ _ _ _ a).trans ?_
  refine (qlo1 _ _ _ _ _ _ _ a d).trans ?_
  exact sum_ext (n := 1152) (by omega) _ (fun k => dsT m c t 544 a k * kT m c t k d) (fun k => congrArg₂ (fun y z : EReal => y * z) (ds_ld (n := 1152) (by omega) 544 _ _ _ _ _ _ _ _ a k) (ld_at (by omega) _ _ k d))
    fun k hk => (congrArg (fun z : EReal => z * kT m c t k d) (by show dsT m c t 544 a k = 0; exact ds_zero _ _ _ _ _ _ _ _ _ _ (unseen 544 1152 a k hk (by omega)))).trans (zero_mul _)
theorem qB_hi (a : Fin 544) (d : Fin 128) : qB m c t h x9 xs (ix2 a (hi d)) = ∑ k : Fin 2176, dsT m c t 544 a k * rT m c t k d := by
  unfold qB runB
  frame_out
  refine (q_hi d _ _ _ _ a).trans ?_
  refine (qhi1 _ _ _ _ _ _ _ a d).trans ?_
  exact sum_ext (n := 1152) (by omega) _ (fun k => dsT m c t 544 a k * rT m c t k d) (fun k => congrArg₂ (fun y z : EReal => y * z) (ds_ld (n := 1152) (by omega) 544 _ _ _ _ _ _ _ _ a k) (ld_at (by omega) _ _ k d))
    fun k hk => (congrArg (fun z : EReal => z * rT m c t k d) (by show dsT m c t 544 a k = 0; exact ds_zero _ _ _ _ _ _ _ _ _ _ (unseen 544 1152 a k hk (by omega)))).trans (zero_mul _)
theorem rB_at (k : Fin 2176) (d : Fin 128) : rB m c t h x9 xs (ix2 k d) = x9 (ix2 k d) + ∑ a : Fin 544, dsT m c t 544 a k * xT m c t a (hi d) := by
  unfold rB runB
  frame_out
  by_cases hk : k.val < 1152
  · refine (rr_mem k d _ _ _ _ hk).trans ?_
    refine (rot1 _ _ _ _ _ _ _ _ ⟨k.val, hk⟩ d).trans ?_
    exact congrArg₂ (fun y z : EReal => y + z) (ldr_at (by omega) _ _ ⟨k.val, hk⟩ d) (Finset.sum_congr rfl fun a _ => congrArg (fun z : EReal => z * xT m c t a (hi d)) (ds_ld (n := 1152) (by omega) 544 _ _ _ _ _ _ _ _ a ⟨k.val, hk⟩))
  · rw [show (∑ a : Fin 544, dsT m c t 544 a k * xT m c t a (hi d)) = 0 from Finset.sum_eq_zero fun a _ => (congrArg (fun z : EReal => z * xT m c t a (hi d)) (by show dsT m c t 544 a k = 0; exact ds_zero _ _ _ _ _ _ _ _ _ _ (unseen 544 1152 a k (Nat.le_of_not_lt hk) (by omega)))).trans (zero_mul _), add_zero]
    refine (rr_off k d _ _ _ _ hk).trans ?_
    exact congrFun (Memref.IsWhole.read_unread _ _) _
theorem sB_lo (k : Fin 2176) (d : Fin 128) : sB m c t h x9 xs (ix2 k (lo d)) = xs (ix2 k (lo d)) + ∑ a : Fin 544, dsT m c t 544 a k * xT m c t a (lo d) := by
  unfold sB runB
  frame_out
  by_cases hk : k.val < 1152
  · refine (rs_lo k d _ _ _ _ _ _ hk).trans ?_
    refine (klo1 _ _ _ _ _ _ _ _ ⟨k.val, hk⟩ d).trans ?_
    exact congrArg₂ (fun y z : EReal => y + z) ((ldlo_at (n := 1152) (by omega) _ _ ⟨k.val, hk⟩ d).trans (congrFun (Memref.IsWhole.read_unread _ _) _)) (Finset.sum_congr rfl fun a _ => congrArg (fun z : EReal => z * xT m c t a (lo d)) (ds_ld (n := 1152) (by omega) 544 _ _ _ _ _ _ _ _ a ⟨k.val, hk⟩))
  · rw [show (∑ a : Fin 544, dsT m c t 544 a k * xT m c t a (lo d)) = 0 from Finset.sum_eq_zero fun a _ => (congrArg (fun z : EReal => z * xT m c t a (lo d)) (by show dsT m c t 544 a k = 0; exact ds_zero _ _ _ _ _ _ _ _ _ _ (unseen 544 1152 a k (Nat.le_of_not_lt hk) (by omega)))).trans (zero_mul _), add_zero]
    refine (rs_off k _ _ _ _ _ _ (lo d) hk).trans ?_
    exact congrFun (Memref.IsWhole.read_unread _ _) _
theorem sB_hi (k : Fin 2176) (d : Fin 128) : sB m c t h x9 xs (ix2 k (hi d)) = xs (ix2 k (hi d)) + ∑ a : Fin 544, wtT m c t 544 a k * dmT m c t 544 a d := by
  unfold sB runB
  frame_out
  by_cases hk : k.val < 1152
  · refine (rs_hi k d _ _ _ _ _ _ hk).trans ?_
    refine (khi1 _ _ _ _ _ _ ⟨k.val, hk⟩ d).trans ?_
    exact congrArg₂ (fun y z : EReal => y + z) ((ldhi_at (n := 1152) (by omega) _ _ ⟨k.val, hk⟩ d).trans (congrFun (Memref.IsWhole.read_unread _ _) _)) (Finset.sum_congr rfl fun a _ => congrArg (fun z : EReal => z * dmT m c t 544 a d) (wt_ld (n := 1152) (by omega) 544 _ _ _ _ _ a ⟨k.val, hk⟩))
  · rw [show (∑ a : Fin 544, wtT m c t 544 a k * dmT m c t 544 a d) = 0 from Finset.sum_eq_zero fun a _ => (congrArg (fun z : EReal => z * dmT m c t 544 a d) (by show wtT m c t 544 a k = 0; exact wt_zero _ _ _ _ _ _ _ (unseen 544 1152 a k (Nat.le_of_not_lt hk) (by omega)))).trans (zero_mul _), add_zero]
    refine (rs_off k _ _ _ _ _ _ (hi d) hk).trans ?_
    exact congrFun (Memref.IsWhole.read_unread _ _) _
end

section
variable (c : Dev nD) (t : Fin cfg0.N) (h : t.val % 4 = 2) (x9 : Vec Ideal S2176x128 .f32) (xs : Vec Ideal S2176x256 .f32)
theorem qC_lo (a : Fin 544) (d : Fin 128) : qC m c t h x9 xs (ix2 a (lo d)) = ∑ k : Fin 2176, dsT m c t 1088 a k * kT m c t k d := by
  unfold qC runC
  frame_out
  refine (q_lo d _ _ _ _ a).trans ?_
  refine (qlo2 _ _ _ _ _ _ _ a d).trans ?_
  exact sum_ext (n := 1664) (by omega) _ (fun k => dsT m c t 1088 a k * kT m c t k d) (fun k => congrArg₂ (fun y z : EReal => y * z) (ds_ld (n := 1664) (by omega) 1088 _ _ _ _ _ _ _ _ a k) (ld_at (by omega) _ _ k d))
    fun k hk => (congrArg (fun z : EReal => z * kT m c t k d) (by show dsT m c t 1088 a k = 0; exact ds_zero _ _ _ _ _ _ _ _ _ _ (unseen 1088 1664 a k hk (by omega)))).trans (zero_mul _)
theorem qC_hi (a : Fin 544) (d : Fin 128) : qC m c t h x9 xs (ix2 a (hi d)) = ∑ k : Fin 2176, dsT m c t 1088 a k * rT m c t k d := by
  unfold qC runC
  frame_out
  refine (q_hi d _ _ _ _ a).trans ?_
  refine (qhi2 _ _ _ _ _ _ _ a d).trans ?_
  exact sum_ext (n := 1664) (by omega) _ (fun k => dsT m c t 1088 a k * rT m c t k d) (fun k => congrArg₂ (fun y z : EReal => y * z) (ds_ld (n := 1664) (by omega) 1088 _ _ _ _ _ _ _ _ a k) (ld_at (by omega) _ _ k d))
    fun k hk => (congrArg (fun z : EReal => z * rT m c t k d) (by show dsT m c t 1088 a k = 0; exact ds_zero _ _ _ _ _ _ _ _ _ _ (unseen 1088 1664 a k hk (by omega)))).trans (zero_mul _)
theorem rC_at (k : Fin 2176) (d : Fin 128) : rC m c t h x9 xs (ix2 k d) = x9 (ix2 k d) + ∑ a : Fin 544, dsT m c t 1088 a k * xT m c t a (hi d) := by
  unfold rC runC
  frame_out
  by_cases hk : k.val < 1664
  · refine (rr_mem k d _ _ _ _ hk).trans ?_
    refine (rot2 _ _ _ _ _ _ _ _ ⟨k.val, hk⟩ d).trans ?_
    exact congrArg₂ (fun y z : EReal => y + z) (ldr_at (by omega) _ _ ⟨k.val, hk⟩ d) (Finset.sum_congr rfl fun a _ => congrArg (fun z : EReal => z * xT m c t a (hi d)) (ds_ld (n := 1664) (by omega) 1088 _ _ _ _ _ _ _ _ a ⟨k.val, hk⟩))
  · rw [show (∑ a : Fin 544, dsT m c t 1088 a k * xT m c t a (hi d)) = 0 from Finset.sum_eq_zero fun a _ => (congrArg (fun z : EReal => z * xT m c t a (hi d)) (by show dsT m c t 1088 a k = 0; exact ds_zero _ _ _ _ _ _ _ _ _ _ (unseen 1088 1664 a k (Nat.le_of_not_lt hk) (by omega)))).trans (zero_mul _), add_zero]
    refine (rr_off k d _ _ _ _ hk).trans ?_
    exact congrFun (Memref.IsWhole.read_unread _ _) _
theorem sC_lo (k : Fin 2176) (d : Fin 128) : sC m c t h x9 xs (ix2 k (lo d)) = xs (ix2 k (lo d)) + ∑ a : Fin 544, dsT m c t 1088 a k * xT m c t a (lo d) := by
  unfold sC runC
  frame_out
  by_cases hk : k.val < 1664
  · refine (rs_lo k d _ _ _ _ _ _ hk).trans ?_
    refine (klo2 _ _ _ _ _ _ _ _ ⟨k.val, hk⟩ d).trans ?_
    exact congrArg₂ (fun y z : EReal => y + z) ((ldlo_at (n := 1664) (by omega) _ _ ⟨k.val, hk⟩ d).trans (congrFun (Memref.IsWhole.read_unread _ _) _)) (Finset.sum_congr rfl fun a _ => congrArg (fun z : EReal => z * xT m c t a (lo d)) (ds_ld (n := 1664) (by omega) 1088 _ _ _ _ _ _ _ _ a ⟨k.val, hk⟩))
  · rw [show (∑ a : Fin 544, dsT m c t 1088 a k * xT m c t a (lo d)) = 0 from Finset.sum_eq_zero fun a _ => (congrArg (fun z : EReal => z * xT m c t a (lo d)) (by show dsT m c t 1088 a k = 0; exact ds_zero _ _ _ _ _ _ _ _ _ _ (unseen 1088 1664 a k (Nat.le_of_not_lt hk) (by omega)))).trans (zero_mul _), add_zero]
    refine (rs_off k _ _ _ _ _ _ (lo d) hk).trans ?_
    exact congrFun (Memref.IsWhole.read_unread _ _) _
theorem sC_hi (k : Fin 2176) (d : Fin 128) : sC m c t h x9 xs (ix2 k (hi d)) = xs (ix2 k (hi d)) + ∑ a : Fin 544, wtT m c t 1088 a k * dmT m c t 1088 a d := by
  unfold sC runC
  frame_out
  by_cases hk : k.val < 1664
  · refine (rs_hi k d _ _ _ _ _ _ hk).trans ?_
    refine (khi2 _ _ _ _ _ _ ⟨k.val, hk⟩ d).trans ?_
    exact congrArg₂ (fun y z : EReal => y + z) ((ldhi_at (n := 1664) (by omega) _ _ ⟨k.val, hk⟩ d).trans (congrFun (Memref.IsWhole.read_unread _ _) _)) (Finset.sum_congr rfl fun a _ => congrArg (fun z : EReal => z * dmT m c t 1088 a d) (wt_ld (n := 1664) (by omega) 1088 _ _ _ _ _ a ⟨k.val, hk⟩))
  · rw [show (∑ a : Fin 544, wtT m c t 1088 a k * dmT m c t 1088 a d) = 0 from Finset.sum_eq_zero fun a _ => (congrArg (fun z : EReal => z * dmT m c t 1088 a d) (by show wtT m c t 1088 a k = 0; exact wt_zero _ _ _ _ _ _ _ (unseen 1088 1664 a k (Nat.le_of_not_lt hk) (by omega)))).trans (zero_mul _), add_zero]
    refine (rs_off k _ _ _ _ _ _ (hi d) hk).trans ?_
    exact congrFun (Memref.IsWhole.read_unread _ _) _
end

section
variable (c : Dev nD) (t : Fin cfg0.N) (h : t.val % 4 = 3) (x9 : Vec Ideal S2176x128 .f32) (xs : Vec Ideal S2176x256 .f32)
theorem qD_lo (a : Fin 544) (d : Fin 128) : qD m c t h x9 xs (ix2 a (lo d)) = ∑ k : Fin 2176, dsT m c t 1632 a k * kT m c t k d := by
  unfold qD runD
  frame_out
  refine (q_lo d _ _ _ _ a).trans ?_
  refine (qlo3 _ _ _ _ _ _ _ a d).trans ?_
  exact sum_ext (n := 2176) (by omega) _ (fun k => dsT m c t 1632 a k * kT m c t k d) (fun k => congrArg₂ (fun y z : EReal => y * z) (rfl) (rfl))
    fun k hk => (congrArg (fun z : EReal => z * kT m c t k d) (by show dsT m c t 1632 a k = 0; exact ds_zero _ _ _ _ _ _ _ _ _ _ (unseen 1632 2176 a k hk (by omega)))).trans (zero_mul _)
theorem qD_hi (a : Fin 544) (d : Fin 128) : qD m c t h x9 xs (ix2 a (hi d)) = ∑ k : Fin 2176, dsT m c t 1632 a k * rT m c t k d := by
  unfold qD runD
  frame_out
  refine (q_hi d _ _ _ _ a).trans ?_
  refine (qhi3 _ _ _ _ _ _ _ a d).trans ?_
  exact sum_ext (n := 2176) (by omega) _ (fun k => dsT m c t 1632 a k * rT m c t k d) (fun k => congrArg₂ (fun y z : EReal => y * z) (rfl) (rfl))
    fun k hk => (congrArg (fun z : EReal => z * rT m c t k d) (by show dsT m c t 1632 a k = 0; exact ds_zero _ _ _ _ _ _ _ _ _ _ (unseen 1632 2176 a k hk (by omega)))).trans (zero_mul _)
theorem rD_at (k : Fin 2176) (d : Fin 128) : rD m c t h x9 xs (ix2 k d) = x9 (ix2 k d) + ∑ a : Fin 544, dsT m c t 1632 a k * xT m c t a (hi d) := by
  unfold rD runD
  frame_out
  by_cases hk : k.val < 2176
  · refine (rr_mem k d _ _ _ _ hk).trans ?_
    refine (rot3 _ _ _ _ _ _ _ _ ⟨k.val, hk⟩ d).trans ?_
    exact congrArg₂ (fun y z : EReal => y + z) (rfl) (Finset.sum_congr rfl fun a _ => congrArg (fun z : EReal => z * xT m c t a (hi d)) (rfl))
  · rw [show (∑ a : Fin 544, dsT m c t 1632 a k * xT m c t a (hi d)) = 0 from Finset.sum_eq_zero fun a _ => (congrArg (fun z : EReal => z * xT m c t a (hi d)) (by show dsT m c t 1632 a k = 0; exact ds_zero _ _ _ _ _ _ _ _ _ _ (unseen 1632 2176 a k (Nat.le_of_not_lt hk) (by omega)))).trans (zero_mul _), add_zero]
    refine (rr_off k d _ _ _ _ hk).trans ?_
    exact congrFun (Memref.IsWhole.read_unread _ _) _
theorem sD_lo (k : Fin 2176) (d : Fin 128) : sD m c t h x9 xs (ix2 k (lo d)) = xs (ix2 k (lo d)) + ∑ a : Fin 544, dsT m c t 1632 a k * xT m c t a (lo d) := by
  unfold sD runD
  frame_out
  by_cases hk : k.val < 2176
  · refine (rs_lo k d _ _ _ _ _ _ hk).trans ?_
    refine (klo3 _ _ _ _ _ _ _ _ ⟨k.val, hk⟩ d).trans ?_
    exact congrArg₂ (fun y z : EReal => y + z) ((ldlo_at (n := 2176) (by omega) _ _ ⟨k.val, hk⟩ d).trans (congrFun (Memref.IsWhole.read_unread _ _) _)) (Finset.sum_congr rfl fun a _ => congrArg (fun z : EReal => z * xT m c t a (lo d)) (rfl))
  · rw [show (∑ a : Fin 544, dsT m c t 1632 a k * xT m c t a (lo d)) = 0 from Finset.sum_eq_zero fun a _ => (congrArg (fun z : EReal => z * xT m c t a (lo d)) (by show dsT m c t 1632 a k = 0; exact ds_zero _ _ _ _ _ _ _ _ _ _ (unseen 1632 2176 a k (Nat.le_of_not_lt hk) (by omega)))).trans (zero_mul _), add_zero]
    refine (rs_off k _ _ _ _ _ _ (lo d) hk).trans ?_
    exact congrFun (Memref.IsWhole.read_unread _ _) _
theorem sD_hi (k : Fin 2176) (d : Fin 128) : sD m c t h x9 xs (ix2 k (hi d)) = xs (ix2 k (hi d)) + ∑ a : Fin 544, wtT m c t 1632 a k * dmT m c t 1632 a d := by
  unfold sD runD
  frame_out
  by_cases hk : k.val < 2176
  · refine (rs_hi k d _ _ _ _ _ _ hk).trans ?_
    refine (khi3 _ _ _ _ _ _ ⟨k.val, hk⟩ d).trans ?_
    exact congrArg₂ (fun y z : EReal => y + z) ((ldhi_at (n := 2176) (by omega) _ _ ⟨k.val, hk⟩ d).trans (congrFun (Memref.IsWhole.read_unread _ _) _)) (Finset.sum_congr rfl fun a _ => congrArg (fun z : EReal => z * dmT m c t 1632 a d) (rfl))
  · rw [show (∑ a : Fin 544, wtT m c t 1632 a k * dmT m c t 1632 a d) = 0 from Finset.sum_eq_zero fun a _ => (congrArg (fun z : EReal => z * dmT m c t 1632 a d) (by show wtT m c t 1632 a k = 0; exact wt_zero _ _ _ _ _ _ _ (unseen 1632 2176 a k (Nat.le_of_not_lt hk) (by omega)))).trans (zero_mul _), add_zero]
    refine (rs_off k _ _ _ _ _ _ (hi d) hk).trans ?_
    exact congrFun (Memref.IsWhole.read_unread _ _) _
theorem kD_at (k : Fin 2176) (d : Fin 256) : kD m c t h x9 xs (ix2 k d) = sD m c t h x9 xs (ix2 k d) := by
  unfold kD sD runD
  frame_out
  exact sD_back _ _ _ _ _ _ _ _ _ _ k d
end

end Cert.Kernel7Ideal.Heads

end
-- ==== Proof.AttnFold.lean ====
/- The three arrays the gradient of attention leaves, in terms of the arrays it reads. -/
module

public import proofs.«01_k».proof.Proof.AttnBlock
public import Idealize.ShloMosaic.Lib.Pointwise
public import Idealize.ShloMosaic.Lib.Pipeline.ReadBack
public import Idealize.ShloMosaic.Lib.Pipeline.ValueKit
public import Idealize.ShloMosaic.Lib.WritesUnit
public import Idealize.ShloMosaic.Lib.Claim

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Idealize.ShloMosaic.Pipeline (Dat)

/-! ## Rows and columns -/

/-- Row `a` of block `i` of queries, column `d` of head `h`. -/
def rowq (i : Fin 4) (a : Fin 544) : Fin 2176 := ⟨544 * i.val + a.val, by have := i.isLt; have := a.isLt; omega⟩
def colq (h : Fin 8) (d : Fin 256) : Fin 2048 := ⟨256 * h.val + d.val, by have := h.isLt; have := d.isLt; omega⟩
def colo (h : Fin 8) (d : Fin 128) : Fin 1024 := ⟨128 * h.val + d.val, by have := h.isLt; have := d.isLt; omega⟩

section
variable (Q KV : FVec Ideal S2176x2048 .bf16) (KR : FVec Ideal S2176x128 .bf16) (DO O : FVec Ideal S2176x1024 .f32) (L : FVec Ideal S8x2176x1 .f32)
  (h : Fin 8) (r k : Fin 2176)

/-- The score, the weight, the incoming gradient and the gradient by the score, for head `h`, query `r` and key `k`. -/
def gS : EReal := (∑ d : Fin 128, Q (ix2 r (colq h (lo d))) * KV (ix2 k (colq h (lo d)))) + ∑ d : Fin 128, Q (ix2 r (colq h (hi d))) * KR (ix2 k d)
def gP : EReal := Ideal.exp ((if Sees r.val k.val then gS Q KV KR h r k * sca else ⊥) - L (ix3 h r (0 : Fin 1)))
def gM (d : Fin 128) : EReal := if 112 ≤ r.val then DO (ix2 r (colo h d)) else 0
def gD : EReal := gP Q KV KR L h r k * ((∑ d : Fin 128, gM DO h r d * KV (ix2 k (colq h (hi d)))) - ∑ d : Fin 128, gM DO h r d * O (ix2 r (colo h d))) * sca
end

section
variable (Q KV : FVec Ideal S2176x2048 .bf16) (KR : FVec Ideal S2176x128 .bf16) (DO O : FVec Ideal S2176x1024 .f32) (L : FVec Ideal S8x2176x1 .f32)
/-- The head and the lane of a column. -/
def hd (j : Fin 2048) : Fin 8 := ⟨j.val / 256, by have := j.isLt; omega⟩
def ln (j : Fin 2048) : Fin 256 := ⟨j.val % 256, by have := j.isLt; omega⟩
def ll (d : Fin 256) : Fin 128 := ⟨d.val % 128, by omega⟩
/-- The gradients by the queries, the keys and values, and the rotary keys. -/
def eQ (h : Fin 8) (r : Fin 2176) (d : Fin 256) : EReal := if d.val < 128 then ∑ k : Fin 2176, gD Q KV KR DO O L h r k * KV (ix2 k (colq h (lo (ll d))))
  else ∑ k : Fin 2176, gD Q KV KR DO O L h r k * KR (ix2 k (ll d))
def eKV (h : Fin 8) (k : Fin 2176) (d : Fin 256) : EReal := if d.val < 128 then ∑ r : Fin 2176, gD Q KV KR DO O L h r k * Q (ix2 r (colq h (lo (ll d))))
  else ∑ r : Fin 2176, gP Q KV KR L h r k * gM DO h r (ll d)
def eKR (k : Fin 2176) (d : Fin 128) : EReal := ∑ h : Fin 8, ∑ r : Fin 2176, gD Q KV KR DO O L h r k * Q (ix2 r (colq h (hi d)))
def GQ : FVec Ideal S2176x2048 .f32 := fun i => eQ Q KV KR DO O L (hd (i 1)) (i 0) (ln (i 1))
def GKV : FVec Ideal S2176x2048 .bf16 := fun i => eKV Q KV KR DO O L (hd (i 1)) (i 0) (ln (i 1))
def GKR : FVec Ideal S2176x128 .f32 := fun i => eKR Q KV KR DO O L (i 0) (i 1)
end

theorem hd_col (h : Fin 8) (d : Fin 256) : hd (colq h d) = h := Fin.ext (by
  show (256 * h.val + d.val) / 256 = h.val
  have := d.isLt
  omega)
theorem ln_col (h : Fin 8) (d : Fin 256) : ln (colq h d) = d := Fin.ext (by
  show (256 * h.val + d.val) % 256 = d.val
  have := d.isLt
  omega)
theorem ll_lo (d : Fin 128) : ll (lo d) = d := Fin.ext (by
  show d.val % 128 = d.val
  have := d.isLt
  omega)
theorem ll_hi (d : Fin 128) : ll (hi d) = d := Fin.ext (by
  show (128 + d.val) % 128 = d.val
  have := d.isLt
  omega)

/-- A sum over all queries, block by block. -/
theorem sum_rows (f : Fin 2176 → EReal) : (∑ r, f r) = ∑ i : Fin 4, ∑ a : Fin 544, f (rowq i a) := by
  rw [← Fintype.sum_prod_type' (f := fun (i : Fin 4) (a : Fin 544) => f (rowq i a))]
  refine (Fintype.sum_equiv (finProdFinEquiv (m := 4) (n := 544)) _ _ fun x => congrArg f (Fin.ext ?_)).symm
  show 544 * x.1.val + x.2.val = x.2.val + 544 * x.1.val
  omega

/-! ## The blocks at a point -/

variable (m : (ℓ : Loc nD τ sig) → Buf (Elt Ideal) ℓ)

theorem idx : ∀ t : Fin cfg0.N, win0_0.index t = ![t.val % 4, t.val / 4] ∧ win0_1.index t = ![0, 2 * (t.val / 4)] ∧ win0_2.index t = ![0, 2 * (t.val / 4) + 1]
    ∧ win0_3.index t = ![0, 0] ∧ win0_4.index t = ![t.val % 4, t.val / 4] ∧ win0_5.index t = ![t.val / 4, t.val % 4, 0] ∧ win0_6.index t = ![t.val % 4, t.val / 4]
    ∧ win0_7.index t = ![t.val % 4, t.val / 4] ∧ win0_8.index t = ![0, t.val / 4] ∧ win0_9.index t = ![0, 0] :=
  (by decide +kernel : ∀ t : Fin grid0.N, _)

theorem isLt32 (t : Fin cfg0.N) : t.val < 32 := lt_of_lt_of_eq t.isLt N_0
def hT (t : Fin cfg0.N) : Fin 8 := ⟨t.val / 4, by have := isLt32 t; omega⟩
def iT (t : Fin cfg0.N) : Fin 4 := ⟨t.val % 4, by omega⟩

abbrev aQ (c : Dev nD) : FVec Ideal S2176x2048 .bf16 := m ((c : Thread nD τ).loc main_arg0)
abbrev aKV (c : Dev nD) : FVec Ideal S2176x2048 .bf16 := m ((c : Thread nD τ).loc main_arg1)
abbrev aKR (c : Dev nD) : FVec Ideal S2176x128 .bf16 := m ((c : Thread nD τ).loc main_arg2)
abbrev aDO (c : Dev nD) : FVec Ideal S2176x1024 .f32 := m ((c : Thread nD τ).loc main_arg3)
abbrev aO (c : Dev nD) : FVec Ideal S2176x1024 .f32 := V m c main_v47
abbrev aL (c : Dev nD) : FVec Ideal S8x2176x1 .f32 := V m c main_v51

section
variable (c : Dev nD) (t : Fin cfg0.N)
theorem read0 (a : Fin 544) (d : Fin 256) : iblk m c 0 t (ix2 a d) = aQ m c (ix2 (rowq (iT t) a) (colq (hT t) d)) := by
  unfold rowq colq hT iT
  blk_ext [iblk, V, idx t]
theorem read1 (k : Fin 2176) (d : Fin 128) : iblk m c 1 t (ix2 k d) = aKV m c (ix2 k (colq (hT t) (lo d))) := by
  unfold colq hT lo
  blk_ext [iblk, V, idx t]
theorem read2 (k : Fin 2176) (d : Fin 128) : iblk m c 2 t (ix2 k d) = aKV m c (ix2 k (colq (hT t) (hi d))) := by
  unfold colq hT hi
  blk_ext [iblk, V, idx t]
theorem read3 (k : Fin 2176) (d : Fin 128) : iblk m c 3 t (ix2 k d) = aKR m c (ix2 k d) := by
  blk_ext [iblk, V, idx t]
theorem read4 (a : Fin 544) (d : Fin 128) : iblk m c 4 t (ix2 a d) = aO m c (ix2 (rowq (iT t) a) (colo (hT t) d)) := by
  unfold rowq colo hT iT
  blk_ext [iblk, idx t]
theorem read5 (a : Fin 544) : iblk m c 5 t (ix3 (0 : Fin 1) a (0 : Fin 1)) = aL m c (ix3 (hT t) (rowq (iT t) a) (0 : Fin 1)) := by
  unfold rowq hT iT
  blk_ext [iblk, idx t]
theorem read6 (a : Fin 544) (d : Fin 128) : iblk m c 6 t (ix2 a d) = aDO m c (ix2 (rowq (iT t) a) (colo (hT t) d)) := by
  unfold rowq colo hT iT
  blk_ext [iblk, V, idx t]

variable (off : ℕ)
theorem wtT_eq (ho : off = 544 * (t.val % 4)) (a : Fin 544) (k : Fin 2176) : wtT m c t off a k = gP (aQ m c) (aKV m c) (aKR m c) (aL m c) (hT t) (rowq (iT t) a) k := by
  subst ho
  unfold wtT wt sc gP gS
  simp only [read0 m c t, read1 m c t, read3 m c t, read5 m c t]
  rfl
theorem dmT_eq (ho : off = 544 * (t.val % 4)) (a : Fin 544) (d : Fin 128) : dmT m c t off a d = gM (aDO m c) (hT t) (rowq (iT t) a) d := by
  subst ho
  unfold dmT dm gM
  rw [read6 m c t]
  rfl
theorem dsT_eq (ho : off = 544 * (t.val % 4)) (a : Fin 544) (k : Fin 2176) : dsT m c t off a k = gD (aQ m c) (aKV m c) (aKR m c) (aDO m c) (aO m c) (aL m c) (hT t) (rowq (iT t) a) k := by
  have e1 := wtT_eq m c t off ho a k
  have e2 := dmT_eq m c t off ho a
  unfold wtT at e1
  unfold dmT at e2
  unfold dsT ds gD
  rw [e1]
  simp only [e2, read2 m c t, read4 m c t]
end

/-! ## The buffers, kind by kind -/

section
variable (c : Dev nD) (t : Fin cfg0.N)
theorem oA_q (h : t.val % 32 = 0) : (outsAt m c t.val t.isLt).1 = qA m c t h := by rw [outsAt_A m c t h]
theorem oA_r (h : t.val % 32 = 0) : (outsAt m c t.val t.isLt).2.2.1 = rA m c t h := by rw [outsAt_A m c t h]
theorem oA_s (h : t.val % 32 = 0) : (outsAt m c t.val t.isLt).2.2.2 = sA m c t h := by rw [outsAt_A m c t h]
theorem oE_q (h : t.val % 4 = 0) (h' : ¬ t.val % 32 = 0) : (outsAt m c t.val t.isLt).1 = qE m c t h h' (outsAt m c (t.val - 1) (pr t)).2.2.1 := by rw [outsAt_E m c t h h']
theorem oE_r (h : t.val % 4 = 0) (h' : ¬ t.val % 32 = 0) : (outsAt m c t.val t.isLt).2.2.1 = rE m c t h h' (outsAt m c (t.val - 1) (pr t)).2.2.1 := by rw [outsAt_E m c t h h']
theorem oE_s (h : t.val % 4 = 0) (h' : ¬ t.val % 32 = 0) : (outsAt m c t.val t.isLt).2.2.2 = sE m c t h h' (outsAt m c (t.val - 1) (pr t)).2.2.1 := by rw [outsAt_E m c t h h']
theorem oB_q (h : t.val % 4 = 1) : (outsAt m c t.val t.isLt).1 = qB m c t h (outsAt m c (t.val - 1) (pr t)).2.2.1 (outsAt m c (t.val - 1) (pr t)).2.2.2 := by rw [outsAt_B m c t h]
theorem oB_r (h : t.val % 4 = 1) : (outsAt m c t.val t.isLt).2.2.1 = rB m c t h (outsAt m c (t.val - 1) (pr t)).2.2.1 (outsAt m c (t.val - 1) (pr t)).2.2.2 := by rw [outsAt_B m c t h]
theorem oB_s (h : t.val % 4 = 1) : (outsAt m c t.val t.isLt).2.2.2 = sB m c t h (outsAt m c (t.val - 1) (pr t)).2.2.1 (outsAt m c (t.val - 1) (pr t)).2.2.2 := by rw [outsAt_B m c t h]
theorem oC_q (h : t.val % 4 = 2) : (outsAt m c t.val t.isLt).1 = qC m c t h (outsAt m c (t.val - 1) (pr t)).2.2.1 (outsAt m c (t.val - 1) (pr t)).2.2.2 := by rw [outsAt_C m c t h]
theorem oC_r (h : t.val % 4 = 2) : (outsAt m c t.val t.isLt).2.2.1 = rC m c t h (outsAt m c (t.val - 1) (pr t)).2.2.1 (outsAt m c (t.val - 1) (pr t)).2.2.2 := by rw [outsAt_C m c t h]
theorem oC_s (h : t.val % 4 = 2) : (outsAt m c t.val t.isLt).2.2.2 = sC m c t h (outsAt m c (t.val - 1) (pr t)).2.2.1 (outsAt m c (t.val - 1) (pr t)).2.2.2 := by rw [outsAt_C m c t h]
theorem oD_q (h : t.val % 4 = 3) : (outsAt m c t.val t.isLt).1 = qD m c t h (outsAt m c (t.val - 1) (pr t)).2.2.1 (outsAt m c (t.val - 1) (pr t)).2.2.2 := by rw [outsAt_D m c t h]
theorem oD_r (h : t.val % 4 = 3) : (outsAt m c t.val t.isLt).2.2.1 = rD m c t h (outsAt m c (t.val - 1) (pr t)).2.2.1 (outsAt m c (t.val - 1) (pr t)).2.2.2 := by rw [outsAt_D m c t h]
theorem oD_s (h : t.val % 4 = 3) : (outsAt m c t.val t.isLt).2.2.2 = sD m c t h (outsAt m c (t.val - 1) (pr t)).2.2.1 (outsAt m c (t.val - 1) (pr t)).2.2.2 := by rw [outsAt_D m c t h]
theorem oD_k (h : t.val % 4 = 3) : (outsAt m c t.val t.isLt).2.1 = kD m c t h (outsAt m c (t.val - 1) (pr t)).2.2.1 (outsAt m c (t.val - 1) (pr t)).2.2.2 := by rw [outsAt_D m c t h]
end

/-! ## What a point adds, and the buffers after it -/

section
variable (c : Dev nD)
abbrev vD (h : Fin 8) (r k : Fin 2176) : EReal := gD (aQ m c) (aKV m c) (aKR m c) (aDO m c) (aO m c) (aL m c) h r k
abbrev vP (h : Fin 8) (r k : Fin 2176) : EReal := gP (aQ m c) (aKV m c) (aKR m c) (aL m c) h r k
abbrev vM (h : Fin 8) (r : Fin 2176) (d : Fin 128) : EReal := gM (aDO m c) h r d
/-- What the point adds to the rotary keys' gradient, and to the two halves of the accumulator. -/
def addR (t : Fin cfg0.N) (k : Fin 2176) (d : Fin 128) : EReal := ∑ a : Fin 544, vD m c (hT t) (rowq (iT t) a) k * aQ m c (ix2 (rowq (iT t) a) (colq (hT t) (hi d)))
def addL (t : Fin cfg0.N) (k : Fin 2176) (d : Fin 128) : EReal := ∑ a : Fin 544, vD m c (hT t) (rowq (iT t) a) k * aQ m c (ix2 (rowq (iT t) a) (colq (hT t) (lo d)))
def addH (t : Fin cfg0.N) (k : Fin 2176) (d : Fin 128) : EReal := ∑ a : Fin 544, vP m c (hT t) (rowq (iT t) a) k * vM m c (hT t) (rowq (iT t) a) d

variable (t : Fin cfg0.N)
theorem termR (off : ℕ) (ho : off = 544 * (t.val % 4)) (k : Fin 2176) (d : Fin 128) : (∑ a : Fin 544, dsT m c t off a k * xT m c t a (hi d)) = addR m c t k d :=
  Finset.sum_congr rfl fun a _ => congrArg₂ (fun y z : EReal => y * z) (dsT_eq m c t off ho a k) (read0 m c t a (hi d))
theorem termL (off : ℕ) (ho : off = 544 * (t.val % 4)) (k : Fin 2176) (d : Fin 128) : (∑ a : Fin 544, dsT m c t off a k * xT m c t a (lo d)) = addL m c t k d :=
  Finset.sum_congr rfl fun a _ => congrArg₂ (fun y z : EReal => y * z) (dsT_eq m c t off ho a k) (read0 m c t a (lo d))
theorem termH (off : ℕ) (ho : off = 544 * (t.val % 4)) (k : Fin 2176) (d : Fin 128) : (∑ a : Fin 544, wtT m c t off a k * dmT m c t off a d) = addH m c t k d :=
  Finset.sum_congr rfl fun a _ => congrArg₂ (fun y z : EReal => y * z) (wtT_eq m c t off ho a k) (dmT_eq m c t off ho a d)
theorem termQL (off : ℕ) (ho : off = 544 * (t.val % 4)) (a : Fin 544) (d : Fin 128) : (∑ k : Fin 2176, dsT m c t off a k * kT m c t k d)
    = ∑ k : Fin 2176, vD m c (hT t) (rowq (iT t) a) k * aKV m c (ix2 k (colq (hT t) (lo d))) :=
  Finset.sum_congr rfl fun k _ => congrArg₂ (fun y z : EReal => y * z) (dsT_eq m c t off ho a k) (read1 m c t k d)
theorem termQH (off : ℕ) (ho : off = 544 * (t.val % 4)) (a : Fin 544) (d : Fin 128) : (∑ k : Fin 2176, dsT m c t off a k * rT m c t k d)
    = ∑ k : Fin 2176, vD m c (hT t) (rowq (iT t) a) k * aKR m c (ix2 k d) :=
  Finset.sum_congr rfl fun k _ => congrArg₂ (fun y z : EReal => y * z) (dsT_eq m c t off ho a k) (read3 m c t k d)
end

/-- The gradient by the queries, at a point. -/
theorem query_at (c : Dev nD) (t : Fin cfg0.N) (a : Fin 544) (d : Fin 256) : (outsAt m c t.val t.isLt).1 (ix2 a d)
    = eQ (aQ m c) (aKV m c) (aKR m c) (aDO m c) (aO m c) (aL m c) (hT t) (rowq (iT t) a) d := by
  have hl : ∀ d : Fin 128, (outsAt m c t.val t.isLt).1 (ix2 a (lo d)) = ∑ k : Fin 2176, vD m c (hT t) (rowq (iT t) a) k * aKV m c (ix2 k (colq (hT t) (lo d))) := by
    intro d
    by_cases h32 : t.val % 32 = 0
    · rw [oA_q m c t h32]
      exact (qA_lo m c t h32 a d).trans (termQL m c t 0 (by omega) a d)
    · have h4 : t.val % 4 = 0 ∨ t.val % 4 = 1 ∨ t.val % 4 = 2 ∨ t.val % 4 = 3 := by omega
      rcases h4 with h | h | h | h
      · rw [oE_q m c t h h32]
        exact (qE_lo m c t h h32 _ a d).trans (termQL m c t 0 (by omega) a d)
      · rw [oB_q m c t h]
        exact (qB_lo m c t h _ _ a d).trans (termQL m c t 544 (by omega) a d)
      · rw [oC_q m c t h]
        exact (qC_lo m c t h _ _ a d).trans (termQL m c t 1088 (by omega) a d)
      · rw [oD_q m c t h]
        exact (qD_lo m c t h _ _ a d).trans (termQL m c t 1632 (by omega) a d)
  have hh : ∀ d : Fin 128, (outsAt m c t.val t.isLt).1 (ix2 a (hi d)) = ∑ k : Fin 2176, vD m c (hT t) (rowq (iT t) a) k * aKR m c (ix2 k d) := by
    intro d
    by_cases h32 : t.val % 32 = 0
    · rw [oA_q m c t h32]
      exact (qA_hi m c t h32 a d).trans (termQH m c t 0 (by omega) a d)
    · have h4 : t.val % 4 = 0 ∨ t.val % 4 = 1 ∨ t.val % 4 = 2 ∨ t.val % 4 = 3 := by omega
      rcases h4 with h | h | h | h
      · rw [oE_q m c t h h32]
        exact (qE_hi m c t h h32 _ a d).trans (termQH m c t 0 (by omega) a d)
      · rw [oB_q m c t h]
        exact (qB_hi m c t h _ _ a d).trans (termQH m c t 544 (by omega) a d)
      · rw [oC_q m c t h]
        exact (qC_hi m c t h _ _ a d).trans (termQH m c t 1088 (by omega) a d)
      · rw [oD_q m c t h]
        exact (qD_hi m c t h _ _ a d).trans (termQH m c t 1632 (by omega) a d)
  unfold eQ
  rcases col d with ⟨b, rfl⟩ | ⟨b, rfl⟩
  · rw [if_pos (show (lo b).val < 128 from b.isLt), ll_lo]
    exact hl b
  · rw [if_neg (show ¬ (hi b).val < 128 from by show ¬ 128 + b.val < 128; omega), ll_hi]
    exact hh b

/-- The rotary keys' gradient after a point: the sum of what the points so far add. -/
def pt (n : ℕ) : Fin cfg0.N := ⟨n % 32, lt_of_lt_of_eq (Nat.mod_lt n (by decide)) N_0.symm⟩
theorem pt_eq (t : Fin cfg0.N) : pt t.val = t := Fin.ext (Nat.mod_eq_of_lt (isLt32 t))

theorem rotary_step (c : Dev nD) (t : Fin cfg0.N) (h0 : t.val ≠ 0) (k : Fin 2176) (d : Fin 128) :
    (outsAt m c t.val t.isLt).2.2.1 (ix2 k d) = (outsAt m c (t.val - 1) (pr t)).2.2.1 (ix2 k d) + addR m c t k d := by
  have ht := isLt32 t
  have h4 : t.val % 4 = 0 ∨ t.val % 4 = 1 ∨ t.val % 4 = 2 ∨ t.val % 4 = 3 := by omega
  rcases h4 with h | h | h | h
  · rw [oE_r m c t h (by omega)]
    exact (rE_at m c t h (by omega) _ k d).trans (congrArg (fun z : EReal => _ + z) (termR m c t 0 (by omega) k d))
  · rw [oB_r m c t h]
    exact (rB_at m c t h _ _ k d).trans (congrArg (fun z : EReal => _ + z) (termR m c t 544 (by omega) k d))
  · rw [oC_r m c t h]
    exact (rC_at m c t h _ _ k d).trans (congrArg (fun z : EReal => _ + z) (termR m c t 1088 (by omega) k d))
  · rw [oD_r m c t h]
    exact (rD_at m c t h _ _ k d).trans (congrArg (fun z : EReal => _ + z) (termR m c t 1632 (by omega) k d))

theorem rotary (c : Dev nD) (k : Fin 2176) (d : Fin 128) : ∀ (n : ℕ) (hn : n < cfg0.N),
    (outsAt m c n hn).2.2.1 (ix2 k d) = ∑ s ∈ Finset.range (n + 1), addR m c (pt s) k d
  | 0, hn => by
    rw [oA_r m c ⟨0, hn⟩ rfl, Finset.sum_range_one]
    refine (rA_at m c ⟨0, hn⟩ rfl k d).trans ?_
    rw [zero_add, termR m c ⟨0, hn⟩ 0 rfl k d]
    exact congrArg (fun t => addR m c t k d) (pt_eq ⟨0, hn⟩).symm
  | n + 1, hn => by
    rw [Finset.sum_range_succ, ← rotary c k d n (Nat.lt_of_succ_lt hn)]
    refine (rotary_step m c ⟨n + 1, hn⟩ (Nat.succ_ne_zero n) k d).trans ?_
    exact congrArg (fun t => _ + addR m c t k d) (pt_eq ⟨n + 1, hn⟩).symm

/-! The accumulator after the last block of a head. -/

theorem acc0 (c : Dev nD) (t : Fin cfg0.N) (h : t.val % 4 = 0) (k : Fin 2176) (d : Fin 128) :
    (outsAt m c t.val t.isLt).2.2.2 (ix2 k (lo d)) = addL m c t k d ∧ (outsAt m c t.val t.isLt).2.2.2 (ix2 k (hi d)) = addH m c t k d := by
  by_cases h32 : t.val % 32 = 0
  · rw [oA_s m c t h32]
    exact ⟨(sA_lo m c t h32 k d).trans ((zero_add _).trans (termL m c t 0 (by omega) k d)), (sA_hi m c t h32 k d).trans ((zero_add _).trans (termH m c t 0 (by omega) k d))⟩
  · rw [oE_s m c t h h32]
    exact ⟨(sE_lo m c t h h32 _ k d).trans ((zero_add _).trans (termL m c t 0 (by omega) k d)), (sE_hi m c t h h32 _ k d).trans ((zero_add _).trans (termH m c t 0 (by omega) k d))⟩
theorem acc1 (c : Dev nD) (t : Fin cfg0.N) (h : t.val % 4 = 1) (k : Fin 2176) (d : Fin 128) :
    (outsAt m c t.val t.isLt).2.2.2 (ix2 k (lo d)) = (outsAt m c (t.val - 1) (pr t)).2.2.2 (ix2 k (lo d)) + addL m c t k d
    ∧ (outsAt m c t.val t.isLt).2.2.2 (ix2 k (hi d)) = (outsAt m c (t.val - 1) (pr t)).2.2.2 (ix2 k (hi d)) + addH m c t k d := by
  rw [oB_s m c t h]
  exact ⟨(sB_lo m c t h _ _ k d).trans (congrArg (fun z : EReal => _ + z) (termL m c t 544 (by omega) k d)),
    (sB_hi m c t h _ _ k d).trans (congrArg (fun z : EReal => _ + z) (termH m c t 544 (by omega) k d))⟩
theorem acc2 (c : Dev nD) (t : Fin cfg0.N) (h : t.val % 4 = 2) (k : Fin 2176) (d : Fin 128) :
    (outsAt m c t.val t.isLt).2.2.2 (ix2 k (lo d)) = (outsAt m c (t.val - 1) (pr t)).2.2.2 (ix2 k (lo d)) + addL m c t k d
    ∧ (outsAt m c t.val t.isLt).2.2.2 (ix2 k (hi d)) = (outsAt m c (t.val - 1) (pr t)).2.2.2 (ix2 k (hi d)) + addH m c t k d := by
  rw [oC_s m c t h]
  exact ⟨(sC_lo m c t h _ _ k d).trans (congrArg (fun z : EReal => _ + z) (termL m c t 1088 (by omega) k d)),
    (sC_hi m c t h _ _ k d).trans (congrArg (fun z : EReal => _ + z) (termH m c t 1088 (by omega) k d))⟩
theorem acc3 (c : Dev nD) (t : Fin cfg0.N) (h : t.val % 4 = 3) (k : Fin 2176) (d : Fin 128) :
    (outsAt m c t.val t.isLt).2.2.2 (ix2 k (lo d)) = (outsAt m c (t.val - 1) (pr t)).2.2.2 (ix2 k (lo d)) + addL m c t k d
    ∧ (outsAt m c t.val t.isLt).2.2.2 (ix2 k (hi d)) = (outsAt m c (t.val - 1) (pr t)).2.2.2 (ix2 k (hi d)) + addH m c t k d := by
  rw [oD_s m c t h]
  exact ⟨(sD_lo m c t h _ _ k d).trans (congrArg (fun z : EReal => _ + z) (termL m c t 1632 (by omega) k d)),
    (sD_hi m c t h _ _ k d).trans (congrArg (fun z : EReal => _ + z) (termH m c t 1632 (by omega) k d))⟩

/-- Block `i` of head `h`. -/
def pnt (h : Fin 8) (i : Fin 4) : Fin cfg0.N := ⟨4 * h.val + i.val, lt_of_lt_of_eq (show 4 * h.val + i.val < 32 by have := h.isLt; have := i.isLt; omega) N_0.symm⟩
theorem hT_pnt (h : Fin 8) (i : Fin 4) : hT (pnt h i) = h := Fin.ext (by
  show (4 * h.val + i.val) / 4 = h.val
  have := i.isLt
  omega)
theorem iT_pnt (h : Fin 8) (i : Fin 4) : iT (pnt h i) = i := Fin.ext (by
  show (4 * h.val + i.val) % 4 = i.val
  have := i.isLt
  omega)

theorem acc (c : Dev nD) (t : Fin cfg0.N) (h : t.val % 4 = 3) (k : Fin 2176) (d : Fin 128) :
    (outsAt m c t.val t.isLt).2.2.2 (ix2 k (lo d)) = ∑ i : Fin 4, addL m c (pnt (hT t) i) k d
    ∧ (outsAt m c t.val t.isLt).2.2.2 (ix2 k (hi d)) = ∑ i : Fin 4, addH m c (pnt (hT t) i) k d := by
  have e3 : t = pnt (hT t) 3 := Fin.ext (by
    show t.val = 4 * (t.val / 4) + 3
    omega)
  have e2 : (⟨t.val - 1, pr t⟩ : Fin cfg0.N) = pnt (hT t) 2 := Fin.ext (by
    show t.val - 1 = 4 * (t.val / 4) + 2
    omega)
  have e1 : (⟨t.val - 1 - 1, pr ⟨t.val - 1, pr t⟩⟩ : Fin cfg0.N) = pnt (hT t) 1 := Fin.ext (by
    show t.val - 1 - 1 = 4 * (t.val / 4) + 1
    omega)
  have e0 : (⟨t.val - 1 - 1 - 1, pr ⟨t.val - 1 - 1, pr ⟨t.val - 1, pr t⟩⟩⟩ : Fin cfg0.N) = pnt (hT t) 0 := Fin.ext (by
    show t.val - 1 - 1 - 1 = 4 * (t.val / 4) + 0
    omega)
  have a3 := acc3 m c t h k d
  have a2 := acc2 m c ⟨t.val - 1, pr t⟩ (by show (t.val - 1) % 4 = 2; omega) k d
  have a1 := acc1 m c ⟨t.val - 1 - 1, pr ⟨t.val - 1, pr t⟩⟩ (by show (t.val - 1 - 1) % 4 = 1; omega) k d
  have a0 := acc0 m c ⟨t.val - 1 - 1 - 1, pr ⟨t.val - 1 - 1, pr ⟨t.val - 1, pr t⟩⟩⟩ (by show (t.val - 1 - 1 - 1) % 4 = 0; omega) k d
  have f : ∀ t' t'' : Fin cfg0.N, t' = t'' → addL m c t' k d = addL m c t'' k d ∧ addH m c t' k d = addH m c t'' k d := by
    intro t' t'' e
    subst e
    exact ⟨rfl, rfl⟩
  have f3 := f _ _ e3
  have f2 := f _ _ e2
  have f1 := f _ _ e1
  have f0 := f _ _ e0
  constructor
  · rw [Fin.sum_univ_four]
    exact a3.1.trans (congrArg₂ (fun y z : EReal => y + z) (a2.1.trans (congrArg₂ (fun y z : EReal => y + z) (a1.1.trans (congrArg₂ (fun y z : EReal => y + z) (a0.1.trans f0.1) f1.1)) f2.1)) f3.1)
  · rw [Fin.sum_univ_four]
    exact a3.2.trans (congrArg₂ (fun y z : EReal => y + z) (a2.2.trans (congrArg₂ (fun y z : EReal => y + z) (a1.2.trans (congrArg₂ (fun y z : EReal => y + z) (a0.2.trans f0.2) f1.2)) f2.2)) f3.2)

/-- The gradient by the keys and values, at the last block of a head. -/
theorem keys_at (c : Dev nD) (t : Fin cfg0.N) (h : t.val % 4 = 3) (k : Fin 2176) (d : Fin 256) : (outsAt m c t.val t.isLt).2.1 (ix2 k d)
    = eKV (aQ m c) (aKV m c) (aKR m c) (aDO m c) (aO m c) (aL m c) (hT t) k d := by
  have e : (outsAt m c t.val t.isLt).2.1 (ix2 k d) = (outsAt m c t.val t.isLt).2.2.2 (ix2 k d) := by
    rw [oD_k m c t h, oD_s m c t h]
    exact kD_at m c t h _ _ k d
  rw [e]
  unfold eKV
  rcases col d with ⟨b, rfl⟩ | ⟨b, rfl⟩
  · rw [if_pos (show (lo b).val < 128 from b.isLt), ll_lo, (acc m c t h k b).1, sum_rows]
    exact Finset.sum_congr rfl fun i _ => by unfold addL; rw [hT_pnt, iT_pnt]
  · rw [if_neg (show ¬ (hi b).val < 128 from by show ¬ 128 + b.val < 128; omega), ll_hi, (acc m c t h k b).2, sum_rows]
    exact Finset.sum_congr rfl fun i _ => by unfold addH; rw [hT_pnt, iT_pnt]

/-- The rotary keys' gradient at the last point. -/
theorem rotary_at (c : Dev nD) (t : Fin cfg0.N) (h : t.val = 31) (k : Fin 2176) (d : Fin 128) : (outsAt m c t.val t.isLt).2.2.1 (ix2 k d)
    = eKR (aQ m c) (aKV m c) (aKR m c) (aDO m c) (aO m c) (aL m c) k d := by
  rw [rotary m c k d t.val t.isLt, h]
  unfold eKR
  rw [show (∑ s ∈ Finset.range (31 + 1), addR m c (pt s) k d) = ∑ s : Fin (8 * 4), addR m c (pt s.val) k d from Finset.sum_range (n := 8 * 4) _]
  refine (Fintype.sum_equiv (finProdFinEquiv (m := 8) (n := 4)) (fun x => addR m c (pnt x.1 x.2) k d) _ fun x => ?_).symm.trans ?_
  · refine congrArg (fun t => addR m c t k d) (Fin.ext ?_)
    show 4 * x.1.val + x.2.val = (x.2.val + 4 * x.1.val) % 32
    have := x.1.isLt
    have := x.2.isLt
    omega
  · rw [Fintype.sum_prod_type' (f := fun (h : Fin 8) (i : Fin 4) => addR m c (pnt h i) k d)]
    refine Finset.sum_congr rfl fun h _ => ?_
    rw [sum_rows]
    exact Finset.sum_congr rfl fun i _ => by unfold addR; rw [hT_pnt, iT_pnt]

/-! ## The arrays after the run -/

theorem flush8 : ∀ t : Fin cfg0.N, (cfg0.win 8).flush t = true → t.val % 4 = 3 := (by decide +kernel : ∀ t : Fin grid0.N, _)
theorem flush9 : ∀ t : Fin cfg0.N, (cfg0.win 9).flush t = true → t.val = 31 := (by decide +kernel : ∀ t : Fin grid0.N, _)

theorem final7 (c : Dev nD) : (dats m 0 c).arrAt 7 (cfgs 0).N = GQ (aQ m c) (aKV m c) (aKR m c) (aDO m c) (aO m c) (aL m c) := by
  refine (dats m 0 c).arrAt_eq_of_covers 7 _ (by decide +kernel) fun t _ y => ?_
  blk_simp
  rw [after0_7]
  idx_vars y
  have he : (((View.whole main_v52_0).slice (win0_7.rect t)).emb (ix2 y0 y1)) = ix2 (rowq (iT t) y0) (colq (hT t) y1) := by unfold rowq colq hT iT; blk_ext [idx t]
  refine (query_at m c t y0 y1).trans ?_
  refine Eq.trans ?_ (congrArg (GQ (aQ m c) (aKV m c) (aKR m c) (aDO m c) (aO m c) (aL m c)) he.symm)
  show _ = eQ _ _ _ _ _ _ (hd (colq (hT t) y1)) (rowq (iT t) y0) (ln (colq (hT t) y1))
  rw [hd_col, ln_col]

theorem final8 (c : Dev nD) : (dats m 0 c).arrAt 8 (cfgs 0).N = GKV (aQ m c) (aKV m c) (aKR m c) (aDO m c) (aO m c) (aL m c) := by
  refine (dats m 0 c).arrAt_eq_of_covers 8 _ (by decide +kernel) fun t ht y => ?_
  blk_simp
  rw [after0_8]
  idx_vars y
  have he : (((View.whole main_v52_1).slice (win0_8.rect t)).emb (ix2 y0 y1)) = ix2 y0 (colq (hT t) y1) := by unfold colq hT; blk_ext [idx t]
  refine (keys_at m c t (flush8 t ht) y0 y1).trans ?_
  refine Eq.trans ?_ (congrArg (GKV (aQ m c) (aKV m c) (aKR m c) (aDO m c) (aO m c) (aL m c)) he.symm)
  show _ = eKV _ _ _ _ _ _ (hd (colq (hT t) y1)) y0 (ln (colq (hT t) y1))
  rw [hd_col, ln_col]

theorem final9 (c : Dev nD) : (dats m 0 c).arrAt 9 (cfgs 0).N = GKR (aQ m c) (aKV m c) (aKR m c) (aDO m c) (aO m c) (aL m c) := by
  refine (dats m 0 c).arrAt_eq_of_covers 9 _ (by decide +kernel) fun t ht y => ?_
  blk_simp
  rw [after0_9]
  idx_vars y
  have he : (((View.whole main_v52_2).slice (win0_9.rect t)).emb (ix2 y0 y1)) = ix2 y0 y1 := by blk_ext [idx t]
  refine (rotary_at m c t (flush9 t ht) y0 y1).trans ?_
  refine Eq.trans ?_ (congrArg (GKR (aQ m c) (aKV m c) (aKR m c) (aDO m c) (aO m c) (aL m c)) he.symm)
  unfold GKR
  rfl

end Cert.Kernel7Ideal.Heads

end
-- ==== Proof.AttnRef.lean ====
/- The gradient of attention as the derivative of the forward's lines: the reference's terms, cut at the values it reuses, at an index. -/
module

public import proofs.«01_k».proof.Proof.Gen.Reference7Ideal.Run
public import Idealize.ShloMosaic.Lib.Pointwise

@[expose] public section

set_option maxRecDepth 16384

noncomputable section

namespace Cert.Reference7Ideal.Terms

open Cert.Reference7Ideal Cert.Reference7Ideal.Gen Idealize.ShloMosaic Idealize.ShloMosaic.TcCoe Idealize.SL.Sem

/-- The queries of the real rows, by head. -/
def rQ (Q : FVec Ideal S2176x2048 .bf16) : FVec Ideal S2064x8x256 .f32 :=
  shapeCast _ (extractStridedSlice S2064x2048 ![112, 0] (extf .f32 Q bitsLt_bf16_f32) slices_S2176x2048_S2064x2048_112_0) shapeCasts_S2064x2048_S2064x8x256

/-- The keys and values of the real rows, by head. -/
def rKV (KV : FVec Ideal S2176x2048 .bf16) : FVec Ideal S2064x8x256 .f32 :=
  shapeCast _ (extractStridedSlice S2064x2048 ![112, 0] (extf .f32 KV bitsLt_bf16_f32) slices_S2176x2048_S2064x2048_112_0) shapeCasts_S2064x2048_S2064x8x256

/-- The shared rotary keys of the real rows. -/
def rKR (KR : FVec Ideal S2176x128 .bf16) : FVec Ideal S2064x128 .f32 :=
  extractStridedSlice S2064x128 ![112, 0] (extf .f32 KR bitsLt_bf16_f32) slices_S2176x128_S2064x128_112_0

/-- The chunk of each row: the leading rows are chunk 0. -/
def rChunk : IVec S2064 32 :=
  select (cmpi .slt (iotaInDim S2064 32 0) (broadcastInDim S2064 ![] bcast_S_S2064 (constantI S_ 32 16#32))) (broadcastInDim S2064 ![] bcast_S_S2064 (id (constantI S_ 32 0#32))) (addi (broadcastInDim S2064 ![] bcast_S_S2064 (constantI S_ 32 1#32)) (select (andi (cmpi .ne (signi (subi (iotaInDim S2064 32 0) (broadcastInDim S2064 ![] bcast_S_S2064 (constantI S_ 32 16#32)))) (broadcastInDim S2064 ![] bcast_S_S2064 (signi (id (constantI S_ 32 64#32))))) (cmpi .ne (Host.remsi (subi (iotaInDim S2064 32 0) (broadcastInDim S2064 ![] bcast_S_S2064 (constantI S_ 32 16#32))) (broadcastInDim S2064 ![] bcast_S_S2064 (id (constantI S_ 32 64#32)))) (broadcastInDim S2064 ![] bcast_S_S2064 (constantI S_ 32 0#32)))) (subi (Host.divsi (subi (iotaInDim S2064 32 0) (broadcastInDim S2064 ![] bcast_S_S2064 (constantI S_ 32 16#32))) (broadcastInDim S2064 ![] bcast_S_S2064 (id (constantI S_ 32 64#32)))) (broadcastInDim S2064 ![] bcast_S_S2064 (constantI S_ 32 1#32))) (Host.divsi (subi (iotaInDim S2064 32 0) (broadcastInDim S2064 ![] bcast_S_S2064 (constantI S_ 32 16#32))) (broadcastInDim S2064 ![] bcast_S_S2064 (id (constantI S_ 32 64#32))))))

/-- The products of queries and keys, before scaling. -/
def rDot (Q : FVec Ideal S2176x2048 .bf16) (KV : FVec Ideal S2176x2048 .bf16) (KR : FVec Ideal S2176x128 .bf16) : FVec Ideal S8x2064x2064 .f32 :=
  addf (Host.dotGeneral dot_S2064x8x128_S2064x8x128_S8x2064x2064_2_2_0_0_1_1 none (extractStridedSlice S2064x8x128 ![0, 0, 0] (rQ Q) slices_S2064x8x256_S2064x8x128_0_0_0) (extractStridedSlice S2064x8x128 ![0, 0, 0] (rKV KV) slices_S2064x8x256_S2064x8x128_0_0_0)) (transpose S8x2064x2064 [2, 1, 0] (Host.dotGeneral dot_S2064x128_S2064x8x128_S2064x2064x8_1_2_0_01_n_n none (rKR KR) (extractStridedSlice S2064x8x128 ![0, 0, 128] (rQ Q) slices_S2064x8x256_S2064x8x128_0_0_128)) transposes_S2064x2064x8_S8x2064x2064_2_1_0)

/-- Which key a query may see: one of its own chunk or an earlier one. -/
def rMask : IVec S2064x2064 1 :=
  cmpi .sle (broadcastInDim S2064x2064 ![0, 1] bcast_S1x2064_S2064x2064_0_1 (broadcastInDim S1x2064 ![1] bcast_S2064_S1x2064_1 rChunk)) (broadcastInDim S2064x2064 ![0, 1] bcast_S2064x1_S2064x2064_0_1 (broadcastInDim S2064x1 ![0] bcast_S2064_S2064x1_0 rChunk))

/-- The masked scores. -/
def rS (Q : FVec Ideal S2176x2048 .bf16) (KV : FVec Ideal S2176x2048 .bf16) (KR : FVec Ideal S2176x128 .bf16) : FVec Ideal S8x2064x2064 .f32 :=
  select (broadcastInDim S8x2064x2064 ![0, 1, 2] bcast_S1x2064x2064_S8x2064x2064_0_1_2 (broadcastInDim S1x2064x2064 ![1, 2] bcast_S2064x2064_S1x2064x2064_1_2 rMask)) (mulf (rDot Q KV KR) (broadcastInDim S8x2064x2064 ![] bcast_S_S8x2064x2064 (constant S_ .f32 0x3D93CD3A#32))) (broadcastInDim S8x2064x2064 ![] bcast_S_S8x2064x2064 (id (constant S_ .f32 0xFF800000#32)))

/-- Each row's largest score. -/
def rMax (Q : FVec Ideal S2176x2048 .bf16) (KV : FVec Ideal S2176x2048 .bf16) (KR : FVec Ideal S2176x128 .bf16) : FVec Ideal S8x2064 .f32 :=
  Host.reduce FloatOps.maximumf (rS Q KV KR) (constant S_ .f32 0xFF800000#32) reducesTo_S8x2064x2064_S8x2064_d2 h_S_

/-- The exponentials of the scores less their row's largest. -/
def rE (Q : FVec Ideal S2176x2048 .bf16) (KV : FVec Ideal S2176x2048 .bf16) (KR : FVec Ideal S2176x128 .bf16) : FVec Ideal S8x2064x2064 .f32 :=
  Host.exp (subf (rS Q KV KR) (broadcastInDim S8x2064x2064 ![0, 1, 2] bcast_S8x2064x1_S8x2064x2064_0_1_2 (broadcastInDim S8x2064x1 ![0, 1] bcast_S8x2064_S8x2064x1_0_1 (maximumf (broadcastInDim S8x2064 ![] bcast_S_S8x2064 (constant S_ .f32 0xFF800000#32)) (rMax Q KV KR)))))

/-- The normaliser of each row. -/
def rL (Q : FVec Ideal S2176x2048 .bf16) (KV : FVec Ideal S2176x2048 .bf16) (KR : FVec Ideal S2176x128 .bf16) : FVec Ideal S8x2064x1 .f32 :=
  broadcastInDim S8x2064x1 ![0, 1] bcast_S8x2064_S8x2064x1_0_1 (Host.reduceAdd (rE Q KV KR) (constant S_ .f32 0x00000000#32) reducesTo_S8x2064x2064_S8x2064_d2 h_S_)

/-- The attention weights. -/
def rP (Q : FVec Ideal S2176x2048 .bf16) (KV : FVec Ideal S2176x2048 .bf16) (KR : FVec Ideal S2176x128 .bf16) : FVec Ideal S8x2064x2064 .f32 :=
  Host.divf (rE Q KV KR) (broadcastInDim S8x2064x2064 ![0, 1, 2] bcast_S8x2064x1_S8x2064x2064_0_1_2 (rL Q KV KR))

/-- The incoming gradient, by head. -/
def rDo (DO : FVec Ideal S2176x1024 .f32) : FVec Ideal S8x128x2064 .f32 :=
  transpose S8x128x2064 [1, 2, 0] (shapeCast _ (extractStridedSlice S2064x1024 ![112, 0] DO slices_S2176x1024_S2064x1024_112_0) shapeCasts_S2064x1024_S2064x8x128) transposes_S2064x8x128_S8x128x2064_1_2_0

/-- The gradient of the weights. -/
def rDp (KV : FVec Ideal S2176x2048 .bf16) (DO : FVec Ideal S2176x1024 .f32) : FVec Ideal S8x2064x2064 .f32 :=
  Host.dotGeneral dot_S8x128x2064_S2064x8x128_S8x2064x2064_1_2_2_0_0_1 none (rDo DO) (extractStridedSlice S2064x8x128 ![0, 0, 128] (rKV KV) slices_S2064x8x256_S2064x8x128_0_0_128)

/-- The gradient of the scores before masking. -/
def rDx (Q : FVec Ideal S2176x2048 .bf16) (KV : FVec Ideal S2176x2048 .bf16) (KR : FVec Ideal S2176x128 .bf16) (DO : FVec Ideal S2176x1024 .f32) : FVec Ideal S8x2064x2064 .f32 :=
  mulf (addf (Host.divf (rDp KV DO) (broadcastInDim S8x2064x2064 ![0, 1, 2] bcast_S8x2064x1_S8x2064x2064_0_1_2 (rL Q KV KR))) (broadcastInDim S8x2064x2064 ![0, 1] bcast_S8x2064_S8x2064x2064_0_1 (Host.reduceAdd (Host.negf (shapeCast _ (Host.reduceAdd (mulf (mulf (rDp KV DO) (broadcastInDim S8x2064x2064 ![0, 1, 2] bcast_S8x2064x1_S8x2064x2064_0_1_2 (Host.divf (broadcastInDim S8x2064x1 ![] bcast_S_S8x2064x1 (constant S_ .f32 0x3F800000#32)) (mulf (rL Q KV KR) (rL Q KV KR))))) (rE Q KV KR)) (constant S_ .f32 0x00000000#32) reducesTo_S8x2064x2064_S8x2064_d2 h_S_) shapeCasts_S8x2064_S8x2064x1)) (constant S_ .f32 0x00000000#32) reducesTo_S8x2064x1_S8x2064_d2 h_S_))) (rE Q KV KR)

/-- The gradient of the products. -/
def rDs (Q : FVec Ideal S2176x2048 .bf16) (KV : FVec Ideal S2176x2048 .bf16) (KR : FVec Ideal S2176x128 .bf16) (DO : FVec Ideal S2176x1024 .f32) : FVec Ideal S8x2064x2064 .f32 :=
  mulf (select (broadcastInDim S8x2064x2064 ![0, 1, 2] bcast_S1x2064x2064_S8x2064x2064_0_1_2 (broadcastInDim S1x2064x2064 ![1, 2] bcast_S2064x2064_S1x2064x2064_1_2 rMask)) (rDx Q KV KR DO) (broadcastInDim S8x2064x2064 ![] bcast_S_S8x2064x2064 (constant S_ .f32 0x00000000#32))) (broadcastInDim S8x2064x2064 ![] bcast_S_S8x2064x2064 (constant S_ .f32 0x3D93CD3A#32))

/-- The gradient of the shared rotary keys. -/
def ref2 (Q : FVec Ideal S2176x2048 .bf16) (KV : FVec Ideal S2176x2048 .bf16) (KR : FVec Ideal S2176x128 .bf16) (DO : FVec Ideal S2176x1024 .f32) : FVec Ideal S2176x128 .f32 :=
  pad S2176x128 ![112, 0] ![0, 0] ![0, 0] (Host.dotGeneral dot_S2064x2064x8_S2064x8x128_S2064x128_12_01_0_2_n_n none (transpose S2064x2064x8 [2, 1, 0] (rDs Q KV KR DO) transposes_S8x2064x2064_S2064x2064x8_2_1_0) (extractStridedSlice S2064x8x128 ![0, 0, 128] (rQ Q) slices_S2064x8x256_S2064x8x128_0_0_128)) (constant S_ .f32 0x00000000#32) pads_S2064x128_S2176x128_11200_000 h_S_

/-- The gradient of the queries. -/
def ref0 (Q : FVec Ideal S2176x2048 .bf16) (KV : FVec Ideal S2176x2048 .bf16) (KR : FVec Ideal S2176x128 .bf16) (DO : FVec Ideal S2176x1024 .f32) : FVec Ideal S2176x2048 .f32 :=
  pad S2176x2048 ![112, 0] ![0, 0] ![0, 0] (shapeCast _ (addf (pad S2064x8x256 ![0, 0, 128] ![0, 0, 0] ![0, 0, 0] (Host.dotGeneral dot_S2064x2064x8_S2064x128_S2064x8x128_0_0_12_1_n_n none (transpose S2064x2064x8 [2, 1, 0] (rDs Q KV KR DO) transposes_S8x2064x2064_S2064x2064x8_2_1_0) (rKR KR)) (constant S_ .f32 0x00000000#32) pads_S2064x8x128_S2064x8x256_000_000_12800 h_S_) (pad S2064x8x256 ![0, 0, 0] ![0, 0, 128] ![0, 0, 0] (transpose S2064x8x128 [1, 0, 2] (Host.dotGeneral dot_S8x2064x2064_S2064x8x128_S8x2064x128_2_0_1_2_0_1 none (rDs Q KV KR DO) (extractStridedSlice S2064x8x128 ![0, 0, 0] (rKV KV) slices_S2064x8x256_S2064x8x128_0_0_0)) transposes_S8x2064x128_S2064x8x128_1_0_2) (constant S_ .f32 0x00000000#32) pads_S2064x8x128_S2064x8x256_000_000_01280 h_S_)) shapeCasts_S2064x8x256_S2064x2048) (constant S_ .f32 0x00000000#32) pads_S2064x2048_S2176x2048_11200_000 h_S_

/-- The gradient of the keys and values. -/
def ref1 (Q : FVec Ideal S2176x2048 .bf16) (KV : FVec Ideal S2176x2048 .bf16) (KR : FVec Ideal S2176x128 .bf16) (DO : FVec Ideal S2176x1024 .f32) : FVec Ideal S2176x2048 .bf16 :=
  truncf .bf16 (pad S2176x2048 ![112, 0] ![0, 0] ![0, 0] (shapeCast _ (addf (pad S2064x8x256 ![0, 0, 128] ![0, 0, 0] ![0, 0, 0] (transpose S2064x8x128 [2, 0, 1] (Host.dotGeneral dot_S8x128x2064_S8x2064x2064_S8x128x2064_2_1_1_2_0_0 none (rDo DO) (rP Q KV KR)) transposes_S8x128x2064_S2064x8x128_2_0_1) (constant S_ .f32 0x00000000#32) pads_S2064x8x128_S2064x8x256_000_000_12800 h_S_) (pad S2064x8x256 ![0, 0, 0] ![0, 0, 128] ![0, 0, 0] (transpose S2064x8x128 [1, 0, 2] (Host.dotGeneral dot_S8x2064x2064_S2064x8x128_S8x2064x128_1_0_2_2_0_1 none (rDs Q KV KR DO) (extractStridedSlice S2064x8x128 ![0, 0, 0] (rQ Q) slices_S2064x8x256_S2064x8x128_0_0_0)) transposes_S8x2064x128_S2064x8x128_1_0_2) (constant S_ .f32 0x00000000#32) pads_S2064x8x128_S2064x8x256_000_000_01280 h_S_)) shapeCasts_S2064x8x256_S2064x2048) (constant S_ .f32 0x00000000#32) pads_S2064x2048_S2176x2048_11200_000 h_S_) bitsLt_bf16_f32

theorem out0_eq (m : (ℓ : Loc nD τ sig) → Buf (Elt Ideal) ℓ) (c : Dev nD) : Value.res_out0 m c = ref0 (m ((c.tc : Thread nD τ).loc main_arg0)) (m ((c.tc : Thread nD τ).loc main_arg1)) (m ((c.tc : Thread nD τ).loc main_arg2)) (m ((c.tc : Thread nD τ).loc main_arg3)) := by
  rfl

theorem out1_eq (m : (ℓ : Loc nD τ sig) → Buf (Elt Ideal) ℓ) (c : Dev nD) : Value.res_out1 m c = ref1 (m ((c.tc : Thread nD τ).loc main_arg0)) (m ((c.tc : Thread nD τ).loc main_arg1)) (m ((c.tc : Thread nD τ).loc main_arg2)) (m ((c.tc : Thread nD τ).loc main_arg3)) := by
  rfl

theorem out2_eq (m : (ℓ : Loc nD τ sig) → Buf (Elt Ideal) ℓ) (c : Dev nD) : Value.res_out2 m c = ref2 (m ((c.tc : Thread nD τ).loc main_arg0)) (m ((c.tc : Thread nD τ).loc main_arg1)) (m ((c.tc : Thread nD τ).loc main_arg2)) (m ((c.tc : Thread nD τ).loc main_arg3)) := by
  rfl

/-- A real row's place among all rows. -/
abbrev rr (q : Fin 2064) : Fin 2176 := ⟨112 + q.val, by omega⟩
/-- A lane of a head's 256. -/
abbrev cq (h : Fin 8) (e : Fin 256) : Fin 2048 := ⟨256 * h.val + e.val, by omega⟩
/-- A lane of a head's 128. -/
abbrev co (h : Fin 8) (d : Fin 128) : Fin 1024 := ⟨128 * h.val + d.val, by omega⟩
/-- The first half of a head's lanes. -/
abbrev la (d : Fin 128) : Fin 256 := ⟨d.val, by omega⟩
/-- The second half of a head's lanes. -/
abbrev lb (d : Fin 128) : Fin 256 := ⟨128 + d.val, by omega⟩

variable (Q KV : FVec Ideal S2176x2048 .bf16) (KR : FVec Ideal S2176x128 .bf16) (DO : FVec Ideal S2176x1024 .f32)
variable (h : Fin 8) (q k : Fin 2064) (d : Fin 128) (e : Fin 256)

theorem rQ_at : rQ Q (ix3 q h e) = Q (ix2 (rr q) (cq h e)) := by
  pointwise [rQ]
  exact congrArg Q (congrArg₂ ix2 rfl (Fin.ext (by show h.val * 256 + e.val = 256 * h.val + e.val; omega)))
theorem rKV_at : rKV KV (ix3 q h e) = KV (ix2 (rr q) (cq h e)) := by
  pointwise [rKV]
  exact congrArg KV (congrArg₂ ix2 rfl (Fin.ext (by show h.val * 256 + e.val = 256 * h.val + e.val; omega)))
theorem rKR_at : rKR KR (ix2 k d) = KR (ix2 (rr k) d) := by
  pointwise [rKR]
theorem rMask_at : rMask (ix2 q k) = IntOp.cmpi CmpIPredicate.sle (rChunk (ix1 k)) (rChunk (ix1 q)) := by
  pointwise [rMask]
theorem rDot_at : rDot Q KV KR (ix3 h q k) = (∑ d, rQ Q (ix3 q h (la d)) * rKV KV (ix3 k h (la d))) + ∑ d, rKR KR (ix2 k d) * rQ Q (ix3 q h (lb d)) := by
  pointwise [rDot]
theorem rS_at : rS Q KV KR (ix3 h q k) = Scalar.select (rMask (ix2 q k)) (rDot Q KV KR (ix3 h q k) * Ideal.ofBits .f32 0x3D93CD3A#32) (Ideal.ofBits .f32 0xFF800000#32) := by
  pointwise [rS]
  rfl
theorem rMax_at : rMax Q KV KR (ix2 h q) = Finset.fold max (Ideal.ofBits .f32 0xFF800000#32) (fun x => rS Q KV KR (ix3 h q x)) Finset.univ := by
  pointwise [rMax]
theorem exp_at (S : FVec Ideal S8x2064x2064 .f32) (M : FVec Ideal S8x2064 .f32) : Host.exp (subf S (broadcastInDim S8x2064x2064 ![0, 1, 2] bcast_S8x2064x1_S8x2064x2064_0_1_2 (broadcastInDim S8x2064x1 ![0, 1] bcast_S8x2064_S8x2064x1_0_1 M))) (ix3 h q k)
    = Ideal.exp (S (ix3 h q k) - M (ix2 h q)) := by
  pointwise []
theorem maxi_at (M : FVec Ideal S8x2064 .f32) : maximumf (broadcastInDim S8x2064 ![] bcast_S_S8x2064 (constant S_ .f32 0xFF800000#32)) M (ix2 h q) = max (Ideal.ofBits .f32 0xFF800000#32) (M (ix2 h q)) := by
  pointwise []
theorem rE_at : rE Q KV KR (ix3 h q k) = Ideal.exp (rS Q KV KR (ix3 h q k) - max (Ideal.ofBits .f32 0xFF800000#32) (rMax Q KV KR (ix2 h q))) := by
  unfold rE
  exact (exp_at h q k _ _).trans (by rw [maxi_at])
theorem rL_at : rL Q KV KR (ix3 h q (0 : Fin 1)) = ∑ k, rE Q KV KR (ix3 h q k) := by
  pointwise [rL]
theorem rP_at : rP Q KV KR (ix3 h q k) = Ideal.div (rE Q KV KR (ix3 h q k)) (rL Q KV KR (ix3 h q (0 : Fin 1))) := by
  pointwise [rP]
theorem rDo_at : rDo DO (ix3 h d q) = DO (ix2 (rr q) (co h d)) := by
  pointwise [rDo]
  exact congrArg DO (congrArg₂ ix2 rfl (Fin.ext (by show h.val * 128 + d.val = 128 * h.val + d.val; omega)))
theorem rDp_at : rDp KV DO (ix3 h q k) = ∑ d, rDo DO (ix3 h d q) * rKV KV (ix3 k h (lb d)) := by
  pointwise [rDp]
theorem rDx_at : rDx Q KV KR DO (ix3 h q k) = (Ideal.div (rDp KV DO (ix3 h q k)) (rL Q KV KR (ix3 h q (0 : Fin 1)))
    + -∑ x, rDp KV DO (ix3 h q x) * Ideal.div 1 (rL Q KV KR (ix3 h q (0 : Fin 1)) * rL Q KV KR (ix3 h q (0 : Fin 1))) * rE Q KV KR (ix3 h q x)) * rE Q KV KR (ix3 h q k) := by
  pointwise [rDx]
  rw [Fin.sum_univ_one]
theorem rDs_at : rDs Q KV KR DO (ix3 h q k) = Scalar.select (rMask (ix2 q k)) (rDx Q KV KR DO (ix3 h q k)) 0 * Ideal.ofBits .f32 0x3D93CD3A#32 := by
  pointwise [rDs]
theorem ref0_head (r : Fin 2176) (hr : r.val < 112) (j : Fin 2048) : ref0 Q KV KR DO (ix2 r j) = 0 := by
  pointwise [ref0]
  exact dif_neg (by omega)
theorem ref1_head (r : Fin 2176) (hr : r.val < 112) (j : Fin 2048) : ref1 Q KV KR DO (ix2 r j) = 0 := by
  pointwise [ref1]
  exact dif_neg (by omega)
theorem ref2_head (r : Fin 2176) (hr : r.val < 112) (j : Fin 128) : ref2 Q KV KR DO (ix2 r j) = 0 := by
  pointwise [ref2]
  exact dif_neg (by omega)
theorem ref0_lo : ref0 Q KV KR DO (ix2 (rr q) (cq h (la d))) = ∑ k, rDs Q KV KR DO (ix3 h q k) * rKV KV (ix3 k h (la d)) := by
  pointwise [ref0]
  simp only [show (256 * h.val + d.val) % 256 = d.val by omega, show 256 * h.val + d.val < 2048 by omega, show ¬128 ≤ d.val by omega, d.isLt, dite_true, false_and, dite_false, zero_add]
theorem ref0_hi : ref0 Q KV KR DO (ix2 (rr q) (cq h (lb d))) = ∑ k, rDs Q KV KR DO (ix3 h q k) * rKR KR (ix2 k d) := by
  pointwise [ref0]
  simp only [show (256 * h.val + (128 + d.val)) % 256 = 128 + d.val by omega, show 256 * h.val + (128 + d.val) < 2048 by omega, show 128 ≤ 128 + d.val by omega, show ¬128 + d.val < 128 by omega, Nat.add_sub_cancel_left, d.isLt, and_self, dite_true, dite_false, add_zero]
theorem ref1_lo : ref1 Q KV KR DO (ix2 (rr k) (cq h (la d))) = ∑ q, rDs Q KV KR DO (ix3 h q k) * rQ Q (ix3 q h (la d)) := by
  pointwise [ref1]
  simp only [show (256 * h.val + d.val) % 256 = d.val by omega, show 256 * h.val + d.val < 2048 by omega, show ¬128 ≤ d.val by omega, d.isLt, dite_true, false_and, dite_false, zero_add]
theorem ref1_hi : ref1 Q KV KR DO (ix2 (rr k) (cq h (lb d))) = ∑ q, rDo DO (ix3 h d q) * rP Q KV KR (ix3 h q k) := by
  pointwise [ref1]
  simp only [show (256 * h.val + (128 + d.val)) % 256 = 128 + d.val by omega, show 256 * h.val + (128 + d.val) < 2048 by omega, show 128 ≤ 128 + d.val by omega, show ¬128 + d.val < 128 by omega, Nat.add_sub_cancel_left, d.isLt, and_self, dite_true, dite_false, add_zero]
theorem ref2_at : ref2 Q KV KR DO (ix2 (rr k) d) = ∑ h, ∑ q, rDs Q KV KR DO (ix3 h q k) * rQ Q (ix3 q h (lb d)) := by
  pointwise [ref2]
  exact Finset.sum_comm

end Cert.Reference7Ideal.Terms

end
-- ==== Proof.AttnHost.lean ====
/- What the host hands the gradient kernel: the forward's output and each row's log-sum, from the reference's terms. -/
module

public import proofs.«01_k».proof.Proof.Gen.Kernel7Ideal.Frame
public import proofs.«01_k».proof.Proof.AttnRef
public import Idealize.ShloMosaic.Lib.Claim

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Cert.Reference7Ideal.Terms

/-- The exponentials of the scores `S` less their row's largest. -/
def gE (S : FVec Ideal S8x2064x2064 .f32) : FVec Ideal S8x2064x2064 .f32 :=
  Host.exp (subf S (broadcastInDim S8x2064x2064 ![0, 1, 2] bcast_S8x2064x1_S8x2064x2064_0_1_2 (broadcastInDim S8x2064x1 ![0, 1] bcast_S8x2064_S8x2064x1_0_1 (Host.reduce FloatOps.maximumf S (constant S_ .f32 0xFF800000#32) reducesTo_S8x2064x2064_S8x2064_d2 h_S_))))

/-- The normaliser of each row. -/
def gL (S : FVec Ideal S8x2064x2064 .f32) : FVec Ideal S8x2064x1 .f32 :=
  broadcastInDim S8x2064x1 ![0, 1] bcast_S8x2064_S8x2064x1_0_1 (Host.reduceAdd (gE S) (constant S_ .f32 0x00000000#32) reducesTo_S8x2064x2064_S8x2064_d2 h_S_)

/-- The attention weights. -/
def gW (S : FVec Ideal S8x2064x2064 .f32) : FVec Ideal S8x2064x2064 .f32 :=
  Host.divf (gE S) (broadcastInDim S8x2064x2064 ![0, 1, 2] bcast_S8x2064x1_S8x2064x2064_0_1_2 (gL S))

/-- The forward's output on the real rows. -/
def gO (S : FVec Ideal S8x2064x2064 .f32) (T : FVec Ideal S2064x8x256 .f32) : FVec Ideal S2064x1024 .f32 :=
  shapeCast _ (transpose S2064x8x128 [2, 0, 1] (Host.dotGeneral dot_S2064x8x128_S8x2064x2064_S8x128x2064_0_2_2_1_1_0 none (extractStridedSlice S2064x8x128 ![0, 0, 128] T slices_S2064x8x256_S2064x8x128_0_0_128) (gW S)) transposes_S8x128x2064_S2064x8x128_2_0_1) shapeCasts_S2064x8x128_S2064x1024

/-- The forward's output, with zero rows before it. -/
def gOut (S : FVec Ideal S8x2064x2064 .f32) (T : FVec Ideal S2064x8x256 .f32) : FVec Ideal S2176x1024 .f32 :=
  concatenate S2176x1024 0 [⟨S112x1024, broadcastInDim S112x1024 ![] bcast_S_S112x1024 (constant S_ .f32 0x00000000#32)⟩, ⟨S2064x1024, gO S T⟩] concatenates_S112x1024_S2064x1024_S2176x1024_d0

/-- Each row's log-sum on the real rows. -/
def gLog (S : FVec Ideal S8x2064x2064 .f32) : FVec Ideal S8x2064x1 .f32 :=
  addf (broadcastInDim S8x2064x1 ![0, 1] bcast_S8x2064_S8x2064x1_0_1 (Host.reduce FloatOps.maximumf S (constant S_ .f32 0xFF800000#32) reducesTo_S8x2064x2064_S8x2064_d2 h_S_)) (Host.log (gL S))

/-- Each row's log-sum, with zero rows before it. -/
def gLse (S : FVec Ideal S8x2064x2064 .f32) : FVec Ideal S8x2176x1 .f32 :=
  concatenate S8x2176x1 1 [⟨S8x112x1, broadcastInDim S8x112x1 ![] bcast_S_S8x112x1 (constant S_ .f32 0x00000000#32)⟩, ⟨S8x2064x1, gLog S⟩] concatenates_S8x112x1_S8x2064x1_S8x2176x1_d1

theorem after_parts (σ : Valuation τ sig (Elt Ideal)) : StableHlo.after (List.flatten [hostOps0, hostOps0_1, hostOps0_2, hostOps0_3, hostOps0_4, hostOps0_5, hostOps0_6]) σ
    = StableHlo.after hostOps0_6 (StableHlo.after (List.flatten [hostOps0, hostOps0_1, hostOps0_2, hostOps0_3, hostOps0_4, hostOps0_5]) σ) := by
  rfl

variable (σ : Valuation τ sig (Elt Ideal))

theorem last_lse : StableHlo.after (hostOps0_6 (F := Ideal)) σ main_v51 = gLse (σ main_v32) := by
  unfold hostOps0_6
  simp only [StableHlo.after_cons, StableHlo.after_nil]
  after_results_simp
  after_results_loop
  rfl

theorem last_o : StableHlo.after (hostOps0_6 (F := Ideal)) σ main_v47 = gOut (σ main_v32) (σ main_v5) := by
  unfold hostOps0_6
  simp only [StableHlo.after_cons, StableHlo.after_nil]
  after_results_simp
  after_results_loop
  rfl

theorem first_s : StableHlo.after (List.flatten [hostOps0 (F := Ideal), hostOps0_1, hostOps0_2, hostOps0_3, hostOps0_4, hostOps0_5]) σ main_v32 = rS (σ main_arg0) (σ main_arg1) (σ main_arg2) := by
  unfold hostOps0 hostOps0_1 hostOps0_2 hostOps0_3 hostOps0_4 hostOps0_5
  simp only [List.flatten_cons, List.flatten_nil, List.append_nil, List.cons_append, List.nil_append, StableHlo.after_cons, StableHlo.after_nil]
  after_results_simp
  rfl

theorem first_kv : StableHlo.after (List.flatten [hostOps0 (F := Ideal), hostOps0_1, hostOps0_2, hostOps0_3, hostOps0_4, hostOps0_5]) σ main_v5 = rKV (σ main_arg1) := by
  unfold hostOps0 hostOps0_1 hostOps0_2 hostOps0_3 hostOps0_4 hostOps0_5
  simp only [List.flatten_cons, List.flatten_nil, List.append_nil, List.cons_append, List.nil_append, StableHlo.after_cons, StableHlo.after_nil]
  after_results_simp
  rfl

/-! ## The terms at an index -/

section
variable (S : FVec Ideal S8x2064x2064 .f32) (T : FVec Ideal S2064x8x256 .f32) (h : Fin 8) (q k : Fin 2064) (d : Fin 128)

/-- A row's largest score. -/
def gMax : EReal := Finset.fold max (Ideal.ofBits .f32 0xFF800000#32) (fun k => S (ix3 h q k)) Finset.univ

theorem max_at : Host.reduce FloatOps.maximumf S (constant (F := Ideal) S_ .f32 0xFF800000#32) reducesTo_S8x2064x2064_S8x2064_d2 h_S_ (ix2 h q) = gMax S h q := by
  pointwise [gMax]

theorem gE_at : gE S (ix3 h q k) = Ideal.exp (S (ix3 h q k) - gMax S h q) := by
  unfold gE
  exact (exp_at h q k _ _).trans (by rw [max_at])

theorem gL_at : gL S (ix3 h q (0 : Fin 1)) = ∑ k, gE S (ix3 h q k) := by
  pointwise [gL]

theorem gW_at : gW S (ix3 h q k) = Ideal.div (gE S (ix3 h q k)) (gL S (ix3 h q (0 : Fin 1))) := by
  pointwise [gW]

theorem gO_at : gO S T (ix2 q (co h d)) = ∑ k, T (ix3 k h (lb d)) * gW S (ix3 h q k) := by
  pointwise [gO]
  simp only [show (128 * h.val + d.val) / 128 = h.val by omega, show (128 * h.val + d.val) % 128 = d.val by omega, Fin.eta]

theorem gOut_at (j : Fin 1024) : gOut S T (ix2 (rr q) j) = gO S T (ix2 q j) := by
  unfold gOut
  generalize gO S T = X
  pointwise []

theorem gOut_head (r : Fin 2176) (hr : r.val < 112) (j : Fin 1024) : gOut S T (ix2 r j) = 0 := by
  unfold gOut
  generalize gO S T = X
  pointwise []
  exact dif_pos hr

theorem gLog_gen (X : FVec Ideal S8x2064 .f32) (Y : FVec Ideal S8x2064x1 .f32) : addf (broadcastInDim S8x2064x1 ![0, 1] bcast_S8x2064_S8x2064x1_0_1 X) (Host.log Y) (ix3 h q (0 : Fin 1))
    = X (ix2 h q) + Ideal.log (Y (ix3 h q (0 : Fin 1))) := by
  pointwise []

theorem gLog_at : gLog S (ix3 h q (0 : Fin 1)) = gMax S h q + Ideal.log (gL S (ix3 h q (0 : Fin 1))) := by
  unfold gLog
  exact (gLog_gen h q _ _).trans (by rw [max_at])

theorem gLse_at : gLse S (ix3 h (rr q) (0 : Fin 1)) = gLog S (ix3 h q (0 : Fin 1)) := by
  unfold gLse
  generalize gLog S = X
  pointwise []

theorem gLse_head (r : Fin 2176) (hr : r.val < 112) : gLse S (ix3 h r (0 : Fin 1)) = 0 := by
  unfold gLse
  generalize gLog S = X
  pointwise []
  exact dif_pos hr
end

/-! ## Where the region starts -/

variable (m : (ℓ : Loc nD τ sig) → Buf (Elt Ideal) ℓ) (c : Dev nD)

theorem lse_eq : V m c main_v51 = gLse (rS (m ((c : Thread nD τ).loc main_arg0)) (m ((c : Thread nD τ).loc main_arg1)) (m ((c : Thread nD τ).loc main_arg2))) := by
  show StableHlo.after hostOps0_6 (StableHlo.after (List.flatten [hostOps0, hostOps0_1, hostOps0_2, hostOps0_3, hostOps0_4, hostOps0_5]) fun b => m (c, b)) main_v51 = _
  rw [last_lse, first_s]

theorem o_eq : V m c main_v47 = gOut (rS (m ((c : Thread nD τ).loc main_arg0)) (m ((c : Thread nD τ).loc main_arg1)) (m ((c : Thread nD τ).loc main_arg2))) (rKV (m ((c : Thread nD τ).loc main_arg1))) := by
  show StableHlo.after hostOps0_6 (StableHlo.after (List.flatten [hostOps0, hostOps0_1, hostOps0_2, hostOps0_3, hostOps0_4, hostOps0_5]) fun b => m (c, b)) main_v47 = _
  rw [last_o, first_s, first_kv]

end Cert.Kernel7Ideal.Heads

end
-- ==== Proof.AttnMask.lean ====
/- The reference's mask: a key is seen when its chunk of 64 rows is at most the query's. -/
module

public import proofs.«01_k».proof.Proof.AttnRef

@[expose] public section

set_option maxRecDepth 16384

noncomputable section

namespace Cert.Reference7Ideal.Terms

open Cert.Reference7Ideal Cert.Reference7Ideal.Gen Idealize.ShloMosaic Idealize.ShloMosaic.TcCoe Idealize.SL.Sem

theorem word_eq : ∀ k : Fin 2064, Scalar.select (IntOp.cmpi CmpIPredicate.slt (BitVec.ofNat 32 k.val) 16#32) 0#32
      (IntOp.addi (1#32)
        (Scalar.select
          (IntOp.andi
            (IntOp.cmpi CmpIPredicate.ne
              (if IntOp.subi (BitVec.ofNat 32 k.val) 16#32 = 0 then 0
              else if (IntOp.subi (BitVec.ofNat 32 k.val) 16#32).msb = true then -1 else 1)
              (if (64#32 : BitVec 32) = 0 then 0
              else if (64#32 : BitVec 32).msb = true then -1 else (1 : BitVec 32)))
            (IntOp.cmpi CmpIPredicate.ne
              (IntOp.remsi ArithUnit.host (IntOp.subi (BitVec.ofNat 32 k.val) 16#32) 64#32)
              0#32))
          (IntOp.subi
            (IntOp.divsi ArithUnit.host (IntOp.subi (BitVec.ofNat 32 k.val) 16#32) 64#32) 1#32)
          (IntOp.divsi ArithUnit.host (IntOp.subi (BitVec.ofNat 32 k.val) 16#32) 64#32))) = BitVec.ofNat 32 ((112 + k.val) / 64 - 1) := by
  decide +kernel

theorem chunk_at (k : Fin 2064) : rChunk (ix1 k) = BitVec.ofNat 32 ((112 + k.val) / 64 - 1) := by
  pointwise [rChunk]
  exact word_eq k

theorem le_word : ∀ a b : Fin 34, IntOp.cmpi CmpIPredicate.sle (BitVec.ofNat 32 a.val) (BitVec.ofNat 32 b.val) = if a.val ≤ b.val then 1#1 else 0#1 := by
  decide +kernel

/-- A key is seen by the queries of its own chunk of 64 rows and of the later ones. -/
theorem mask_at (q k : Fin 2064) : rMask (ix2 q k) = if (112 + k.val) / 64 ≤ (112 + q.val) / 64 then 1#1 else 0#1 := by
  rw [rMask_at, chunk_at, chunk_at]
  refine (le_word ⟨(112 + k.val) / 64 - 1, by omega⟩ ⟨(112 + q.val) / 64 - 1, by omega⟩).trans ?_
  refine if_congr ?_ rfl rfl
  show (112 + k.val) / 64 - 1 ≤ (112 + q.val) / 64 - 1 ↔ _
  omega

theorem ofBits_bot : Ideal.ofBits .f32 0xFF800000#32 = ⊥ := by simp [Ideal.ofBits, Ideal.ieee]

theorem scale_real : ∃ c : ℝ, Ideal.ofBits .f32 0x3D93CD3A#32 = c := by
  simp [Ideal.ofBits, Ideal.ieee]
  exact ⟨_, (EReal.coe_mul _ _).symm⟩

end Cert.Reference7Ideal.Terms

end
-- ==== Proof.AttnRow.lean ====
/- One row of attention over extended reals: the weights from the row's log-sum are the softmax's, and the kernel's gradient of
   the scores is the derivative of the softmax, once the scores that are seen are reals and one key is seen. -/
module

public import Idealize.ShloMosaic.PureOps.Ideal

@[expose] public section

set_option maxRecDepth 16384

noncomputable section

namespace Cert.AttnRow

open Idealize.ShloMosaic

theorem coe_sum {ι : Type} [Fintype ι] (g : ι → ℝ) : ((∑ i, g i : ℝ) : EReal) = ∑ i, (g i : EReal) :=
  map_sum (⟨⟨Real.toEReal, EReal.coe_zero⟩, EReal.coe_add⟩ : ℝ →+ EReal) g Finset.univ

variable {n : ℕ} (P : Fin n → Prop) [DecidablePred P] (s : Fin n → ℝ)

/-- The masked score. -/
def x (k : Fin n) : EReal := if P k then (s k : EReal) else ⊥

/-- The largest masked score is a real, as one key is seen. -/
theorem max_real {k0 : Fin n} (h0 : P k0) : ∃ μ : ℝ, Finset.fold max (⊥ : EReal) (x P s) Finset.univ = μ := by
  have hb : (s k0 : EReal) ≤ Finset.fold max (⊥ : EReal) (x P s) Finset.univ :=
    (Finset.le_fold_max _).2 (Or.inr ⟨k0, Finset.mem_univ _, by unfold x; rw [if_pos h0]⟩)
  have ht : Finset.fold max (⊥ : EReal) (x P s) Finset.univ < ⊤ := by
    refine (Finset.fold_max_lt _).2 ⟨bot_lt_top, fun k _ => ?_⟩
    unfold x
    split
    · exact EReal.coe_lt_top _
    · exact bot_lt_top
  generalize Finset.fold max (⊥ : EReal) (x P s) Finset.univ = M at hb ht
  induction M using EReal.rec with
  | bot => exact absurd hb (by simp)
  | top => exact absurd ht (lt_irrefl _)
  | coe t => exact ⟨t, rfl⟩

variable (μ : ℝ)

/-- The exponential of a score less `μ`, zero for a key not seen. -/
def e (k : Fin n) : ℝ := if P k then Real.exp (s k - μ) else 0

/-- The normaliser. -/
def l : ℝ := ∑ k, e P s μ k

theorem e_eq (k : Fin n) : Ideal.exp (x P s k - μ) = (e P s μ k : EReal) := by
  unfold x e
  split
  · rw [← EReal.coe_sub, Ideal.exp_coe]
  · rw [EReal.bot_sub, Ideal.exp_bot, EReal.coe_zero]

theorem l_eq : ∑ k, (e P s μ k : EReal) = (l P s μ : EReal) := (coe_sum _).symm

theorem l_pos {k0 : Fin n} (h0 : P k0) : 0 < l P s μ := by
  refine Finset.sum_pos' (fun k _ => ?_) ⟨k0, Finset.mem_univ _, ?_⟩
  · unfold e
    split
    · exact (Real.exp_pos _).le
    · exact le_rfl
  · unfold e
    rw [if_pos h0]
    exact Real.exp_pos _

variable {k0 : Fin n} (h0 : P k0)
include h0

/-- The weight from the row's log-sum. -/
theorem weight (k : Fin n) : Ideal.exp (x P s k - (μ + Ideal.log (l P s μ : EReal))) = ((e P s μ k / l P s μ : ℝ) : EReal) := by
  have hl := l_pos P s μ h0
  rw [Ideal.log_coe, if_neg (not_le.2 hl), ← EReal.coe_add]
  unfold x
  by_cases hk : P k
  · rw [if_pos hk, ← EReal.coe_sub, Ideal.exp_coe]
    unfold e
    rw [if_pos hk, show s k - (μ + Real.log (l P s μ)) = s k - μ - Real.log (l P s μ) by ring, Real.exp_sub, Real.exp_log hl]
  · rw [if_neg hk, EReal.bot_sub, Ideal.exp_bot]
    unfold e
    rw [if_neg hk, zero_div, EReal.coe_zero]

/-- The softmax's weight. -/
theorem quot (k : Fin n) : Ideal.div (e P s μ k : EReal) (l P s μ : EReal) = ((e P s μ k / l P s μ : ℝ) : EReal) := by
  rw [Ideal.div_coe (l_pos P s μ h0).ne', ← EReal.coe_mul, mul_one_div]

/-- The derivative of the softmax, as the reference writes it, against the kernel's. -/
theorem grad (dp : Fin n → ℝ) (k : Fin n) :
    (Ideal.div (dp k : EReal) (l P s μ : EReal) + -∑ j, (dp j : EReal) * Ideal.div 1 ((l P s μ : EReal) * (l P s μ : EReal)) * (e P s μ j : EReal)) * (e P s μ k : EReal)
      = ((e P s μ k / l P s μ : ℝ) : EReal) * ((dp k : EReal) - ((∑ j, e P s μ j / l P s μ * dp j : ℝ) : EReal)) := by
  have hl := (l_pos P s μ h0).ne'
  have hs : ∑ j, (dp j : EReal) * Ideal.div 1 ((l P s μ : EReal) * (l P s μ : EReal)) * (e P s μ j : EReal)
      = ((∑ j, dp j * (1 / (l P s μ * l P s μ)) * e P s μ j : ℝ) : EReal) := by
    rw [coe_sum]
    refine Finset.sum_congr rfl fun j _ => ?_
    rw [← EReal.coe_mul (l P s μ), Ideal.div_coe (mul_ne_zero hl hl), one_mul, ← EReal.coe_mul, ← EReal.coe_mul]
  rw [hs, Ideal.div_coe hl, ← EReal.coe_mul, ← EReal.coe_neg, ← EReal.coe_add, ← EReal.coe_mul, ← EReal.coe_sub, ← EReal.coe_mul]
  refine congrArg _ ?_
  have hr : ∑ j, dp j * (1 / (l P s μ * l P s μ)) * e P s μ j = 1 / l P s μ * ∑ j, e P s μ j / l P s μ * dp j := by
    rw [Finset.mul_sum]
    refine Finset.sum_congr rfl fun j _ => ?_
    field_simp
  rw [hr]
  field_simp
  ring

end Cert.AttnRow

end
-- ==== Proof.AttnEqual.lean ====
/- The gradient kernel's three arrays are the reference's, where the arguments are reals. -/
module

public import proofs.«01_k».proof.Proof.AttnFold
public import proofs.«01_k».proof.Proof.AttnHost
public import proofs.«01_k».proof.Proof.AttnMask
public import proofs.«01_k».proof.Proof.AttnRow
public import proofs.«01_k».proof.Proof.Column

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Cert.Reference7Ideal.Terms

/-! ## Sums over all rows whose padding rows are zero -/

theorem sum_real (f : Fin 2176 → EReal) (g : Fin 2064 → EReal) (h0 : ∀ r : Fin 2176, r.val < 112 → f r = 0) (h1 : ∀ q, f (rr q) = g q) : ∑ r, f r = ∑ q, g q := by
  have e : ∑ r, f r = ∑ i : Fin 112, f (Fin.castAdd 2064 i) + ∑ q : Fin 2064, f (Fin.natAdd 112 q) := Fin.sum_univ_add (M := EReal) (a := 112) (b := 2064) f
  rw [e, Finset.sum_eq_zero fun i _ => h0 _ i.isLt, zero_add]
  exact Finset.sum_congr rfl fun q _ => h1 q

variable (Q KV : FVec Ideal S2176x2048 .bf16) (KR : FVec Ideal S2176x128 .bf16) (DO O : FVec Ideal S2176x1024 .f32) (L : FVec Ideal S8x2176x1 .f32)

theorem gP_pad (h : Fin 8) (r k : Fin 2176) (hk : k.val < 112) : gP Q KV KR L h r k = 0 := by
  unfold gP
  rw [if_neg (fun hs => by have := hs.1; omega), EReal.bot_sub, Ideal.exp_bot]

theorem gM_pad (h : Fin 8) (r : Fin 2176) (hr : r.val < 112) (d : Fin 128) : gM DO h r d = 0 := if_neg (by omega)

theorem gM_at (h : Fin 8) (q : Fin 2064) (d : Fin 128) : gM DO h (rr q) d = rDo DO (ix3 h d q) :=
  (if_pos (Nat.le_add_right 112 q.val)).trans (rDo_at DO h q d).symm

theorem gD_key (h : Fin 8) (r k : Fin 2176) (hk : k.val < 112) : gD Q KV KR DO O L h r k = 0 := by
  unfold gD
  rw [gP_pad Q KV KR L h r k hk, zero_mul, zero_mul]

theorem gD_row (h : Fin 8) (r k : Fin 2176) (hr : r.val < 112) : gD Q KV KR DO O L h r k = 0 := by
  unfold gD
  simp only [gM_pad DO h r hr, zero_mul, Finset.sum_const_zero, sub_zero, mul_zero]

theorem gS_eq (h : Fin 8) (q k : Fin 2064) : gS Q KV KR h (rr q) (rr k) = rDot Q KV KR (ix3 h q k) := by
  rw [rDot_at]
  unfold gS
  simp only [rQ_at, rKV_at, rKR_at]
  exact congrArg₂ (· + ·) rfl (Finset.sum_congr rfl fun d _ => mul_comm _ _)

/-- The keys a query sees, among the real rows. -/
abbrev sees (q : Fin 2064) : Fin 2064 → Prop := fun k => Sees (112 + q.val) (112 + k.val)

theorem sees_iff (q k : Fin 2064) : (112 + k.val) / 64 ≤ (112 + q.val) / 64 ↔ sees q k := ⟨fun h => ⟨Nat.le_add_right _ _, h⟩, fun h => h.2⟩

theorem rS_if (h : Fin 8) (q k : Fin 2064) : rS Q KV KR (ix3 h q k) = if sees q k then rDot Q KV KR (ix3 h q k) * sca else ⊥ := by
  rw [rS_at, mask_at, ofBits_bot]
  by_cases hs : sees q k
  · rw [if_pos ((sees_iff q k).2 hs), if_pos hs]; rfl
  · rw [if_neg (fun h' => hs ((sees_iff q k).1 h')), if_neg hs]; rfl

theorem gP_log (h : Fin 8) (q k : Fin 2064) : gP Q KV KR (gLse (rS Q KV KR)) h (rr q) (rr k)
    = Ideal.exp (rS Q KV KR (ix3 h q k) - (gMax (rS Q KV KR) h q + Ideal.log (gL (rS Q KV KR) (ix3 h q (0 : Fin 1))))) := by
  unfold gP
  rw [gS_eq, gLse_at, gLog_at, rS_if]

variable (hQ : ∀ i, ∃ t : ℝ, Q i = t) (hKV : ∀ i, ∃ t : ℝ, KV i = t) (hKR : ∀ i, ∃ t : ℝ, KR i = t) (hDO : ∀ i, ∃ t : ℝ, DO i = t)

section
include hQ hKV hKR

theorem dot_real (h : Fin 8) (q k : Fin 2064) : ∃ t : ℝ, rDot Q KV KR (ix3 h q k) = t := by
  rw [rDot_at]
  obtain ⟨a, ha⟩ := Column.real_sum (fun d => rQ Q (ix3 q h (la d)) * rKV KV (ix3 k h (la d))) fun d => by
    rw [rQ_at, rKV_at]; exact Column.real_mul (hQ _) (hKV _)
  obtain ⟨b, hb⟩ := Column.real_sum (fun d => rKR KR (ix2 k d) * rQ Q (ix3 q h (lb d))) fun d => by
    rw [rQ_at, rKR_at]; exact Column.real_mul (hKR _) (hQ _)
  exact ⟨a + b, by rw [ha, hb, EReal.coe_add]⟩

/-- One head's row of scores, its largest and its exponentials, in the kernel's host lines and in the reference. -/
theorem row (h : Fin 8) (q : Fin 2064) : ∃ (s : Fin 2064 → ℝ) (μ : ℝ), (∀ k, rS Q KV KR (ix3 h q k) = AttnRow.x (sees q) s k)
    ∧ gMax (rS Q KV KR) h q = μ ∧ (∀ k, gE (rS Q KV KR) (ix3 h q k) = (AttnRow.e (sees q) s μ k : EReal))
    ∧ gL (rS Q KV KR) (ix3 h q (0 : Fin 1)) = (AttnRow.l (sees q) s μ : EReal) ∧ (∀ k, rE Q KV KR (ix3 h q k) = (AttnRow.e (sees q) s μ k : EReal))
    ∧ rL Q KV KR (ix3 h q (0 : Fin 1)) = (AttnRow.l (sees q) s μ : EReal) := by
  choose t ht using fun k => dot_real Q KV KR hQ hKV hKR h q k
  obtain ⟨c, hc⟩ : ∃ c : ℝ, sca = c := scale_real
  have hx : ∀ k, rS Q KV KR (ix3 h q k) = AttnRow.x (sees q) (fun k => t k * c) k := fun k => by
    rw [rS_if, ht, hc, ← EReal.coe_mul]; rfl
  obtain ⟨μ, hμ⟩ := AttnRow.max_real (sees q) (fun k => t k * c) (k0 := q) ⟨Nat.le_add_right _ _, le_rfl⟩
  have hm : Finset.fold max (Ideal.ofBits .f32 0xFF800000#32) (fun k => rS Q KV KR (ix3 h q k)) Finset.univ = μ := by
    rw [ofBits_bot, ← hμ]
    exact congrArg (fun f => Finset.fold max (⊥ : EReal) f Finset.univ) (funext hx)
  have hg : ∀ k, gE (rS Q KV KR) (ix3 h q k) = (AttnRow.e (sees q) (fun k => t k * c) μ k : EReal) := fun k => by
    rw [gE_at, show gMax (rS Q KV KR) h q = μ from hm, hx, AttnRow.e_eq]
  have hr : ∀ k, rE Q KV KR (ix3 h q k) = (AttnRow.e (sees q) (fun k => t k * c) μ k : EReal) := fun k => by
    rw [Cert.Reference7Ideal.Terms.rE_at, rMax_at, hm, ofBits_bot, max_eq_right bot_le, hx, AttnRow.e_eq]
  refine ⟨fun k => t k * c, μ, hx, hm, hg, ?_, hr, ?_⟩
  · rw [gL_at, ← AttnRow.l_eq]
    exact Finset.sum_congr rfl fun k _ => hg k
  · rw [rL_at, ← AttnRow.l_eq]
    exact Finset.sum_congr rfl fun k _ => hr k

theorem gP_eq (h : Fin 8) (q k : Fin 2064) : gP Q KV KR (gLse (rS Q KV KR)) h (rr q) (rr k) = rP Q KV KR (ix3 h q k) := by
  obtain ⟨s, μ, hx, hm, hg, hl, hr, hL⟩ := row Q KV KR hQ hKV hKR h q
  have h0 : sees q q := ⟨Nat.le_add_right _ _, le_rfl⟩
  rw [gP_log, hx, hm, hl, AttnRow.weight (sees q) s μ h0, rP_at, hr, hL, AttnRow.quot (sees q) s μ h0]

include hDO

theorem gD_eq (h : Fin 8) (q k : Fin 2064) : gD Q KV KR DO (gOut (rS Q KV KR) (rKV KV)) (gLse (rS Q KV KR)) h (rr q) (rr k) = rDs Q KV KR DO (ix3 h q k) := by
  obtain ⟨s, μ, hx, hm, hg, hl, hr, hL⟩ := row Q KV KR hQ hKV hKR h q
  have h0 : sees q q := ⟨Nat.le_add_right _ _, le_rfl⟩
  choose o ho using fun d : Fin 128 => hDO (ix2 (rr q) (co h d))
  choose v hv using fun (k : Fin 2064) (d : Fin 128) => hKV (ix2 (rr k) (cq h (lb d)))
  have hdp : ∀ k, ∑ d, (o d : EReal) * (v k d : EReal) = ((∑ d, o d * v k d : ℝ) : EReal) := fun k => by
    rw [AttnRow.coe_sum]
    exact Finset.sum_congr rfl fun d _ => (EReal.coe_mul _ _).symm
  have hp : ∀ k, gP Q KV KR (gLse (rS Q KV KR)) h (rr q) (rr k) = ((AttnRow.e (sees q) s μ k / AttnRow.l (sees q) s μ : ℝ) : EReal) := fun k => by
    rw [gP_log, hx, hm, hl, AttnRow.weight (sees q) s μ h0]
  have hdo : ∀ d, gM DO h (rr q) d = (o d : EReal) := fun d => by rw [gM_at, rDo_at, ho]
  have hv' : ∀ k d, KV (ix2 (rr k) (colq h (hi d))) = (v k d : EReal) := fun k d => hv k d
  have hO : ∀ d, gOut (rS Q KV KR) (rKV KV) (ix2 (rr q) (colo h d)) = ((∑ k, v k d * (AttnRow.e (sees q) s μ k / AttnRow.l (sees q) s μ) : ℝ) : EReal) := fun d => by
    rw [gOut_at]
    refine (gO_at (rS Q KV KR) (rKV KV) h q d).trans ?_
    rw [AttnRow.coe_sum]
    refine Finset.sum_congr rfl fun k _ => ?_
    rw [rKV_at, hv, gW_at, hg, hl, AttnRow.quot (sees q) s μ h0, EReal.coe_mul]
  have hδ : ∑ d, gM DO h (rr q) d * gOut (rS Q KV KR) (rKV KV) (ix2 (rr q) (colo h d))
      = ((∑ k, AttnRow.e (sees q) s μ k / AttnRow.l (sees q) s μ * ∑ d, o d * v k d : ℝ) : EReal) := by
    have e : ∑ k, AttnRow.e (sees q) s μ k / AttnRow.l (sees q) s μ * ∑ d, o d * v k d
        = ∑ d, o d * ∑ k, v k d * (AttnRow.e (sees q) s μ k / AttnRow.l (sees q) s μ) := by
      simp only [Finset.mul_sum]
      rw [Finset.sum_comm]
      exact Finset.sum_congr rfl fun d _ => Finset.sum_congr rfl fun k _ => by ring
    rw [e, AttnRow.coe_sum]
    exact Finset.sum_congr rfl fun d _ => by rw [hdo, hO, EReal.coe_mul]
  have hrdp : ∀ k, rDp KV DO (ix3 h q k) = ((∑ d, o d * v k d : ℝ) : EReal) := fun k => by
    rw [rDp_at, ← hdp]
    exact Finset.sum_congr rfl fun d _ => by rw [rDo_at, ho, rKV_at, hv]
  have hL1 : gD Q KV KR DO (gOut (rS Q KV KR) (rKV KV)) (gLse (rS Q KV KR)) h (rr q) (rr k)
      = ((AttnRow.e (sees q) s μ k / AttnRow.l (sees q) s μ : ℝ) : EReal) * (((∑ d, o d * v k d : ℝ) : EReal) - ((∑ k, AttnRow.e (sees q) s μ k / AttnRow.l (sees q) s μ * ∑ d, o d * v k d : ℝ) : EReal)) * sca := by
    unfold gD
    rw [hp, hδ]
    simp only [hdo, hv', hdp]
  rw [hL1, rDs_at, mask_at]
  refine congrArg (· * sca) ?_
  by_cases hs : sees q k
  · rw [if_pos ((sees_iff q k).2 hs), ← AttnRow.grad (sees q) s μ h0 (fun k => ∑ d, o d * v k d) k]
    refine Eq.trans ?_ (rDx_at Q KV KR DO h q k).symm
    simp only [hrdp, hL, hr]
  · rw [if_neg (fun h' => hs ((sees_iff q k).1 h')), show AttnRow.e (sees q) s μ k = 0 from if_neg hs, zero_div, EReal.coe_zero, zero_mul]
    rfl

end

end Cert.Kernel7Ideal.Heads

end
-- ==== Proof.AttnClaim.lean ====
/- The claims about the attention's gradient: its frames, and its three arrays against the reference's. -/
module

public import proofs.«01_k».proof.Proof.AttnEqual
public import proofs.«01_k».proof.Proof.AttnFrame
public import proofs.«01_k».proof.Proof.AttnFramePlain
public import proofs.«01_k».proof.Proof.PreFinite
public import proofs.«01_k».proof.Proof.Gen.Pre_finite7
public import proofs.«01_k».proof.Defs
public import Idealize.ShloMosaic.Lib.Claim

@[expose] public section

set_option maxRecDepth 16384

noncomputable section

namespace Cert.Pre_finite7.Read

open Cert.Pre_finite7 Cert.Pre_finite7.Gen Idealize.ShloMosaic Idealize.ShloMosaic.TcCoe Idealize.SL.Sem

instance : Subsingleton S_.Idx := ⟨fun _ _ => funext fun a => Fin.elim0 a⟩

theorem reals (Q KV : FVec Ideal S2176x2048 .bf16) (KR : FVec Ideal S2176x128 .bf16) (DO : FVec Ideal S2176x1024 .f32) (h : fn (F := Ideal) Q KV KR DO = fun _ => 1#1) :
    (∀ i, ∃ t : ℝ, Q i = t) ∧ (∀ i, ∃ t : ℝ, KV i = t) ∧ (∀ i, ∃ t : ℝ, KR i = t) ∧ (∀ i, ∃ t : ℝ, DO i = t) := by
  have h0 := congrFun h (fun a => Fin.elim0 a)
  obtain ⟨h1, h4⟩ := IntOp.andi_eq_one.1 h0
  obtain ⟨h2, h3⟩ := IntOp.andi_eq_one.1 h1
  obtain ⟨h5, h6⟩ := IntOp.andi_eq_one.1 h2
  exact ⟨fun i => Cert.Pre_finite.Read.real_of_abs (Host.reduce_andi_all _ _ _ _ _ h5 i), fun i => Cert.Pre_finite.Read.real_of_abs (Host.reduce_andi_all _ _ _ _ _ h6 i),
    fun i => Cert.Pre_finite.Read.real_of_abs (Host.reduce_andi_all _ _ _ _ _ h3 i), fun i => Cert.Pre_finite.Read.real_of_abs (Host.reduce_andi_all _ _ _ _ _ h4 i)⟩

end Cert.Pre_finite7.Read

namespace Cert.Kernel7Ideal.Heads

open Cert.Kernel7Ideal Cert.Kernel7Ideal.Gen Idealize.ShloMosaic Idealize.ShloMosaic.TcCoe Idealize.SL.Sem
open Cert.Reference7Ideal.Terms

section
variable (Q KV : FVec Ideal S2176x2048 .bf16) (KR : FVec Ideal S2176x128 .bf16) (DO O : FVec Ideal S2176x1024 .f32) (L : FVec Ideal S8x2176x1 .f32)

theorem row_cases (r : Fin 2176) : r.val < 112 ∨ ∃ q, r = rr q := by
  by_cases h : r.val < 112
  · exact Or.inl h
  · have := r.isLt
    exact Or.inr ⟨⟨r.val - 112, by omega⟩, Fin.ext (by show r.val = 112 + (r.val - 112); omega)⟩

theorem lane_cases (j : Fin 2048) : ∃ (h : Fin 8) (d : Fin 128), j = cq h (la d) ∨ j = cq h (lb d) := by
  have hj : j = colq (hd j) (ln j) := Fin.ext (by show j.val = 256 * (j.val / 256) + j.val % 256; omega)
  rcases col (ln j) with ⟨d, e⟩ | ⟨d, e⟩
  · exact ⟨hd j, d, Or.inl (hj.trans (congrArg (colq (hd j)) e))⟩
  · exact ⟨hd j, d, Or.inr (hj.trans (congrArg (colq (hd j)) e))⟩

theorem GQ_lo (r : Fin 2176) (h : Fin 8) (d : Fin 128) : GQ Q KV KR DO O L (ix2 r (cq h (la d))) = ∑ k, gD Q KV KR DO O L h r k * KV (ix2 k (cq h (la d))) := by
  show eQ _ _ _ _ _ _ (hd (colq h (lo d))) r (ln (colq h (lo d))) = _
  rw [hd_col, ln_col]
  unfold eQ
  rw [if_pos (show (lo d).val < 128 from d.isLt), ll_lo]
  rfl
theorem GQ_hi (r : Fin 2176) (h : Fin 8) (d : Fin 128) : GQ Q KV KR DO O L (ix2 r (cq h (lb d))) = ∑ k, gD Q KV KR DO O L h r k * KR (ix2 k d) := by
  show eQ _ _ _ _ _ _ (hd (colq h (hi d))) r (ln (colq h (hi d))) = _
  rw [hd_col, ln_col]
  unfold eQ
  rw [if_neg (show ¬ (hi d).val < 128 from by show ¬ 128 + d.val < 128; omega), ll_hi]
theorem GKV_lo (k : Fin 2176) (h : Fin 8) (d : Fin 128) : GKV Q KV KR DO O L (ix2 k (cq h (la d))) = ∑ r, gD Q KV KR DO O L h r k * Q (ix2 r (cq h (la d))) := by
  show eKV _ _ _ _ _ _ (hd (colq h (lo d))) k (ln (colq h (lo d))) = _
  rw [hd_col, ln_col]
  unfold eKV
  rw [if_pos (show (lo d).val < 128 from d.isLt), ll_lo]
  rfl
theorem GKV_hi (k : Fin 2176) (h : Fin 8) (d : Fin 128) : GKV Q KV KR DO O L (ix2 k (cq h (lb d))) = ∑ r, gP Q KV KR L h r k * gM DO h r d := by
  show eKV _ _ _ _ _ _ (hd (colq h (hi d))) k (ln (colq h (hi d))) = _
  rw [hd_col, ln_col]
  unfold eKV
  rw [if_neg (show ¬ (hi d).val < 128 from by show ¬ 128 + d.val < 128; omega), ll_hi]
theorem GKR_at (k : Fin 2176) (d : Fin 128) : GKR Q KV KR DO O L (ix2 k d) = ∑ h : Fin 8, ∑ r, gD Q KV KR DO O L h r k * Q (ix2 r (cq h (lb d))) := rfl

variable (hQ : ∀ i, ∃ t : ℝ, Q i = t) (hKV : ∀ i, ∃ t : ℝ, KV i = t) (hKR : ∀ i, ∃ t : ℝ, KR i = t) (hDO : ∀ i, ∃ t : ℝ, DO i = t)
include hQ hKV hKR hDO

theorem eq0 : ref0 Q KV KR DO = GQ Q KV KR DO (gOut (rS Q KV KR) (rKV KV)) (gLse (rS Q KV KR)) := by
  funext i
  idx_vars i
  obtain ⟨h, d, e⟩ := lane_cases i1
  rcases row_cases i0 with hr | ⟨q, rfl⟩
  · rw [ref0_head Q KV KR DO i0 hr i1]
    symm
    rcases e with rfl | rfl
    · rw [GQ_lo]
      exact Finset.sum_eq_zero fun k _ => by rw [gD_row _ _ _ _ _ _ h i0 k hr, zero_mul]
    · rw [GQ_hi]
      exact Finset.sum_eq_zero fun k _ => by rw [gD_row _ _ _ _ _ _ h i0 k hr, zero_mul]
  · symm
    rcases e with rfl | rfl
    · rw [GQ_lo, ref0_lo]
      exact sum_real _ _ (fun k hk => by rw [gD_key _ _ _ _ _ _ h _ k hk, zero_mul]) fun k => by rw [gD_eq Q KV KR DO hQ hKV hKR hDO h q k, rKV_at]
    · rw [GQ_hi, ref0_hi]
      exact sum_real _ _ (fun k hk => by rw [gD_key _ _ _ _ _ _ h _ k hk, zero_mul]) fun k => by rw [gD_eq Q KV KR DO hQ hKV hKR hDO h q k, rKR_at]

theorem eq1 : ref1 Q KV KR DO = GKV Q KV KR DO (gOut (rS Q KV KR) (rKV KV)) (gLse (rS Q KV KR)) := by
  funext i
  idx_vars i
  obtain ⟨h, d, e⟩ := lane_cases i1
  rcases row_cases i0 with hr | ⟨k, rfl⟩
  · rw [ref1_head Q KV KR DO i0 hr i1]
    symm
    rcases e with rfl | rfl
    · rw [GKV_lo]
      exact Finset.sum_eq_zero fun r _ => by rw [gD_key _ _ _ _ _ _ h r i0 hr, zero_mul]
    · rw [GKV_hi]
      exact Finset.sum_eq_zero fun r _ => by rw [gP_pad _ _ _ _ h r i0 hr, zero_mul]
  · symm
    rcases e with rfl | rfl
    · rw [GKV_lo, ref1_lo]
      exact sum_real _ _ (fun r hr => by rw [gD_row _ _ _ _ _ _ h r _ hr, zero_mul]) fun q => by rw [gD_eq Q KV KR DO hQ hKV hKR hDO h q k, rQ_at]
    · rw [GKV_hi, ref1_hi]
      exact sum_real _ _ (fun r hr => by rw [gM_pad DO h r hr, mul_zero]) fun q => by rw [gP_eq Q KV KR hQ hKV hKR h q k, gM_at, mul_comm]

theorem eq2 : ref2 Q KV KR DO = GKR Q KV KR DO (gOut (rS Q KV KR) (rKV KV)) (gLse (rS Q KV KR)) := by
  funext i
  idx_vars i
  rcases row_cases i0 with hr | ⟨k, rfl⟩
  · rw [ref2_head Q KV KR DO i0 hr i1, GKR_at]
    exact (Finset.sum_eq_zero fun h _ => Finset.sum_eq_zero fun r _ => by rw [gD_key _ _ _ _ _ _ h r i0 hr, zero_mul]).symm
  · rw [GKR_at, ref2_at]
    refine (Finset.sum_congr rfl fun h _ => ?_).symm
    exact sum_real _ _ (fun r hr => by rw [gD_row _ _ _ _ _ _ h r _ hr, zero_mul]) fun q => by rw [gD_eq Q KV KR DO hQ hKV hKR hDO h q k, rQ_at]
end

set_option maxHeartbeats 4000000 in
theorem algebraic : Cert.algebraic_Kernel7Ideal_Reference7Ideal_pre_finite7 := by
  pair_intro
  · run_from Cert.Kernel7Ideal.Gen.run_main m g
  · run_from Cert.Reference7Ideal.Value.run m' g'
    · obtain ⟨e0, e1, e2, e3⟩ := hagree c
      obtain ⟨r0, r1, r2, r3⟩ := Cert.Pre_finite7.Read.reals _ _ _ _ (hpre c)
      refine (out0_eq m' c).trans ?_
      rw [e0, e1, e2, e3, final7]
      refine (eq0 _ _ _ _ r0 r1 r2 r3).trans ?_
      rw [← o_eq m c, ← lse_eq m c]
    · obtain ⟨e0, e1, e2, e3⟩ := hagree c
      obtain ⟨r0, r1, r2, r3⟩ := Cert.Pre_finite7.Read.reals _ _ _ _ (hpre c)
      refine (out1_eq m' c).trans ?_
      rw [e0, e1, e2, e3, final8]
      refine (eq1 _ _ _ _ r0 r1 r2 r3).trans ?_
      rw [← o_eq m c, ← lse_eq m c]
    · obtain ⟨e0, e1, e2, e3⟩ := hagree c
      obtain ⟨r0, r1, r2, r3⟩ := Cert.Pre_finite7.Read.reals _ _ _ _ (hpre c)
      refine (out2_eq m' c).trans ?_
      rw [e0, e1, e2, e3, final9]
      refine (eq2 _ _ _ _ r0 r1 r2 r3).trans ?_
      rw [← o_eq m c, ← lse_eq m c]

theorem preserves : Cert.preserves_Kernel7_Kernel7Ideal := IdealRules.named_const.statement Cert.Kernel7Ideal.κ "mask" .f32 0xFF7FFFFF#32 ⊥ rfl

theorem frame_reference : Cert.quiescent_Reference7Ideal := fun m g _ => by
  run_from Cert.Reference7Ideal.Value.run m g
  all_goals first | exact sem_eq_zero_of_no_sems (sig := Cert.Reference7Ideal.sig) rfl _ | exact fun _ => ⟨trivial, trivial, trivial, trivial⟩
theorem frame_reference_finite : Cert.quiescent_Reference7Ideal_pre_finite7 := fun m g _ => by
  run_from Cert.Reference7Ideal.Value.run m g
  all_goals first | exact sem_eq_zero_of_no_sems (sig := Cert.Reference7Ideal.sig) rfl _ | exact fun _ => ⟨trivial, trivial, trivial, trivial⟩

theorem frame_kernel : Cert.quiescent_Kernel7 := fun m g _ => Cert.Kernel7.Gen.frame m g
theorem frame_ideal : Cert.quiescent_Kernel7Ideal := fun m g _ => Cert.Kernel7Ideal.Gen.frame m g
theorem frame_ideal_finite : Cert.quiescent_Kernel7Ideal_pre_finite7 := fun m g _ => Cert.Kernel7Ideal.Gen.frame m g

end Cert.Kernel7Ideal.Heads

end
-- ==== Proof.AttnFwdTerms.lean ====
/- The attention forward at one grid point: the masked scores, the weights, the output and the logarithm of the normaliser at an index. -/
module

public import proofs.«01_k».proof.Proof.Gen.Kernel23Ideal.Skeleton
public import proofs.«01_k».proof.Proof.AttnTerms

@[expose] public section

set_option maxRecDepth 16384

noncomputable section

namespace Cert.Kernel23Ideal.Rows

open Cert.Kernel23Ideal Cert.Kernel23Ideal.Gen Idealize.ShloMosaic Idealize.ShloMosaic.TcCoe Idealize.SL.Sem
open Cert.Kernel7Ideal.Heads (chunk sees_word ge_word row0 row544 row1088 row1632 Sees lo hi sca sc)

section
variable {n : ℕ} (off : ℕ) (x0 : Vec Ideal S544x256 .bf16) (kn v kr : FVec Ideal (⟨2, ![n, 128]⟩ : Shape) .bf16) (a : Fin 544) (k : Fin n)

/-- The score, masked. -/
def ms : EReal := if Sees (off + a.val) k.val then sc x0 kn kr a k * sca else ⊥
/-- The largest of the query's. -/
def mx : EReal := Finset.fold max ⊥ (fun k : Fin n => ms off x0 kn kr a k) Finset.univ
/-- The weight before it is normalised. -/
def ex : EReal := Ideal.exp (ms off x0 kn kr a k - mx off x0 kn kr a)
/-- The normaliser. -/
def den : EReal := ∑ k : Fin n, ex off x0 kn kr a k
/-- The output, zero in the padding rows. -/
def ob (d : Fin 128) : EReal := if 112 ≤ off + a.val then Ideal.div (∑ k : Fin n, ex off x0 kn kr a k * v (ix2 k d)) (den off x0 kn kr a) else 0
/-- The logarithm of the normaliser, with the largest score put back. -/
def ls : EReal := mx off x0 kn kr a + Ideal.log (den off x0 kn kr a)
end

theorem ofBits_bot : Ideal.ofBits .f32 0xFF800000#32 = ⊥ := by simp [Ideal.ofBits, Ideal.ieee]

/-! ## The stored values of the four kinds of point -/

section
variable (x0 : Vec Ideal S544x256 .bf16) (kn v kr : Vec Ideal S640x128 .bf16)
theorem score0 (a : Fin 544) (k : Fin 640) : k0_pay15 (k0_pay9 x0 kn kr) k0_pay10 k0_pay11 k0_pay12 (64#32) k0_pay13 k0_pay14 (ix2 a k) = ms 0 x0 kn kr a k := by
  have e : k0_pay9 x0 kn kr (ix2 a k) = sc x0 kn kr a k := by
    pointwise [k0_pay9, sc, lo, hi]
  pointwise [k0_pay15, k0_pay10, k0_pay11, k0_pay12, k0_pay13, k0_pay14]
  rw [row0, e]
  have ha := a.isLt
  have hk := k.isLt
  unfold ms
  exact sees_word (0 + a.val) k.val (by omega) (by omega) _ _
section
variable (s : FVec Ideal S544x640 .f32) (w : IVec S544x1 32) (b : IVec S1x640 1) (g : IVec S1x640 32) (u : BitVec 32) (y z : IVec S544x1 32)
theorem max0 (a : Fin 544) (o : Fin 1) : k0_pay16 s w b g u y z (ix2 a o) = Finset.fold max ⊥ (fun k : Fin 640 => k0_pay15 s w b g u y z (ix2 a k)) Finset.univ := by
  pointwise [k0_pay16, ofBits_bot]
theorem exp0 (a : Fin 544) (k : Fin 640) : k0_pay17 s w b g u y z (ix2 a k) = Ideal.exp (k0_pay15 s w b g u y z (ix2 a k) - k0_pay16 s w b g u y z (ix2 a (0 : Fin 1))) := by
  pointwise [k0_pay17]
theorem sum0 (a : Fin 544) (o : Fin 1) : k0_pay18 s w b g u y z (ix2 a o) = ∑ k : Fin 640, k0_pay17 s w b g u y z (ix2 a k) := by
  pointwise [k0_pay18]
theorem out0 (v : Vec Ideal S640x128 .bf16) (a : Fin 544) (d : Fin 128) : k0_pay19 s w b g u y z v (ix2 a d)
    = Ideal.div (∑ k : Fin 640, k0_pay17 s w b g u y z (ix2 a k) * v (ix2 k d)) (k0_pay18 s w b g u y z (ix2 a (0 : Fin 1))) := by
  pointwise [k0_pay19]
end
theorem mx0 (a : Fin 544) (o : Fin 1) : k0_pay16 (k0_pay9 x0 kn kr) k0_pay10 k0_pay11 k0_pay12 (64#32) k0_pay13 k0_pay14 (ix2 a o) = mx 0 x0 kn kr a := by
  rw [max0]
  exact congrArg (fun f : Fin 640 → EReal => Finset.fold max ⊥ f Finset.univ) (funext fun k => score0 x0 kn kr a k)
theorem ex0 (a : Fin 544) (k : Fin 640) : k0_pay17 (k0_pay9 x0 kn kr) k0_pay10 k0_pay11 k0_pay12 (64#32) k0_pay13 k0_pay14 (ix2 a k) = ex 0 x0 kn kr a k := by
  rw [exp0, score0, mx0]
  rfl
theorem den0 (a : Fin 544) (o : Fin 1) : k0_pay18 (k0_pay9 x0 kn kr) k0_pay10 k0_pay11 k0_pay12 (64#32) k0_pay13 k0_pay14 (ix2 a o) = den 0 x0 kn kr a := by
  rw [sum0]
  exact Finset.sum_congr rfl fun k _ => ex0 x0 kn kr a k
theorem ob0 (a : Fin 544) (d : Fin 128) : k0_pay1 (k0_pay19 (k0_pay9 x0 kn kr) k0_pay10 k0_pay11 k0_pay12 (64#32) k0_pay13 k0_pay14 v) (Scalar.ofBits .f32 0x00000000#32) (k0_pay20 k0_pay10) (ix2 a d) = ob 0 x0 kn v kr a d := by
  have e : ∀ A : FVec Ideal S544x128 .f32, k0_pay1 A (Scalar.ofBits .f32 0x00000000#32) (k0_pay20 k0_pay10) (ix2 a d) = if 112 ≤ 0 + a.val then A (ix2 a d) else 0 := by
    intro A
    pointwise [k0_pay1, k0_pay20, k0_pay10]
    rw [row0]
    have ha := a.isLt
    refine (ge_word (0 + a.val) (by omega) _ _).trans ?_
    first | rfl | simp only [Nat.zero_add]
  rw [e, out0, den0]
  unfold ob
  refine if_congr Iff.rfl (congrArg (fun s : EReal => Ideal.div s _) (Finset.sum_congr rfl fun k _ => ?_)) rfl
  rw [ex0]
theorem ls0 (b : Fin 1) (a : Fin 544) (o : Fin 1) : k0_pay2 (k0_pay16 (k0_pay9 x0 kn kr) k0_pay10 k0_pay11 k0_pay12 (64#32) k0_pay13 k0_pay14) (k0_pay18 (k0_pay9 x0 kn kr) k0_pay10 k0_pay11 k0_pay12 (64#32) k0_pay13 k0_pay14) (ix3 b a o) = ls 0 x0 kn kr a := by
  have e : ∀ A B : FVec Ideal S544x1 .f32, k0_pay2 A B (ix3 b a o) = A (ix2 a (0 : Fin 1)) + Ideal.log (B (ix2 a (0 : Fin 1))) := by
    intro A B
    pointwise [k0_pay2]
  rw [e, mx0, den0]
  rfl
end

section
variable (x0 : Vec Ideal S544x256 .bf16) (kn v kr : Vec Ideal S1152x128 .bf16)
theorem score1 (a : Fin 544) (k : Fin 1152) : k0_pay27 (k0_pay21 x0 kn kr) k0_pay22 k0_pay23 k0_pay24 (64#32) k0_pay25 k0_pay26 (ix2 a k) = ms 544 x0 kn kr a k := by
  have e : k0_pay21 x0 kn kr (ix2 a k) = sc x0 kn kr a k := by
    pointwise [k0_pay21, sc, lo, hi]
  pointwise [k0_pay27, k0_pay22, k0_pay23, k0_pay24, k0_pay25, k0_pay26]
  rw [row544, e]
  have ha := a.isLt
  have hk := k.isLt
  unfold ms
  exact sees_word (544 + a.val) k.val (by omega) (by omega) _ _
section
variable (s : FVec Ideal S544x1152 .f32) (w : IVec S544x1 32) (b : IVec S1x1152 1) (g : IVec S1x1152 32) (u : BitVec 32) (y z : IVec S544x1 32)
theorem max1 (a : Fin 544) (o : Fin 1) : k0_pay28 s w b g u y z (ix2 a o) = Finset.fold max ⊥ (fun k : Fin 1152 => k0_pay27 s w b g u y z (ix2 a k)) Finset.univ := by
  pointwise [k0_pay28, ofBits_bot]
theorem exp1 (a : Fin 544) (k : Fin 1152) : k0_pay29 s w b g u y z (ix2 a k) = Ideal.exp (k0_pay27 s w b g u y z (ix2 a k) - k0_pay28 s w b g u y z (ix2 a (0 : Fin 1))) := by
  pointwise [k0_pay29]
theorem sum1 (a : Fin 544) (o : Fin 1) : k0_pay30 s w b g u y z (ix2 a o) = ∑ k : Fin 1152, k0_pay29 s w b g u y z (ix2 a k) := by
  pointwise [k0_pay30]
theorem out1 (v : Vec Ideal S1152x128 .bf16) (a : Fin 544) (d : Fin 128) : k0_pay31 s w b g u y z v (ix2 a d)
    = Ideal.div (∑ k : Fin 1152, k0_pay29 s w b g u y z (ix2 a k) * v (ix2 k d)) (k0_pay30 s w b g u y z (ix2 a (0 : Fin 1))) := by
  pointwise [k0_pay31]
end
theorem mx1 (a : Fin 544) (o : Fin 1) : k0_pay28 (k0_pay21 x0 kn kr) k0_pay22 k0_pay23 k0_pay24 (64#32) k0_pay25 k0_pay26 (ix2 a o) = mx 544 x0 kn kr a := by
  rw [max1]
  exact congrArg (fun f : Fin 1152 → EReal => Finset.fold max ⊥ f Finset.univ) (funext fun k => score1 x0 kn kr a k)
theorem ex1 (a : Fin 544) (k : Fin 1152) : k0_pay29 (k0_pay21 x0 kn kr) k0_pay22 k0_pay23 k0_pay24 (64#32) k0_pay25 k0_pay26 (ix2 a k) = ex 544 x0 kn kr a k := by
  rw [exp1, score1, mx1]
  rfl
theorem den1 (a : Fin 544) (o : Fin 1) : k0_pay30 (k0_pay21 x0 kn kr) k0_pay22 k0_pay23 k0_pay24 (64#32) k0_pay25 k0_pay26 (ix2 a o) = den 544 x0 kn kr a := by
  rw [sum1]
  exact Finset.sum_congr rfl fun k _ => ex1 x0 kn kr a k
theorem ob1 (a : Fin 544) (d : Fin 128) : k0_pay3 (k0_pay31 (k0_pay21 x0 kn kr) k0_pay22 k0_pay23 k0_pay24 (64#32) k0_pay25 k0_pay26 v) (Scalar.ofBits .f32 0x00000000#32) (k0_pay32 k0_pay22) (ix2 a d) = ob 544 x0 kn v kr a d := by
  have e : ∀ A : FVec Ideal S544x128 .f32, k0_pay3 A (Scalar.ofBits .f32 0x00000000#32) (k0_pay32 k0_pay22) (ix2 a d) = if 112 ≤ 544 + a.val then A (ix2 a d) else 0 := by
    intro A
    pointwise [k0_pay3, k0_pay32, k0_pay22]
    rw [row544]
    have ha := a.isLt
    refine (ge_word (544 + a.val) (by omega) _ _).trans ?_
    first | rfl | simp only [Nat.zero_add]
  rw [e, out1, den1]
  unfold ob
  refine if_congr Iff.rfl (congrArg (fun s : EReal => Ideal.div s _) (Finset.sum_congr rfl fun k _ => ?_)) rfl
  rw [ex1]
theorem ls1 (b : Fin 1) (a : Fin 544) (o : Fin 1) : k0_pay4 (k0_pay28 (k0_pay21 x0 kn kr) k0_pay22 k0_pay23 k0_pay24 (64#32) k0_pay25 k0_pay26) (k0_pay30 (k0_pay21 x0 kn kr) k0_pay22 k0_pay23 k0_pay24 (64#32) k0_pay25 k0_pay26) (ix3 b a o) = ls 544 x0 kn kr a := by
  have e : ∀ A B : FVec Ideal S544x1 .f32, k0_pay4 A B (ix3 b a o) = A (ix2 a (0 : Fin 1)) + Ideal.log (B (ix2 a (0 : Fin 1))) := by
    intro A B
    pointwise [k0_pay4]
  rw [e, mx1, den1]
  rfl
end

section
variable (x0 : Vec Ideal S544x256 .bf16) (kn v kr : Vec Ideal S1664x128 .bf16)
theorem score2 (a : Fin 544) (k : Fin 1664) : k0_pay39 (k0_pay33 x0 kn kr) k0_pay34 k0_pay35 k0_pay36 (64#32) k0_pay37 k0_pay38 (ix2 a k) = ms 1088 x0 kn kr a k := by
  have e : k0_pay33 x0 kn kr (ix2 a k) = sc x0 kn kr a k := by
    pointwise [k0_pay33, sc, lo, hi]
  pointwise [k0_pay39, k0_pay34, k0_pay35, k0_pay36, k0_pay37, k0_pay38]
  rw [row1088, e]
  have ha := a.isLt
  have hk := k.isLt
  unfold ms
  exact sees_word (1088 + a.val) k.val (by omega) (by omega) _ _
section
variable (s : FVec Ideal S544x1664 .f32) (w : IVec S544x1 32) (b : IVec S1x1664 1) (g : IVec S1x1664 32) (u : BitVec 32) (y z : IVec S544x1 32)
theorem max2 (a : Fin 544) (o : Fin 1) : k0_pay40 s w b g u y z (ix2 a o) = Finset.fold max ⊥ (fun k : Fin 1664 => k0_pay39 s w b g u y z (ix2 a k)) Finset.univ := by
  pointwise [k0_pay40, ofBits_bot]
theorem exp2 (a : Fin 544) (k : Fin 1664) : k0_pay41 s w b g u y z (ix2 a k) = Ideal.exp (k0_pay39 s w b g u y z (ix2 a k) - k0_pay40 s w b g u y z (ix2 a (0 : Fin 1))) := by
  pointwise [k0_pay41]
theorem sum2 (a : Fin 544) (o : Fin 1) : k0_pay42 s w b g u y z (ix2 a o) = ∑ k : Fin 1664, k0_pay41 s w b g u y z (ix2 a k) := by
  pointwise [k0_pay42]
theorem out2 (v : Vec Ideal S1664x128 .bf16) (a : Fin 544) (d : Fin 128) : k0_pay43 s w b g u y z v (ix2 a d)
    = Ideal.div (∑ k : Fin 1664, k0_pay41 s w b g u y z (ix2 a k) * v (ix2 k d)) (k0_pay42 s w b g u y z (ix2 a (0 : Fin 1))) := by
  pointwise [k0_pay43]
end
theorem mx2 (a : Fin 544) (o : Fin 1) : k0_pay40 (k0_pay33 x0 kn kr) k0_pay34 k0_pay35 k0_pay36 (64#32) k0_pay37 k0_pay38 (ix2 a o) = mx 1088 x0 kn kr a := by
  rw [max2]
  exact congrArg (fun f : Fin 1664 → EReal => Finset.fold max ⊥ f Finset.univ) (funext fun k => score2 x0 kn kr a k)
theorem ex2 (a : Fin 544) (k : Fin 1664) : k0_pay41 (k0_pay33 x0 kn kr) k0_pay34 k0_pay35 k0_pay36 (64#32) k0_pay37 k0_pay38 (ix2 a k) = ex 1088 x0 kn kr a k := by
  rw [exp2, score2, mx2]
  rfl
theorem den2 (a : Fin 544) (o : Fin 1) : k0_pay42 (k0_pay33 x0 kn kr) k0_pay34 k0_pay35 k0_pay36 (64#32) k0_pay37 k0_pay38 (ix2 a o) = den 1088 x0 kn kr a := by
  rw [sum2]
  exact Finset.sum_congr rfl fun k _ => ex2 x0 kn kr a k
theorem ob2 (a : Fin 544) (d : Fin 128) : k0_pay5 (k0_pay43 (k0_pay33 x0 kn kr) k0_pay34 k0_pay35 k0_pay36 (64#32) k0_pay37 k0_pay38 v) (Scalar.ofBits .f32 0x00000000#32) (k0_pay44 k0_pay34) (ix2 a d) = ob 1088 x0 kn v kr a d := by
  have e : ∀ A : FVec Ideal S544x128 .f32, k0_pay5 A (Scalar.ofBits .f32 0x00000000#32) (k0_pay44 k0_pay34) (ix2 a d) = if 112 ≤ 1088 + a.val then A (ix2 a d) else 0 := by
    intro A
    pointwise [k0_pay5, k0_pay44, k0_pay34]
    rw [row1088]
    have ha := a.isLt
    refine (ge_word (1088 + a.val) (by omega) _ _).trans ?_
    first | rfl | simp only [Nat.zero_add]
  rw [e, out2, den2]
  unfold ob
  refine if_congr Iff.rfl (congrArg (fun s : EReal => Ideal.div s _) (Finset.sum_congr rfl fun k _ => ?_)) rfl
  rw [ex2]
theorem ls2 (b : Fin 1) (a : Fin 544) (o : Fin 1) : k0_pay6 (k0_pay40 (k0_pay33 x0 kn kr) k0_pay34 k0_pay35 k0_pay36 (64#32) k0_pay37 k0_pay38) (k0_pay42 (k0_pay33 x0 kn kr) k0_pay34 k0_pay35 k0_pay36 (64#32) k0_pay37 k0_pay38) (ix3 b a o) = ls 1088 x0 kn kr a := by
  have e : ∀ A B : FVec Ideal S544x1 .f32, k0_pay6 A B (ix3 b a o) = A (ix2 a (0 : Fin 1)) + Ideal.log (B (ix2 a (0 : Fin 1))) := by
    intro A B
    pointwise [k0_pay6]
  rw [e, mx2, den2]
  rfl
end

section
variable (x0 : Vec Ideal S544x256 .bf16) (kn v kr : Vec Ideal S2176x128 .bf16)
theorem score3 (a : Fin 544) (k : Fin 2176) : k0_pay51 (k0_pay45 x0 kn kr) k0_pay46 k0_pay47 k0_pay48 (64#32) k0_pay49 k0_pay50 (ix2 a k) = ms 1632 x0 kn kr a k := by
  have e : k0_pay45 x0 kn kr (ix2 a k) = sc x0 kn kr a k := by
    pointwise [k0_pay45, sc, lo, hi]
  pointwise [k0_pay51, k0_pay46, k0_pay47, k0_pay48, k0_pay49, k0_pay50]
  rw [row1632, e]
  have ha := a.isLt
  have hk := k.isLt
  unfold ms
  exact sees_word (1632 + a.val) k.val (by omega) (by omega) _ _
section
variable (s : FVec Ideal S544x2176 .f32) (w : IVec S544x1 32) (b : IVec S1x2176 1) (g : IVec S1x2176 32) (u : BitVec 32) (y z : IVec S544x1 32)
theorem max3 (a : Fin 544) (o : Fin 1) : k0_pay52 s w b g u y z (ix2 a o) = Finset.fold max ⊥ (fun k : Fin 2176 => k0_pay51 s w b g u y z (ix2 a k)) Finset.univ := by
  pointwise [k0_pay52, ofBits_bot]
theorem exp3 (a : Fin 544) (k : Fin 2176) : k0_pay53 s w b g u y z (ix2 a k) = Ideal.exp (k0_pay51 s w b g u y z (ix2 a k) - k0_pay52 s w b g u y z (ix2 a (0 : Fin 1))) := by
  pointwise [k0_pay53]
theorem sum3 (a : Fin 544) (o : Fin 1) : k0_pay54 s w b g u y z (ix2 a o) = ∑ k : Fin 2176, k0_pay53 s w b g u y z (ix2 a k) := by
  pointwise [k0_pay54]
theorem out3 (v : Vec Ideal S2176x128 .bf16) (a : Fin 544) (d : Fin 128) : k0_pay55 s w b g u y z v (ix2 a d)
    = Ideal.div (∑ k : Fin 2176, k0_pay53 s w b g u y z (ix2 a k) * v (ix2 k d)) (k0_pay54 s w b g u y z (ix2 a (0 : Fin 1))) := by
  pointwise [k0_pay55]
end
theorem mx3 (a : Fin 544) (o : Fin 1) : k0_pay52 (k0_pay45 x0 kn kr) k0_pay46 k0_pay47 k0_pay48 (64#32) k0_pay49 k0_pay50 (ix2 a o) = mx 1632 x0 kn kr a := by
  rw [max3]
  exact congrArg (fun f : Fin 2176 → EReal => Finset.fold max ⊥ f Finset.univ) (funext fun k => score3 x0 kn kr a k)
theorem ex3 (a : Fin 544) (k : Fin 2176) : k0_pay53 (k0_pay45 x0 kn kr) k0_pay46 k0_pay47 k0_pay48 (64#32) k0_pay49 k0_pay50 (ix2 a k) = ex 1632 x0 kn kr a k := by
  rw [exp3, score3, mx3]
  rfl
theorem den3 (a : Fin 544) (o : Fin 1) : k0_pay54 (k0_pay45 x0 kn kr) k0_pay46 k0_pay47 k0_pay48 (64#32) k0_pay49 k0_pay50 (ix2 a o) = den 1632 x0 kn kr a := by
  rw [sum3]
  exact Finset.sum_congr rfl fun k _ => ex3 x0 kn kr a k
theorem ob3 (a : Fin 544) (d : Fin 128) : k0_pay7 (k0_pay55 (k0_pay45 x0 kn kr) k0_pay46 k0_pay47 k0_pay48 (64#32) k0_pay49 k0_pay50 v) (Scalar.ofBits .f32 0x00000000#32) (k0_pay56 k0_pay46) (ix2 a d) = ob 1632 x0 kn v kr a d := by
  have e : ∀ A : FVec Ideal S544x128 .f32, k0_pay7 A (Scalar.ofBits .f32 0x00000000#32) (k0_pay56 k0_pay46) (ix2 a d) = if 112 ≤ 1632 + a.val then A (ix2 a d) else 0 := by
    intro A
    pointwise [k0_pay7, k0_pay56, k0_pay46]
    rw [row1632]
    have ha := a.isLt
    refine (ge_word (1632 + a.val) (by omega) _ _).trans ?_
    first | rfl | simp only [Nat.zero_add]
  rw [e, out3, den3]
  unfold ob
  refine if_congr Iff.rfl (congrArg (fun s : EReal => Ideal.div s _) (Finset.sum_congr rfl fun k _ => ?_)) rfl
  rw [ex3]
theorem ls3 (b : Fin 1) (a : Fin 544) (o : Fin 1) : k0_pay8 (k0_pay52 (k0_pay45 x0 kn kr) k0_pay46 k0_pay47 k0_pay48 (64#32) k0_pay49 k0_pay50) (k0_pay54 (k0_pay45 x0 kn kr) k0_pay46 k0_pay47 k0_pay48 (64#32) k0_pay49 k0_pay50) (ix3 b a o) = ls 1632 x0 kn kr a := by
  have e : ∀ A B : FVec Ideal S544x1 .f32, k0_pay8 A B (ix3 b a o) = A (ix2 a (0 : Fin 1)) + Ideal.log (B (ix2 a (0 : Fin 1))) := by
    intro A B
    pointwise [k0_pay8]
  rw [e, mx3, den3]
  rfl
end

end Cert.Kernel23Ideal.Rows

end
-- ==== Proof.AttnFwdBlock.lean ====
/- The two arrays attention's forward leaves, in terms of the arrays it reads. -/
module

public import proofs.«01_k».proof.Proof.Gen.Kernel23Ideal.Frame
public import proofs.«01_k».proof.Proof.AttnFwdTerms
public import proofs.«01_k».proof.Proof.AttnFold

@[expose] public section

set_option maxRecDepth 16384

noncomputable section

namespace Cert.Kernel23Ideal.Rows

open Cert.Kernel23Ideal Cert.Kernel23Ideal.Gen Idealize.ShloMosaic Idealize.ShloMosaic.TcCoe Idealize.SL.Sem
open Idealize.ShloMosaic.Pipeline (Dat)
open Cert.Kernel7Ideal.Heads (Sees lo hi sca sc sc_ld ld_at sum_ext unseen rowq colq colo gS)

/-- A largest value over some keys is the largest over all where the rest is the least. -/
theorem max_ext {n N : ℕ} (φ : Fin n → Fin N) (f : Fin n → EReal) (g : Fin N → EReal) (e : ∀ k, f k = g (φ k))
    (z : ∀ k : Fin N, (∃ j, φ j = k) ∨ g k = ⊥) : Finset.fold max (⊥ : EReal) f Finset.univ = Finset.fold max (⊥ : EReal) g Finset.univ := by
  refine le_antisymm ((Finset.fold_max_le _).2 ⟨bot_le, fun k _ => ?_⟩) ((Finset.fold_max_le _).2 ⟨bot_le, fun k _ => ?_⟩)
  · exact (Finset.le_fold_max _).2 (Or.inr ⟨φ k, Finset.mem_univ _, (e k).le⟩)
  · rcases z k with ⟨j, rfl⟩ | h
    · exact (Finset.le_fold_max _).2 (Or.inr ⟨j, Finset.mem_univ _, (e j).ge⟩)
    · exact h.le.trans bot_le

section
variable {n : ℕ} (hn : n ≤ 2176) (off : ℕ) (x0 : Vec Ideal S544x256 .bf16) (kn v kr : Vec Ideal S2176x128 .bf16)
  (i : ∀ a, (![0, 0] : Fin 2 → ℕ) a + (![n, 128] : Fin 2 → ℕ) a ≤ S2176x128.size a) (a : Fin 544)
theorem ms_ld (k : Fin n) : ms off x0 (View.ld kn (Rect.unit ![0, 0] ![n, 128] i)) (View.ld kr (Rect.unit ![0, 0] ![n, 128] i)) a k = ms off x0 kn kr a (Fin.castLE hn k) :=
  congrArg (fun z : EReal => if Sees (off + a.val) k.val then z * sca else ⊥) (sc_ld hn x0 kn kr i a k)
variable (h : ∀ k : Fin 2176, n ≤ k.val → ¬ Sees (off + a.val) k.val)
include h hn
theorem ms_bot (k : Fin 2176) (hk : n ≤ k.val) : ms off x0 kn kr a k = ⊥ := if_neg (h k hk)
theorem mx_ld : mx off x0 (View.ld kn (Rect.unit ![0, 0] ![n, 128] i)) (View.ld kr (Rect.unit ![0, 0] ![n, 128] i)) a = mx off x0 kn kr a := by
  refine max_ext (Fin.castLE hn) _ _ (fun k => ms_ld hn off x0 kn kr i a k) fun k => ?_
  by_cases hk : k.val < n
  · exact Or.inl ⟨⟨k.val, hk⟩, rfl⟩
  · exact Or.inr (ms_bot hn off x0 kn kr a h k (Nat.le_of_not_lt hk))
theorem ex_ld (k : Fin n) : ex off x0 (View.ld kn (Rect.unit ![0, 0] ![n, 128] i)) (View.ld kr (Rect.unit ![0, 0] ![n, 128] i)) a k = ex off x0 kn kr a (Fin.castLE hn k) := by
  unfold ex
  rw [ms_ld hn off x0 kn kr i a k, mx_ld hn off x0 kn kr i a h]
theorem ex_zero (k : Fin 2176) (hk : n ≤ k.val) : ex off x0 kn kr a k = 0 := by
  unfold ex
  rw [ms_bot hn off x0 kn kr a h k hk, EReal.bot_sub, Ideal.exp_bot]
theorem den_ld : den off x0 (View.ld kn (Rect.unit ![0, 0] ![n, 128] i)) (View.ld kr (Rect.unit ![0, 0] ![n, 128] i)) a = den off x0 kn kr a :=
  sum_ext hn _ _ (ex_ld hn off x0 kn kr i a h) (ex_zero hn off x0 kn kr a h)
theorem ob_ld (d : Fin 128) : ob off x0 (View.ld kn (Rect.unit ![0, 0] ![n, 128] i)) (View.ld v (Rect.unit ![0, 0] ![n, 128] i)) (View.ld kr (Rect.unit ![0, 0] ![n, 128] i)) a d = ob off x0 kn v kr a d := by
  unfold ob
  rw [den_ld hn off x0 kn kr i a h]
  refine if_congr Iff.rfl (congrArg (fun s : EReal => Ideal.div s _) ?_) rfl
  refine sum_ext hn _ (fun k => ex off x0 kn kr a k * v (ix2 k d)) (fun k => congrArg₂ (fun y z : EReal => y * z) (ex_ld hn off x0 kn kr i a h k) (ld_at hn v i k d)) fun k hk => ?_
  rw [ex_zero hn off x0 kn kr a h k hk, zero_mul]
theorem ls_ld : ls off x0 (View.ld kn (Rect.unit ![0, 0] ![n, 128] i)) (View.ld kr (Rect.unit ![0, 0] ![n, 128] i)) a = ls off x0 kn kr a := by
  unfold ls
  rw [den_ld hn off x0 kn kr i a h, mx_ld hn off x0 kn kr i a h]
end

/-! ## The arrays' values, for head `h` and query `r` -/

section
variable (Q KV : FVec Ideal S2176x2048 .bf16) (KR : FVec Ideal S2176x128 .bf16) (h : Fin 8) (r : Fin 2176)
/-- The masked score, the largest, the weight before it is normalised, and the normaliser. -/
def fS (k : Fin 2176) : EReal := if Sees r.val k.val then gS Q KV KR h r k * sca else ⊥
def fM : EReal := Finset.fold max ⊥ (fun k => fS Q KV KR h r k) Finset.univ
def fE (k : Fin 2176) : EReal := Ideal.exp (fS Q KV KR h r k - fM Q KV KR h r)
def fD : EReal := ∑ k, fE Q KV KR h r k
/-- The output and the logarithm of the normaliser. -/
def fO (d : Fin 128) : EReal := if 112 ≤ r.val then Ideal.div (∑ k, fE Q KV KR h r k * KV (ix2 k (colq h (hi d)))) (fD Q KV KR h r) else 0
def fL : EReal := fM Q KV KR h r + Ideal.log (fD Q KV KR h r)
end

section
variable (Q KV : FVec Ideal S2176x2048 .bf16) (KR : FVec Ideal S2176x128 .bf16)
def ho (j : Fin 1024) : Fin 8 := ⟨j.val / 128, by have := j.isLt; omega⟩
def lno (j : Fin 1024) : Fin 128 := ⟨j.val % 128, by omega⟩
def GO : FVec Ideal S2176x1024 .f32 := fun i => fO Q KV KR (ho (i 1)) (i 0) (lno (i 1))
def GLS : FVec Ideal S8x2176x1 .f32 := fun i => fL Q KV KR (i 0) (i 1)
end

theorem ho_col (h : Fin 8) (d : Fin 128) : ho (colo h d) = h := Fin.ext (by
  show (128 * h.val + d.val) / 128 = h.val
  have := d.isLt
  omega)
theorem lno_col (h : Fin 8) (d : Fin 128) : lno (colo h d) = d := Fin.ext (by
  show (128 * h.val + d.val) % 128 = d.val
  have := d.isLt
  omega)

/-! ## The blocks at a point -/

variable (m : (ℓ : Loc nD τ sig) → Buf (Elt Ideal) ℓ)

theorem idx : ∀ t : Fin cfg0.N, win0_0.index t = ![t.val % 4, t.val / 4] ∧ win0_1.index t = ![0, 2 * (t.val / 4)] ∧ win0_2.index t = ![0, 2 * (t.val / 4) + 1]
    ∧ win0_3.index t = ![0, 0] ∧ win0_4.index t = ![t.val % 4, t.val / 4] ∧ win0_5.index t = ![t.val / 4, t.val % 4, 0] :=
  (by decide +kernel : ∀ t : Fin grid0.N, _)

theorem isLt32 (t : Fin cfg0.N) : t.val < 32 := lt_of_lt_of_eq t.isLt N_0
def hT (t : Fin cfg0.N) : Fin 8 := ⟨t.val / 4, by have := isLt32 t; omega⟩
def iT (t : Fin cfg0.N) : Fin 4 := ⟨t.val % 4, by omega⟩

abbrev aQ (c : Dev nD) : FVec Ideal S2176x2048 .bf16 := m ((c : Thread nD τ).loc main_arg0)
abbrev aKV (c : Dev nD) : FVec Ideal S2176x2048 .bf16 := m ((c : Thread nD τ).loc main_arg1)
abbrev aKR (c : Dev nD) : FVec Ideal S2176x128 .bf16 := m ((c : Thread nD τ).loc main_arg2)

section
variable (c : Dev nD) (t : Fin cfg0.N)
theorem read0 (a : Fin 544) (d : Fin 256) : iblk m c 0 t (ix2 a d) = aQ m c (ix2 (rowq (iT t) a) (colq (hT t) d)) := by
  unfold rowq colq hT iT
  blk_ext [iblk, V, idx t]
theorem read1 (k : Fin 2176) (d : Fin 128) : iblk m c 1 t (ix2 k d) = aKV m c (ix2 k (colq (hT t) (lo d))) := by
  unfold colq hT lo
  blk_ext [iblk, V, idx t]
theorem read2 (k : Fin 2176) (d : Fin 128) : iblk m c 2 t (ix2 k d) = aKV m c (ix2 k (colq (hT t) (hi d))) := by
  unfold colq hT hi
  blk_ext [iblk, V, idx t]
theorem read3 (k : Fin 2176) (d : Fin 128) : iblk m c 3 t (ix2 k d) = aKR m c (ix2 k d) := by
  blk_ext [iblk, V, idx t]

variable (off : ℕ) (ho : off = 544 * (t.val % 4)) (a : Fin 544)
include ho
theorem msT_eq (k : Fin 2176) : ms off (iblk m c 0 t) (iblk m c 1 t) (iblk m c 3 t) a k = fS (aQ m c) (aKV m c) (aKR m c) (hT t) (rowq (iT t) a) k := by
  subst ho
  unfold ms sc fS gS
  simp only [read0 m c t, read1 m c t, read3 m c t]
  rfl
theorem mxT_eq : mx off (iblk m c 0 t) (iblk m c 1 t) (iblk m c 3 t) a = fM (aQ m c) (aKV m c) (aKR m c) (hT t) (rowq (iT t) a) :=
  congrArg (fun f : Fin 2176 → EReal => Finset.fold max ⊥ f Finset.univ) (funext fun k => msT_eq m c t off ho a k)
theorem exT_eq (k : Fin 2176) : ex off (iblk m c 0 t) (iblk m c 1 t) (iblk m c 3 t) a k = fE (aQ m c) (aKV m c) (aKR m c) (hT t) (rowq (iT t) a) k := by
  unfold ex fE
  rw [msT_eq m c t off ho a k, mxT_eq m c t off ho a]
theorem denT_eq : den off (iblk m c 0 t) (iblk m c 1 t) (iblk m c 3 t) a = fD (aQ m c) (aKV m c) (aKR m c) (hT t) (rowq (iT t) a) :=
  Finset.sum_congr rfl fun k _ => exT_eq m c t off ho a k
theorem obT_eq (d : Fin 128) : ob off (iblk m c 0 t) (iblk m c 1 t) (iblk m c 2 t) (iblk m c 3 t) a d = fO (aQ m c) (aKV m c) (aKR m c) (hT t) (rowq (iT t) a) d := by
  unfold ob fO
  rw [denT_eq m c t off ho a]
  refine if_congr (by rw [ho]; rfl) (congrArg (fun s : EReal => Ideal.div s _) (Finset.sum_congr rfl fun k _ => ?_)) rfl
  rw [exT_eq m c t off ho a k, read2 m c t]
theorem lsT_eq : ls off (iblk m c 0 t) (iblk m c 1 t) (iblk m c 3 t) a = fL (aQ m c) (aKV m c) (aKR m c) (hT t) (rowq (iT t) a) := by
  unfold ls fL
  rw [denT_eq m c t off ho a, mxT_eq m c t off ho a]
end

/-! ## The buffers after a point -/

section
variable (c : Dev nD) (t : Fin cfg0.N)
theorem outA (h0 : t.val % 4 = 0) (h1 : ¬t.val % 4 = 1) (h2 : ¬t.val % 4 = 2) (h3 : ¬t.val % 4 = 3) (a : Fin 544) (d : Fin 128) : (outsAt0 m c t.val t.isLt).1 (ix2 a d) = ob 0 (iblk m c 0 t) (iblk m c 1 t) (iblk m c 2 t) (iblk m c 3 t) a d := by
  rw [outsAt0_A m c t h0 h1 h2 h3]
  unfold out0_A_4 kernelRun0_A
  frame_out
  exact (ob0 _ _ _ _ a d).trans (ob_ld (n := 640) (by omega) 0 _ _ _ _ _ a (fun k hk => unseen 0 640 a k hk (by omega)) d)
theorem logA (h0 : t.val % 4 = 0) (h1 : ¬t.val % 4 = 1) (h2 : ¬t.val % 4 = 2) (h3 : ¬t.val % 4 = 3) (b : Fin 1) (a : Fin 544) (o : Fin 1) : (outsAt0 m c t.val t.isLt).2 (ix3 b a o) = ls 0 (iblk m c 0 t) (iblk m c 1 t) (iblk m c 3 t) a := by
  rw [outsAt0_A m c t h0 h1 h2 h3]
  unfold out0_A_5 kernelRun0_A
  frame_out
  exact (ls0 _ _ _ b a o).trans (ls_ld (n := 640) (by omega) 0 _ _ _ _ a (fun k hk => unseen 0 640 a k hk (by omega)))
theorem outB (h0 : ¬t.val % 4 = 0) (h1 : t.val % 4 = 1) (h2 : ¬t.val % 4 = 2) (h3 : ¬t.val % 4 = 3) (a : Fin 544) (d : Fin 128) : (outsAt0 m c t.val t.isLt).1 (ix2 a d) = ob 544 (iblk m c 0 t) (iblk m c 1 t) (iblk m c 2 t) (iblk m c 3 t) a d := by
  rw [outsAt0_B m c t h0 h1 h2 h3]
  unfold out0_B_4 kernelRun0_B
  frame_out
  exact (ob1 _ _ _ _ a d).trans (ob_ld (n := 1152) (by omega) 544 _ _ _ _ _ a (fun k hk => unseen 544 1152 a k hk (by omega)) d)
theorem logB (h0 : ¬t.val % 4 = 0) (h1 : t.val % 4 = 1) (h2 : ¬t.val % 4 = 2) (h3 : ¬t.val % 4 = 3) (b : Fin 1) (a : Fin 544) (o : Fin 1) : (outsAt0 m c t.val t.isLt).2 (ix3 b a o) = ls 544 (iblk m c 0 t) (iblk m c 1 t) (iblk m c 3 t) a := by
  rw [outsAt0_B m c t h0 h1 h2 h3]
  unfold out0_B_5 kernelRun0_B
  frame_out
  exact (ls1 _ _ _ b a o).trans (ls_ld (n := 1152) (by omega) 544 _ _ _ _ a (fun k hk => unseen 544 1152 a k hk (by omega)))
theorem outC (h0 : ¬t.val % 4 = 0) (h1 : ¬t.val % 4 = 1) (h2 : t.val % 4 = 2) (h3 : ¬t.val % 4 = 3) (a : Fin 544) (d : Fin 128) : (outsAt0 m c t.val t.isLt).1 (ix2 a d) = ob 1088 (iblk m c 0 t) (iblk m c 1 t) (iblk m c 2 t) (iblk m c 3 t) a d := by
  rw [outsAt0_C m c t h0 h1 h2 h3]
  unfold out0_C_4 kernelRun0_C
  frame_out
  exact (ob2 _ _ _ _ a d).trans (ob_ld (n := 1664) (by omega) 1088 _ _ _ _ _ a (fun k hk => unseen 1088 1664 a k hk (by omega)) d)
theorem logC (h0 : ¬t.val % 4 = 0) (h1 : ¬t.val % 4 = 1) (h2 : t.val % 4 = 2) (h3 : ¬t.val % 4 = 3) (b : Fin 1) (a : Fin 544) (o : Fin 1) : (outsAt0 m c t.val t.isLt).2 (ix3 b a o) = ls 1088 (iblk m c 0 t) (iblk m c 1 t) (iblk m c 3 t) a := by
  rw [outsAt0_C m c t h0 h1 h2 h3]
  unfold out0_C_5 kernelRun0_C
  frame_out
  exact (ls2 _ _ _ b a o).trans (ls_ld (n := 1664) (by omega) 1088 _ _ _ _ a (fun k hk => unseen 1088 1664 a k hk (by omega)))
theorem outD (h0 : ¬t.val % 4 = 0) (h1 : ¬t.val % 4 = 1) (h2 : ¬t.val % 4 = 2) (h3 : t.val % 4 = 3) (a : Fin 544) (d : Fin 128) : (outsAt0 m c t.val t.isLt).1 (ix2 a d) = ob 1632 (iblk m c 0 t) (iblk m c 1 t) (iblk m c 2 t) (iblk m c 3 t) a d := by
  rw [outsAt0_D m c t h0 h1 h2 h3]
  unfold out0_D_4 kernelRun0_D
  frame_out
  exact (ob3 _ _ _ _ a d)
theorem logD (h0 : ¬t.val % 4 = 0) (h1 : ¬t.val % 4 = 1) (h2 : ¬t.val % 4 = 2) (h3 : t.val % 4 = 3) (b : Fin 1) (a : Fin 544) (o : Fin 1) : (outsAt0 m c t.val t.isLt).2 (ix3 b a o) = ls 1632 (iblk m c 0 t) (iblk m c 1 t) (iblk m c 3 t) a := by
  rw [outsAt0_D m c t h0 h1 h2 h3]
  unfold out0_D_5 kernelRun0_D
  frame_out
  exact (ls3 _ _ _ b a o)
end

theorem out_at (c : Dev nD) (t : Fin cfg0.N) (a : Fin 544) (d : Fin 128) : (outsAt0 m c t.val t.isLt).1 (ix2 a d) = fO (aQ m c) (aKV m c) (aKR m c) (hT t) (rowq (iT t) a) d := by
  have h4 : t.val % 4 = 0 ∨ t.val % 4 = 1 ∨ t.val % 4 = 2 ∨ t.val % 4 = 3 := by omega
  rcases h4 with h | h | h | h
  · exact (outA m c t (by omega) (by omega) (by omega) (by omega) a d).trans (obT_eq m c t 0 (by omega) a d)
  · exact (outB m c t (by omega) (by omega) (by omega) (by omega) a d).trans (obT_eq m c t 544 (by omega) a d)
  · exact (outC m c t (by omega) (by omega) (by omega) (by omega) a d).trans (obT_eq m c t 1088 (by omega) a d)
  · exact (outD m c t (by omega) (by omega) (by omega) (by omega) a d).trans (obT_eq m c t 1632 (by omega) a d)
theorem log_at (c : Dev nD) (t : Fin cfg0.N) (b : Fin 1) (a : Fin 544) (o : Fin 1) : (outsAt0 m c t.val t.isLt).2 (ix3 b a o) = fL (aQ m c) (aKV m c) (aKR m c) (hT t) (rowq (iT t) a) := by
  have h4 : t.val % 4 = 0 ∨ t.val % 4 = 1 ∨ t.val % 4 = 2 ∨ t.val % 4 = 3 := by omega
  rcases h4 with h | h | h | h
  · exact (logA m c t (by omega) (by omega) (by omega) (by omega) b a o).trans (lsT_eq m c t 0 (by omega) a)
  · exact (logB m c t (by omega) (by omega) (by omega) (by omega) b a o).trans (lsT_eq m c t 544 (by omega) a)
  · exact (logC m c t (by omega) (by omega) (by omega) (by omega) b a o).trans (lsT_eq m c t 1088 (by omega) a)
  · exact (logD m c t (by omega) (by omega) (by omega) (by omega) b a o).trans (lsT_eq m c t 1632 (by omega) a)

/-! ## The arrays after the run -/

theorem final4 (c : Dev nD) : (dats m 0 c).arrAt 4 (cfgs 0).N = GO (aQ m c) (aKV m c) (aKR m c) := by
  refine (dats m 0 c).arrAt_eq_of_covers 4 _ (by decide +kernel) fun t _ y => ?_
  blk_simp
  rw [after0_4]
  idx_vars y
  have he : (((View.whole main_v0_0).slice (win0_4.rect t)).emb (ix2 y0 y1)) = ix2 (rowq (iT t) y0) (colo (hT t) y1) := by unfold rowq colo hT iT; blk_ext [idx t]
  refine (out_at m c t y0 y1).trans ?_
  refine Eq.trans ?_ (congrArg (GO (aQ m c) (aKV m c) (aKR m c)) he.symm)
  show _ = fO _ _ _ (ho (colo (hT t) y1)) (rowq (iT t) y0) (lno (colo (hT t) y1))
  rw [ho_col, lno_col]

theorem final5 (c : Dev nD) : (dats m 0 c).arrAt 5 (cfgs 0).N = GLS (aQ m c) (aKV m c) (aKR m c) := by
  refine (dats m 0 c).arrAt_eq_of_covers 5 _ (by decide +kernel) fun t _ y => ?_
  blk_simp
  rw [after0_5]
  idx_vars y
  have he : (((View.whole main_v0_1).slice (win0_5.rect t)).emb (ix3 y0 y1 y2)) = ix3 (hT t) (rowq (iT t) y1) y2 := by unfold rowq hT iT; blk_ext [idx t]
  refine (log_at m c t y0 y1 y2).trans ?_
  refine Eq.trans ?_ (congrArg (GLS (aQ m c) (aKV m c) (aKR m c)) he.symm)
  rfl

end Cert.Kernel23Ideal.Rows

end
-- ==== Proof.AttnFwdRef.lean ====
/- Attention's forward as the problem writes it: the reference's terms, cut at the values it reuses, at an index. -/
module

public import proofs.«01_k».proof.Proof.Gen.Reference23Ideal.Run
public import proofs.«01_k».proof.Proof.AttnMask

@[expose] public section

set_option maxRecDepth 16384

noncomputable section

namespace Cert.Reference23Ideal.Terms

open Cert.Reference23Ideal Cert.Reference23Ideal.Gen Idealize.ShloMosaic Idealize.ShloMosaic.TcCoe Idealize.SL.Sem
open Cert.Reference7Ideal.Terms (rQ rKV rKR rChunk rMask rDot rS rMax rE rL rP rr cq co la lb rQ_at rKV_at rKR_at ofBits_bot)

/-- The queries of all rows, by head. -/
def tQ (Q : FVec Ideal S2176x2048 .bf16) : FVec Ideal S2176x8x256 .f32 :=
  shapeCast _ (extf .f32 Q bitsLt_bf16_f32) shapeCasts_S2176x2048_S2176x8x256

/-- The keys and values of the real rows, by head. -/
def tKV (KV : FVec Ideal S2176x2048 .bf16) : FVec Ideal S2064x8x256 .f32 :=
  shapeCast _ (extf .f32 (extractStridedSlice S2064x2048 ![112, 0] KV slices_S2176x2048_S2064x2048_112_0) bitsLt_bf16_f32) shapeCasts_S2064x2048_S2064x8x256

/-- The shared rotary keys of the real rows. -/
def tKR (KR : FVec Ideal S2176x128 .bf16) : FVec Ideal S2064x128 .f32 :=
  extf .f32 (extractStridedSlice S2064x128 ![112, 0] KR slices_S2176x128_S2064x128_112_0) bitsLt_bf16_f32

/-- The queries of the real rows. -/
def tQR (Q : FVec Ideal S2176x2048 .bf16) : FVec Ideal S2064x8x256 .f32 :=
  extractStridedSlice S2064x8x256 ![112, 0, 0] (tQ Q) slices_S2176x8x256_S2064x8x256_112_0_0

/-- The products of queries and keys of the real rows, before scaling. -/
def tDot (Q : FVec Ideal S2176x2048 .bf16) (KV : FVec Ideal S2176x2048 .bf16) (KR : FVec Ideal S2176x128 .bf16) : FVec Ideal S8x2064x2064 .f32 :=
  addf (Host.dotGeneral dot_S2064x8x128_S2064x8x128_S8x2064x2064_2_2_0_0_1_1 none (extractStridedSlice S2064x8x128 ![0, 0, 0] (tQR Q) slices_S2064x8x256_S2064x8x128_0_0_0) (extractStridedSlice S2064x8x128 ![0, 0, 0] (tKV KV) slices_S2064x8x256_S2064x8x128_0_0_0)) (transpose S8x2064x2064 [2, 1, 0] (Host.dotGeneral dot_S2064x128_S2064x8x128_S2064x2064x8_1_2_0_01_n_n none (tKR KR) (extractStridedSlice S2064x8x128 ![0, 0, 128] (tQR Q) slices_S2064x8x256_S2064x8x128_0_0_128)) transposes_S2064x2064x8_S8x2064x2064_2_1_0)

/-- The masked scores of the real rows. -/
def tS (Q : FVec Ideal S2176x2048 .bf16) (KV : FVec Ideal S2176x2048 .bf16) (KR : FVec Ideal S2176x128 .bf16) : FVec Ideal S8x2064x2064 .f32 :=
  select (broadcastInDim S8x2064x2064 ![0, 1, 2] bcast_S1x2064x2064_S8x2064x2064_0_1_2 (broadcastInDim S1x2064x2064 ![1, 2] bcast_S2064x2064_S1x2064x2064_1_2 rMask)) (mulf (tDot Q KV KR) (broadcastInDim S8x2064x2064 ![] bcast_S_S8x2064x2064 (constant S_ .f32 0x3D93CD3A#32))) (broadcastInDim S8x2064x2064 ![] bcast_S_S8x2064x2064 (id (constant S_ .f32 0xFF800000#32)))

/-- Each real row's largest score. -/
def tMax (Q : FVec Ideal S2176x2048 .bf16) (KV : FVec Ideal S2176x2048 .bf16) (KR : FVec Ideal S2176x128 .bf16) : FVec Ideal S8x2064 .f32 :=
  Host.reduce FloatOps.maximumf (tS Q KV KR) (constant S_ .f32 0xFF800000#32) reducesTo_S8x2064x2064_S8x2064_d2 h_S_

/-- The exponentials of the scores less their row's largest. -/
def tE (Q : FVec Ideal S2176x2048 .bf16) (KV : FVec Ideal S2176x2048 .bf16) (KR : FVec Ideal S2176x128 .bf16) : FVec Ideal S8x2064x2064 .f32 :=
  Host.exp (subf (tS Q KV KR) (broadcastInDim S8x2064x2064 ![0, 1, 2] bcast_S8x2064x1_S8x2064x2064_0_1_2 (broadcastInDim S8x2064x1 ![0, 1] bcast_S8x2064_S8x2064x1_0_1 (maximumf (broadcastInDim S8x2064 ![] bcast_S_S8x2064 (constant S_ .f32 0xFF800000#32)) (tMax Q KV KR)))))

/-- The normaliser of each real row. -/
def tL (Q : FVec Ideal S2176x2048 .bf16) (KV : FVec Ideal S2176x2048 .bf16) (KR : FVec Ideal S2176x128 .bf16) : FVec Ideal S8x2064x1 .f32 :=
  broadcastInDim S8x2064x1 ![0, 1] bcast_S8x2064_S8x2064x1_0_1 (Host.reduceAdd (tE Q KV KR) (constant S_ .f32 0x00000000#32) reducesTo_S8x2064x2064_S8x2064_d2 h_S_)

/-- The attention weights. -/
def tP (Q : FVec Ideal S2176x2048 .bf16) (KV : FVec Ideal S2176x2048 .bf16) (KR : FVec Ideal S2176x128 .bf16) : FVec Ideal S8x2064x2064 .f32 :=
  Host.divf (tE Q KV KR) (broadcastInDim S8x2064x2064 ![0, 1, 2] bcast_S8x2064x1_S8x2064x2064_0_1_2 (tL Q KV KR))

/-- The output on the real rows. -/
def tO (Q : FVec Ideal S2176x2048 .bf16) (KV : FVec Ideal S2176x2048 .bf16) (KR : FVec Ideal S2176x128 .bf16) : FVec Ideal S2064x1024 .f32 :=
  shapeCast _ (transpose S2064x8x128 [2, 0, 1] (Host.dotGeneral dot_S2064x8x128_S8x2064x2064_S8x128x2064_0_2_2_1_1_0 none (extractStridedSlice S2064x8x128 ![0, 0, 128] (tKV KV) slices_S2064x8x256_S2064x8x128_0_0_128) (tP Q KV KR)) transposes_S8x128x2064_S2064x8x128_2_0_1) shapeCasts_S2064x8x128_S2064x1024

/-- The chunk of each row, those before the first position too. -/
def uChunk : IVec S2176 32 :=
  addi (broadcastInDim S2176 ![] bcast_S_S2176 (constantI S_ 32 1#32)) (select (andi (cmpi .ne (signi (subi (addi (broadcastInDim S2176 ![] bcast_S_S2176 (constantI S_ 32 4294967184#32)) (iotaInDim S2176 32 0)) (broadcastInDim S2176 ![] bcast_S_S2176 (constantI S_ 32 16#32)))) (broadcastInDim S2176 ![] bcast_S_S2176 (signi (id (constantI S_ 32 64#32))))) (cmpi .ne (Host.remsi (subi (addi (broadcastInDim S2176 ![] bcast_S_S2176 (constantI S_ 32 4294967184#32)) (iotaInDim S2176 32 0)) (broadcastInDim S2176 ![] bcast_S_S2176 (constantI S_ 32 16#32))) (broadcastInDim S2176 ![] bcast_S_S2176 (id (constantI S_ 32 64#32)))) (broadcastInDim S2176 ![] bcast_S_S2176 (constantI S_ 32 0#32)))) (subi (Host.divsi (subi (addi (broadcastInDim S2176 ![] bcast_S_S2176 (constantI S_ 32 4294967184#32)) (iotaInDim S2176 32 0)) (broadcastInDim S2176 ![] bcast_S_S2176 (constantI S_ 32 16#32))) (broadcastInDim S2176 ![] bcast_S_S2176 (id (constantI S_ 32 64#32)))) (broadcastInDim S2176 ![] bcast_S_S2176 (constantI S_ 32 1#32))) (Host.divsi (subi (addi (broadcastInDim S2176 ![] bcast_S_S2176 (constantI S_ 32 4294967184#32)) (iotaInDim S2176 32 0)) (broadcastInDim S2176 ![] bcast_S_S2176 (constantI S_ 32 16#32))) (broadcastInDim S2176 ![] bcast_S_S2176 (id (constantI S_ 32 64#32)))))

/-- Which key a row may see. -/
def uMask : IVec S2176x2064 1 :=
  cmpi .sle (broadcastInDim S2176x2064 ![0, 1] bcast_S1x2064_S2176x2064_0_1 (broadcastInDim S1x2064 ![1] bcast_S2064_S1x2064_1 (extractStridedSlice S2064 ![112] uChunk slices_S2176_S2064_112))) (broadcastInDim S2176x2064 ![0, 1] bcast_S2176x1_S2176x2064_0_1 (broadcastInDim S2176x1 ![0] bcast_S2176_S2176x1_0 uChunk))

/-- The products of the queries of all rows and the keys, before scaling. -/
def uDot (Q : FVec Ideal S2176x2048 .bf16) (KV : FVec Ideal S2176x2048 .bf16) (KR : FVec Ideal S2176x128 .bf16) : FVec Ideal S8x2176x2064 .f32 :=
  addf (Host.dotGeneral dot_S2176x8x128_S2064x8x128_S8x2176x2064_2_2_0_0_1_1 none (extractStridedSlice S2176x8x128 ![0, 0, 0] (tQ Q) slices_S2176x8x256_S2176x8x128_0_0_0) (extractStridedSlice S2064x8x128 ![0, 0, 0] (tKV KV) slices_S2064x8x256_S2064x8x128_0_0_0)) (transpose S8x2176x2064 [2, 1, 0] (Host.dotGeneral dot_S2064x128_S2176x8x128_S2064x2176x8_1_2_0_01_n_n none (tKR KR) (extractStridedSlice S2176x8x128 ![0, 0, 128] (tQ Q) slices_S2176x8x256_S2176x8x128_0_0_128)) transposes_S2064x2176x8_S8x2176x2064_2_1_0)

/-- The masked scores of all rows. -/
def uS (Q : FVec Ideal S2176x2048 .bf16) (KV : FVec Ideal S2176x2048 .bf16) (KR : FVec Ideal S2176x128 .bf16) : FVec Ideal S8x2176x2064 .f32 :=
  select (broadcastInDim S8x2176x2064 ![0, 1, 2] bcast_S1x2176x2064_S8x2176x2064_0_1_2 (broadcastInDim S1x2176x2064 ![1, 2] bcast_S2176x2064_S1x2176x2064_1_2 uMask)) (mulf (uDot Q KV KR) (broadcastInDim S8x2176x2064 ![] bcast_S_S8x2176x2064 (constant S_ .f32 0x3D93CD3A#32))) (broadcastInDim S8x2176x2064 ![] bcast_S_S8x2176x2064 (id (constant S_ .f32 0xFF800000#32)))

/-- Each row's largest score. -/
def uMax (Q : FVec Ideal S2176x2048 .bf16) (KV : FVec Ideal S2176x2048 .bf16) (KR : FVec Ideal S2176x128 .bf16) : FVec Ideal S8x2176 .f32 :=
  Host.reduce FloatOps.maximumf (uS Q KV KR) (constant S_ .f32 0xFF800000#32) reducesTo_S8x2176x2064_S8x2176_d2 h_S_

/-- The exponentials of all rows' scores less their row's largest. -/
def uE (Q : FVec Ideal S2176x2048 .bf16) (KV : FVec Ideal S2176x2048 .bf16) (KR : FVec Ideal S2176x128 .bf16) : FVec Ideal S8x2176x2064 .f32 :=
  Host.exp (subf (uS Q KV KR) (broadcastInDim S8x2176x2064 ![0, 1, 2] bcast_S8x2176x1_S8x2176x2064_0_1_2 (broadcastInDim S8x2176x1 ![0, 1] bcast_S8x2176_S8x2176x1_0_1 (uMax Q KV KR))))

/-- The normaliser of each row. -/
def uL (Q : FVec Ideal S2176x2048 .bf16) (KV : FVec Ideal S2176x2048 .bf16) (KR : FVec Ideal S2176x128 .bf16) : FVec Ideal S8x2176x1 .f32 :=
  broadcastInDim S8x2176x1 ![0, 1] bcast_S8x2176_S8x2176x1_0_1 (Host.reduceAdd (uE Q KV KR) (constant S_ .f32 0x00000000#32) reducesTo_S8x2176x2064_S8x2176_d2 h_S_)

/-- The output, zero in the padding rows. -/
def refO (Q : FVec Ideal S2176x2048 .bf16) (KV : FVec Ideal S2176x2048 .bf16) (KR : FVec Ideal S2176x128 .bf16) : FVec Ideal S2176x1024 .f32 :=
  concatenate S2176x1024 0 [⟨S112x1024, (broadcastInDim S112x1024 ![] bcast_S_S112x1024 (constant S_ .f32 0x00000000#32))⟩, ⟨S2064x1024, (tO Q KV KR)⟩] concatenates_S112x1024_S2064x1024_S2176x1024_d0

/-- Each row's logarithm of the normaliser, with the largest score put back. -/
def refL (Q : FVec Ideal S2176x2048 .bf16) (KV : FVec Ideal S2176x2048 .bf16) (KR : FVec Ideal S2176x128 .bf16) : FVec Ideal S8x2176x1 .f32 :=
  addf (broadcastInDim S8x2176x1 ![0, 1] bcast_S8x2176_S8x2176x1_0_1 (uMax Q KV KR)) (Host.log (uL Q KV KR))

theorem out0_eq (m : (ℓ : Loc nD τ sig) → Buf (Elt Ideal) ℓ) (c : Dev nD) : Value.res_out0 m c = refO (m ((c.tc : Thread nD τ).loc main_arg0)) (m ((c.tc : Thread nD τ).loc main_arg1)) (m ((c.tc : Thread nD τ).loc main_arg2)) := by
  rfl

theorem out1_eq (m : (ℓ : Loc nD τ sig) → Buf (Elt Ideal) ℓ) (c : Dev nD) : Value.res_out1 m c = refL (m ((c.tc : Thread nD τ).loc main_arg0)) (m ((c.tc : Thread nD τ).loc main_arg1)) (m ((c.tc : Thread nD τ).loc main_arg2)) := by
  rfl

/-! ## The mask of all rows -/

theorem word_eq : ∀ r : Fin 2176, IntOp.addi (1#32)
        (Scalar.select
          (IntOp.andi
            (IntOp.cmpi CmpIPredicate.ne
              (if IntOp.subi (IntOp.addi (4294967184#32) (BitVec.ofNat 32 r.val)) 16#32 = 0 then 0
              else if (IntOp.subi (IntOp.addi (4294967184#32) (BitVec.ofNat 32 r.val)) 16#32).msb = true then -1 else 1)
              (if (64#32 : BitVec 32) = 0 then 0
              else if (64#32 : BitVec 32).msb = true then -1 else (1 : BitVec 32)))
            (IntOp.cmpi CmpIPredicate.ne
              (IntOp.remsi ArithUnit.host (IntOp.subi (IntOp.addi (4294967184#32) (BitVec.ofNat 32 r.val)) 16#32) 64#32)
              0#32))
          (IntOp.subi
            (IntOp.divsi ArithUnit.host (IntOp.subi (IntOp.addi (4294967184#32) (BitVec.ofNat 32 r.val)) 16#32) 64#32) 1#32)
          (IntOp.divsi ArithUnit.host (IntOp.subi (IntOp.addi (4294967184#32) (BitVec.ofNat 32 r.val)) 16#32) 64#32)) = BitVec.ofNat 32 (r.val / 64) - 1#32 := by
  decide +kernel

theorem chunk_at (r : Fin 2176) : uChunk (ix1 r) = BitVec.ofNat 32 (r.val / 64) - 1#32 := by
  pointwise [uChunk]
  exact word_eq r

theorem le_word : ∀ a b : Fin 34, IntOp.cmpi CmpIPredicate.sle (BitVec.ofNat 32 a.val - 1#32) (BitVec.ofNat 32 b.val - 1#32) = if a.val ≤ b.val then 1#1 else 0#1 := by
  decide +kernel

theorem uMask_at (r : Fin 2176) (k : Fin 2064) : uMask (ix2 r k) = IntOp.cmpi CmpIPredicate.sle (uChunk (ix1 (rr k))) (uChunk (ix1 r)) := by
  pointwise [uMask]

/-- A key is seen by the queries of its own chunk of 64 rows and of the later ones. -/
theorem mask_at (r : Fin 2176) (k : Fin 2064) : uMask (ix2 r k) = if (112 + k.val) / 64 ≤ r.val / 64 then 1#1 else 0#1 := by
  rw [uMask_at, chunk_at, chunk_at]
  exact le_word ⟨(112 + k.val) / 64, by omega⟩ ⟨r.val / 64, by omega⟩

/-! ## The terms at an index -/

variable (Q KV : FVec Ideal S2176x2048 .bf16) (KR : FVec Ideal S2176x128 .bf16)
variable (h : Fin 8) (r : Fin 2176) (q k : Fin 2064) (d : Fin 128) (e : Fin 256)

theorem tQ_at : tQ Q (ix3 r h e) = Q (ix2 r (cq h e)) := by
  pointwise [tQ]
  exact congrArg Q (congrArg₂ ix2 rfl (Fin.ext (by show h.val * 256 + e.val = 256 * h.val + e.val; omega)))
theorem tQR_at : tQR Q (ix3 q h e) = tQ Q (ix3 (rr q) h e) := by
  pointwise [tQR]
theorem tQR_eq : tQR Q = rQ Q := by
  funext i
  idx_vars i
  rw [tQR_at, tQ_at]
  exact (rQ_at Q i1 i0 i2).symm
theorem tKV_eq : tKV KV = rKV KV := rfl
theorem tKR_eq : tKR KR = rKR KR := rfl
theorem tDot_eq : tDot Q KV KR = rDot Q KV KR := by
  unfold tDot
  rw [tQR_eq, tKV_eq, tKR_eq]
  rfl
theorem tS_eq : tS Q KV KR = rS Q KV KR := by
  unfold tS
  rw [tDot_eq]
  rfl
theorem tMax_eq : tMax Q KV KR = rMax Q KV KR := by
  unfold tMax
  rw [tS_eq]
  rfl
theorem tE_eq : tE Q KV KR = rE Q KV KR := by
  unfold tE
  rw [tS_eq, tMax_eq]
  rfl
theorem tL_eq : tL Q KV KR = rL Q KV KR := by
  unfold tL
  rw [tE_eq]
  rfl
theorem tP_eq : tP Q KV KR = rP Q KV KR := by
  unfold tP
  rw [tE_eq, tL_eq]
  rfl

theorem tO_gen (T : FVec Ideal S2064x8x256 .f32) (P : FVec Ideal S8x2064x2064 .f32) :
    shapeCast S2064x1024 (transpose S2064x8x128 [2, 0, 1] (Host.dotGeneral dot_S2064x8x128_S8x2064x2064_S8x128x2064_0_2_2_1_1_0 none (extractStridedSlice S2064x8x128 ![0, 0, 128] T slices_S2064x8x256_S2064x8x128_0_0_128) P) transposes_S8x128x2064_S2064x8x128_2_0_1) shapeCasts_S2064x8x128_S2064x1024 (ix2 q (co h d))
      = ∑ k, T (ix3 k h (lb d)) * P (ix3 h q k) := by
  pointwise []
  simp only [show (128 * h.val + d.val) / 128 = h.val by omega, show (128 * h.val + d.val) % 128 = d.val by omega, Fin.eta]
theorem tO_at : tO Q KV KR (ix2 q (co h d)) = ∑ k, rKV KV (ix3 k h (lb d)) * rP Q KV KR (ix3 h q k) := by
  unfold tO
  rw [tP_eq, tKV_eq]
  exact tO_gen h q d _ _
theorem refO_at (j : Fin 1024) : refO Q KV KR (ix2 (rr q) j) = tO Q KV KR (ix2 q j) := by
  unfold refO
  generalize tO Q KV KR = X
  pointwise []
theorem refO_head (hr : r.val < 112) (j : Fin 1024) : refO Q KV KR (ix2 r j) = 0 := by
  unfold refO
  generalize tO Q KV KR = X
  pointwise []
  exact dif_pos hr

theorem uDot_at : uDot Q KV KR (ix3 h r k) = (∑ d, tQ Q (ix3 r h (la d)) * rKV KV (ix3 k h (la d))) + ∑ d, rKR KR (ix2 k d) * tQ Q (ix3 r h (lb d)) := by
  unfold uDot
  rw [tKV_eq, tKR_eq]
  pointwise []
theorem uS_at : uS Q KV KR (ix3 h r k) = Scalar.select (uMask (ix2 r k)) (uDot Q KV KR (ix3 h r k) * Ideal.ofBits .f32 0x3D93CD3A#32) (Ideal.ofBits .f32 0xFF800000#32) := by
  pointwise [uS]
  rfl
theorem uMax_at : uMax Q KV KR (ix2 h r) = Finset.fold max ⊥ (fun k => uS Q KV KR (ix3 h r k)) Finset.univ := by
  pointwise [uMax]
  rw [ofBits_bot]
theorem exp_at (S : FVec Ideal S8x2176x2064 .f32) (M : FVec Ideal S8x2176 .f32) : Host.exp (subf S (broadcastInDim S8x2176x2064 ![0, 1, 2] bcast_S8x2176x1_S8x2176x2064_0_1_2 (broadcastInDim S8x2176x1 ![0, 1] bcast_S8x2176_S8x2176x1_0_1 M))) (ix3 h r k)
    = Ideal.exp (S (ix3 h r k) - M (ix2 h r)) := by
  pointwise []
theorem uE_at : uE Q KV KR (ix3 h r k) = Ideal.exp (uS Q KV KR (ix3 h r k) - uMax Q KV KR (ix2 h r)) := by
  unfold uE
  exact exp_at h r k _ _
theorem uL_at : uL Q KV KR (ix3 h r (0 : Fin 1)) = ∑ k, uE Q KV KR (ix3 h r k) := by
  pointwise [uL]
theorem log_gen (X : FVec Ideal S8x2176 .f32) (Y : FVec Ideal S8x2176x1 .f32) : addf (broadcastInDim S8x2176x1 ![0, 1] bcast_S8x2176_S8x2176x1_0_1 X) (Host.log Y) (ix3 h r (0 : Fin 1))
    = X (ix2 h r) + Ideal.log (Y (ix3 h r (0 : Fin 1))) := by
  pointwise []
theorem refL_at : refL Q KV KR (ix3 h r (0 : Fin 1)) = uMax Q KV KR (ix2 h r) + Ideal.log (uL Q KV KR (ix3 h r (0 : Fin 1))) := by
  unfold refL
  exact log_gen h r _ _

end Cert.Reference23Ideal.Terms

end
-- ==== Proof.AttnFwd.lean ====
/- The claims about attention's forward: its frames, and its two arrays against the reference's. -/
module

public import proofs.«01_k».proof.Proof.Gen.Kernel23.Frame
public import proofs.«01_k».proof.Proof.Gen.Pre_finite23
public import proofs.«01_k».proof.Proof.AttnFwdBlock
public import proofs.«01_k».proof.Proof.AttnFwdRef
public import proofs.«01_k».proof.Proof.AttnEqual
public import proofs.«01_k».proof.Proof.PreFinite
public import proofs.«01_k».proof.Defs
public import Idealize.ShloMosaic.Lib.Claim

@[expose] public section

set_option maxRecDepth 16384

noncomputable section

namespace Cert.Pre_finite23.Read

open Cert.Pre_finite23 Cert.Pre_finite23.Gen Idealize.ShloMosaic Idealize.ShloMosaic.TcCoe Idealize.SL.Sem

instance : Subsingleton S_.Idx := ⟨fun _ _ => funext fun a => Fin.elim0 a⟩

theorem reals (Q KV : FVec Ideal S2176x2048 .bf16) (KR : FVec Ideal S2176x128 .bf16) (h : fn (F := Ideal) Q KV KR = fun _ => 1#1) :
    (∀ i, ∃ t : ℝ, Q i = t) ∧ (∀ i, ∃ t : ℝ, KV i = t) ∧ (∀ i, ∃ t : ℝ, KR i = t) := by
  have h0 := congrFun h (fun a => Fin.elim0 a)
  obtain ⟨h2, h3⟩ := IntOp.andi_eq_one.1 h0
  obtain ⟨h5, h6⟩ := IntOp.andi_eq_one.1 h2
  exact ⟨fun i => Cert.Pre_finite.Read.real_of_abs (Host.reduce_andi_all _ _ _ _ _ h5 i), fun i => Cert.Pre_finite.Read.real_of_abs (Host.reduce_andi_all _ _ _ _ _ h6 i),
    fun i => Cert.Pre_finite.Read.real_of_abs (Host.reduce_andi_all _ _ _ _ _ h3 i)⟩

end Cert.Pre_finite23.Read

namespace Cert.Kernel23Ideal.Rows

open Cert.Kernel23Ideal Cert.Kernel23Ideal.Gen Idealize.ShloMosaic Idealize.ShloMosaic.TcCoe Idealize.SL.Sem
open Cert.Kernel7Ideal.Heads (Sees lo hi sca colq colo gS sum_real sees rS_if gS_eq gMax row)
open Cert.Reference7Ideal.Terms (rKV rKR rS rP rr cq co la lb rKV_at rKR_at rP_at ofBits_bot)
open Cert.Reference23Ideal.Terms (tQ_at uMask uDot uS uMax uE uL refO refL)

section
variable (Q KV : FVec Ideal S2176x2048 .bf16) (KR : FVec Ideal S2176x128 .bf16) (h : Fin 8) (r : Fin 2176)

theorem row_cases (r : Fin 2176) : r.val < 112 ∨ ∃ q, r = rr q := by
  by_cases h : r.val < 112
  · exact Or.inl h
  · have := r.isLt
    exact Or.inr ⟨⟨r.val - 112, by omega⟩, Fin.ext (by show r.val = 112 + (r.val - 112); omega)⟩

/-! ## The logarithm of the normaliser: every row, whatever the arguments -/

theorem fS_pad (k : Fin 2176) (hk : k.val < 112) : fS Q KV KR h r k = ⊥ := if_neg (fun hs => by have := hs.1; omega)

theorem fE_pad (k : Fin 2176) (hk : k.val < 112) : fE Q KV KR h r k = 0 := by
  unfold fE
  rw [fS_pad Q KV KR h r k hk, EReal.bot_sub, Ideal.exp_bot]

theorem uDot_eq (k : Fin 2064) : uDot Q KV KR (ix3 h r k) = gS Q KV KR h r (rr k) := by
  rw [Cert.Reference23Ideal.Terms.uDot_at]
  unfold gS
  simp only [tQ_at, rKV_at, rKR_at]
  exact congrArg₂ (· + ·) rfl (Finset.sum_congr rfl fun d _ => mul_comm _ _)

theorem uS_eq (k : Fin 2064) : uS Q KV KR (ix3 h r k) = fS Q KV KR h r (rr k) := by
  rw [Cert.Reference23Ideal.Terms.uS_at, Cert.Reference23Ideal.Terms.mask_at, ofBits_bot, uDot_eq]
  unfold fS
  by_cases hs : Sees r.val (rr k).val
  · rw [if_pos (show (112 + k.val) / 64 ≤ r.val / 64 from hs.2), if_pos hs]; rfl
  · rw [if_neg (show ¬ (112 + k.val) / 64 ≤ r.val / 64 from fun h' => hs ⟨Nat.le_add_right _ _, h'⟩), if_neg hs]; rfl

theorem fM_fold : fM Q KV KR h r = Finset.fold max ⊥ (fun k => fS Q KV KR h r (rr k)) Finset.univ := by
  refine (max_ext rr _ _ (fun k => rfl) fun k => ?_).symm
  rcases row_cases k with hk | ⟨q, rfl⟩
  · exact Or.inr (fS_pad Q KV KR h r k hk)
  · exact Or.inl ⟨q, rfl⟩

theorem fD_sum : fD Q KV KR h r = ∑ k, fE Q KV KR h r (rr k) :=
  sum_real _ _ (fun k hk => fE_pad Q KV KR h r k hk) fun k => rfl

theorem uMax_eq : uMax Q KV KR (ix2 h r) = fM Q KV KR h r := by
  rw [Cert.Reference23Ideal.Terms.uMax_at, fM_fold]
  exact congrArg (fun f => Finset.fold max (⊥ : EReal) f Finset.univ) (funext fun k => uS_eq Q KV KR h r k)

theorem uL_eq : uL Q KV KR (ix3 h r (0 : Fin 1)) = fD Q KV KR h r := by
  rw [Cert.Reference23Ideal.Terms.uL_at, fD_sum]
  refine Finset.sum_congr rfl fun k _ => ?_
  rw [Cert.Reference23Ideal.Terms.uE_at, uS_eq, uMax_eq]
  rfl

theorem lse_eq : refL Q KV KR = GLS Q KV KR := by
  funext i
  idx_vars i
  obtain rfl : i2 = 0 := Subsingleton.elim _ _
  refine (Cert.Reference23Ideal.Terms.refL_at Q KV KR i0 i1).trans ?_
  rw [uMax_eq, uL_eq]
  rfl

/-! ## The output, where the arguments are reals -/

theorem fS_eq (q k : Fin 2064) : fS Q KV KR h (rr q) (rr k) = rS Q KV KR (ix3 h q k) := by
  unfold fS
  rw [gS_eq, rS_if]

theorem fM_eq (q : Fin 2064) : fM Q KV KR h (rr q) = gMax (rS Q KV KR) h q := by
  rw [fM_fold]
  unfold gMax
  rw [ofBits_bot]
  exact congrArg (fun f => Finset.fold max (⊥ : EReal) f Finset.univ) (funext fun k => fS_eq Q KV KR h q k)

variable (hQ : ∀ i, ∃ t : ℝ, Q i = t) (hKV : ∀ i, ∃ t : ℝ, KV i = t) (hKR : ∀ i, ∃ t : ℝ, KR i = t)
include hQ hKV hKR

/-- Normalising the sum is summing with the normalised weights. -/
theorem head (q : Fin 2064) (d : Fin 128) : fO Q KV KR h (rr q) d = ∑ k, rKV KV (ix3 k h (lb d)) * rP Q KV KR (ix3 h q k) := by
  obtain ⟨s, μ, hx, hm, hg, hl, hr, hL⟩ := row Q KV KR hQ hKV hKR h q
  have h0 : sees q q := ⟨Nat.le_add_right _ _, le_rfl⟩
  have hn := (Cert.AttnRow.l_pos (sees q) s μ h0).ne'
  choose v hv using fun k : Fin 2064 => hKV (ix2 (rr k) (cq h (lb d)))
  have hE : ∀ k, fE Q KV KR h (rr q) (rr k) = (Cert.AttnRow.e (sees q) s μ k : EReal) := fun k => by
    unfold fE
    rw [fS_eq, fM_eq, hm, hx, Cert.AttnRow.e_eq]
  have hD : fD Q KV KR h (rr q) = (Cert.AttnRow.l (sees q) s μ : EReal) := by
    rw [fD_sum, ← Cert.AttnRow.l_eq]
    exact Finset.sum_congr rfl fun k _ => hE k
  have hN : ∑ k, fE Q KV KR h (rr q) k * KV (ix2 k (colq h (hi d))) = ((∑ k, Cert.AttnRow.e (sees q) s μ k * v k : ℝ) : EReal) := by
    rw [Cert.AttnRow.coe_sum]
    refine sum_real _ _ (fun k hk => by rw [fE_pad Q KV KR h _ k hk, zero_mul]) fun k => ?_
    rw [hE, EReal.coe_mul]
    exact congrArg _ (hv k)
  unfold fO
  rw [if_pos (show 112 ≤ (rr q).val from Nat.le_add_right _ _), hN, hD, Ideal.div_coe hn, ← EReal.coe_mul, Finset.sum_mul, Cert.AttnRow.coe_sum]
  refine Finset.sum_congr rfl fun k _ => ?_
  rw [rKV_at, hv, rP_at, hr, hL, Cert.AttnRow.quot (sees q) s μ h0, ← EReal.coe_mul]
  exact congrArg _ (by ring)

theorem out_eq : refO Q KV KR = GO Q KV KR := by
  funext i
  idx_vars i
  have hj : i1 = colo (ho i1) (lno i1) := Fin.ext (by show i1.val = 128 * (i1.val / 128) + i1.val % 128; omega)
  rcases row_cases i0 with hr | ⟨q, rfl⟩
  · rw [Cert.Reference23Ideal.Terms.refO_head Q KV KR i0 hr i1]
    exact (if_neg (by show ¬ 112 ≤ i0.val; omega)).symm
  · rw [Cert.Reference23Ideal.Terms.refO_at]
    refine (congrArg (fun j => Cert.Reference23Ideal.Terms.tO Q KV KR (ix2 q j)) hj).trans ?_
    refine (Cert.Reference23Ideal.Terms.tO_at Q KV KR (ho i1) q (lno i1)).trans ?_
    exact (head Q KV KR (ho i1) hQ hKV hKR q (lno i1)).symm
end

/-- Every run of the kernel ends with its two arrays at these values, and its arguments as they began. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = GO (aQ m c) (aKV m c) (aKR m c)
      ∧ r.2.mem ((c.tc : Thread nD τ).loc main_v0_1) = GLS (aQ m c) (aKV m c) (aKR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 4).trans (final4 m c), ((h.2 c).1 5).trans (final5 m c), h.1 c⟩)
    (θ_run_and (unchanged m g) (run_main m g))

theorem algebraic : Cert.algebraic_Kernel23Ideal_Reference23Ideal_pre_finite23 := by
  intro m g m' g' hpre hagree
  refine ⟨fun c => GO (aQ m c) (aKV m c) (aKR m c), fun c => GLS (aQ m c) (aKV m c) (aKR m c), run_values m g, ?_⟩
  refine θ_run_mono (Cert.Reference23Ideal.Value.run m' g') fun r h c => ?_
  obtain ⟨e0, e1, e2⟩ := hagree c
  obtain ⟨r0, r1, r2⟩ := Cert.Pre_finite23.Read.reals _ _ _ (hpre c)
  refine ⟨((h c).1.trans (Cert.Reference23Ideal.Terms.out0_eq m' c)).trans ?_, ((h c).2.1.trans (Cert.Reference23Ideal.Terms.out1_eq m' c)).trans ?_, (h c).2.2⟩
  · rw [e0, e1, e2]
    exact out_eq _ _ _ r0 r1 r2
  · rw [e0, e1, e2]
    exact lse_eq _ _ _

theorem preserves : Cert.preserves_Kernel23_Kernel23Ideal := IdealRules.named_const.statement Cert.Kernel23Ideal.κ "mask" .f32 0xFF7F0000#32 ⊥ rfl

theorem frame_reference : Cert.quiescent_Reference23Ideal := fun m g _ => by
  run_from Cert.Reference23Ideal.Value.run m g
  all_goals first | exact sem_eq_zero_of_no_sems (sig := Cert.Reference23Ideal.sig) rfl _ | exact fun _ => ⟨trivial, trivial, trivial⟩
theorem frame_reference_finite : Cert.quiescent_Reference23Ideal_pre_finite23 := fun m g _ => by
  run_from Cert.Reference23Ideal.Value.run m g
  all_goals first | exact sem_eq_zero_of_no_sems (sig := Cert.Reference23Ideal.sig) rfl _ | exact fun _ => ⟨trivial, trivial, trivial⟩

theorem frame_kernel : Cert.quiescent_Kernel23 := fun m g _ => Cert.Kernel23.Gen.frame m g
theorem frame_ideal : Cert.quiescent_Kernel23Ideal := fun m g _ => Cert.Kernel23Ideal.Gen.frame m g
theorem frame_ideal_finite : Cert.quiescent_Kernel23Ideal_pre_finite23 := fun m g _ => Cert.Kernel23Ideal.Gen.frame m g

end Cert.Kernel23Ideal.Rows

end
-- ==== Proof.MixIn.lean ====
/- The product the mixers start from: the array the call leaves is the product of its first two arguments. -/
module

public import proofs.«01_k».proof.Proof.Gen.Kernel8.Frame
public import proofs.«01_k».proof.Proof.Gen.Kernel8Ideal.Value
public import proofs.«01_k».proof.Proof.Gen.Reference8Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel8Ideal.Product

open Cert.Kernel8Ideal Cert.Kernel8Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2048x1920 .bf16) : FVec Ideal S2176x1920 .f32 :=
  fun i => ∑ k : Fin 2048, A (ix2 (i 0) k) * D (ix2 k (i 1))

theorem out_at (x0 : Vec Ideal S2176x2048 .bf16) (x1 : Vec Ideal S2048x640 .bf16) (p : Fin 2176) (q : Fin 640) :
    out0_2 x0 x1 (ix2 p q) = ∑ k : Fin 2048, x0 (ix2 p k) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 640) : Fin 1920 := ⟨t.val * 640 + l.val, by have h : t.val < 3 := lt_of_lt_of_eq t.isLt N_0; have := l.isLt; omega⟩

theorem read0 (c : Dev nD) (t : Fin cfg0.N) (p : Fin 2176) (k : Fin 2048) :
    iblk m c 0 t (ix2 p k) = m ((c : Thread nD τ).loc main_arg0) (ix2 (rowOf t p) k) := by unfold rowOf; blk_ext [iblk, V, idx t]

theorem read1 (c : Dev nD) (t : Fin cfg0.N) (q : Fin 640) (k : Fin 2048) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel8Ideal_Reference8Ideal := by
  pair_intro
  · run_from Cert.Kernel8Ideal.Gen.run_main m g
  · run_from Cert.Reference8Ideal.Value.run m' g'
    rw [final]
    funext i
    idx_vars i
    pointwise [G]

theorem frames : Cert.quiescent_Kernel8 ∧ Cert.quiescent_Kernel8Ideal ∧ Cert.quiescent_Reference8Ideal :=
  ⟨fun m g _ => Cert.Kernel8.Gen.frame m g, fun m g _ => Cert.Kernel8Ideal.Gen.frame m g, fun m g _ => by
    run_from Cert.Reference8Ideal.Value.run m g
    all_goals first | exact sem_eq_zero_of_no_sems (sig := Cert.Reference8Ideal.sig) rfl _ | exact fun _ => ⟨trivial, trivial⟩⟩

end Cert.Kernel8Ideal.Product

end
-- ==== Proof.MixOut.lean ====
/- The mixers' output product and its residual: the array the call leaves is the product of its first two arguments, plus the third. -/
module

public import proofs.«01_k».proof.Proof.Gen.Kernel9.Frame
public import proofs.«01_k».proof.Proof.Gen.Kernel9Ideal.Value
public import proofs.«01_k».proof.Proof.Gen.Reference9Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel9Ideal.Product

open Cert.Kernel9Ideal Cert.Kernel9Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2048x2048 .bf16) (H : FVec Ideal S2176x2048 .f32) : FVec Ideal S2176x2048 .f32 :=
  fun i => (∑ k : Fin 2048, A (ix2 (i 0) k) * D (ix2 k (i 1))) + H i

theorem out_at (x0 : Vec Ideal S2176x2048 .bf16) (x1 : Vec Ideal S2048x512 .bf16) (x2 : Vec Ideal S2176x512 .f32) (p : Fin 2176) (q : Fin 512) :
    out0_3 x0 x1 x2 (ix2 p q) = (∑ k : Fin 2048, x0 (ix2 p k) * x1 (ix2 k q)) + x2 (ix2 p q) := by
  unfold out0_3
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 2048 := ⟨t.val * 512 + l.val, by have h : t.val < 4 := lt_of_lt_of_eq t.isLt N_0; have := l.isLt; omega⟩

theorem read0 (c : Dev nD) (t : Fin cfg0.N) (p : Fin 2176) (k : Fin 2048) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 2048) :
    iblk m c 1 t (ix2 k q) = m ((c : Thread nD τ).loc main_arg1) (ix2 k (colOf t q)) := by unfold colOf; blk_ext [iblk, V, idx t]

theorem read2 (c : Dev nD) (t : Fin cfg0.N) (p : Fin 2176) (q : Fin 512) :
    iblk m c 2 t (ix2 p q) = m ((c : Thread nD τ).loc main_arg2) (ix2 (rowOf t p) (colOf t q)) := by unfold rowOf colOf; blk_ext [iblk, V, idx t]

theorem final (c : Dev nD) : (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0).slice (win0_3.rect t)).emb (ix2 y0 y1)) = ix2 (rowOf t y0) (colOf t y1) := by unfold rowOf colOf; blk_ext [idx t]
  refine (out_at _ _ _ y0 y1).trans ?_
  refine Eq.trans ?_ (congrArg (G (m ((c : Thread nD τ).loc main_arg0)) (m ((c : Thread nD τ).loc main_arg1)) (m ((c : Thread nD τ).loc main_arg2))) he.symm)
  exact congrArg₂ (fun a b : EReal => a + b) (Finset.sum_congr rfl fun k _ => congrArg₂ (fun a b : EReal => a * b) (read0 m c t y0 k) (read1 m c t y1 k)) (read2 m c t y0 y1)

theorem algebraic : Cert.algebraic_Kernel9Ideal_Reference9Ideal := by
  pair_intro
  · run_from Cert.Kernel9Ideal.Gen.run_main m g
  · run_from Cert.Reference9Ideal.Value.run m' g'
    rw [final]
    funext i
    idx_vars i
    pointwise [G]
    exact add_comm _ _

theorem frames : Cert.quiescent_Kernel9 ∧ Cert.quiescent_Kernel9Ideal ∧ Cert.quiescent_Reference9Ideal :=
  ⟨fun m g _ => Cert.Kernel9.Gen.frame m g, fun m g _ => Cert.Kernel9Ideal.Gen.frame m g, fun m g _ => by
    run_from Cert.Reference9Ideal.Value.run m g
    all_goals first | exact sem_eq_zero_of_no_sems (sig := Cert.Reference9Ideal.sig) rfl _ | exact fun _ => ⟨trivial, trivial, trivial⟩⟩

end Cert.Kernel9Ideal.Product

end
-- ==== Proof.MixOutDx.lean ====
/- The gradient of the output product's input: the array the call leaves is the product of its first two arguments. -/
module

public import proofs.«01_k».proof.Proof.Gen.Kernel10.Frame
public import proofs.«01_k».proof.Proof.Gen.Kernel10Ideal.Value
public import proofs.«01_k».proof.Proof.Gen.Reference10Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel10Ideal.Product

open Cert.Kernel10Ideal Cert.Kernel10Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2048x2048 .bf16) : FVec Ideal S2176x2048 .f32 :=
  fun i => ∑ k : Fin 2048, A (ix2 (i 0) k) * D (ix2 (i 1) k)

theorem out_at (x0 : Vec Ideal S2176x2048 .bf16) (x1 : Vec Ideal S512x2048 .bf16) (p : Fin 2176) (q : Fin 512) :
    out0_2 x0 x1 (ix2 p q) = ∑ k : Fin 2048, x0 (ix2 p k) * x1 (ix2 q k) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 2048 := ⟨t.val * 512 + l.val, by have h : t.val < 4 := lt_of_lt_of_eq t.isLt N_0; have := l.isLt; omega⟩

theorem read0 (c : Dev nD) (t : Fin cfg0.N) (p : Fin 2176) (k : Fin 2048) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 2048) :
    iblk m c 1 t (ix2 q k) = m ((c : Thread nD τ).loc main_arg1) (ix2 (colOf t q) k) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel10Ideal_Reference10Ideal := by
  pair_intro
  · run_from Cert.Kernel10Ideal.Gen.run_main m g
  · run_from Cert.Reference10Ideal.Value.run m' g'
    rw [final]
    funext i
    idx_vars i
    pointwise [G]

theorem frames : Cert.quiescent_Kernel10 ∧ Cert.quiescent_Kernel10Ideal ∧ Cert.quiescent_Reference10Ideal :=
  ⟨fun m g _ => Cert.Kernel10.Gen.frame m g, fun m g _ => Cert.Kernel10Ideal.Gen.frame m g, fun m g _ => by
    run_from Cert.Reference10Ideal.Value.run m g
    all_goals first | exact sem_eq_zero_of_no_sems (sig := Cert.Reference10Ideal.sig) rfl _ | exact fun _ => ⟨trivial, trivial⟩⟩

end Cert.Kernel10Ideal.Product

end
-- ==== Proof.MixOutDw.lean ====
/- The gradient of the output weight: the array the call leaves is the product of its first two arguments. -/
module

public import proofs.«01_k».proof.Proof.Gen.Kernel11.Frame
public import proofs.«01_k».proof.Proof.Gen.Kernel11Ideal.Value
public import proofs.«01_k».proof.Proof.Gen.Reference11Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel11Ideal.Product

open Cert.Kernel11Ideal Cert.Kernel11Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2176x2048 .bf16) : FVec Ideal S2048x2048 .f32 :=
  fun i => ∑ k : Fin 2176, A (ix2 k (i 0)) * D (ix2 k (i 1))

theorem out_at (x0 : Vec Ideal S2176x512 .bf16) (x1 : Vec Ideal S2176x2048 .bf16) (p : Fin 512) (q : Fin 2048) :
    out0_2 x0 x1 (ix2 p q) = ∑ k : Fin 2176, x0 (ix2 k p) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row and the column of the array under a row and a column of the point's block. -/
def rowOf (t : Fin cfg0.N) (l : Fin 512) : Fin 2048 := ⟨t.val * 512 + l.val, by have h : t.val < 4 := lt_of_lt_of_eq t.isLt N_0; have := l.isLt; omega⟩
def colOf (t : Fin cfg0.N) (l : Fin 2048) : Fin 2048 := l

theorem read0 (c : Dev nD) (t : Fin cfg0.N) (p : Fin 512) (k : Fin 2176) :
    iblk m c 0 t (ix2 k p) = m ((c : Thread nD τ).loc main_arg0) (ix2 k (rowOf t p)) := by unfold rowOf; blk_ext [iblk, V, idx t]

theorem read1 (c : Dev nD) (t : Fin cfg0.N) (q : Fin 2048) (k : Fin 2176) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel11Ideal_Reference11Ideal := by
  pair_intro
  · run_from Cert.Kernel11Ideal.Gen.run_main m g
  · run_from Cert.Reference11Ideal.Value.run m' g'
    rw [final]
    funext i
    idx_vars i
    pointwise [G]
    exact Finset.sum_congr rfl fun k _ => mul_comm _ _

theorem frames : Cert.quiescent_Kernel11 ∧ Cert.quiescent_Kernel11Ideal ∧ Cert.quiescent_Reference11Ideal :=
  ⟨fun m g _ => Cert.Kernel11.Gen.frame m g, fun m g _ => Cert.Kernel11Ideal.Gen.frame m g, fun m g _ => by
    run_from Cert.Reference11Ideal.Value.run m g
    all_goals first | exact sem_eq_zero_of_no_sems (sig := Cert.Reference11Ideal.sig) rfl _ | exact fun _ => ⟨trivial, trivial⟩⟩

end Cert.Kernel11Ideal.Product

end
-- ==== Proof.MixInDx.lean ====
/- The gradient of the first product's input: the array the call leaves is the product of its first two arguments. -/
module

public import proofs.«01_k».proof.Proof.Gen.Kernel12.Frame
public import proofs.«01_k».proof.Proof.Gen.Kernel12Ideal.Value
public import proofs.«01_k».proof.Proof.Gen.Reference12Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel12Ideal.Product

open Cert.Kernel12Ideal Cert.Kernel12Ideal.Gen Idealize.ShloMosaic Idealize.ShloMosaic.TcCoe Idealize.SL.Sem
open Idealize.ShloMosaic.Pipeline (Dat)

/-- The array, entry by entry. -/
def G (A : FVec Ideal S2176x1920 .bf16) (D : FVec Ideal S2048x1920 .bf16) : FVec Ideal S2176x2048 .f32 :=
  fun i => ∑ k : Fin 1920, A (ix2 (i 0) k) * D (ix2 (i 1) k)

theorem out_at (x0 : Vec Ideal S2176x1920 .bf16) (x1 : Vec Ideal S512x1920 .bf16) (p : Fin 2176) (q : Fin 512) :
    out0_2 x0 x1 (ix2 p q) = ∑ k : Fin 1920, x0 (ix2 p k) * x1 (ix2 q k) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 2048 := ⟨t.val * 512 + l.val, by have h : t.val < 4 := lt_of_lt_of_eq t.isLt N_0; have := l.isLt; omega⟩

theorem read0 (c : Dev nD) (t : Fin cfg0.N) (p : Fin 2176) (k : Fin 1920) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 1920) :
    iblk m c 1 t (ix2 q k) = m ((c : Thread nD τ).loc main_arg1) (ix2 (colOf t q) k) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel12Ideal_Reference12Ideal := by
  pair_intro
  · run_from Cert.Kernel12Ideal.Gen.run_main m g
  · run_from Cert.Reference12Ideal.Value.run m' g'
    rw [final]
    funext i
    idx_vars i
    pointwise [G]

theorem frames : Cert.quiescent_Kernel12 ∧ Cert.quiescent_Kernel12Ideal ∧ Cert.quiescent_Reference12Ideal :=
  ⟨fun m g _ => Cert.Kernel12.Gen.frame m g, fun m g _ => Cert.Kernel12Ideal.Gen.frame m g, fun m g _ => by
    run_from Cert.Reference12Ideal.Value.run m g
    all_goals first | exact sem_eq_zero_of_no_sems (sig := Cert.Reference12Ideal.sig) rfl _ | exact fun _ => ⟨trivial, trivial⟩⟩

end Cert.Kernel12Ideal.Product

end
-- ==== Proof.MixInDw.lean ====
/- The gradient of the first product's weight: the array the call leaves is the product of its first two arguments. -/
module

public import proofs.«01_k».proof.Proof.Gen.Kernel13.Frame
public import proofs.«01_k».proof.Proof.Gen.Kernel13Ideal.Value
public import proofs.«01_k».proof.Proof.Gen.Reference13Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel13Ideal.Product

open Cert.Kernel13Ideal Cert.Kernel13Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2176x1920 .bf16) : FVec Ideal S2048x1920 .f32 :=
  fun i => ∑ k : Fin 2176, A (ix2 k (i 0)) * D (ix2 k (i 1))

theorem out_at (x0 : Vec Ideal S2176x512 .bf16) (x1 : Vec Ideal S2176x640 .bf16) (p : Fin 512) (q : Fin 640) :
    out0_2 x0 x1 (ix2 p q) = ∑ k : Fin 2176, x0 (ix2 k p) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val / 3] ∧ win0_1.index t = ![0, t.val % 3] ∧ win0_2.index t = ![t.val / 3, t.val % 3] :=
  (by decide +kernel : ∀ t : Fin grid0.N, _)

/-- The row and the column of the array under a row and a column of the point's block. -/
def rowOf (t : Fin cfg0.N) (l : Fin 512) : Fin 2048 := ⟨t.val / 3 * 512 + l.val, by have h : t.val < 12 := lt_of_lt_of_eq t.isLt N_0; have := l.isLt; omega⟩
def colOf (t : Fin cfg0.N) (l : Fin 640) : Fin 1920 := ⟨t.val % 3 * 640 + l.val, by have h : t.val < 12 := lt_of_lt_of_eq t.isLt N_0; have := l.isLt; omega⟩

theorem read0 (c : Dev nD) (t : Fin cfg0.N) (p : Fin 512) (k : Fin 2176) :
    iblk m c 0 t (ix2 k p) = m ((c : Thread nD τ).loc main_arg0) (ix2 k (rowOf t p)) := by unfold rowOf; blk_ext [iblk, V, idx t]

theorem read1 (c : Dev nD) (t : Fin cfg0.N) (q : Fin 640) (k : Fin 2176) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel13Ideal_Reference13Ideal := by
  pair_intro
  · run_from Cert.Kernel13Ideal.Gen.run_main m g
  · run_from Cert.Reference13Ideal.Value.run m' g'
    rw [final]
    funext i
    idx_vars i
    pointwise [G]
    exact Finset.sum_congr rfl fun k _ => mul_comm _ _

theorem frames : Cert.quiescent_Kernel13 ∧ Cert.quiescent_Kernel13Ideal ∧ Cert.quiescent_Reference13Ideal :=
  ⟨fun m g _ => Cert.Kernel13.Gen.frame m g, fun m g _ => Cert.Kernel13Ideal.Gen.frame m g, fun m g _ => by
    run_from Cert.Reference13Ideal.Value.run m g
    all_goals first | exact sem_eq_zero_of_no_sems (sig := Cert.Reference13Ideal.sig) rfl _ | exact fun _ => ⟨trivial, trivial⟩⟩

end Cert.Kernel13Ideal.Product

end
-- ==== Proof.Glu.lean ====
/- The product inside the gate of the state space mixer: the array the call leaves is the product of its first two arguments. -/
module

public import proofs.«01_k».proof.Proof.Gen.Kernel14.Frame
public import proofs.«01_k».proof.Proof.Gen.Kernel14Ideal.Value
public import proofs.«01_k».proof.Proof.Gen.Reference14Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel14Ideal.Product

open Cert.Kernel14Ideal Cert.Kernel14Ideal.Gen Idealize.ShloMosaic Idealize.ShloMosaic.TcCoe Idealize.SL.Sem
open Idealize.ShloMosaic.Pipeline (Dat)

/-- The array, entry by entry. -/
def G (A : FVec Ideal S2176x1024 .bf16) (D : FVec Ideal S1024x1024 .bf16) : FVec Ideal S2176x1024 .f32 :=
  fun i => ∑ k : Fin 1024, A (ix2 (i 0) k) * D (ix2 k (i 1))

theorem out_at (x0 : Vec Ideal S2176x1024 .bf16) (x1 : Vec Ideal S1024x512 .bf16) (p : Fin 2176) (q : Fin 512) :
    out0_2 x0 x1 (ix2 p q) = ∑ k : Fin 1024, x0 (ix2 p k) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 1024 := ⟨t.val * 512 + l.val, by have h : t.val < 2 := lt_of_lt_of_eq t.isLt N_0; have := l.isLt; omega⟩

theorem read0 (c : Dev nD) (t : Fin cfg0.N) (p : Fin 2176) (k : Fin 1024) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 1024) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel14Ideal_Reference14Ideal := by
  pair_intro
  · run_from Cert.Kernel14Ideal.Gen.run_main m g
  · run_from Cert.Reference14Ideal.Value.run m' g'
    rw [final]
    funext i
    idx_vars i
    pointwise [G]

theorem frames : Cert.quiescent_Kernel14 ∧ Cert.quiescent_Kernel14Ideal ∧ Cert.quiescent_Reference14Ideal :=
  ⟨fun m g _ => Cert.Kernel14.Gen.frame m g, fun m g _ => Cert.Kernel14Ideal.Gen.frame m g, fun m g _ => by
    run_from Cert.Reference14Ideal.Value.run m g
    all_goals first | exact sem_eq_zero_of_no_sems (sig := Cert.Reference14Ideal.sig) rfl _ | exact fun _ => ⟨trivial, trivial⟩⟩

end Cert.Kernel14Ideal.Product

end
-- ==== Proof.GluDx.lean ====
/- The gradient of that product's input, added to the other path's: the array the call leaves is the product of its first two arguments, plus the third. -/
module

public import proofs.«01_k».proof.Proof.Gen.Kernel15.Frame
public import proofs.«01_k».proof.Proof.Gen.Kernel15Ideal.Value
public import proofs.«01_k».proof.Proof.Gen.Reference15Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel15Ideal.Product

open Cert.Kernel15Ideal Cert.Kernel15Ideal.Gen Idealize.ShloMosaic Idealize.ShloMosaic.TcCoe Idealize.SL.Sem
open Idealize.ShloMosaic.Pipeline (Dat)

/-- The array, entry by entry. -/
def G (A : FVec Ideal S2176x1024 .bf16) (D : FVec Ideal S1024x1024 .bf16) (H : FVec Ideal S2176x1024 .f32) : FVec Ideal S2176x1024 .f32 :=
  fun i => (∑ k : Fin 1024, A (ix2 (i 0) k) * D (ix2 (i 1) k)) + H i

theorem out_at (x0 : Vec Ideal S2176x1024 .bf16) (x1 : Vec Ideal S512x1024 .bf16) (x2 : Vec Ideal S2176x512 .f32) (p : Fin 2176) (q : Fin 512) :
    out0_3 x0 x1 x2 (ix2 p q) = (∑ k : Fin 1024, x0 (ix2 p k) * x1 (ix2 q k)) + x2 (ix2 p q) := by
  unfold out0_3
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![t.val, 0] ∧ win0_2.index t = ![0, t.val] ∧ win0_3.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 1024 := ⟨t.val * 512 + l.val, by have h : t.val < 2 := lt_of_lt_of_eq t.isLt N_0; have := l.isLt; omega⟩

theorem read0 (c : Dev nD) (t : Fin cfg0.N) (p : Fin 2176) (k : Fin 1024) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 1024) :
    iblk m c 1 t (ix2 q k) = m ((c : Thread nD τ).loc main_arg1) (ix2 (colOf t q) k) := by unfold colOf; blk_ext [iblk, V, idx t]

theorem read2 (c : Dev nD) (t : Fin cfg0.N) (p : Fin 2176) (q : Fin 512) :
    iblk m c 2 t (ix2 p q) = m ((c : Thread nD τ).loc main_arg2) (ix2 (rowOf t p) (colOf t q)) := by unfold rowOf colOf; blk_ext [iblk, V, idx t]

theorem final (c : Dev nD) : (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0).slice (win0_3.rect t)).emb (ix2 y0 y1)) = ix2 (rowOf t y0) (colOf t y1) := by unfold rowOf colOf; blk_ext [idx t]
  refine (out_at _ _ _ y0 y1).trans ?_
  refine Eq.trans ?_ (congrArg (G (m ((c : Thread nD τ).loc main_arg0)) (m ((c : Thread nD τ).loc main_arg1)) (m ((c : Thread nD τ).loc main_arg2))) he.symm)
  exact congrArg₂ (fun a b : EReal => a + b) (Finset.sum_congr rfl fun k _ => congrArg₂ (fun a b : EReal => a * b) (read0 m c t y0 k) (read1 m c t y1 k)) (read2 m c t y0 y1)

theorem algebraic : Cert.algebraic_Kernel15Ideal_Reference15Ideal := by
  pair_intro
  · run_from Cert.Kernel15Ideal.Gen.run_main m g
  · run_from Cert.Reference15Ideal.Value.run m' g'
    rw [final]
    funext i
    idx_vars i
    pointwise [G]
    exact add_comm _ _

theorem frames : Cert.quiescent_Kernel15 ∧ Cert.quiescent_Kernel15Ideal ∧ Cert.quiescent_Reference15Ideal :=
  ⟨fun m g _ => Cert.Kernel15.Gen.frame m g, fun m g _ => Cert.Kernel15Ideal.Gen.frame m g, fun m g _ => by
    run_from Cert.Reference15Ideal.Value.run m g
    all_goals first | exact sem_eq_zero_of_no_sems (sig := Cert.Reference15Ideal.sig) rfl _ | exact fun _ => ⟨trivial, trivial, trivial⟩⟩

end Cert.Kernel15Ideal.Product

end
-- ==== Proof.GluDw.lean ====
/- The gradient of that product's weight: the array the call leaves is the product of its first two arguments. -/
module

public import proofs.«01_k».proof.Proof.Gen.Kernel16.Frame
public import proofs.«01_k».proof.Proof.Gen.Kernel16Ideal.Value
public import proofs.«01_k».proof.Proof.Gen.Reference16Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel16Ideal.Product

open Cert.Kernel16Ideal Cert.Kernel16Ideal.Gen Idealize.ShloMosaic Idealize.ShloMosaic.TcCoe Idealize.SL.Sem
open Idealize.ShloMosaic.Pipeline (Dat)

/-- The array, entry by entry. -/
def G (A : FVec Ideal S2176x1024 .bf16) (D : FVec Ideal S2176x1024 .bf16) : FVec Ideal S1024x1024 .f32 :=
  fun i => ∑ k : Fin 2176, A (ix2 k (i 0)) * D (ix2 k (i 1))

theorem out_at (x0 : Vec Ideal S2176x512 .bf16) (x1 : Vec Ideal S2176x512 .bf16) (p : Fin 512) (q : Fin 512) :
    out0_2 x0 x1 (ix2 p q) = ∑ k : Fin 2176, x0 (ix2 k p) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The row and the column of the array under a row and a column of the point's block. -/
def rowOf (t : Fin cfg0.N) (l : Fin 512) : Fin 1024 := ⟨t.val / 2 * 512 + l.val, by have h : t.val < 4 := lt_of_lt_of_eq t.isLt N_0; have := l.isLt; omega⟩
def colOf (t : Fin cfg0.N) (l : Fin 512) : Fin 1024 := ⟨t.val % 2 * 512 + l.val, by have h : t.val < 4 := lt_of_lt_of_eq t.isLt N_0; have := l.isLt; omega⟩

theorem read0 (c : Dev nD) (t : Fin cfg0.N) (p : Fin 512) (k : Fin 2176) :
    iblk m c 0 t (ix2 k p) = m ((c : Thread nD τ).loc main_arg0) (ix2 k (rowOf t p)) := by unfold rowOf; blk_ext [iblk, V, idx t]

theorem read1 (c : Dev nD) (t : Fin cfg0.N) (q : Fin 512) (k : Fin 2176) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel16Ideal_Reference16Ideal := by
  pair_intro
  · run_from Cert.Kernel16Ideal.Gen.run_main m g
  · run_from Cert.Reference16Ideal.Value.run m' g'
    rw [final]
    funext i
    idx_vars i
    pointwise [G]
    exact Finset.sum_congr rfl fun k _ => mul_comm _ _

theorem frames : Cert.quiescent_Kernel16 ∧ Cert.quiescent_Kernel16Ideal ∧ Cert.quiescent_Reference16Ideal :=
  ⟨fun m g _ => Cert.Kernel16.Gen.frame m g, fun m g _ => Cert.Kernel16Ideal.Gen.frame m g, fun m g _ => by
    run_from Cert.Reference16Ideal.Value.run m g
    all_goals first | exact sem_eq_zero_of_no_sems (sig := Cert.Reference16Ideal.sig) rfl _ | exact fun _ => ⟨trivial, trivial⟩⟩

end Cert.Kernel16Ideal.Product

end
-- ==== Proof.Query.lean ====
/- The queries' product: the array the call leaves is the product of its first two arguments. -/
module

public import proofs.«01_k».proof.Proof.Gen.Kernel17.Frame
public import proofs.«01_k».proof.Proof.Gen.Kernel17Ideal.Value
public import proofs.«01_k».proof.Proof.Gen.Reference17Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel17Ideal.Product

open Cert.Kernel17Ideal Cert.Kernel17Ideal.Gen Idealize.ShloMosaic Idealize.ShloMosaic.TcCoe Idealize.SL.Sem
open Idealize.ShloMosaic.Pipeline (Dat)

/-- The array, entry by entry. -/
def G (A : FVec Ideal S2176x512 .bf16) (D : FVec Ideal S2048x512 .bf16) : FVec Ideal S2176x2048 .f32 :=
  fun i => ∑ k : Fin 512, A (ix2 (i 0) k) * D (ix2 (i 1) k)

theorem out_at (x0 : Vec Ideal S2176x512 .bf16) (x1 : Vec Ideal S512x512 .bf16) (p : Fin 2176) (q : Fin 512) :
    out0_2 x0 x1 (ix2 p q) = ∑ k : Fin 512, x0 (ix2 p k) * x1 (ix2 q k) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 2048 := ⟨t.val * 512 + l.val, by have h : t.val < 4 := lt_of_lt_of_eq t.isLt N_0; have := l.isLt; omega⟩

theorem read0 (c : Dev nD) (t : Fin cfg0.N) (p : Fin 2176) (k : Fin 512) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 512) :
    iblk m c 1 t (ix2 q k) = m ((c : Thread nD τ).loc main_arg1) (ix2 (colOf t q) k) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel17Ideal_Reference17Ideal := by
  pair_intro
  · run_from Cert.Kernel17Ideal.Gen.run_main m g
  · run_from Cert.Reference17Ideal.Value.run m' g'
    rw [final]
    funext i
    idx_vars i
    pointwise [G]

theorem frames : Cert.quiescent_Kernel17 ∧ Cert.quiescent_Kernel17Ideal ∧ Cert.quiescent_Reference17Ideal :=
  ⟨fun m g _ => Cert.Kernel17.Gen.frame m g, fun m g _ => Cert.Kernel17Ideal.Gen.frame m g, fun m g _ => by
    run_from Cert.Reference17Ideal.Value.run m g
    all_goals first | exact sem_eq_zero_of_no_sems (sig := Cert.Reference17Ideal.sig) rfl _ | exact fun _ => ⟨trivial, trivial⟩⟩

end Cert.Kernel17Ideal.Product

end
-- ==== Proof.QueryDx.lean ====
/- The gradient of the queries' input: the array the call leaves is the product of its first two arguments. -/
module

public import proofs.«01_k».proof.Proof.Gen.Kernel18.Frame
public import proofs.«01_k».proof.Proof.Gen.Kernel18Ideal.Value
public import proofs.«01_k».proof.Proof.Gen.Reference18Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel18Ideal.Product

open Cert.Kernel18Ideal Cert.Kernel18Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2048x512 .bf16) : FVec Ideal S2176x512 .f32 :=
  fun i => ∑ k : Fin 2048, A (ix2 (i 0) k) * D (ix2 k (i 1))

theorem out_at (x0 : Vec Ideal S2176x2048 .bf16) (x1 : Vec Ideal S2048x512 .bf16) (p : Fin 2176) (q : Fin 512) :
    out0_2 x0 x1 (ix2 p q) = ∑ k : Fin 2048, x0 (ix2 p k) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 512 := l

theorem read0 (c : Dev nD) (t : Fin cfg0.N) (p : Fin 2176) (k : Fin 2048) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 2048) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel18Ideal_Reference18Ideal := by
  pair_intro
  · run_from Cert.Kernel18Ideal.Gen.run_main m g
  · run_from Cert.Reference18Ideal.Value.run m' g'
    rw [final]
    funext i
    idx_vars i
    pointwise [G]

theorem frames : Cert.quiescent_Kernel18 ∧ Cert.quiescent_Kernel18Ideal ∧ Cert.quiescent_Reference18Ideal :=
  ⟨fun m g _ => Cert.Kernel18.Gen.frame m g, fun m g _ => Cert.Kernel18Ideal.Gen.frame m g, fun m g _ => by
    run_from Cert.Reference18Ideal.Value.run m g
    all_goals first | exact sem_eq_zero_of_no_sems (sig := Cert.Reference18Ideal.sig) rfl _ | exact fun _ => ⟨trivial, trivial⟩⟩

end Cert.Kernel18Ideal.Product

end
-- ==== Proof.QueryDw.lean ====
/- The gradient of the queries' weight: the array the call leaves is the product of its first two arguments. -/
module

public import proofs.«01_k».proof.Proof.Gen.Kernel19.Frame
public import proofs.«01_k».proof.Proof.Gen.Kernel19Ideal.Value
public import proofs.«01_k».proof.Proof.Gen.Reference19Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel19Ideal.Product

open Cert.Kernel19Ideal Cert.Kernel19Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2176x512 .bf16) : FVec Ideal S2048x512 .f32 :=
  fun i => ∑ k : Fin 2176, A (ix2 k (i 0)) * D (ix2 k (i 1))

theorem out_at (x0 : Vec Ideal S2176x512 .bf16) (x1 : Vec Ideal S2176x512 .bf16) (p : Fin 512) (q : Fin 512) :
    out0_2 x0 x1 (ix2 p q) = ∑ k : Fin 2176, x0 (ix2 k p) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row and the column of the array under a row and a column of the point's block. -/
def rowOf (t : Fin cfg0.N) (l : Fin 512) : Fin 2048 := ⟨t.val * 512 + l.val, by have h : t.val < 4 := lt_of_lt_of_eq t.isLt N_0; have := l.isLt; omega⟩
def colOf (t : Fin cfg0.N) (l : Fin 512) : Fin 512 := l

theorem read0 (c : Dev nD) (t : Fin cfg0.N) (p : Fin 512) (k : Fin 2176) :
    iblk m c 0 t (ix2 k p) = m ((c : Thread nD τ).loc main_arg0) (ix2 k (rowOf t p)) := by unfold rowOf; blk_ext [iblk, V, idx t]

theorem read1 (c : Dev nD) (t : Fin cfg0.N) (q : Fin 512) (k : Fin 2176) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel19Ideal_Reference19Ideal := by
  pair_intro
  · run_from Cert.Kernel19Ideal.Gen.run_main m g
  · run_from Cert.Reference19Ideal.Value.run m' g'
    rw [final]
    funext i
    idx_vars i
    pointwise [G]

theorem frames : Cert.quiescent_Kernel19 ∧ Cert.quiescent_Kernel19Ideal ∧ Cert.quiescent_Reference19Ideal :=
  ⟨fun m g _ => Cert.Kernel19.Gen.frame m g, fun m g _ => Cert.Kernel19Ideal.Gen.frame m g, fun m g _ => by
    run_from Cert.Reference19Ideal.Value.run m g
    all_goals first | exact sem_eq_zero_of_no_sems (sig := Cert.Reference19Ideal.sig) rfl _ | exact fun _ => ⟨trivial, trivial⟩⟩

end Cert.Kernel19Ideal.Product

end
-- ==== Proof.Keys.lean ====
/- The keys' and values' product: the array the call leaves is the product of its first two arguments. -/
module

public import proofs.«01_k».proof.Proof.Gen.Kernel20.Frame
public import proofs.«01_k».proof.Proof.Gen.Kernel20Ideal.Value
public import proofs.«01_k».proof.Proof.Gen.Reference20Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel20Ideal.Product

open Cert.Kernel20Ideal Cert.Kernel20Ideal.Gen Idealize.ShloMosaic Idealize.ShloMosaic.TcCoe Idealize.SL.Sem
open Idealize.ShloMosaic.Pipeline (Dat)

/-- The array, entry by entry. -/
def G (A : FVec Ideal S2176x256 .bf16) (D : FVec Ideal S2048x256 .bf16) : FVec Ideal S2176x2048 .bf16 :=
  fun i => ∑ k : Fin 256, A (ix2 (i 0) k) * D (ix2 (i 1) k)

theorem out_at (x0 : Vec Ideal S2176x256 .bf16) (x1 : Vec Ideal S512x256 .bf16) (p : Fin 2176) (q : Fin 512) :
    out0_2 x0 x1 (ix2 p q) = ∑ k : Fin 256, x0 (ix2 p k) * x1 (ix2 q k) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- The row and the column of the array under a row and a column of the point's block. -/
def rowOf (t : Fin cfg0.N) (l : Fin 2176) : Fin 2176 := l
def colOf (t : Fin cfg0.N) (l : Fin 512) : Fin 2048 := ⟨t.val * 512 + l.val, by have h : t.val < 4 := lt_of_lt_of_eq t.isLt N_0; have := l.isLt; omega⟩

theorem read0 (c : Dev nD) (t : Fin cfg0.N) (p : Fin 2176) (k : Fin 256) :
    iblk m c 0 t (ix2 p k) = m ((c : Thread nD τ).loc main_arg0) (ix2 (rowOf t p) k) := by unfold rowOf; blk_ext [iblk, V, idx t]

theorem read1 (c : Dev nD) (t : Fin cfg0.N) (q : Fin 512) (k : Fin 256) :
    iblk m c 1 t (ix2 q k) = m ((c : Thread nD τ).loc main_arg1) (ix2 (colOf t q) k) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel20Ideal_Reference20Ideal := by
  pair_intro
  · run_from Cert.Kernel20Ideal.Gen.run_main m g
  · run_from Cert.Reference20Ideal.Value.run m' g'
    rw [final]
    funext i
    idx_vars i
    pointwise [G]

theorem frames : Cert.quiescent_Kernel20 ∧ Cert.quiescent_Kernel20Ideal ∧ Cert.quiescent_Reference20Ideal :=
  ⟨fun m g _ => Cert.Kernel20.Gen.frame m g, fun m g _ => Cert.Kernel20Ideal.Gen.frame m g, fun m g _ => by
    run_from Cert.Reference20Ideal.Value.run m g
    all_goals first | exact sem_eq_zero_of_no_sems (sig := Cert.Reference20Ideal.sig) rfl _ | exact fun _ => ⟨trivial, trivial⟩⟩

end Cert.Kernel20Ideal.Product

end
-- ==== Proof.KeysDx.lean ====
/- The gradient of the keys' and values' input: the array the call leaves is the product of its first two arguments. -/
module

public import proofs.«01_k».proof.Proof.Gen.Kernel21.Frame
public import proofs.«01_k».proof.Proof.Gen.Kernel21Ideal.Value
public import proofs.«01_k».proof.Proof.Gen.Reference21Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel21Ideal.Product

open Cert.Kernel21Ideal Cert.Kernel21Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2048x256 .bf16) : FVec Ideal S2176x256 .f32 :=
  fun i => ∑ k : Fin 2048, A (ix2 (i 0) k) * D (ix2 k (i 1))

theorem out_at (x0 : Vec Ideal S2176x2048 .bf16) (x1 : Vec Ideal S2048x256 .bf16) (p : Fin 2176) (q : Fin 256) :
    out0_2 x0 x1 (ix2 p q) = ∑ k : Fin 2048, x0 (ix2 p k) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The row and the column of the array under a row and a column of the point's block. -/
def rowOf (t : Fin cfg0.N) (l : Fin 2176) : Fin 2176 := l
def colOf (t : Fin cfg0.N) (l : Fin 256) : Fin 256 := l

theorem read0 (c : Dev nD) (t : Fin cfg0.N) (p : Fin 2176) (k : Fin 2048) :
    iblk m c 0 t (ix2 p k) = m ((c : Thread nD τ).loc main_arg0) (ix2 (rowOf t p) k) := by unfold rowOf; blk_ext [iblk, V, idx t]

theorem read1 (c : Dev nD) (t : Fin cfg0.N) (q : Fin 256) (k : Fin 2048) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel21Ideal_Reference21Ideal := by
  pair_intro
  · run_from Cert.Kernel21Ideal.Gen.run_main m g
  · run_from Cert.Reference21Ideal.Value.run m' g'
    rw [final]
    funext i
    idx_vars i
    pointwise [G]

theorem frames : Cert.quiescent_Kernel21 ∧ Cert.quiescent_Kernel21Ideal ∧ Cert.quiescent_Reference21Ideal :=
  ⟨fun m g _ => Cert.Kernel21.Gen.frame m g, fun m g _ => Cert.Kernel21Ideal.Gen.frame m g, fun m g _ => by
    run_from Cert.Reference21Ideal.Value.run m g
    all_goals first | exact sem_eq_zero_of_no_sems (sig := Cert.Reference21Ideal.sig) rfl _ | exact fun _ => ⟨trivial, trivial⟩⟩

end Cert.Kernel21Ideal.Product

end
-- ==== Proof.KeysDw.lean ====
/- The gradient of the keys' and values' weight: the array the call leaves is the product of its first two arguments. -/
module

public import proofs.«01_k».proof.Proof.Gen.Kernel22.Frame
public import proofs.«01_k».proof.Proof.Gen.Kernel22Ideal.Value
public import proofs.«01_k».proof.Proof.Gen.Reference22Ideal.Run
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

namespace Cert.Kernel22Ideal.Product

open Cert.Kernel22Ideal Cert.Kernel22Ideal.Gen Idealize.ShloMosaic Idealize.ShloMosaic.TcCoe Idealize.SL.Sem
open Idealize.ShloMosaic.Pipeline (Dat)

/-- The array, entry by entry. -/
def G (A : FVec Ideal S2176x2048 .bf16) (D : FVec Ideal S2176x256 .bf16) : FVec Ideal S2048x256 .f32 :=
  fun i => ∑ k : Fin 2176, A (ix2 k (i 0)) * D (ix2 k (i 1))

theorem out_at (x0 : Vec Ideal S2176x512 .bf16) (x1 : Vec Ideal S2176x256 .bf16) (p : Fin 512) (q : Fin 256) :
    out0_2 x0 x1 (ix2 p q) = ∑ k : Fin 2176, x0 (ix2 k p) * x1 (ix2 k q) := by
  unfold out0_2
  canon_tiles x h
  all_goals
    obtain rfl : x = ix2 p q := by funext a; apply Fin.ext; match a with | ⟨0, _⟩ => exact h0.symm | ⟨1, _⟩ => exact h1.symm
    pointwise [k0_pay1]

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row and the column of the array under a row and a column of the point's block. -/
def rowOf (t : Fin cfg0.N) (l : Fin 512) : Fin 2048 := ⟨t.val * 512 + l.val, by have h : t.val < 4 := lt_of_lt_of_eq t.isLt N_0; have := l.isLt; omega⟩
def colOf (t : Fin cfg0.N) (l : Fin 256) : Fin 256 := l

theorem read0 (c : Dev nD) (t : Fin cfg0.N) (p : Fin 512) (k : Fin 2176) :
    iblk m c 0 t (ix2 k p) = m ((c : Thread nD τ).loc main_arg0) (ix2 k (rowOf t p)) := by unfold rowOf; blk_ext [iblk, V, idx t]

theorem read1 (c : Dev nD) (t : Fin cfg0.N) (q : Fin 256) (k : Fin 2176) :
    iblk m c 1 t (ix2 k q) = m ((c : Thread nD τ).loc main_arg1) (ix2 k (colOf t q)) := by unfold colOf; blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  idx_vars y
  have he : (((View.whole main_v0).slice (win0_2.rect t)).emb (ix2 y0 y1)) = ix2 (rowOf t y0) (colOf t y1) := by unfold rowOf colOf; blk_ext [idx t]
  refine (out_at _ _ y0 y1).trans ?_
  refine Eq.trans ?_ (congrArg (G (m ((c : Thread nD τ).loc main_arg0)) (m ((c : Thread nD τ).loc main_arg1))) he.symm)
  exact Finset.sum_congr rfl fun k _ => congrArg₂ (fun a b : EReal => a * b) (read0 m c t y0 k) (read1 m c t y1 k)

theorem algebraic : Cert.algebraic_Kernel22Ideal_Reference22Ideal := by
  pair_intro
  · run_from Cert.Kernel22Ideal.Gen.run_main m g
  · run_from Cert.Reference22Ideal.Value.run m' g'
    rw [final]
    funext i
    idx_vars i
    pointwise [G]

theorem frames : Cert.quiescent_Kernel22 ∧ Cert.quiescent_Kernel22Ideal ∧ Cert.quiescent_Reference22Ideal :=
  ⟨fun m g _ => Cert.Kernel22.Gen.frame m g, fun m g _ => Cert.Kernel22Ideal.Gen.frame m g, fun m g _ => by
    run_from Cert.Reference22Ideal.Value.run m g
    all_goals first | exact sem_eq_zero_of_no_sems (sig := Cert.Reference22Ideal.sig) rfl _ | exact fun _ => ⟨trivial, trivial⟩⟩

end Cert.Kernel22Ideal.Product

end
-- ==== Proof.NormTerms.lean ====
/- The gradient of a norm, row by row, over the extended reals: the kernel's order of the operations gives the reference's sum of three terms. -/
module

public import Idealize.ShloMosaic.Lib.Pointwise

@[expose] public section

noncomputable section

namespace Cert.NormTerms

open Idealize.ShloMosaic

/-- The mean of the squares and the small constant. -/
def var {d : ℕ} (C E : EReal) (x : Fin d → EReal) : EReal := Ideal.div (∑ k, x k * x k) C + E

/-- The gradient by the input, in the kernel's order. -/
def kdx {d : ℕ} (C E : EReal) (x w : Fin d → EReal) (i : Fin d) : EReal :=
  Ideal.rsqrt (var C E x) * (w i - x i * Ideal.rsqrt (var C E x) * Ideal.div (∑ k, w k * (x k * Ideal.rsqrt (var C E x))) C)

/-- The gradient by the input, as the reference has it. -/
def rdx {d : ℕ} (C E H : EReal) (x w : Fin d → EReal) (i : Fin d) : EReal :=
  w i * Ideal.rsqrt (var C E x)
    + x i * (∑ _ : Fin 1, Ideal.div ((∑ k, x k * w k) * (H * Ideal.div (Ideal.rsqrt (var C E x)) (var C E x))) C)
    + (∑ _ : Fin 1, Ideal.div ((∑ k, x k * w k) * (H * Ideal.div (Ideal.rsqrt (var C E x)) (var C E x))) C) * x i

theorem div_coe (a : EReal) (c : ℝ) (hc : 0 < c) : Ideal.div a (c : EReal) = a * ((c⁻¹ : ℝ) : EReal) := by
  have h : (c : EReal) ≠ 0 := by exact_mod_cast hc.ne'
  simp [Ideal.div, h, EReal.coe_inv]

theorem sq_nonneg (x : EReal) : 0 ≤ x * x := by
  induction x with
  | bot => simp
  | top => simp
  | coe r => exact_mod_cast mul_self_nonneg r

theorem add_mul_coe (a b : EReal) (r : ℝ) (hr : 0 < r) : (a + b) * (r : EReal) = a * (r : EReal) + b * (r : EReal) := by
  induction a with
  | bot => simp [EReal.bot_mul_coe_of_pos hr]
  | top =>
    induction b with
    | bot => simp [EReal.bot_mul_coe_of_pos hr]
    | top => simp [EReal.top_mul_coe_of_pos hr]
    | coe y => simp [EReal.top_mul_coe_of_pos hr, ← EReal.coe_mul]
  | coe x =>
    induction b with
    | bot => simp [EReal.bot_mul_coe_of_pos hr]
    | top => simp [EReal.top_mul_coe_of_pos hr, ← EReal.coe_mul]
    | coe y => norm_cast; ring

/-- A positive real factor goes into a sum, whatever the terms. -/
theorem sum_mul_coe {ι : Type} (s : Finset ι) (f : ι → EReal) (r : ℝ) (hr : 0 < r) : (∑ k ∈ s, f k) * (r : EReal) = ∑ k ∈ s, f k * (r : EReal) := by
  classical
  induction s using Finset.induction_on with
  | empty => simp
  | insert a s ha ih => rw [Finset.sum_insert ha, Finset.sum_insert ha, ← ih, add_mul_coe _ _ r hr]

/-- One entry: the row's sum of products may be infinite, and the entry of the incoming gradient may be. -/
theorem entry (x r n : ℝ) (hr : 0 < r) (hn : 0 < n) (w W : EReal) :
    (r : EReal) * (w - (x : EReal) * (r : EReal) * (W * (r : EReal) * (n : EReal)))
      = w * (r : EReal) + (x : EReal) * (W * ((-(1 / 2) * (r * r * r) : ℝ) : EReal) * (n : EReal)) + W * ((-(1 / 2) * (r * r * r) : ℝ) : EReal) * (n : EReal) * (x : EReal) := by
  have h3 : -(1 / 2) * (r * r * r) < 0 := by have : 0 < r * r * r := by positivity
                                             linarith
  induction W with
  | coe W =>
    induction w with
    | coe w => norm_cast; ring
    | top => simp [EReal.coe_mul_top_of_pos, EReal.top_mul_coe_of_pos, hr, ← EReal.coe_mul, EReal.top_sub_coe, EReal.top_add_coe]
    | bot => simp [EReal.coe_mul_bot_of_pos, EReal.bot_mul_coe_of_pos, hr, ← EReal.coe_mul]
  | top =>
    rw [EReal.top_mul_coe_of_pos hr, EReal.top_mul_coe_of_pos hn, EReal.top_mul_coe_of_neg h3, EReal.bot_mul_coe_of_pos hn, ← EReal.coe_mul]
    rcases lt_trichotomy x 0 with h | rfl | h
    · rw [EReal.coe_mul_top_of_neg (mul_neg_of_neg_of_pos h hr), EReal.coe_mul_bot_of_neg h, EReal.bot_mul_coe_of_neg h]
      induction w with
      | coe w => simp [EReal.coe_mul_top_of_pos hr, ← EReal.coe_mul]
      | top => simp [EReal.coe_mul_top_of_pos hr, EReal.top_mul_coe_of_pos hr]
      | bot => simp [EReal.coe_mul_bot_of_pos hr, EReal.bot_mul_coe_of_pos hr]
    · simp [mul_comm]
    · rw [EReal.coe_mul_top_of_pos (mul_pos h hr), EReal.coe_mul_bot_of_pos h, EReal.bot_mul_coe_of_pos h]
      induction w with
      | coe w => simp [EReal.coe_mul_bot_of_pos hr, ← EReal.coe_mul]
      | top => simp [EReal.coe_mul_bot_of_pos hr, EReal.top_mul_coe_of_pos hr]
      | bot => simp [EReal.coe_mul_bot_of_pos hr, EReal.bot_mul_coe_of_pos hr]
  | bot =>
    rw [EReal.bot_mul_coe_of_pos hr, EReal.bot_mul_coe_of_pos hn, EReal.bot_mul_coe_of_neg h3, EReal.top_mul_coe_of_pos hn, ← EReal.coe_mul]
    rcases lt_trichotomy x 0 with h | rfl | h
    · rw [EReal.coe_mul_bot_of_neg (mul_neg_of_neg_of_pos h hr), EReal.coe_mul_top_of_neg h, EReal.top_mul_coe_of_neg h]
      induction w with
      | coe w => simp [EReal.coe_mul_bot_of_pos hr, ← EReal.coe_mul]
      | top => simp [EReal.coe_mul_bot_of_pos hr, EReal.top_mul_coe_of_pos hr]
      | bot => simp [EReal.coe_mul_bot_of_pos hr, EReal.bot_mul_coe_of_pos hr]
    · simp [mul_comm]
    · rw [EReal.coe_mul_bot_of_pos (mul_pos h hr), EReal.coe_mul_top_of_pos h, EReal.top_mul_coe_of_pos h]
      induction w with
      | coe w => simp [EReal.coe_mul_top_of_pos hr, ← EReal.coe_mul]
      | top => simp [EReal.coe_mul_top_of_pos hr, EReal.top_mul_coe_of_pos hr]
      | bot => simp [EReal.coe_mul_bot_of_pos hr, EReal.bot_mul_coe_of_pos hr]

theorem equal {d : ℕ} (c e : ℝ) (hc : 0 < c) (he : 0 < e) (x w : Fin d → EReal) (i : Fin d) :
    kdx (c : EReal) (e : EReal) x w i = rdx (c : EReal) (e : EReal) ((-(1 / 2) : ℝ) : EReal) x w i := by
  unfold kdx rdx
  simp only [Fin.sum_univ_one, div_coe _ c hc]
  have h0 : 0 ≤ ∑ k, x k * x k := Finset.sum_nonneg fun k _ => sq_nonneg (x k)
  by_cases ht : (∑ k, x k * x k) = ⊤
  · have hv : var (c : EReal) (e : EReal) x = ⊤ := by
      unfold var
      rw [ht, div_coe _ c hc, EReal.top_mul_coe_of_pos (inv_pos.mpr hc), EReal.top_add_coe]
    rw [hv]
    simp [Ideal.div]
  · have hx : x i ≠ ⊤ ∧ x i ≠ ⊥ := by
      have hle : x i * x i ≤ ∑ k, x k * x k := Finset.single_le_sum (fun k _ => sq_nonneg (x k)) (Finset.mem_univ i)
      constructor <;> intro h <;> rw [h] at hle <;> exact ht (top_le_iff.mp (by simpa using hle))
    obtain ⟨s, hs⟩ : ∃ s : ℝ, (∑ k, x k * x k) = (s : EReal) := ⟨_, (EReal.coe_toReal ht (fun h => by rw [h] at h0; simp at h0)).symm⟩
    obtain ⟨xi, hxi⟩ : ∃ y : ℝ, x i = (y : EReal) := ⟨_, (EReal.coe_toReal hx.1 hx.2).symm⟩
    have hs0 : 0 ≤ s := by rw [hs] at h0; exact_mod_cast h0
    have hv : var (c : EReal) (e : EReal) x = ((s * c⁻¹ + e : ℝ) : EReal) := by
      unfold var
      rw [hs, div_coe _ c hc]; norm_cast
    have hp : 0 < s * c⁻¹ + e := by have := mul_nonneg hs0 (inv_pos.mpr hc).le; linarith
    have hr : Ideal.rsqrt ((s * c⁻¹ + e : ℝ) : EReal) = (((Real.sqrt (s * c⁻¹ + e))⁻¹ : ℝ) : EReal) := by
      rw [Ideal.rsqrt_coe, if_neg hp.not_gt, if_neg hp.ne']
    have hr0 : 0 < (Real.sqrt (s * c⁻¹ + e))⁻¹ := inv_pos.mpr (Real.sqrt_pos.mpr hp)
    have hrr : (s * c⁻¹ + e)⁻¹ = (Real.sqrt (s * c⁻¹ + e))⁻¹ * (Real.sqrt (s * c⁻¹ + e))⁻¹ := by
      rw [← mul_inv, Real.mul_self_sqrt hp.le]
    rw [hv, hr, div_coe _ _ hp, hrr]
    generalize (Real.sqrt (s * c⁻¹ + e))⁻¹ = r at hr0
    have hW : (∑ k, w k * (x k * (r : EReal))) = (∑ k, x k * w k) * (r : EReal) := by
      rw [sum_mul_coe _ _ r hr0]
      exact Finset.sum_congr rfl fun k _ => by rw [← mul_assoc, mul_comm (w k)]
    rw [hW, hxi]
    have hk : ((-(1 / 2) : ℝ) : EReal) * ((r : EReal) * ((r * r : ℝ) : EReal)) = ((-(1 / 2) * (r * r * r) : ℝ) : EReal) := by
      norm_cast; ring
    rw [hk]
    exact entry xi r c⁻¹ hr0 (inv_pos.mpr hc) (w i) _

theorem half : Ideal.ofBits .f32 0xBF000000#32 = ((-(1 / 2) : ℝ) : EReal) := by
  simp [Ideal.ofBits, Ideal.ieee]
  norm_cast
  norm_num

theorem eps : ∃ e : ℝ, 0 < e ∧ Ideal.ofBits .f32 0x358637BD#32 = (e : EReal) := by
  refine ⟨_, ?_, by simp [Ideal.ofBits, Ideal.ieee]; rfl⟩
  norm_num

theorem n256 : Ideal.ofBits .f32 0x43800000#32 = ((256 : ℝ) : EReal) := by
  simp [Ideal.ofBits, Ideal.ieee]
  norm_cast
  norm_num

theorem n512 : Ideal.ofBits .f32 0x44000000#32 = ((512 : ℝ) : EReal) := by
  simp [Ideal.ofBits, Ideal.ieee]
  norm_cast
  norm_num

theorem n1024 : Ideal.ofBits .f32 0x44800000#32 = ((1024 : ℝ) : EReal) := by
  simp [Ideal.ofBits, Ideal.ieee]
  norm_cast
  norm_num

theorem n2048 : Ideal.ofBits .f32 0x45000000#32 = ((2048 : ℝ) : EReal) := by
  simp [Ideal.ofBits, Ideal.ieee]
  norm_cast
  norm_num

end Cert.NormTerms

end
-- ==== Proof.NormQ.lean ====
/- The gradient of the queries' norm. -/
module

public import proofs.«01_k».proof.Proof.Gen.Kernel24.Frame
public import proofs.«01_k».proof.Proof.Gen.Kernel24Ideal.Frame
public import proofs.«01_k».proof.Proof.Gen.Reference24Ideal.Run
public import proofs.«01_k».proof.Proof.NormTerms
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel24Ideal.Rows

open Cert.Kernel24Ideal Cert.Kernel24Ideal.Gen Idealize.ShloMosaic Idealize.ShloMosaic.TcCoe Idealize.SL.Sem
open Idealize.ShloMosaic.Pipeline (Dat)
open Cert.NormTerms

/-- The width and the small constant, as the programs write them. -/
def wd : EReal := Ideal.ofBits .f32 0x44000000#32
def ep : EReal := Ideal.ofBits .f32 0x358637BD#32

/-- The columns read of the norm's input and of the incoming gradient. -/
def colX (k : Fin 512) : Fin 1920 := (⟨1024 + k.val, by have := k.isLt; omega⟩ : Fin 1920)
def colY (k : Fin 512) : Fin 512 := k

/-- The gradient by the input. -/
def GX (X : FVec Ideal S2176x1920 .f32) (g : FVec Ideal S1x512 .f32) (Y : FVec Ideal S2176x512 .f32) : FVec Ideal S2176x512 .f32 :=
  fun i => kdx wd ep (fun k => X (ix2 (i 0) (colX k))) (fun k => Y (ix2 (i 0) (colY k)) * g (ix2 (0 : Fin 1) k)) (i 1)

/-- A row's part of the gradient by the scale. -/
def term (X : FVec Ideal S2176x1920 .f32) (Y : FVec Ideal S2176x512 .f32) (q : Fin 512) (p : Fin 2176) : EReal :=
  Y (ix2 p (colY q)) * (X (ix2 p (colX q)) * Ideal.rsqrt (var wd ep fun k => X (ix2 p (colX k))))

/-- The gradient by the scale. -/
def GG (X : FVec Ideal S2176x1920 .f32) (Y : FVec Ideal S2176x512 .f32) : FVec Ideal S1x512 .f32 :=
  fun i => ∑ p : Fin 2176, term X Y (i 1) p

/-- A block's part of the gradient by the scale. -/
def part (v0 v1 : Vec Ideal S1088x512 .f32) (q : Fin 512) : EReal :=
  ∑ p : Fin 1088, v1 (ix2 p q) * (v0 (ix2 p q) * Ideal.rsqrt (var wd ep fun k => v0 (ix2 p k)))

theorem pay3_at (v0 v1 : Vec Ideal S1088x512 .f32) (v2 : Vec Ideal S1x512 .f32) (p : Fin 1088) (q : Fin 512) :
    k0_pay3 v0 v1 v2 (ix2 p q) = kdx wd ep (fun k => v0 (ix2 p k)) (fun k => v1 (ix2 p k) * v2 (ix2 (0 : Fin 1) k)) q := by
  pointwise [k0_pay3, k0_pay2, k0_pay1, kdx, var, wd, ep]

theorem pay4_at (v0 v1 : Vec Ideal S1088x512 .f32) (p : Fin 1) (q : Fin 512) : k0_pay4 v0 v1 (ix2 p q) = part v0 v1 q := by
  pointwise [k0_pay4, k0_pay2, k0_pay1, part, var, wd, ep]

theorem pay5_at (v0 v1 : Vec Ideal S1088x512 .f32) (v2 : Vec Ideal S1x512 .f32) (p : Fin 1) (q : Fin 512) :
    k0_pay5 v0 v1 v2 (ix2 p q) = v2 (ix2 p q) + part v0 v1 q := by
  pointwise [k0_pay5, k0_pay4, k0_pay2, k0_pay1, part, var, wd, ep]

variable (m : (ℓ : Loc nD τ sig) → Buf (Elt Ideal) ℓ)

theorem first (c : Dev nD) (t : Fin cfg0.N) (h : t.val % 2 = 0) (p : Fin 1) (q : Fin 512) :
    (outsAt0 m c t.val t.isLt).2 (ix2 p q) = part (X0_0 m c t) (iblk m c 1 t) q := by
  have hN : t.val < 2 := lt_of_lt_of_eq t.isLt N_0
  rw [outsAt0_A m c t h (by omega)]
  frame_out
  exact pay4_at _ _ p q

theorem next (c : Dev nD) (t : Fin cfg0.N) (h : ¬ t.val % 2 = 0) (p : Fin 1) (q : Fin 512) :
    (outsAt0 m c t.val t.isLt).2 (ix2 p q) = (outsAt0 m c (t.val - 1) (Nat.lt_of_le_of_lt (Nat.sub_le _ _) t.isLt)).2 (ix2 p q)
      + part (X0_0 m c t) (iblk m c 1 t) q := by
  have hN : t.val < 2 := lt_of_lt_of_eq t.isLt N_0
  rw [outsAt0_B m c t h (by omega)]
  frame_out
  try simp only [read_unread_whole]
  exact pay5_at _ _ _ p q

theorem mid (c : Dev nD) (t : Fin cfg0.N) (p : Fin 1088) (q : Fin 512) :
    (outsAt0 m c t.val t.isLt).1 (ix2 p q) = k0_pay3 (X0_0 m c t) (iblk m c 1 t) (iblk m c 2 t) (ix2 p q) := by
  have hN : t.val < 2 := lt_of_lt_of_eq t.isLt N_0
  by_cases h : t.val % 2 = 0
  · rw [outsAt0_A m c t h (by omega)]
    frame_out
  · rw [outsAt0_B m c t h (by omega)]
    frame_out

theorem idx : ∀ t : Fin cfg0.N, win0_0.index t = ![t.val, 2] ∧ win0_1.index t = ![t.val, 0] ∧ win0_2.index t = ![0, 0] ∧ win0_3.index t = ![t.val, 0] ∧ win0_4.index t = ![0, 0] :=
  (by decide +kernel : ∀ t : Fin grid0.N, _)

/-- The row of the array under row `p` of the point's block. -/
def rowOf (t : Fin cfg0.N) (p : Fin 1088) : Fin 2176 := ⟨t.val * 1088 + p.val, by have h : t.val < 2 := lt_of_lt_of_eq t.isLt N_0; have := p.isLt; omega⟩

theorem read0 (c : Dev nD) (t : Fin cfg0.N) (p : Fin 1088) (k : Fin 512) :
    (X0_0 m c t : Vec Ideal S1088x512 .f32) (ix2 p k) = m ((c : Thread nD τ).loc main_arg0) (ix2 (rowOf t p) (colX k)) := by
  unfold X0_0 Pipeline.Window.fill rowOf colX
  rw [dif_pos (moved0_0 t _)]
  blk_ext [iblk, V, idx t]

theorem read1 (c : Dev nD) (t : Fin cfg0.N) (p : Fin 1088) (k : Fin 512) :
    iblk m c 1 t (ix2 p k) = m ((c : Thread nD τ).loc main_arg2) (ix2 (rowOf t p) (colY k)) := by unfold rowOf colY; blk_ext [iblk, V, idx t]

theorem read2 (c : Dev nD) (t : Fin cfg0.N) (p : Fin 1) (k : Fin 512) :
    iblk m c 2 t (ix2 p k) = m ((c : Thread nD τ).loc main_arg1) (ix2 p k) := by blk_ext [iblk, V, idx t]

theorem part_eq (c : Dev nD) (t : Fin cfg0.N) (q : Fin 512) :
    part (X0_0 m c t) (iblk m c 1 t) q = ∑ p : Fin 1088, term (m ((c : Thread nD τ).loc main_arg0)) (m ((c : Thread nD τ).loc main_arg2)) q (rowOf t p) := by
  refine Finset.sum_congr rfl fun p _ => ?_
  unfold term
  rw [read1 m c t p q, read0 m c t p q]
  simp only [read0 m c t p]

/-- After point `n`, the parts of the blocks up to it. -/
theorem upto (c : Dev nD) (q : Fin 512) : ∀ (n : ℕ) (hn : n < cfg0.N), (outsAt0 m c n hn).2 (ix2 (0 : Fin 1) q)
    = ∑ s : Fin (n + 1), ∑ p : Fin 1088, term (m ((c : Thread nD τ).loc main_arg0)) (m ((c : Thread nD τ).loc main_arg2)) q
        (rowOf ⟨s.val, Nat.lt_of_le_of_lt (Nat.le_of_lt_succ s.isLt) hn⟩ p)
  | 0, hn => by
    refine (first m c ⟨0, hn⟩ (Nat.zero_mod _) 0 q).trans ((part_eq m c _ q).trans ?_)
    refine Eq.trans ?_ (Fin.sum_univ_castSucc _).symm
    rw [Fin.sum_univ_zero, zero_add]
    rfl
  | n + 1, hn => by
    have hN : n + 1 < 2 := lt_of_lt_of_eq hn N_0
    refine (next m c ⟨n + 1, hn⟩ (show ¬ (n + 1) % 2 = 0 by omega) 0 q).trans ?_
    rw [part_eq]
    refine Eq.trans ?_ (Fin.sum_univ_castSucc _).symm
    exact congrArg₂ (fun a b : EReal => a + b) (upto c q n (Nat.lt_of_succ_lt hn)) rfl

theorem all (c : Dev nD) (q : Fin 512) (hn : 1 < cfg0.N) : (outsAt0 m c 1 hn).2 (ix2 (0 : Fin 1) q)
    = ∑ p : Fin 2176, term (m ((c : Thread nD τ).loc main_arg0)) (m ((c : Thread nD τ).loc main_arg2)) q p := by
  refine (upto m c q 1 hn).trans ?_
  exact Fin.sum_mul_add_congr fun s k hl => rfl

theorem final3 (c : Dev nD) : (dats m 0 c).arrAt 3 (cfgs 0).N
    = GX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0_0).slice (win0_3.rect t)).emb (ix2 y0 y1)) = ix2 (rowOf t y0) y1 := by unfold rowOf; blk_ext [idx t]
  refine Eq.trans ?_ (congrArg (GX (m ((c : Thread nD τ).loc main_arg0)) (m ((c : Thread nD τ).loc main_arg1)) (m ((c : Thread nD τ).loc main_arg2))) he.symm)
  refine (mid m c t y0 y1).trans ((pay3_at _ _ _ y0 y1).trans ?_)
  simp only [read0 m c t y0, read1 m c t y0, read2 m c t]
  rfl

theorem final4 (c : Dev nD) : (dats m 0 c).arrAt 4 (cfgs 0).N
    = GG (m ((c : Thread nD τ).loc main_arg0)) (m ((c : Thread nD τ).loc main_arg2)) := by
  refine (dats m 0 c).arrAt_eq_of_covers 4 _ (by decide +kernel) fun t hf y => ?_
  blk_simp
  rw [after0_4]
  idx_vars y
  obtain rfl : y0 = (0 : Fin 1) := Subsingleton.elim _ _
  have he : (((View.whole main_v0_1).slice (win0_4.rect t)).emb (ix2 (0 : Fin 1) y1)) = ix2 (0 : Fin 1) y1 := by blk_ext [idx t]
  refine Eq.trans ?_ (congrArg (GG (m ((c : Thread nD τ).loc main_arg0)) (m ((c : Thread nD τ).loc main_arg2))) he.symm)
  have ht : t.val = 1 := by have := (flush0_4 t).mp hf; have hN : t.val < 2 := lt_of_lt_of_eq t.isLt N_0; omega
  obtain ⟨n, hn⟩ := t
  obtain rfl : n = 1 := ht
  exact all m c y1 hn

theorem gx_at (X : FVec Ideal S2176x1920 .f32) (g : FVec Ideal S1x512 .f32) (Y : FVec Ideal S2176x512 .f32) (p : Fin 2176) (q : Fin 512) :
    GX X g Y (ix2 p q) = rdx wd ep (Ideal.ofBits .f32 0xBF000000#32) (fun k => X (ix2 p (colX k))) (fun k => Y (ix2 p (colY k)) * g (ix2 (0 : Fin 1) k)) q := by
  obtain ⟨e, he, hE⟩ := eps
  unfold GX wd ep
  rw [hE, n512, half]
  exact equal _ e (by norm_num) he _ _ q

set_option maxHeartbeats 4000000 in
theorem algebraic : Cert.algebraic_Kernel24Ideal_Reference24Ideal := by
  pair_intro
  · run_from Cert.Kernel24Ideal.Gen.run_main m g
  · run_from Cert.Reference24Ideal.Value.run m' g'
    · rw [final3]
      funext i
      idx_vars i
      refine Eq.trans ?_ (gx_at _ _ _ i0 i1).symm
      pointwise [Cert.Reference24Ideal.Value.res_main_v34, (hagree c).1, (hagree c).2.1, (hagree c).2.2, rdx, var, wd, ep, colX, colY]
    · rw [final4]
      funext i
      idx_vars i
      pointwise [GG, term, var, wd, ep, colX, colY]
      exact Finset.sum_congr rfl fun x _ => mul_comm _ _

theorem frames : Cert.quiescent_Kernel24 ∧ Cert.quiescent_Kernel24Ideal ∧ Cert.quiescent_Reference24Ideal :=
  ⟨fun m g _ => Cert.Kernel24.Gen.frame m g, fun m g _ => Cert.Kernel24Ideal.Gen.frame m g, fun m g _ => by
    run_from Cert.Reference24Ideal.Value.run m g
    all_goals first | exact sem_eq_zero_of_no_sems (sig := Cert.Reference24Ideal.sig) rfl _ | exact fun _ => ⟨trivial, trivial⟩ | exact fun _ => ⟨trivial, trivial, trivial⟩⟩

end Cert.Kernel24Ideal.Rows

end
-- ==== Proof.NormKv.lean ====
/- The gradient of the keys' and values' norm. -/
module

public import proofs.«01_k».proof.Proof.Gen.Kernel25.Frame
public import proofs.«01_k».proof.Proof.Gen.Kernel25Ideal.Frame
public import proofs.«01_k».proof.Proof.Gen.Reference25Ideal.Run
public import proofs.«01_k».proof.Proof.NormTerms
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel25Ideal.Rows

open Cert.Kernel25Ideal Cert.Kernel25Ideal.Gen Idealize.ShloMosaic Idealize.ShloMosaic.TcCoe Idealize.SL.Sem
open Idealize.ShloMosaic.Pipeline (Dat)
open Cert.NormTerms

/-- The width and the small constant, as the programs write them. -/
def wd : EReal := Ideal.ofBits .f32 0x43800000#32
def ep : EReal := Ideal.ofBits .f32 0x358637BD#32

/-- The columns read of the norm's input and of the incoming gradient. -/
def colX (k : Fin 256) : Fin 1920 := (⟨1536 + k.val, by have := k.isLt; omega⟩ : Fin 1920)
def colY (k : Fin 256) : Fin 256 := k

/-- The gradient by the input. -/
def GX (X : FVec Ideal S2176x1920 .f32) (g : FVec Ideal S1x256 .f32) (Y : FVec Ideal S2176x256 .f32) : FVec Ideal S2176x256 .f32 :=
  fun i => kdx wd ep (fun k => X (ix2 (i 0) (colX k))) (fun k => Y (ix2 (i 0) (colY k)) * g (ix2 (0 : Fin 1) k)) (i 1)

/-- A row's part of the gradient by the scale. -/
def term (X : FVec Ideal S2176x1920 .f32) (Y : FVec Ideal S2176x256 .f32) (q : Fin 256) (p : Fin 2176) : EReal :=
  Y (ix2 p (colY q)) * (X (ix2 p (colX q)) * Ideal.rsqrt (var wd ep fun k => X (ix2 p (colX k))))

/-- The gradient by the scale. -/
def GG (X : FVec Ideal S2176x1920 .f32) (Y : FVec Ideal S2176x256 .f32) : FVec Ideal S1x256 .f32 :=
  fun i => ∑ p : Fin 2176, term X Y (i 1) p

/-- A block's part of the gradient by the scale. -/
def part (v0 v1 : Vec Ideal S2176x256 .f32) (q : Fin 256) : EReal :=
  ∑ p : Fin 2176, v1 (ix2 p q) * (v0 (ix2 p q) * Ideal.rsqrt (var wd ep fun k => v0 (ix2 p k)))

theorem pay3_at (v0 v1 : Vec Ideal S2176x256 .f32) (v2 : Vec Ideal S1x256 .f32) (p : Fin 2176) (q : Fin 256) :
    k0_pay3 v0 v1 v2 (ix2 p q) = kdx wd ep (fun k => v0 (ix2 p k)) (fun k => v1 (ix2 p k) * v2 (ix2 (0 : Fin 1) k)) q := by
  pointwise [k0_pay3, k0_pay2, k0_pay1, kdx, var, wd, ep]

theorem pay4_at (v0 v1 : Vec Ideal S2176x256 .f32) (p : Fin 1) (q : Fin 256) : k0_pay4 v0 v1 (ix2 p q) = part v0 v1 q := by
  pointwise [k0_pay4, k0_pay2, k0_pay1, part, var, wd, ep]

variable (m : (ℓ : Loc nD τ sig) → Buf (Elt Ideal) ℓ)

theorem first (c : Dev nD) (t : Fin cfg0.N) (p : Fin 1) (q : Fin 256) :
    (outsAt0 m c t).2 (ix2 p q) = part (X0_0 m c t) (iblk m c 1 t) q := by
  unfold outsAt0
  frame_out
  exact pay4_at _ _ p q

theorem mid (c : Dev nD) (t : Fin cfg0.N) (p : Fin 2176) (q : Fin 256) :
    (outsAt0 m c t).1 (ix2 p q) = k0_pay3 (X0_0 m c t) (iblk m c 1 t) (iblk m c 2 t) (ix2 p q) := by
  unfold outsAt0
  frame_out

theorem idx : ∀ t : Fin cfg0.N, win0_0.index t = ![t.val, 6] ∧ win0_1.index t = ![t.val, 0] ∧ win0_2.index t = ![0, 0] ∧ win0_3.index t = ![t.val, 0] ∧ win0_4.index t = ![0, 0] :=
  (by decide +kernel : ∀ t : Fin grid0.N, _)

/-- The row of the array under row `p` of the point's block. -/
def rowOf (t : Fin cfg0.N) (p : Fin 2176) : Fin 2176 := ⟨t.val * 2176 + p.val, by have h : t.val < 1 := lt_of_lt_of_eq t.isLt N_0; have := p.isLt; omega⟩

theorem read0 (c : Dev nD) (t : Fin cfg0.N) (p : Fin 2176) (k : Fin 256) :
    (X0_0 m c t : Vec Ideal S2176x256 .f32) (ix2 p k) = m ((c : Thread nD τ).loc main_arg0) (ix2 (rowOf t p) (colX k)) := by
  unfold X0_0 Pipeline.Window.fill rowOf colX
  rw [dif_pos (moved0_0 t _)]
  blk_ext [iblk, V, idx t]

theorem read1 (c : Dev nD) (t : Fin cfg0.N) (p : Fin 2176) (k : Fin 256) :
    iblk m c 1 t (ix2 p k) = m ((c : Thread nD τ).loc main_arg2) (ix2 (rowOf t p) (colY k)) := by unfold rowOf colY; blk_ext [iblk, V, idx t]

theorem read2 (c : Dev nD) (t : Fin cfg0.N) (p : Fin 1) (k : Fin 256) :
    iblk m c 2 t (ix2 p k) = m ((c : Thread nD τ).loc main_arg1) (ix2 p k) := by blk_ext [iblk, V, idx t]

theorem part_eq (c : Dev nD) (t : Fin cfg0.N) (q : Fin 256) :
    part (X0_0 m c t) (iblk m c 1 t) q = ∑ p : Fin 2176, term (m ((c : Thread nD τ).loc main_arg0)) (m ((c : Thread nD τ).loc main_arg2)) q (rowOf t p) := by
  refine Finset.sum_congr rfl fun p _ => ?_
  unfold term
  rw [read1 m c t p q, read0 m c t p q]
  simp only [read0 m c t p]

theorem final3 (c : Dev nD) : (dats m 0 c).arrAt 3 (cfgs 0).N
    = GX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0_0).slice (win0_3.rect t)).emb (ix2 y0 y1)) = ix2 (rowOf t y0) y1 := by unfold rowOf; blk_ext [idx t]
  refine Eq.trans ?_ (congrArg (GX (m ((c : Thread nD τ).loc main_arg0)) (m ((c : Thread nD τ).loc main_arg1)) (m ((c : Thread nD τ).loc main_arg2))) he.symm)
  refine (mid m c t y0 y1).trans ((pay3_at _ _ _ y0 y1).trans ?_)
  simp only [read0 m c t y0, read1 m c t y0, read2 m c t]
  rfl

theorem final4 (c : Dev nD) : (dats m 0 c).arrAt 4 (cfgs 0).N
    = GG (m ((c : Thread nD τ).loc main_arg0)) (m ((c : Thread nD τ).loc main_arg2)) := by
  refine (dats m 0 c).arrAt_eq_of_covers 4 _ (by decide +kernel) fun t hf y => ?_
  blk_simp
  rw [after0_4]
  idx_vars y
  obtain rfl : y0 = (0 : Fin 1) := Subsingleton.elim _ _
  have he : (((View.whole main_v0_1).slice (win0_4.rect t)).emb (ix2 (0 : Fin 1) y1)) = ix2 (0 : Fin 1) y1 := by blk_ext [idx t]
  refine Eq.trans ?_ (congrArg (GG (m ((c : Thread nD τ).loc main_arg0)) (m ((c : Thread nD τ).loc main_arg2))) he.symm)
  refine (first m c t 0 y1).trans ((part_eq m c t y1).trans ?_)
  refine Finset.sum_congr rfl fun p _ => congrArg (term _ _ y1) (Fin.ext ?_)
  have hN : t.val < 1 := lt_of_lt_of_eq t.isLt N_0
  show t.val * 2176 + p.val = p.val
  omega

theorem gx_at (X : FVec Ideal S2176x1920 .f32) (g : FVec Ideal S1x256 .f32) (Y : FVec Ideal S2176x256 .f32) (p : Fin 2176) (q : Fin 256) :
    GX X g Y (ix2 p q) = rdx wd ep (Ideal.ofBits .f32 0xBF000000#32) (fun k => X (ix2 p (colX k))) (fun k => Y (ix2 p (colY k)) * g (ix2 (0 : Fin 1) k)) q := by
  obtain ⟨e, he, hE⟩ := eps
  unfold GX wd ep
  rw [hE, n256, half]
  exact equal _ e (by norm_num) he _ _ q

set_option maxHeartbeats 4000000 in
theorem algebraic : Cert.algebraic_Kernel25Ideal_Reference25Ideal := by
  pair_intro
  · run_from Cert.Kernel25Ideal.Gen.run_main m g
  · run_from Cert.Reference25Ideal.Value.run m' g'
    · rw [final3]
      funext i
      idx_vars i
      refine Eq.trans ?_ (gx_at _ _ _ i0 i1).symm
      pointwise [Cert.Reference25Ideal.Value.res_main_v34, (hagree c).1, (hagree c).2.1, (hagree c).2.2, rdx, var, wd, ep, colX, colY]
    · rw [final4]
      funext i
      idx_vars i
      pointwise [GG, term, var, wd, ep, colX, colY]
      exact Finset.sum_congr rfl fun x _ => mul_comm _ _

theorem frames : Cert.quiescent_Kernel25 ∧ Cert.quiescent_Kernel25Ideal ∧ Cert.quiescent_Reference25Ideal :=
  ⟨fun m g _ => Cert.Kernel25.Gen.frame m g, fun m g _ => Cert.Kernel25Ideal.Gen.frame m g, fun m g _ => by
    run_from Cert.Reference25Ideal.Value.run m g
    all_goals first | exact sem_eq_zero_of_no_sems (sig := Cert.Reference25Ideal.sig) rfl _ | exact fun _ => ⟨trivial, trivial⟩ | exact fun _ => ⟨trivial, trivial, trivial⟩⟩

end Cert.Kernel25Ideal.Rows

end
-- ==== Proof.NormAttn.lean ====
/- The gradient of the attention output's norm. -/
module

public import proofs.«01_k».proof.Proof.Gen.Kernel26.Frame
public import proofs.«01_k».proof.Proof.Gen.Kernel26Ideal.Frame
public import proofs.«01_k».proof.Proof.Gen.Reference26Ideal.Run
public import proofs.«01_k».proof.Proof.NormTerms
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel26Ideal.Rows

open Cert.Kernel26Ideal Cert.Kernel26Ideal.Gen Idealize.ShloMosaic Idealize.ShloMosaic.TcCoe Idealize.SL.Sem
open Idealize.ShloMosaic.Pipeline (Dat)
open Cert.NormTerms

/-- The width and the small constant, as the programs write them. -/
def wd : EReal := Ideal.ofBits .f32 0x44800000#32
def ep : EReal := Ideal.ofBits .f32 0x358637BD#32

/-- The columns read of the norm's input and of the incoming gradient. -/
def colX (k : Fin 1024) : Fin 1024 := k
def colY (k : Fin 1024) : Fin 2048 := (⟨1024 + k.val, by have := k.isLt; omega⟩ : Fin 2048)

/-- The gradient by the input. -/
def GX (X : FVec Ideal S2176x1024 .f32) (g : FVec Ideal S1x1024 .f32) (Y : FVec Ideal S2176x2048 .f32) : FVec Ideal S2176x1024 .f32 :=
  fun i => kdx wd ep (fun k => X (ix2 (i 0) (colX k))) (fun k => Y (ix2 (i 0) (colY k)) * g (ix2 (0 : Fin 1) k)) (i 1)

/-- A row's part of the gradient by the scale. -/
def term (X : FVec Ideal S2176x1024 .f32) (Y : FVec Ideal S2176x2048 .f32) (q : Fin 1024) (p : Fin 2176) : EReal :=
  Y (ix2 p (colY q)) * (X (ix2 p (colX q)) * Ideal.rsqrt (var wd ep fun k => X (ix2 p (colX k))))

/-- The gradient by the scale. -/
def GG (X : FVec Ideal S2176x1024 .f32) (Y : FVec Ideal S2176x2048 .f32) : FVec Ideal S1x1024 .f32 :=
  fun i => ∑ p : Fin 2176, term X Y (i 1) p

/-- A block's part of the gradient by the scale. -/
def part (v0 v1 : Vec Ideal S544x1024 .f32) (q : Fin 1024) : EReal :=
  ∑ p : Fin 544, v1 (ix2 p q) * (v0 (ix2 p q) * Ideal.rsqrt (var wd ep fun k => v0 (ix2 p k)))

theorem pay3_at (v0 v1 : Vec Ideal S544x1024 .f32) (v2 : Vec Ideal S1x1024 .f32) (p : Fin 544) (q : Fin 1024) :
    k0_pay3 v0 v1 v2 (ix2 p q) = kdx wd ep (fun k => v0 (ix2 p k)) (fun k => v1 (ix2 p k) * v2 (ix2 (0 : Fin 1) k)) q := by
  pointwise [k0_pay3, k0_pay2, k0_pay1, kdx, var, wd, ep]

theorem pay4_at (v0 v1 : Vec Ideal S544x1024 .f32) (p : Fin 1) (q : Fin 1024) : k0_pay4 v0 v1 (ix2 p q) = part v0 v1 q := by
  pointwise [k0_pay4, k0_pay2, k0_pay1, part, var, wd, ep]

theorem pay5_at (v0 v1 : Vec Ideal S544x1024 .f32) (v2 : Vec Ideal S1x1024 .f32) (p : Fin 1) (q : Fin 1024) :
    k0_pay5 v0 v1 v2 (ix2 p q) = v2 (ix2 p q) + part v0 v1 q := by
  pointwise [k0_pay5, k0_pay4, k0_pay2, k0_pay1, part, var, wd, ep]

variable (m : (ℓ : Loc nD τ sig) → Buf (Elt Ideal) ℓ)

theorem first (c : Dev nD) (t : Fin cfg0.N) (h : t.val % 4 = 0) (p : Fin 1) (q : Fin 1024) :
    (outsAt0 m c t.val t.isLt).2 (ix2 p q) = part (iblk m c 0 t) (iblk m c 1 t) q := by
  have hN : t.val < 4 := lt_of_lt_of_eq t.isLt N_0
  rw [outsAt0_A m c t h (by omega)]
  frame_out
  exact pay4_at _ _ p q

theorem next (c : Dev nD) (t : Fin cfg0.N) (h : ¬ t.val % 4 = 0) (p : Fin 1) (q : Fin 1024) :
    (outsAt0 m c t.val t.isLt).2 (ix2 p q) = (outsAt0 m c (t.val - 1) (Nat.lt_of_le_of_lt (Nat.sub_le _ _) t.isLt)).2 (ix2 p q)
      + part (iblk m c 0 t) (iblk m c 1 t) q := by
  have hN : t.val < 4 := lt_of_lt_of_eq t.isLt N_0
  rw [outsAt0_B m c t h (by omega)]
  frame_out
  try simp only [read_unread_whole]
  exact pay5_at _ _ _ p q

theorem mid (c : Dev nD) (t : Fin cfg0.N) (p : Fin 544) (q : Fin 1024) :
    (outsAt0 m c t.val t.isLt).1 (ix2 p q) = k0_pay3 (iblk m c 0 t) (iblk m c 1 t) (iblk m c 2 t) (ix2 p q) := by
  have hN : t.val < 4 := lt_of_lt_of_eq t.isLt N_0
  by_cases h : t.val % 4 = 0
  · rw [outsAt0_A m c t h (by omega)]
    frame_out
  · rw [outsAt0_B m c t h (by omega)]
    frame_out

theorem idx : ∀ t : Fin cfg0.N, win0_0.index t = ![t.val, 0] ∧ win0_1.index t = ![t.val, 1] ∧ win0_2.index t = ![0, 0] ∧ win0_3.index t = ![t.val, 0] ∧ win0_4.index t = ![0, 0] :=
  (by decide +kernel : ∀ t : Fin grid0.N, _)

/-- The row of the array under row `p` of the point's block. -/
def rowOf (t : Fin cfg0.N) (p : Fin 544) : Fin 2176 := ⟨t.val * 544 + p.val, by have h : t.val < 4 := lt_of_lt_of_eq t.isLt N_0; have := p.isLt; omega⟩

theorem read0 (c : Dev nD) (t : Fin cfg0.N) (p : Fin 544) (k : Fin 1024) :
    (iblk m c 0 t : Vec Ideal S544x1024 .f32) (ix2 p k) = m ((c : Thread nD τ).loc main_arg0) (ix2 (rowOf t p) (colX k)) := by
  unfold rowOf colX
  blk_ext [iblk, V, idx t]

theorem read1 (c : Dev nD) (t : Fin cfg0.N) (p : Fin 544) (k : Fin 1024) :
    iblk m c 1 t (ix2 p k) = m ((c : Thread nD τ).loc main_arg2) (ix2 (rowOf t p) (colY k)) := by unfold rowOf colY; blk_ext [iblk, V, idx t]

theorem read2 (c : Dev nD) (t : Fin cfg0.N) (p : Fin 1) (k : Fin 1024) :
    iblk m c 2 t (ix2 p k) = m ((c : Thread nD τ).loc main_arg1) (ix2 p k) := by blk_ext [iblk, V, idx t]

theorem part_eq (c : Dev nD) (t : Fin cfg0.N) (q : Fin 1024) :
    part (iblk m c 0 t) (iblk m c 1 t) q = ∑ p : Fin 544, term (m ((c : Thread nD τ).loc main_arg0)) (m ((c : Thread nD τ).loc main_arg2)) q (rowOf t p) := by
  refine Finset.sum_congr rfl fun p _ => ?_
  unfold term
  rw [read1 m c t p q, read0 m c t p q]
  simp only [read0 m c t p]

/-- After point `n`, the parts of the blocks up to it. -/
theorem upto (c : Dev nD) (q : Fin 1024) : ∀ (n : ℕ) (hn : n < cfg0.N), (outsAt0 m c n hn).2 (ix2 (0 : Fin 1) q)
    = ∑ s : Fin (n + 1), ∑ p : Fin 544, term (m ((c : Thread nD τ).loc main_arg0)) (m ((c : Thread nD τ).loc main_arg2)) q
        (rowOf ⟨s.val, Nat.lt_of_le_of_lt (Nat.le_of_lt_succ s.isLt) hn⟩ p)
  | 0, hn => by
    refine (first m c ⟨0, hn⟩ (Nat.zero_mod _) 0 q).trans ((part_eq m c _ q).trans ?_)
    refine Eq.trans ?_ (Fin.sum_univ_castSucc _).symm
    rw [Fin.sum_univ_zero, zero_add]
    rfl
  | n + 1, hn => by
    have hN : n + 1 < 4 := lt_of_lt_of_eq hn N_0
    refine (next m c ⟨n + 1, hn⟩ (show ¬ (n + 1) % 4 = 0 by omega) 0 q).trans ?_
    rw [part_eq]
    refine Eq.trans ?_ (Fin.sum_univ_castSucc _).symm
    exact congrArg₂ (fun a b : EReal => a + b) (upto c q n (Nat.lt_of_succ_lt hn)) rfl

theorem all (c : Dev nD) (q : Fin 1024) (hn : 3 < cfg0.N) : (outsAt0 m c 3 hn).2 (ix2 (0 : Fin 1) q)
    = ∑ p : Fin 2176, term (m ((c : Thread nD τ).loc main_arg0)) (m ((c : Thread nD τ).loc main_arg2)) q p := by
  refine (upto m c q 3 hn).trans ?_
  exact Fin.sum_mul_add_congr fun s k hl => rfl

theorem final3 (c : Dev nD) : (dats m 0 c).arrAt 3 (cfgs 0).N
    = GX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0_0).slice (win0_3.rect t)).emb (ix2 y0 y1)) = ix2 (rowOf t y0) y1 := by unfold rowOf; blk_ext [idx t]
  refine Eq.trans ?_ (congrArg (GX (m ((c : Thread nD τ).loc main_arg0)) (m ((c : Thread nD τ).loc main_arg1)) (m ((c : Thread nD τ).loc main_arg2))) he.symm)
  refine (mid m c t y0 y1).trans ((pay3_at _ _ _ y0 y1).trans ?_)
  simp only [read0 m c t y0, read1 m c t y0, read2 m c t]
  rfl

theorem final4 (c : Dev nD) : (dats m 0 c).arrAt 4 (cfgs 0).N
    = GG (m ((c : Thread nD τ).loc main_arg0)) (m ((c : Thread nD τ).loc main_arg2)) := by
  refine (dats m 0 c).arrAt_eq_of_covers 4 _ (by decide +kernel) fun t hf y => ?_
  blk_simp
  rw [after0_4]
  idx_vars y
  obtain rfl : y0 = (0 : Fin 1) := Subsingleton.elim _ _
  have he : (((View.whole main_v0_1).slice (win0_4.rect t)).emb (ix2 (0 : Fin 1) y1)) = ix2 (0 : Fin 1) y1 := by blk_ext [idx t]
  refine Eq.trans ?_ (congrArg (GG (m ((c : Thread nD τ).loc main_arg0)) (m ((c : Thread nD τ).loc main_arg2))) he.symm)
  have ht : t.val = 3 := by have := (flush0_4 t).mp hf; have hN : t.val < 4 := lt_of_lt_of_eq t.isLt N_0; omega
  obtain ⟨n, hn⟩ := t
  obtain rfl : n = 3 := ht
  exact all m c y1 hn

theorem gx_at (X : FVec Ideal S2176x1024 .f32) (g : FVec Ideal S1x1024 .f32) (Y : FVec Ideal S2176x2048 .f32) (p : Fin 2176) (q : Fin 1024) :
    GX X g Y (ix2 p q) = rdx wd ep (Ideal.ofBits .f32 0xBF000000#32) (fun k => X (ix2 p (colX k))) (fun k => Y (ix2 p (colY k)) * g (ix2 (0 : Fin 1) k)) q := by
  obtain ⟨e, he, hE⟩ := eps
  unfold GX wd ep
  rw [hE, n1024, half]
  exact equal _ e (by norm_num) he _ _ q

theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = GX (m ((c : Thread nD τ).loc main_arg0)) (m ((c : Thread nD τ).loc main_arg1)) (m ((c : Thread nD τ).loc main_arg2))
      ∧ r.2.mem ((c.tc : Thread nD τ).loc main_v0_1) = GG (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 3).trans (final3 m c), ((h.2 c).1 4).trans (final4 m c), h.1 c⟩)
    (θ_run_and (unchanged m g) (run_main m g))

theorem algebraic : Cert.algebraic_Kernel26Ideal_Reference26Ideal := by
  intro m g m' g' hpre hagree
  refine ⟨fun c => GX (m ((c : Thread nD τ).loc main_arg0)) (m ((c : Thread nD τ).loc main_arg1)) (m ((c : Thread nD τ).loc main_arg2)), fun c => GG (m ((c : Thread nD τ).loc main_arg0)) (m ((c : Thread nD τ).loc main_arg2)), run_values m g, ?_⟩
  refine θ_run_mono (Cert.Reference26Ideal.Value.run m' g') fun r h c => ?_
  obtain ⟨e0, e1, e2⟩ := hagree c
  refine ⟨(h c).1.trans ?_, (h c).2.1.trans ?_, (h c).2.2⟩
  · beta_reduce
    rw [← e0, ← e1, ← e2]
    funext i
    idx_vars i
    refine Eq.trans ?_ (gx_at _ _ _ i0 i1).symm
    pointwise [rdx, var, wd, ep, colX, colY]
  · beta_reduce
    rw [← e0, ← e2]
    funext i
    idx_vars i
    pointwise [GG, term, var, wd, ep, colX, colY]
    exact Finset.sum_congr rfl fun x _ => mul_comm _ _

theorem frames : Cert.quiescent_Kernel26 ∧ Cert.quiescent_Kernel26Ideal ∧ Cert.quiescent_Reference26Ideal :=
  ⟨fun m g _ => Cert.Kernel26.Gen.frame m g, fun m g _ => Cert.Kernel26Ideal.Gen.frame m g, fun m g _ => by
    run_from Cert.Reference26Ideal.Value.run m g
    all_goals first | exact sem_eq_zero_of_no_sems (sig := Cert.Reference26Ideal.sig) rfl _ | exact fun _ => ⟨trivial, trivial⟩ | exact fun _ => ⟨trivial, trivial, trivial⟩⟩

end Cert.Kernel26Ideal.Rows

end
-- ==== Proof.NormSsm.lean ====
/- The gradient of the state space output's norm. -/
module

public import proofs.«01_k».proof.Proof.Gen.Kernel27.Frame
public import proofs.«01_k».proof.Proof.Gen.Kernel27Ideal.Frame
public import proofs.«01_k».proof.Proof.Gen.Reference27Ideal.Run
public import proofs.«01_k».proof.Proof.NormTerms
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel27Ideal.Rows

open Cert.Kernel27Ideal Cert.Kernel27Ideal.Gen Idealize.ShloMosaic Idealize.ShloMosaic.TcCoe Idealize.SL.Sem
open Idealize.ShloMosaic.Pipeline (Dat)
open Cert.NormTerms

/-- The width and the small constant, as the programs write them. -/
def wd : EReal := Ideal.ofBits .f32 0x44800000#32
def ep : EReal := Ideal.ofBits .f32 0x358637BD#32

/-- The columns read of the norm's input and of the incoming gradient. -/
def colX (k : Fin 1024) : Fin 1024 := k
def colY (k : Fin 1024) : Fin 2048 := (⟨0 + k.val, by have := k.isLt; omega⟩ : Fin 2048)

/-- The gradient by the input. -/
def GX (X : FVec Ideal S2176x1024 .f32) (g : FVec Ideal S1x1024 .f32) (Y : FVec Ideal S2176x2048 .f32) : FVec Ideal S2176x1024 .f32 :=
  fun i => kdx wd ep (fun k => X (ix2 (i 0) (colX k))) (fun k => Y (ix2 (i 0) (colY k)) * g (ix2 (0 : Fin 1) k)) (i 1)

/-- A row's part of the gradient by the scale. -/
def term (X : FVec Ideal S2176x1024 .f32) (Y : FVec Ideal S2176x2048 .f32) (q : Fin 1024) (p : Fin 2176) : EReal :=
  Y (ix2 p (colY q)) * (X (ix2 p (colX q)) * Ideal.rsqrt (var wd ep fun k => X (ix2 p (colX k))))

/-- The gradient by the scale. -/
def GG (X : FVec Ideal S2176x1024 .f32) (Y : FVec Ideal S2176x2048 .f32) : FVec Ideal S1x1024 .f32 :=
  fun i => ∑ p : Fin 2176, term X Y (i 1) p

/-- A block's part of the gradient by the scale. -/
def part (v0 v1 : Vec Ideal S544x1024 .f32) (q : Fin 1024) : EReal :=
  ∑ p : Fin 544, v1 (ix2 p q) * (v0 (ix2 p q) * Ideal.rsqrt (var wd ep fun k => v0 (ix2 p k)))

theorem pay3_at (v0 v1 : Vec Ideal S544x1024 .f32) (v2 : Vec Ideal S1x1024 .f32) (p : Fin 544) (q : Fin 1024) :
    k0_pay3 v0 v1 v2 (ix2 p q) = kdx wd ep (fun k => v0 (ix2 p k)) (fun k => v1 (ix2 p k) * v2 (ix2 (0 : Fin 1) k)) q := by
  pointwise [k0_pay3, k0_pay2, k0_pay1, kdx, var, wd, ep]

theorem pay4_at (v0 v1 : Vec Ideal S544x1024 .f32) (p : Fin 1) (q : Fin 1024) : k0_pay4 v0 v1 (ix2 p q) = part v0 v1 q := by
  pointwise [k0_pay4, k0_pay2, k0_pay1, part, var, wd, ep]

theorem pay5_at (v0 v1 : Vec Ideal S544x1024 .f32) (v2 : Vec Ideal S1x1024 .f32) (p : Fin 1) (q : Fin 1024) :
    k0_pay5 v0 v1 v2 (ix2 p q) = v2 (ix2 p q) + part v0 v1 q := by
  pointwise [k0_pay5, k0_pay4, k0_pay2, k0_pay1, part, var, wd, ep]

variable (m : (ℓ : Loc nD τ sig) → Buf (Elt Ideal) ℓ)

theorem first (c : Dev nD) (t : Fin cfg0.N) (h : t.val % 4 = 0) (p : Fin 1) (q : Fin 1024) :
    (outsAt0 m c t.val t.isLt).2 (ix2 p q) = part (iblk m c 0 t) (iblk m c 1 t) q := by
  have hN : t.val < 4 := lt_of_lt_of_eq t.isLt N_0
  rw [outsAt0_A m c t h (by omega)]
  frame_out
  exact pay4_at _ _ p q

theorem next (c : Dev nD) (t : Fin cfg0.N) (h : ¬ t.val % 4 = 0) (p : Fin 1) (q : Fin 1024) :
    (outsAt0 m c t.val t.isLt).2 (ix2 p q) = (outsAt0 m c (t.val - 1) (Nat.lt_of_le_of_lt (Nat.sub_le _ _) t.isLt)).2 (ix2 p q)
      + part (iblk m c 0 t) (iblk m c 1 t) q := by
  have hN : t.val < 4 := lt_of_lt_of_eq t.isLt N_0
  rw [outsAt0_B m c t h (by omega)]
  frame_out
  try simp only [read_unread_whole]
  exact pay5_at _ _ _ p q

theorem mid (c : Dev nD) (t : Fin cfg0.N) (p : Fin 544) (q : Fin 1024) :
    (outsAt0 m c t.val t.isLt).1 (ix2 p q) = k0_pay3 (iblk m c 0 t) (iblk m c 1 t) (iblk m c 2 t) (ix2 p q) := by
  have hN : t.val < 4 := lt_of_lt_of_eq t.isLt N_0
  by_cases h : t.val % 4 = 0
  · rw [outsAt0_A m c t h (by omega)]
    frame_out
  · rw [outsAt0_B m c t h (by omega)]
    frame_out

theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

/-- The row of the array under row `p` of the point's block. -/
def rowOf (t : Fin cfg0.N) (p : Fin 544) : Fin 2176 := ⟨t.val * 544 + p.val, by have h : t.val < 4 := lt_of_lt_of_eq t.isLt N_0; have := p.isLt; omega⟩

theorem read0 (c : Dev nD) (t : Fin cfg0.N) (p : Fin 544) (k : Fin 1024) :
    (iblk m c 0 t : Vec Ideal S544x1024 .f32) (ix2 p k) = m ((c : Thread nD τ).loc main_arg0) (ix2 (rowOf t p) (colX k)) := by
  unfold rowOf colX
  blk_ext [iblk, V, idx t]

theorem read1 (c : Dev nD) (t : Fin cfg0.N) (p : Fin 544) (k : Fin 1024) :
    iblk m c 1 t (ix2 p k) = m ((c : Thread nD τ).loc main_arg2) (ix2 (rowOf t p) (colY k)) := by unfold rowOf colY; blk_ext [iblk, V, idx t]

theorem read2 (c : Dev nD) (t : Fin cfg0.N) (p : Fin 1) (k : Fin 1024) :
    iblk m c 2 t (ix2 p k) = m ((c : Thread nD τ).loc main_arg1) (ix2 p k) := by blk_ext [iblk, V, idx t]

theorem part_eq (c : Dev nD) (t : Fin cfg0.N) (q : Fin 1024) :
    part (iblk m c 0 t) (iblk m c 1 t) q = ∑ p : Fin 544, term (m ((c : Thread nD τ).loc main_arg0)) (m ((c : Thread nD τ).loc main_arg2)) q (rowOf t p) := by
  refine Finset.sum_congr rfl fun p _ => ?_
  unfold term
  rw [read1 m c t p q, read0 m c t p q]
  simp only [read0 m c t p]

/-- After point `n`, the parts of the blocks up to it. -/
theorem upto (c : Dev nD) (q : Fin 1024) : ∀ (n : ℕ) (hn : n < cfg0.N), (outsAt0 m c n hn).2 (ix2 (0 : Fin 1) q)
    = ∑ s : Fin (n + 1), ∑ p : Fin 544, term (m ((c : Thread nD τ).loc main_arg0)) (m ((c : Thread nD τ).loc main_arg2)) q
        (rowOf ⟨s.val, Nat.lt_of_le_of_lt (Nat.le_of_lt_succ s.isLt) hn⟩ p)
  | 0, hn => by
    refine (first m c ⟨0, hn⟩ (Nat.zero_mod _) 0 q).trans ((part_eq m c _ q).trans ?_)
    refine Eq.trans ?_ (Fin.sum_univ_castSucc _).symm
    rw [Fin.sum_univ_zero, zero_add]
    rfl
  | n + 1, hn => by
    have hN : n + 1 < 4 := lt_of_lt_of_eq hn N_0
    refine (next m c ⟨n + 1, hn⟩ (show ¬ (n + 1) % 4 = 0 by omega) 0 q).trans ?_
    rw [part_eq]
    refine Eq.trans ?_ (Fin.sum_univ_castSucc _).symm
    exact congrArg₂ (fun a b : EReal => a + b) (upto c q n (Nat.lt_of_succ_lt hn)) rfl

theorem all (c : Dev nD) (q : Fin 1024) (hn : 3 < cfg0.N) : (outsAt0 m c 3 hn).2 (ix2 (0 : Fin 1) q)
    = ∑ p : Fin 2176, term (m ((c : Thread nD τ).loc main_arg0)) (m ((c : Thread nD τ).loc main_arg2)) q p := by
  refine (upto m c q 3 hn).trans ?_
  exact Fin.sum_mul_add_congr fun s k hl => rfl

theorem final3 (c : Dev nD) : (dats m 0 c).arrAt 3 (cfgs 0).N
    = GX (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have he : (((View.whole main_v0_0).slice (win0_3.rect t)).emb (ix2 y0 y1)) = ix2 (rowOf t y0) y1 := by unfold rowOf; blk_ext [idx t]
  refine Eq.trans ?_ (congrArg (GX (m ((c : Thread nD τ).loc main_arg0)) (m ((c : Thread nD τ).loc main_arg1)) (m ((c : Thread nD τ).loc main_arg2))) he.symm)
  refine (mid m c t y0 y1).trans ((pay3_at _ _ _ y0 y1).trans ?_)
  simp only [read0 m c t y0, read1 m c t y0, read2 m c t]
  rfl

theorem final4 (c : Dev nD) : (dats m 0 c).arrAt 4 (cfgs 0).N
    = GG (m ((c : Thread nD τ).loc main_arg0)) (m ((c : Thread nD τ).loc main_arg2)) := by
  refine (dats m 0 c).arrAt_eq_of_covers 4 _ (by decide +kernel) fun t hf y => ?_
  blk_simp
  rw [after0_4]
  idx_vars y
  obtain rfl : y0 = (0 : Fin 1) := Subsingleton.elim _ _
  have he : (((View.whole main_v0_1).slice (win0_4.rect t)).emb (ix2 (0 : Fin 1) y1)) = ix2 (0 : Fin 1) y1 := by blk_ext [idx t]
  refine Eq.trans ?_ (congrArg (GG (m ((c : Thread nD τ).loc main_arg0)) (m ((c : Thread nD τ).loc main_arg2))) he.symm)
  have ht : t.val = 3 := by have := (flush0_4 t).mp hf; have hN : t.val < 4 := lt_of_lt_of_eq t.isLt N_0; omega
  obtain ⟨n, hn⟩ := t
  obtain rfl : n = 3 := ht
  exact all m c y1 hn

theorem gx_at (X : FVec Ideal S2176x1024 .f32) (g : FVec Ideal S1x1024 .f32) (Y : FVec Ideal S2176x2048 .f32) (p : Fin 2176) (q : Fin 1024) :
    GX X g Y (ix2 p q) = rdx wd ep (Ideal.ofBits .f32 0xBF000000#32) (fun k => X (ix2 p (colX k))) (fun k => Y (ix2 p (colY k)) * g (ix2 (0 : Fin 1) k)) q := by
  obtain ⟨e, he, hE⟩ := eps
  unfold GX wd ep
  rw [hE, n1024, half]
  exact equal _ e (by norm_num) he _ _ q

theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = GX (m ((c : Thread nD τ).loc main_arg0)) (m ((c : Thread nD τ).loc main_arg1)) (m ((c : Thread nD τ).loc main_arg2))
      ∧ r.2.mem ((c.tc : Thread nD τ).loc main_v0_1) = GG (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 3).trans (final3 m c), ((h.2 c).1 4).trans (final4 m c), h.1 c⟩)
    (θ_run_and (unchanged m g) (run_main m g))

theorem algebraic : Cert.algebraic_Kernel27Ideal_Reference27Ideal := by
  intro m g m' g' hpre hagree
  refine ⟨fun c => GX (m ((c : Thread nD τ).loc main_arg0)) (m ((c : Thread nD τ).loc main_arg1)) (m ((c : Thread nD τ).loc main_arg2)), fun c => GG (m ((c : Thread nD τ).loc main_arg0)) (m ((c : Thread nD τ).loc main_arg2)), run_values m g, ?_⟩
  refine θ_run_mono (Cert.Reference27Ideal.Value.run m' g') fun r h c => ?_
  obtain ⟨e0, e1, e2⟩ := hagree c
  refine ⟨(h c).1.trans ?_, (h c).2.1.trans ?_, (h c).2.2⟩
  · beta_reduce
    rw [← e0, ← e1, ← e2]
    funext i
    idx_vars i
    refine Eq.trans ?_ (gx_at _ _ _ i0 i1).symm
    pointwise [rdx, var, wd, ep, colX, colY]
  · beta_reduce
    rw [← e0, ← e2]
    funext i
    idx_vars i
    pointwise [GG, term, var, wd, ep, colX, colY]
    exact Finset.sum_congr rfl fun x _ => mul_comm _ _

theorem frames : Cert.quiescent_Kernel27 ∧ Cert.quiescent_Kernel27Ideal ∧ Cert.quiescent_Reference27Ideal :=
  ⟨fun m g _ => Cert.Kernel27.Gen.frame m g, fun m g _ => Cert.Kernel27Ideal.Gen.frame m g, fun m g _ => by
    run_from Cert.Reference27Ideal.Value.run m g
    all_goals first | exact sem_eq_zero_of_no_sems (sig := Cert.Reference27Ideal.sig) rfl _ | exact fun _ => ⟨trivial, trivial⟩ | exact fun _ => ⟨trivial, trivial, trivial⟩⟩

end Cert.Kernel27Ideal.Rows

end
-- ==== Proof.NormFfn.lean ====
/- The gradient of the feed-forward norm, with the residual's added, zero in the padding rows. -/
module

public import proofs.«01_k».proof.Proof.Gen.Kernel28.Frame
public import proofs.«01_k».proof.Proof.Gen.Kernel28Ideal.Frame
public import proofs.«01_k».proof.Proof.Gen.Reference28Ideal.Run
public import proofs.«01_k».proof.Proof.NormTerms
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel28Ideal.Rows

open Cert.Kernel28Ideal Cert.Kernel28Ideal.Gen Idealize.ShloMosaic Idealize.ShloMosaic.TcCoe Idealize.SL.Sem
open Idealize.ShloMosaic.Pipeline (Dat)
open Cert.NormTerms

/-- The width and the small constant, as the programs write them. -/
def wd : EReal := Ideal.ofBits .f32 0x45000000#32
def ep : EReal := Ideal.ofBits .f32 0x358637BD#32

/-- The columns read of the norm's input and of the incoming gradient. -/
def colX (k : Fin 2048) : Fin 2048 := k
def colY (k : Fin 2048) : Fin 2048 := k

/-- The gradient by the input, the residual's added, zero in the padding rows. -/
def GM (X : FVec Ideal S2176x2048 .f32) (g : FVec Ideal S1x2048 .f32) (Y Z : FVec Ideal S2176x2048 .f32) : FVec Ideal S2176x2048 .f32 :=
  fun i => if 112 ≤ (i 0).val then kdx wd ep (fun k => X (ix2 (i 0) (colX k))) (fun k => Y (ix2 (i 0) (colY k)) * g (ix2 (0 : Fin 1) k)) (i 1) + Z i else 0

/-- The norm's gradient alone. -/
def GX (X : FVec Ideal S2176x2048 .f32) (g : FVec Ideal S1x2048 .f32) (Y : FVec Ideal S2176x2048 .f32) : FVec Ideal S2176x2048 .f32 :=
  fun i => kdx wd ep (fun k => X (ix2 (i 0) (colX k))) (fun k => Y (ix2 (i 0) (colY k)) * g (ix2 (0 : Fin 1) k)) (i 1)

/-- A row's part of the gradient by the scale. -/
def term (X : FVec Ideal S2176x2048 .f32) (Y : FVec Ideal S2176x2048 .f32) (q : Fin 2048) (p : Fin 2176) : EReal :=
  Y (ix2 p (colY q)) * (X (ix2 p (colX q)) * Ideal.rsqrt (var wd ep fun k => X (ix2 p (colX k))))

/-- The gradient by the scale. -/
def GG (X : FVec Ideal S2176x2048 .f32) (Y : FVec Ideal S2176x2048 .f32) : FVec Ideal S1x2048 .f32 :=
  fun i => ∑ p : Fin 2176, term X Y (i 1) p

/-- A block's part of the gradient by the scale. -/
def part (v0 v1 : Vec Ideal S272x2048 .f32) (q : Fin 2048) : EReal :=
  ∑ p : Fin 272, v1 (ix2 p q) * (v0 (ix2 p q) * Ideal.rsqrt (var wd ep fun k => v0 (ix2 p k)))

/-- The comparison that keeps the rows past the padding. -/
theorem keep : ∀ (t : Fin 8) (p : Fin 272), IntOp.cmpi CmpIPredicate.sge (IntOp.addi (Scalar.muli (BitVec.ofNat 32 t.val) 272#32) (BitVec.ofNat 32 p.val)) 112#32
    = if 112 ≤ t.val * 272 + p.val then 1#1 else 0#1 := by decide +kernel

theorem pay6_at (i : grid0.Coords) (v4 v5 v6 : Vec Ideal S272x2048 .f32) (v7 : Vec Ideal S1x2048 .f32) (p : Fin 272) (q : Fin 2048) :
    k0_pay6 i v4 v5 v6 v7 (ix2 p q) = if 112 ≤ (i 0).val * 272 + p.val then
      kdx wd ep (fun k => v4 (ix2 p k)) (fun k => v5 (ix2 p k) * v7 (ix2 (0 : Fin 1) k)) q + v6 (ix2 p q) else 0 := by
  have hk := keep (⟨(i 0).val, (i 0).isLt⟩ : Fin 8) p
  pointwise [k0_pay6, k0_pay4, k0_pay3, kdx, var, wd, ep]
  rw [hk]
  split_ifs <;> rfl

theorem pay1_at (v0 v1 : Vec Ideal S272x2048 .f32) (p : Fin 1) (q : Fin 2048) : k0_pay1 (k0_pay5 v0 v1) (ix2 p q) = part v0 v1 q := by
  pointwise [k0_pay1, k0_pay5, k0_pay4, k0_pay3, part, var, wd, ep]

theorem pay2_at (v0 v1 : Vec Ideal S272x2048 .f32) (v2 : Vec Ideal S1x2048 .f32) (p : Fin 1) (q : Fin 2048) :
    k0_pay2 (k0_pay5 v0 v1) v2 (ix2 p q) = v2 (ix2 p q) + part v0 v1 q := by
  pointwise [k0_pay2, k0_pay1, k0_pay5, k0_pay4, k0_pay3, part, var, wd, ep]

variable (m : (ℓ : Loc nD τ sig) → Buf (Elt Ideal) ℓ)

theorem first (c : Dev nD) (t : Fin cfg0.N) (h : t.val % 8 = 0) (p : Fin 1) (q : Fin 2048) :
    (outsAt0 m c t.val t.isLt).2.2 (ix2 p q) = part (iblk m c 0 t) (iblk m c 1 t) q := by
  have hN : t.val < 8 := lt_of_lt_of_eq t.isLt N_0
  rw [outsAt0_A m c t h (by omega)]
  frame_out
  exact pay1_at _ _ p q

theorem next (c : Dev nD) (t : Fin cfg0.N) (h : ¬ t.val % 8 = 0) (p : Fin 1) (q : Fin 2048) :
    (outsAt0 m c t.val t.isLt).2.2 (ix2 p q) = (outsAt0 m c (t.val - 1) (Nat.lt_of_le_of_lt (Nat.sub_le _ _) t.isLt)).2.2 (ix2 p q)
      + part (iblk m c 0 t) (iblk m c 1 t) q := by
  have hN : t.val < 8 := lt_of_lt_of_eq t.isLt N_0
  rw [outsAt0_B m c t h (by omega)]
  frame_out
  try simp only [read_unread_whole]
  exact pay2_at _ _ _ p q

theorem mid (c : Dev nD) (t : Fin cfg0.N) (p : Fin 272) (q : Fin 2048) :
    (outsAt0 m c t.val t.isLt).1 (ix2 p q) = k0_pay6 (grid0.coords t) (iblk m c 0 t) (iblk m c 1 t) (iblk m c 2 t) (iblk m c 3 t) (ix2 p q)
    ∧ (outsAt0 m c t.val t.isLt).2.1 (ix2 p q) = k0_pay7 (grid0.coords t) (iblk m c 0 t) (iblk m c 1 t) (iblk m c 2 t) (iblk m c 3 t) (ix2 p q) := by
  have hN : t.val < 8 := lt_of_lt_of_eq t.isLt N_0
  by_cases h : t.val % 8 = 0
  · rw [outsAt0_A m c t h (by omega)]
    constructor <;> frame_out
  · rw [outsAt0_B m c t h (by omega)]
    constructor <;> frame_out

theorem pay7_at (i : grid0.Coords) (v4 v5 v6 : Vec Ideal S272x2048 .f32) (v7 : Vec Ideal S1x2048 .f32) (p : Fin 272) (q : Fin 2048) :
    (k0_pay7 i v4 v5 v6 v7 (ix2 p q) : EReal) = k0_pay6 i v4 v5 v6 v7 (ix2 p q) := by
  unfold k0_pay7
  pointwise

theorem row0 (t : Fin cfg0.N) : (grid0.coords t 0).val = t.val := by
  have hN : t.val < 8 := lt_of_lt_of_eq t.isLt N_0
  have e0 : (grid0.coords t 0).val = t.val / 1 % 8 := Pipeline.Grid.coords_val t 0 (by decide) rfl
  omega

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The row of the array under row `p` of the point's block. -/
def rowOf (t : Fin cfg0.N) (p : Fin 272) : Fin 2176 := ⟨t.val * 272 + p.val, by have h : t.val < 8 := lt_of_lt_of_eq t.isLt N_0; have := p.isLt; omega⟩

theorem read0 (c : Dev nD) (t : Fin cfg0.N) (p : Fin 272) (k : Fin 2048) :
    (iblk m c 0 t : Vec Ideal S272x2048 .f32) (ix2 p k) = m ((c : Thread nD τ).loc main_arg0) (ix2 (rowOf t p) (colX k)) := by
  unfold rowOf colX
  blk_ext [iblk, V, idx t]

theorem read1 (c : Dev nD) (t : Fin cfg0.N) (p : Fin 272) (k : Fin 2048) :
    iblk m c 1 t (ix2 p k) = m ((c : Thread nD τ).loc main_arg2) (ix2 (rowOf t p) (colY k)) := by unfold rowOf colY; blk_ext [iblk, V, idx t]

theorem read2 (c : Dev nD) (t : Fin cfg0.N) (p : Fin 272) (k : Fin 2048) :
    iblk m c 2 t (ix2 p k) = m ((c : Thread nD τ).loc main_arg3) (ix2 (rowOf t p) k) := by unfold rowOf; blk_ext [iblk, V, idx t]

theorem read3 (c : Dev nD) (t : Fin cfg0.N) (p : Fin 1) (k : Fin 2048) :
    iblk m c 3 t (ix2 p k) = m ((c : Thread nD τ).loc main_arg1) (ix2 p k) := by blk_ext [iblk, V, idx t]

theorem point (c : Dev nD) (t : Fin cfg0.N) (p : Fin 272) (q : Fin 2048) :
    k0_pay6 (grid0.coords t) (iblk m c 0 t) (iblk m c 1 t) (iblk m c 2 t) (iblk m c 3 t) (ix2 p q)
      = GM (m ((c : Thread nD τ).loc main_arg0)) (m ((c : Thread nD τ).loc main_arg1)) (m ((c : Thread nD τ).loc main_arg2)) (m ((c : Thread nD τ).loc main_arg3)) (ix2 (rowOf t p) q) := by
  refine (pay6_at _ _ _ _ _ p q).trans ?_
  simp only [read0 m c t p, read1 m c t p, read2 m c t p, read3 m c t, row0 t]
  rfl

theorem part_eq (c : Dev nD) (t : Fin cfg0.N) (q : Fin 2048) :
    part (iblk m c 0 t) (iblk m c 1 t) q = ∑ p : Fin 272, term (m ((c : Thread nD τ).loc main_arg0)) (m ((c : Thread nD τ).loc main_arg2)) q (rowOf t p) := by
  refine Finset.sum_congr rfl fun p _ => ?_
  unfold term
  rw [read1 m c t p q, read0 m c t p q]
  simp only [read0 m c t p]

/-- After point `n`, the parts of the blocks up to it. -/
theorem upto (c : Dev nD) (q : Fin 2048) : ∀ (n : ℕ) (hn : n < cfg0.N), (outsAt0 m c n hn).2.2 (ix2 (0 : Fin 1) q)
    = ∑ s : Fin (n + 1), ∑ p : Fin 272, term (m ((c : Thread nD τ).loc main_arg0)) (m ((c : Thread nD τ).loc main_arg2)) q
        (rowOf ⟨s.val, Nat.lt_of_le_of_lt (Nat.le_of_lt_succ s.isLt) hn⟩ p)
  | 0, hn => by
    refine (first m c ⟨0, hn⟩ (Nat.zero_mod _) 0 q).trans ((part_eq m c _ q).trans ?_)
    refine Eq.trans ?_ (Fin.sum_univ_castSucc _).symm
    rw [Fin.sum_univ_zero, zero_add]
    rfl
  | n + 1, hn => by
    have hN : n + 1 < 8 := lt_of_lt_of_eq hn N_0
    refine (next m c ⟨n + 1, hn⟩ (show ¬ (n + 1) % 8 = 0 by omega) 0 q).trans ?_
    rw [part_eq]
    refine Eq.trans ?_ (Fin.sum_univ_castSucc _).symm
    exact congrArg₂ (fun a b : EReal => a + b) (upto c q n (Nat.lt_of_succ_lt hn)) rfl

theorem all (c : Dev nD) (q : Fin 2048) (hn : 7 < cfg0.N) : (outsAt0 m c 7 hn).2.2 (ix2 (0 : Fin 1) q)
    = ∑ p : Fin 2176, term (m ((c : Thread nD τ).loc main_arg0)) (m ((c : Thread nD τ).loc main_arg2)) q p := by
  refine (upto m c q 7 hn).trans ?_
  exact Fin.sum_mul_add_congr fun s k hl => rfl

theorem final4 (c : Dev nD) : ((dats m 0 c).arrAt 4 (cfgs 0).N : FVec Ideal S2176x2048 .f32)
    = (GM (m ((c : Thread nD τ).loc main_arg0)) (m ((c : Thread nD τ).loc main_arg1)) (m ((c : Thread nD τ).loc main_arg2)) (m ((c : Thread nD τ).loc main_arg3)) : FVec Ideal S2176x2048 .f32) := by
  refine (dats m 0 c).arrAt_eq_of_covers 4 _ (by decide +kernel) fun t _ y => ?_
  blk_simp
  rw [after0_4]
  idx_vars y
  have he : (((View.whole main_v0_0).slice (win0_4.rect t)).emb (ix2 y0 y1)) = ix2 (rowOf t y0) y1 := by unfold rowOf; blk_ext [idx t]
  refine Eq.trans ?_ (congrArg (GM (m ((c : Thread nD τ).loc main_arg0)) (m ((c : Thread nD τ).loc main_arg1)) (m ((c : Thread nD τ).loc main_arg2)) (m ((c : Thread nD τ).loc main_arg3))) he.symm)
  exact (mid m c t y0 y1).1.trans (point m c t y0 y1)

theorem final5 (c : Dev nD) : ((dats m 0 c).arrAt 5 (cfgs 0).N : FVec Ideal S2176x2048 .bf16)
    = (GM (m ((c : Thread nD τ).loc main_arg0)) (m ((c : Thread nD τ).loc main_arg1)) (m ((c : Thread nD τ).loc main_arg2)) (m ((c : Thread nD τ).loc main_arg3)) : FVec Ideal S2176x2048 .f32) := by
  refine (dats m 0 c).arrAt_eq_of_covers 5 _ (by decide +kernel) fun t _ y => ?_
  blk_simp
  rw [after0_5]
  idx_vars y
  have he : (((View.whole main_v0_1).slice (win0_5.rect t)).emb (ix2 y0 y1)) = ix2 (rowOf t y0) y1 := by unfold rowOf; blk_ext [idx t]
  refine Eq.trans ?_ (congrArg (GM (m ((c : Thread nD τ).loc main_arg0)) (m ((c : Thread nD τ).loc main_arg1)) (m ((c : Thread nD τ).loc main_arg2)) (m ((c : Thread nD τ).loc main_arg3))) he.symm)
  exact (mid m c t y0 y1).2.trans ((pay7_at _ _ _ _ _ y0 y1).trans <| point m c t y0 y1)

theorem final6 (c : Dev nD) : (dats m 0 c).arrAt 6 (cfgs 0).N
    = GG (m ((c : Thread nD τ).loc main_arg0)) (m ((c : Thread nD τ).loc main_arg2)) := by
  refine (dats m 0 c).arrAt_eq_of_covers 6 _ (by decide +kernel) fun t hf y => ?_
  blk_simp
  rw [after0_6]
  idx_vars y
  obtain rfl : y0 = (0 : Fin 1) := Subsingleton.elim _ _
  have he : (((View.whole main_v0_2).slice (win0_6.rect t)).emb (ix2 (0 : Fin 1) y1)) = ix2 (0 : Fin 1) y1 := by blk_ext [idx t]
  refine Eq.trans ?_ (congrArg (GG (m ((c : Thread nD τ).loc main_arg0)) (m ((c : Thread nD τ).loc main_arg2))) he.symm)
  have ht : t.val = 7 := by have := (flush0_6 t).mp hf; have hN : t.val < 8 := lt_of_lt_of_eq t.isLt N_0; omega
  obtain ⟨n, hn⟩ := t
  obtain rfl : n = 7 := ht
  exact all m c y1 hn

theorem gx_at (X : FVec Ideal S2176x2048 .f32) (g : FVec Ideal S1x2048 .f32) (Y : FVec Ideal S2176x2048 .f32) (p : Fin 2176) (q : Fin 2048) :
    GX X g Y (ix2 p q) = rdx wd ep (Ideal.ofBits .f32 0xBF000000#32) (fun k => X (ix2 p (colX k))) (fun k => Y (ix2 p (colY k)) * g (ix2 (0 : Fin 1) k)) q := by
  obtain ⟨e, he, hE⟩ := eps
  unfold GX wd ep
  rw [hE, n2048, half]
  exact equal _ e (by norm_num) he _ _ q

theorem gm_at (X : FVec Ideal S2176x2048 .f32) (g : FVec Ideal S1x2048 .f32) (Y Z : FVec Ideal S2176x2048 .f32) (p : Fin 2176) (q : Fin 2048) :
    GM X g Y Z (ix2 p q) = if 112 ≤ p.val then
      rdx wd ep (Ideal.ofBits .f32 0xBF000000#32) (fun k => X (ix2 p (colX k))) (fun k => Y (ix2 p (colY k)) * g (ix2 (0 : Fin 1) k)) q + Z (ix2 p q) else 0 := by
  rw [← gx_at]
  rfl

end Cert.Kernel28Ideal.Rows

end
-- ==== Proof.NormFfnRef.lean ====
/- The gradient of the feed-forward norm, with the residual's added, zero in the padding rows. -/
module

public import proofs.«01_k».proof.Proof.Gen.Kernel28.Frame
public import proofs.«01_k».proof.Proof.Gen.Kernel28Ideal.Frame
public import proofs.«01_k».proof.Proof.Gen.Reference28Ideal.Run
public import proofs.«01_k».proof.Proof.NormFfn
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel28Ideal.Rows

open Cert.Kernel28Ideal Cert.Kernel28Ideal.Gen Idealize.ShloMosaic Idealize.ShloMosaic.TcCoe Idealize.SL.Sem
open Idealize.ShloMosaic.Pipeline (Dat)
open Cert.NormTerms

theorem ref0_at (m' : (ℓ : Loc Cert.Reference28Ideal.nD Cert.Reference28Ideal.τ Cert.Reference28Ideal.sig) → Buf (Elt Ideal) ℓ) (c : Dev Cert.Reference28Ideal.nD)
    (X : FVec Ideal S2176x2048 .f32) (g : FVec Ideal S1x2048 .f32) (Y Z : FVec Ideal S2176x2048 .f32)
    (hX : m' ((c.tc : Thread Cert.Reference28Ideal.nD Cert.Reference28Ideal.τ).loc Cert.Reference28Ideal.main_arg0) = X) (hg : m' ((c.tc : Thread Cert.Reference28Ideal.nD Cert.Reference28Ideal.τ).loc Cert.Reference28Ideal.main_arg1) = g)
    (hY : m' ((c.tc : Thread Cert.Reference28Ideal.nD Cert.Reference28Ideal.τ).loc Cert.Reference28Ideal.main_arg2) = Y) (hZ : m' ((c.tc : Thread Cert.Reference28Ideal.nD Cert.Reference28Ideal.τ).loc Cert.Reference28Ideal.main_arg3) = Z)
    (p : Fin 2176) (q : Fin 2048) : (Cert.Reference28Ideal.Value.res_out0 m' c : FVec Ideal Cert.Reference28Ideal.S2176x2048 .f32) (ix2 p q) = (GM X g Y Z (ix2 p q) : EReal) := by
  refine Eq.trans ?_ (gm_at X g Y Z p q).symm
  subst hX hg hY hZ
  have e : ∀ h : 112 + (p.val - 112) < 2176, 112 ≤ p.val → (⟨112 + (p.val - 112), h⟩ : Fin 2176) = p := fun h hp => Fin.ext (by show 112 + (p.val - 112) = p.val; omega)
  pointwise [Cert.Reference28Ideal.Value.res_out0, Cert.Reference28Ideal.Value.res_main_v37, rdx, var, wd, ep, colX, colY]
  by_cases hp : p.val < 112
  · exact (dif_pos hp).trans (if_neg (by omega)).symm
  · refine (dif_neg hp).trans (Eq.trans ?_ (if_pos (by omega)).symm)
    simp only [e _ (by omega : 112 ≤ p.val)]

theorem ref1_at (m' : (ℓ : Loc Cert.Reference28Ideal.nD Cert.Reference28Ideal.τ Cert.Reference28Ideal.sig) → Buf (Elt Ideal) ℓ) (c : Dev Cert.Reference28Ideal.nD)
    (X : FVec Ideal S2176x2048 .f32) (g : FVec Ideal S1x2048 .f32) (Y Z : FVec Ideal S2176x2048 .f32)
    (hX : m' ((c.tc : Thread Cert.Reference28Ideal.nD Cert.Reference28Ideal.τ).loc Cert.Reference28Ideal.main_arg0) = X) (hg : m' ((c.tc : Thread Cert.Reference28Ideal.nD Cert.Reference28Ideal.τ).loc Cert.Reference28Ideal.main_arg1) = g)
    (hY : m' ((c.tc : Thread Cert.Reference28Ideal.nD Cert.Reference28Ideal.τ).loc Cert.Reference28Ideal.main_arg2) = Y) (hZ : m' ((c.tc : Thread Cert.Reference28Ideal.nD Cert.Reference28Ideal.τ).loc Cert.Reference28Ideal.main_arg3) = Z)
    (p : Fin 2176) (q : Fin 2048) : (Cert.Reference28Ideal.Value.res_out1 m' c : FVec Ideal Cert.Reference28Ideal.S2176x2048 .bf16) (ix2 p q) = (GM X g Y Z (ix2 p q) : EReal) := by
  refine Eq.trans ?_ (gm_at X g Y Z p q).symm
  subst hX hg hY hZ
  have e : ∀ h : 112 + (p.val - 112) < 2176, 112 ≤ p.val → (⟨112 + (p.val - 112), h⟩ : Fin 2176) = p := fun h hp => Fin.ext (by show 112 + (p.val - 112) = p.val; omega)
  pointwise [Cert.Reference28Ideal.Value.res_out1, Cert.Reference28Ideal.Value.res_main_v38, rdx, var, wd, ep, colX, colY]
  by_cases hp : p.val < 112
  · exact (dif_pos hp).trans (if_neg (by omega)).symm
  · refine (dif_neg hp).trans (Eq.trans ?_ (if_pos (by omega)).symm)
    simp only [e _ (by omega : 112 ≤ p.val)]

end Cert.Kernel28Ideal.Rows

end
-- ==== Proof.NormFfnClaim.lean ====
/- The gradient of the feed-forward norm, with the residual's added, zero in the padding rows. -/
module

public import proofs.«01_k».proof.Proof.Gen.Kernel28.Frame
public import proofs.«01_k».proof.Proof.Gen.Kernel28Ideal.Frame
public import proofs.«01_k».proof.Proof.Gen.Reference28Ideal.Run
public import proofs.«01_k».proof.Proof.NormFfnRef
public import proofs.«01_k».proof.Defs
public import Idealize.ShloMosaic.Lib.Pointwise
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel28Ideal.Rows

open Cert.Kernel28Ideal Cert.Kernel28Ideal.Gen Idealize.ShloMosaic Idealize.ShloMosaic.TcCoe Idealize.SL.Sem
open Idealize.ShloMosaic.Pipeline (Dat)
open Cert.NormTerms

theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = GM (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = (GM (m ((c : Thread nD τ).loc main_arg0)) (m ((c : Thread nD τ).loc main_arg1)) (m ((c : Thread nD τ).loc main_arg2)) (m ((c : Thread nD τ).loc main_arg3)) : FVec Ideal S2176x2048 .f32)
      ∧ r.2.mem ((c.tc : Thread nD τ).loc main_v0_2) = GG (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 4).trans (final4 m c), ((h.2 c).1 5).trans (final5 m c), ((h.2 c).1 6).trans (final6 m c), h.1 c⟩)
    (θ_run_and (unchanged m g) (run_main m g))

theorem algebraic : Cert.algebraic_Kernel28Ideal_Reference28Ideal := by
  intro m g m' g' hpre hagree
  refine ⟨fun c => GM (m ((c : Thread nD τ).loc main_arg0)) (m ((c : Thread nD τ).loc main_arg1)) (m ((c : Thread nD τ).loc main_arg2)) (m ((c : Thread nD τ).loc main_arg3)), fun c => (GM (m ((c : Thread nD τ).loc main_arg0)) (m ((c : Thread nD τ).loc main_arg1)) (m ((c : Thread nD τ).loc main_arg2)) (m ((c : Thread nD τ).loc main_arg3)) : FVec Ideal S2176x2048 .f32), fun c => GG (m ((c : Thread nD τ).loc main_arg0)) (m ((c : Thread nD τ).loc main_arg2)), run_values m g, ?_⟩
  refine θ_run_mono (Cert.Reference28Ideal.Value.run m' g') fun r h c => ?_
  obtain ⟨e0, e1, e2, e3⟩ := hagree c
  refine ⟨(h c).1.trans ?_, (h c).2.1.trans ?_, (h c).2.2.1.trans ?_, (h c).2.2.2⟩
  · funext i
    idx_vars i
    exact ref0_at m' c _ _ _ _ e0 e1 e2 e3 i0 i1
  · funext i
    idx_vars i
    exact ref1_at m' c _ _ _ _ e0 e1 e2 e3 i0 i1
  · beta_reduce
    rw [← e0, ← e2]
    funext i
    idx_vars i
    pointwise [GG, term, var, wd, ep, colX, colY]
    exact Finset.sum_congr rfl fun x _ => mul_comm _ _

theorem frames : Cert.quiescent_Kernel28 ∧ Cert.quiescent_Kernel28Ideal ∧ Cert.quiescent_Reference28Ideal :=
  ⟨fun m g _ => Cert.Kernel28.Gen.frame m g, fun m g _ => Cert.Kernel28Ideal.Gen.frame m g, fun m g _ => by
    run_from Cert.Reference28Ideal.Value.run m g
    all_goals first | exact sem_eq_zero_of_no_sems (sig := Cert.Reference28Ideal.sig) rfl _ | exact fun _ => ⟨trivial, trivial⟩ | exact fun _ => ⟨trivial, trivial, trivial⟩ | exact fun _ => ⟨trivial, trivial, trivial, trivial⟩⟩

end Cert.Kernel28Ideal.Rows

end
-- ==== Proof.lean ====
/- The claims about the feed-forward block: its gated convolution, its products and their gradients. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Equal
public import Idealize.ShloMosaic.Lib.Claim
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite7
public import proofs.«01_k».proof.Proof.FfnUp
public import proofs.«01_k».proof.Proof.DwUp
public import proofs.«01_k».proof.Proof.DxUp
public import proofs.«01_k».proof.Proof.DwDown
public import proofs.«01_k».proof.Proof.Down
public import proofs.«01_k».proof.Proof.AttnClaim
public import proofs.«01_k».proof.Proof.AttnFwd
public import proofs.«01_k».proof.Proof.MixIn
public import proofs.«01_k».proof.Proof.MixOut
public import proofs.«01_k».proof.Proof.MixOutDx
public import proofs.«01_k».proof.Proof.MixOutDw
public import proofs.«01_k».proof.Proof.MixInDx
public import proofs.«01_k».proof.Proof.MixInDw
public import proofs.«01_k».proof.Proof.Glu
public import proofs.«01_k».proof.Proof.GluDx
public import proofs.«01_k».proof.Proof.GluDw
public import proofs.«01_k».proof.Proof.Query
public import proofs.«01_k».proof.Proof.QueryDx
public import proofs.«01_k».proof.Proof.QueryDw
public import proofs.«01_k».proof.Proof.Keys
public import proofs.«01_k».proof.Proof.KeysDx
public import proofs.«01_k».proof.Proof.KeysDw
public import proofs.«01_k».proof.Proof.NormQ
public import proofs.«01_k».proof.Proof.NormKv
public import proofs.«01_k».proof.Proof.NormAttn
public import proofs.«01_k».proof.Proof.NormSsm
public import proofs.«01_k».proof.Proof.NormFfnClaim

@[expose] public section

set_option maxRecDepth 65536

noncomputable section

namespace Cert.Proof

open Idealize.ShloMosaic Idealize.SL.Sem Cert.Kernel

theorem frame_Kernel : Cert.quiescent_Kernel := fun m g _ => Cert.Kernel.Gen.frame m g
theorem frame_KernelIdeal : Cert.quiescent_KernelIdeal := fun m g _ => Cert.KernelIdeal.Gen.frame m g
theorem frame_KernelIdeal_finite : Cert.quiescent_KernelIdeal_pre_finite := fun m g _ => Cert.KernelIdeal.Gen.frame m g
theorem frame_ReferenceIdeal : Cert.quiescent_ReferenceIdeal := by
  intro m g _
  run_from Cert.ReferenceIdeal.Value.run m g
  · exact fun _ => ⟨trivial, trivial, trivial, trivial, trivial⟩
  · exact sem_eq_zero_of_no_sems (sig := Cert.ReferenceIdeal.sig) rfl _
theorem frame_ReferenceIdeal_finite : Cert.quiescent_ReferenceIdeal_pre_finite := by
  intro m g _
  run_from Cert.ReferenceIdeal.Value.run m g
  · exact fun _ => ⟨trivial, trivial, trivial, trivial, trivial⟩
  · exact sem_eq_zero_of_no_sems (sig := Cert.ReferenceIdeal.sig) rfl _

theorem algebraic : Cert.algebraic_KernelIdeal_ReferenceIdeal_pre_finite := by
  pair_intro
  · run_from Cert.KernelIdeal.Gen.run_main m g
  · run_from Cert.ReferenceIdeal.Value.run m' g'
    · obtain ⟨e0, e1, e2, e3, e4⟩ := hagree c
      refine (Cert.ReferenceIdeal.Terms.out0_eq m' c).trans ?_
      rw [e0, e1, e2, e3, e4]
      exact (Cert.Equal.eq5 _ _ _ _ _ (hpre c)).trans (Cert.KernelIdeal.Cols.final5 m c).symm
    · obtain ⟨e0, e1, e2, e3, e4⟩ := hagree c
      refine (Cert.ReferenceIdeal.Terms.out1_eq m' c).trans ?_
      rw [e0, e1, e2, e3, e4]
      exact (Cert.Equal.eq6 _ _ _ _ _ (hpre c)).trans (Cert.KernelIdeal.Cols.final6 m c).symm
    · obtain ⟨e0, e1, e2, e3, e4⟩ := hagree c
      refine (Cert.ReferenceIdeal.Terms.out2_eq m' c).trans ?_
      rw [e0, e1, e2, e3, e4]
      exact (Cert.Equal.eq7 _ _ _ _ _ (hpre c)).trans (Cert.KernelIdeal.Cols.final7 m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Pre_finite.Gen.facts, Cert.Pre_finite7.Gen.facts, Cert.Pre_finite23.Gen.facts,
  frame_Kernel, frame_KernelIdeal, frame_KernelIdeal_finite, frame_ReferenceIdeal, frame_ReferenceIdeal_finite, Cert.Kernel2Ideal.Block.frames.1, Cert.Kernel2Ideal.Block.frames.2.1, Cert.Kernel2Ideal.Block.frames.2.2, Cert.Kernel3Ideal.Product.frames.1, Cert.Kernel3Ideal.Product.frames.2.1, Cert.Kernel3Ideal.Product.frames.2.2, Cert.Kernel4Ideal.Product.frames.1, Cert.Kernel4Ideal.Product.frames.2.1, Cert.Kernel4Ideal.Product.frames.2.2, Cert.Kernel5Ideal.Product.frames.1, Cert.Kernel5Ideal.Product.frames.2.1, Cert.Kernel5Ideal.Product.frames.2.2, Cert.Kernel6Ideal.Product.frames.1, Cert.Kernel6Ideal.Product.frames.2.1, Cert.Kernel6Ideal.Product.frames.2.2, Cert.Kernel7Ideal.Heads.frame_kernel, Cert.Kernel7Ideal.Heads.frame_ideal, Cert.Kernel7Ideal.Heads.frame_ideal_finite, Cert.Kernel7Ideal.Heads.frame_reference, Cert.Kernel7Ideal.Heads.frame_reference_finite, Cert.Kernel8Ideal.Product.frames.1, Cert.Kernel8Ideal.Product.frames.2.1, Cert.Kernel8Ideal.Product.frames.2.2, Cert.Kernel9Ideal.Product.frames.1, Cert.Kernel9Ideal.Product.frames.2.1, Cert.Kernel9Ideal.Product.frames.2.2, Cert.Kernel10Ideal.Product.frames.1, Cert.Kernel10Ideal.Product.frames.2.1, Cert.Kernel10Ideal.Product.frames.2.2, Cert.Kernel11Ideal.Product.frames.1, Cert.Kernel11Ideal.Product.frames.2.1, Cert.Kernel11Ideal.Product.frames.2.2, Cert.Kernel12Ideal.Product.frames.1, Cert.Kernel12Ideal.Product.frames.2.1, Cert.Kernel12Ideal.Product.frames.2.2, Cert.Kernel13Ideal.Product.frames.1, Cert.Kernel13Ideal.Product.frames.2.1, Cert.Kernel13Ideal.Product.frames.2.2, Cert.Kernel14Ideal.Product.frames.1, Cert.Kernel14Ideal.Product.frames.2.1, Cert.Kernel14Ideal.Product.frames.2.2, Cert.Kernel15Ideal.Product.frames.1, Cert.Kernel15Ideal.Product.frames.2.1, Cert.Kernel15Ideal.Product.frames.2.2, Cert.Kernel16Ideal.Product.frames.1, Cert.Kernel16Ideal.Product.frames.2.1, Cert.Kernel16Ideal.Product.frames.2.2, Cert.Kernel17Ideal.Product.frames.1, Cert.Kernel17Ideal.Product.frames.2.1, Cert.Kernel17Ideal.Product.frames.2.2, Cert.Kernel18Ideal.Product.frames.1, Cert.Kernel18Ideal.Product.frames.2.1, Cert.Kernel18Ideal.Product.frames.2.2, Cert.Kernel19Ideal.Product.frames.1, Cert.Kernel19Ideal.Product.frames.2.1, Cert.Kernel19Ideal.Product.frames.2.2, Cert.Kernel20Ideal.Product.frames.1, Cert.Kernel20Ideal.Product.frames.2.1, Cert.Kernel20Ideal.Product.frames.2.2, Cert.Kernel21Ideal.Product.frames.1, Cert.Kernel21Ideal.Product.frames.2.1, Cert.Kernel21Ideal.Product.frames.2.2, Cert.Kernel22Ideal.Product.frames.1, Cert.Kernel22Ideal.Product.frames.2.1, Cert.Kernel22Ideal.Product.frames.2.2, Cert.Kernel23Ideal.Rows.frame_kernel, Cert.Kernel23Ideal.Rows.frame_ideal, Cert.Kernel23Ideal.Rows.frame_ideal_finite, Cert.Kernel23Ideal.Rows.frame_reference, Cert.Kernel23Ideal.Rows.frame_reference_finite, Cert.Kernel24Ideal.Rows.frames.1, Cert.Kernel24Ideal.Rows.frames.2.1, Cert.Kernel24Ideal.Rows.frames.2.2, Cert.Kernel25Ideal.Rows.frames.1, Cert.Kernel25Ideal.Rows.frames.2.1, Cert.Kernel25Ideal.Rows.frames.2.2, Cert.Kernel26Ideal.Rows.frames.1, Cert.Kernel26Ideal.Rows.frames.2.1, Cert.Kernel26Ideal.Rows.frames.2.2, Cert.Kernel27Ideal.Rows.frames.1, Cert.Kernel27Ideal.Rows.frames.2.1, Cert.Kernel27Ideal.Rows.frames.2.2, Cert.Kernel28Ideal.Rows.frames.1, Cert.Kernel28Ideal.Rows.frames.2.1, Cert.Kernel28Ideal.Rows.frames.2.2,
  trivial, algebraic, trivial, Cert.Kernel2Ideal.Block.algebraic, trivial, Cert.Kernel3Ideal.Product.algebraic, trivial, Cert.Kernel4Ideal.Product.algebraic, trivial, Cert.Kernel5Ideal.Product.algebraic, trivial, Cert.Kernel6Ideal.Product.algebraic, Cert.Kernel7Ideal.Heads.preserves, Cert.Kernel7Ideal.Heads.algebraic, trivial, Cert.Kernel8Ideal.Product.algebraic, trivial, Cert.Kernel9Ideal.Product.algebraic, trivial, Cert.Kernel10Ideal.Product.algebraic, trivial, Cert.Kernel11Ideal.Product.algebraic, trivial, Cert.Kernel12Ideal.Product.algebraic, trivial, Cert.Kernel13Ideal.Product.algebraic, trivial, Cert.Kernel14Ideal.Product.algebraic, trivial, Cert.Kernel15Ideal.Product.algebraic, trivial, Cert.Kernel16Ideal.Product.algebraic, trivial, Cert.Kernel17Ideal.Product.algebraic, trivial, Cert.Kernel18Ideal.Product.algebraic, trivial, Cert.Kernel19Ideal.Product.algebraic, trivial, Cert.Kernel20Ideal.Product.algebraic, trivial, Cert.Kernel21Ideal.Product.algebraic, trivial, Cert.Kernel22Ideal.Product.algebraic, Cert.Kernel23Ideal.Rows.preserves, Cert.Kernel23Ideal.Rows.algebraic, trivial, Cert.Kernel24Ideal.Rows.algebraic, trivial, Cert.Kernel25Ideal.Rows.algebraic, trivial, Cert.Kernel26Ideal.Rows.algebraic, trivial, Cert.Kernel27Ideal.Rows.algebraic, trivial, Cert.Kernel28Ideal.Rows.algebraic⟩

end Cert.Proof

end
